-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_fp8_max" .f32 0x3B124925#32 ((1 / 448 : ℝ) : EReal)
  ∧ IdealRules.named_const.Statement Cert.KernelIdeal.κ "score_mult" .f32 0x3E0293EE#32 (((Real.log 2)⁻¹ * (Real.sqrt 128)⁻¹ : ℝ) : EReal)
  ∧ IdealRules.named_const.Statement Cert.KernelIdeal.κ "log2_fp8_max" .f32 0x410CEAED#32 (((Real.log 448) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v14) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v155) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x8192 : Shape := ⟨3, ![2, 8192, 8192]⟩
abbrev S2x8192x2048 : Shape := ⟨3, ![2, 8192, 2048]⟩
abbrev S2x16x8192x128 : Shape := ⟨4, ![2, 16, 8192, 128]⟩
abbrev S2x16x128x128 : Shape := ⟨4, ![2, 16, 128, 128]⟩
abbrev S2x16x128x8192 : Shape := ⟨4, ![2, 16, 128, 8192]⟩
abbrev S2x16x8x128 : Shape := ⟨4, ![2, 16, 8, 128]⟩
abbrev S1x8192x128 : Shape := ⟨3, ![1, 8192, 128]⟩
abbrev S1x1x8192x128 : Shape := ⟨4, ![1, 1, 8192, 128]⟩
abbrev S1x1x128x128 : Shape := ⟨4, ![1, 1, 128, 128]⟩
abbrev S1x1x128x8192 : Shape := ⟨4, ![1, 1, 128, 8192]⟩
abbrev S1x1x8x128 : Shape := ⟨4, ![1, 1, 8, 128]⟩
abbrev S8x128 : Shape := ⟨2, ![8, 128]⟩
abbrev S1x512x128 : Shape := ⟨3, ![1, 512, 128]⟩
abbrev S512x128 : Shape := ⟨2, ![512, 128]⟩
abbrev S64x8x128 : Shape := ⟨3, ![64, 8, 128]⟩
abbrev S128 : Shape := ⟨1, ![128]⟩
abbrev S1x128 : Shape := ⟨2, ![1, 128]⟩
abbrev S8x64x128 : Shape := ⟨3, ![8, 64, 128]⟩
abbrev S8 : Shape := ⟨1, ![8]⟩
abbrev S8x1 : Shape := ⟨2, ![8, 1]⟩
abbrev S8x1x128 : Shape := ⟨3, ![8, 1, 128]⟩
abbrev S1x1x512x128 : Shape := ⟨4, ![1, 1, 512, 128]⟩
abbrev S128x512 : Shape := ⟨2, ![128, 512]⟩
abbrev S1x1x128x512 : Shape := ⟨4, ![1, 1, 128, 512]⟩
abbrev S2x16x32x8x128 : Shape := ⟨5, ![2, 16, 32, 8, 128]⟩
abbrev S1x256x512 : Shape := ⟨3, ![1, 256, 512]⟩
abbrev S1x1x1x8x128 : Shape := ⟨5, ![1, 1, 1, 8, 128]⟩
abbrev S8192x1024 : Shape := ⟨2, ![8192, 1024]⟩
abbrev S128x1024 : Shape := ⟨2, ![128, 1024]⟩
abbrev S1024x128 : Shape := ⟨2, ![1024, 128]⟩
abbrev S256x1024 : Shape := ⟨2, ![256, 1024]⟩
abbrev S1x128x128 : Shape := ⟨3, ![1, 128, 128]⟩
abbrev S128x128 : Shape := ⟨2, ![128, 128]⟩
abbrev S16x8x128 : Shape := ⟨3, ![16, 8, 128]⟩
abbrev S1 : Shape := ⟨1, ![1]⟩
abbrev S1x1 : Shape := ⟨2, ![1, 1]⟩
abbrev S1x1x1x1x128 : Shape := ⟨5, ![1, 1, 1, 1, 128]⟩
abbrev S1x1x256x128 : Shape := ⟨4, ![1, 1, 256, 128]⟩
abbrev S256x128 : Shape := ⟨2, ![256, 128]⟩
abbrev S1x1x1x128 : Shape := ⟨4, ![1, 1, 1, 128]⟩
abbrev S4x128 : Shape := ⟨2, ![4, 128]⟩
abbrev S4x8x8x128 : Shape := ⟨4, ![4, 8, 8, 128]⟩
abbrev S4x8x128 : Shape := ⟨3, ![4, 8, 128]⟩
abbrev S4x1x128 : Shape := ⟨3, ![4, 1, 128]⟩
abbrev S1x1024 : Shape := ⟨2, ![1, 1024]⟩
abbrev S4x1024 : Shape := ⟨2, ![4, 1024]⟩
abbrev S4x64x128 : Shape := ⟨3, ![4, 64, 128]⟩
abbrev S32x8x128 : Shape := ⟨3, ![32, 8, 128]⟩
abbrev S1x1x128x256 : Shape := ⟨4, ![1, 1, 128, 256]⟩
abbrev S128x256 : Shape := ⟨2, ![128, 256]⟩
abbrev S2x8192x64x128 : Shape := ⟨4, ![2, 8192, 64, 128]⟩
abbrev S2x16x32x8x1 : Shape := ⟨5, ![2, 16, 32, 8, 1]⟩
abbrev S2x16x32x8 : Shape := ⟨4, ![2, 16, 32, 8]⟩
abbrev S2x16x32x4x2 : Shape := ⟨5, ![2, 16, 32, 4, 2]⟩
abbrev S2x32x2x16x4 : Shape := ⟨5, ![2, 32, 2, 16, 4]⟩
abbrev S2x64x64 : Shape := ⟨3, ![2, 64, 64]⟩
abbrev S2x8192x16x128 : Shape := ⟨4, ![2, 8192, 16, 128]⟩
abbrev S2x16x128x1 : Shape := ⟨4, ![2, 16, 128, 1]⟩
abbrev S2x16x128 : Shape := ⟨3, ![2, 16, 128]⟩
abbrev S2x128x16 : Shape := ⟨3, ![2, 128, 16]⟩
abbrev S2x16x1x128 : Shape := ⟨4, ![2, 16, 1, 128]⟩

abbrev nBuf : Space → Nat
  | .hbm => 24
  | .vmem => 35
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x2048, .bf16⟩
  | .hbm, ⟨2, _⟩ => ⟨S2x8192x2048, .bf16⟩
  | .hbm, ⟨3, _⟩ => ⟨S2x16x8192x128, .fp8e4m3⟩
  | .hbm, ⟨4, _⟩ => ⟨S2x16x128x128, .f32⟩
  | .hbm, ⟨5, _⟩ => ⟨S2x16x8192x128, .fp8e4m3⟩
  | .hbm, ⟨6, _⟩ => ⟨S2x16x128x8192, .fp8e4m3⟩
  | .hbm, ⟨7, _⟩ => ⟨S2x16x8x128, .f32⟩
  | .hbm, ⟨8, _⟩ => ⟨S2x8192x8192, .bf16⟩
  | .hbm, ⟨9, _⟩ => ⟨S2x8192x8192, .fp8e4m3⟩
  | .hbm, ⟨10, _⟩ => ⟨S2x16x32x8x128, .f32⟩
  | .hbm, ⟨11, _⟩ => ⟨S2x8192x64x128, .fp8e4m3⟩
  | .hbm, ⟨12, _⟩ => ⟨S2x16x32x8x1, .f32⟩
  | .hbm, ⟨13, _⟩ => ⟨S2x16x32x8, .f32⟩
  | .hbm, ⟨14, _⟩ => ⟨S2x16x32x4x2, .f32⟩
  | .hbm, ⟨15, _⟩ => ⟨S2x32x2x16x4, .f32⟩
  | .hbm, ⟨16, _⟩ => ⟨S2x64x64, .f32⟩
  | .hbm, ⟨17, _⟩ => ⟨S2x8192x16x128, .fp8e4m3⟩
  | .hbm, ⟨18, _⟩ => ⟨S2x16x128x1, .f32⟩
  | .hbm, ⟨19, _⟩ => ⟨S2x16x128, .f32⟩
  | .hbm, ⟨20, _⟩ => ⟨S2x128x16, .f32⟩
  | .hbm, ⟨21, _⟩ => ⟨S2x8192x16x128, .fp8e4m3⟩
  | .hbm, ⟨22, _⟩ => ⟨S2x16x1x128, .f32⟩
  | .hbm, ⟨23, _⟩ => ⟨S2x16x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x8192x128, .fp8e4m3⟩
  | .local _ .vmem, ⟨5, _⟩ => ⟨S1x1x8192x128, .fp8e4m3⟩
  | .local _ .vmem, ⟨6, _⟩ => ⟨S1x1x128x128, .f32⟩
  | .local _ .vmem, ⟨7, _⟩ => ⟨S1x1x128x128, .f32⟩
  | .local _ .vmem, ⟨8, _⟩ => ⟨S1x1x8192x128, .fp8e4m3⟩
  | .local _ .vmem, ⟨9, _⟩ => ⟨S1x1x8192x128, .fp8e4m3⟩
  | .local _ .vmem, ⟨10, _⟩ => ⟨S1x1x128x8192, .fp8e4m3⟩
  | .local _ .vmem, ⟨11, _⟩ => ⟨S1x1x128x8192, .fp8e4m3⟩
  | .local _ .vmem, ⟨12, _⟩ => ⟨S1x1x8x128, .f32⟩
  | .local _ .vmem, ⟨13, _⟩ => ⟨S1x1x8x128, .f32⟩
  | .local _ .vmem, ⟨14, _⟩ => ⟨S1x256x512, .bf16⟩
  | .local _ .vmem, ⟨15, _⟩ => ⟨S1x256x512, .bf16⟩
  | .local _ .vmem, ⟨16, _⟩ => ⟨S1x1x8192x128, .fp8e4m3⟩
  | .local _ .vmem, ⟨17, _⟩ => ⟨S1x1x8192x128, .fp8e4m3⟩
  | .local _ .vmem, ⟨18, _⟩ => ⟨S1x1x128x128, .f32⟩
  | .local _ .vmem, ⟨19, _⟩ => ⟨S1x1x128x128, .f32⟩
  | .local _ .vmem, ⟨20, _⟩ => ⟨S1x1x128x8192, .fp8e4m3⟩
  | .local _ .vmem, ⟨21, _⟩ => ⟨S1x1x128x8192, .fp8e4m3⟩
  | .local _ .vmem, ⟨22, _⟩ => ⟨S1x1x8x128, .f32⟩
  | .local _ .vmem, ⟨23, _⟩ => ⟨S1x1x8x128, .f32⟩
  | .local _ .vmem, ⟨24, _⟩ => ⟨S1x256x512, .bf16⟩
  | .local _ .vmem, ⟨25, _⟩ => ⟨S1x256x512, .bf16⟩
  | .local _ .vmem, ⟨26, _⟩ => ⟨S1x256x512, .fp8e4m3⟩
  | .local _ .vmem, ⟨27, _⟩ => ⟨S1x256x512, .fp8e4m3⟩
  | .local _ .vmem, ⟨28, _⟩ => ⟨S1x1x1x8x128, .f32⟩
  | .local _ .vmem, ⟨29, _⟩ => ⟨S1x1x1x8x128, .f32⟩
  | .local _ .vmem, ⟨30, _⟩ => ⟨S8192x1024, .f32⟩
  | .local _ .vmem, ⟨31, _⟩ => ⟨S128x1024, .f32⟩
  | .local _ .vmem, ⟨32, _⟩ => ⟨S1024x128, .fp8e4m3⟩
  | .local _ .vmem, ⟨33, _⟩ => ⟨S256x1024, .fp8e4m3⟩
  | .local _ .vmem, ⟨34, _⟩ => ⟨S128x1024, .f32⟩
  | _, _ => ⟨S2x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 3 → Nat :=
  let c0_35 : Index := 0#32
  let c0_i32 : BitVec 32 := 0#32
  let c1_i32 : BitVec 32 := 1#32
  let arg9 : BitVec 32 := Scf.iv c0_i32 c1_i32 k0_t1
  let c512_i32 : BitVec 32 := 512#32
  let v112 : BitVec 32 := Scalar.muli arg9 c512_i32
  let v113 : Index := Scalar.indexCast v112
  let c0_36 : Index := 0#32
  ![0, v113.toNat, 0]
@[reducible] def k0_t2_loop : Scf.Loop 32 :=
  let c0_i32_31 : BitVec 32 := 0#32
  let c16_i32_32 : BitVec 32 := 16#32
  let v111 : BitVec 32 := Scalar.addi c0_i32_31 c16_i32_32
  let c1_i32_33 : BitVec 32 := 1#32
  ⟨c0_i32_31, v111, c1_i32_33⟩
def k0_off2 (k0_t2 : Fin k0_t2_loop.trips) : Fin 3 → Nat :=
  let c0_35 : Index := 0#32
  let c0_i32_31 : BitVec 32 := 0#32
  let c1_i32_33 : BitVec 32 := 1#32
  let arg9 : BitVec 32 := Scf.iv c0_i32_31 c1_i32_33 k0_t2
  let c512_i32 : BitVec 32 := 512#32
  let v112 : BitVec 32 := Scalar.muli arg9 c512_i32
  let v113 : Index := Scalar.indexCast v112
  let c0_36 : Index := 0#32
  ![0, v113.toNat, 0]
def k0_off3 (k0_t2 : Fin k0_t2_loop.trips) : Fin 4 → Nat :=
  let c0_75 : Index := 0#32
  let c0_76 : Index := 0#32
  let c0_i32_31 : BitVec 32 := 0#32
  let c1_i32_33 : BitVec 32 := 1#32
  let arg9 : BitVec 32 := Scf.iv c0_i32_31 c1_i32_33 k0_t2
  let c8_i32_74 : BitVec 32 := 8#32
  let v222 : BitVec 32 := Scalar.muli arg9 c8_i32_74
  let v223 : Index := Scalar.indexCast v222
  let c0_77 : Index := 0#32
  ![0, 0, v223.toNat, 0]
def k0_off4 (k0_t2 : Fin k0_t2_loop.trips) : Fin 4 → Nat :=
  let c0_80 : Index := 0#32
  let c0_81 : Index := 0#32
  let c0_i32_31 : BitVec 32 := 0#32
  let c1_i32_33 : BitVec 32 := 1#32
  let arg9 : BitVec 32 := Scf.iv c0_i32_31 c1_i32_33 k0_t2
  let c512_i32 : BitVec 32 := 512#32
  let v112 : BitVec 32 := Scalar.muli arg9 c512_i32
  let v237 : Index := Scalar.indexCast v112
  let c0_82 : Index := 0#32
  ![0, 0, v237.toNat, 0]
def k0_off5 (k0_t2 : Fin k0_t2_loop.trips) : Fin 4 → Nat :=
  let c0_90 : Index := 0#32
  let c0_91 : Index := 0#32
  let c0_92 : Index := 0#32
  let c0_i32_31 : BitVec 32 := 0#32
  let c1_i32_33 : BitVec 32 := 1#32
  let arg9 : BitVec 32 := Scf.iv c0_i32_31 c1_i32_33 k0_t2
  let c512_i32 : BitVec 32 := 512#32
  let v112 : BitVec 32 := Scalar.muli arg9 c512_i32
  let v258 : Index := Scalar.indexCast v112
  ![0, 0, 0, v258.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 32], ![false, false]⟩

@[reducible] def k1_t1_loop (i : grid1.Coords) : Scf.Loop 32 :=
  let c0_i32_410 : BitVec 32 := 0#32
  let arg1 : BitVec 32 := BitVec.ofNat 32 (i 1).val
  let v1040 : BitVec 32 := Scalar.subi arg1 c0_i32_410
  let c1_i32_411 : BitVec 32 := 1#32
  let v1042 : BitVec 32 := Scalar.divsi v1040 c1_i32_411
  let v1043 : BitVec 32 := Scalar.muli v1042 c1_i32_411
  let v1044 : BitVec 32 := Scalar.addi c0_i32_410 v1043
  let c1_i32_412 : BitVec 32 := 1#32
  ⟨c0_i32_410, v1044, c1_i32_412⟩
def k1_off1 (i : grid1.Coords) (k1_t1 : Fin (k1_t1_loop i).trips) : Fin 4 → Nat :=
  let c0_708 : Index := 0#32
  let c0_709 : Index := 0#32
  let c0_i32_410 : BitVec 32 := 0#32
  let c1_i32_412 : BitVec 32 := 1#32
  let arg15 : BitVec 32 := Scf.iv c0_i32_410 c1_i32_412 k1_t1
  let c256_i32_707 : BitVec 32 := 256#32
  let v1696 : BitVec 32 := Scalar.muli arg15 c256_i32_707
  let v1697 : Index := Scalar.indexCast v1696
  let c0_710 : Index := 0#32
  ![0, 0, v1697.toNat, 0]
def k1_off2 (i : grid1.Coords) (k1_t1 : Fin (k1_t1_loop i).trips) : Fin 2 → Nat :=
  let c0_i32_410 : BitVec 32 := 0#32
  let c1_i32_412 : BitVec 32 := 1#32
  let arg15 : BitVec 32 := Scf.iv c0_i32_410 c1_i32_412 k1_t1
  let c256_i32_714 : BitVec 32 := 256#32
  let v1702 : BitVec 32 := Scalar.muli arg15 c256_i32_714
  let v1703 : Index := Scalar.indexCast v1702
  let c0_715 : Index := 0#32
  ![v1703.toNat, 0]
def k1_off3 (i : grid1.Coords) (k1_t1 : Fin (k1_t1_loop i).trips) (c0_i32_717 : BitVec 32) : Fin 4 → Nat :=
  let c0_718 : Index := 0#32
  let c0_719 : Index := 0#32
  let c0_i32_410 : BitVec 32 := 0#32
  let c1_i32_412 : BitVec 32 := 1#32
  let arg15 : BitVec 32 := Scf.iv c0_i32_410 c1_i32_412 k1_t1
  let c4_i32_716 : BitVec 32 := 4#32
  let v1707 : BitVec 32 := Scalar.muli arg15 c4_i32_716
  let v1708 : BitVec 32 := Scalar.addi v1707 c0_i32_717
  let v1709 : Index := Scalar.indexCast v1708
  let c0_720 : Index := 0#32
  ![0, 0, v1709.toNat, 0]
@[reducible] def k1_t2_loop (i : grid1.Coords) : Scf.Loop 32 :=
  let c0_i32_410 : BitVec 32 := 0#32
  let arg1 : BitVec 32 := BitVec.ofNat 32 (i 1).val
  let v1040 : BitVec 32 := Scalar.subi arg1 c0_i32_410
  let c1_i32_411 : BitVec 32 := 1#32
  let v1042 : BitVec 32 := Scalar.divsi v1040 c1_i32_411
  let v1043 : BitVec 32 := Scalar.muli v1042 c1_i32_411
  let v1044 : BitVec 32 := Scalar.addi c0_i32_410 v1043
  let v1041 : BitVec 32 := Scalar.addi c0_i32_410 v1040
  let c1_i32_413 : BitVec 32 := 1#32
  ⟨v1044, v1041, c1_i32_413⟩
def k1_off4 (i : grid1.Coords) (k1_t2 : Fin (k1_t2_loop i).trips) : Fin 4 → Nat :=
  let c0_708 : Index := 0#32
  let c0_709 : Index := 0#32
  let c0_i32_410 : BitVec 32 := 0#32
  let arg1 : BitVec 32 := BitVec.ofNat 32 (i 1).val
  let v1040 : BitVec 32 := Scalar.subi arg1 c0_i32_410
  let c1_i32_411 : BitVec 32 := 1#32
  let v1042 : BitVec 32 := Scalar.divsi v1040 c1_i32_411
  let v1043 : BitVec 32 := Scalar.muli v1042 c1_i32_411
  let v1044 : BitVec 32 := Scalar.addi c0_i32_410 v1043
  let c1_i32_413 : BitVec 32 := 1#32
  let arg15 : BitVec 32 := Scf.iv v1044 c1_i32_413 k1_t2
  let c256_i32_707 : BitVec 32 := 256#32
  let v1696 : BitVec 32 := Scalar.muli arg15 c256_i32_707
  let v1697 : Index := Scalar.indexCast v1696
  let c0_710 : Index := 0#32
  ![0, 0, v1697.toNat, 0]
def k1_off5 (i : grid1.Coords) (k1_t2 : Fin (k1_t2_loop i).trips) : Fin 2 → Nat :=
  let c0_i32_410 : BitVec 32 := 0#32
  let arg1 : BitVec 32 := BitVec.ofNat 32 (i 1).val
  let v1040 : BitVec 32 := Scalar.subi arg1 c0_i32_410
  let c1_i32_411 : BitVec 32 := 1#32
  let v1042 : BitVec 32 := Scalar.divsi v1040 c1_i32_411
  let v1043 : BitVec 32 := Scalar.muli v1042 c1_i32_411
  let v1044 : BitVec 32 := Scalar.addi c0_i32_410 v1043
  let c1_i32_413 : BitVec 32 := 1#32
  let arg15 : BitVec 32 := Scf.iv v1044 c1_i32_413 k1_t2
  let c256_i32_714 : BitVec 32 := 256#32
  let v1702 : BitVec 32 := Scalar.muli arg15 c256_i32_714
  let v1703 : Index := Scalar.indexCast v1702
  let c0_715 : Index := 0#32
  ![v1703.toNat, 0]
def k1_off6 (i : grid1.Coords) (k1_t2 : Fin (k1_t2_loop i).trips) (c0_i32_717 : BitVec 32) : Fin 4 → Nat :=
  let c0_718 : Index := 0#32
  let c0_719 : Index := 0#32
  let c0_i32_410 : BitVec 32 := 0#32
  let arg1 : BitVec 32 := BitVec.ofNat 32 (i 1).val
  let v1040 : BitVec 32 := Scalar.subi arg1 c0_i32_410
  let c1_i32_411 : BitVec 32 := 1#32
  let v1042 : BitVec 32 := Scalar.divsi v1040 c1_i32_411
  let v1043 : BitVec 32 := Scalar.muli v1042 c1_i32_411
  let v1044 : BitVec 32 := Scalar.addi c0_i32_410 v1043
  let c1_i32_413 : BitVec 32 := 1#32
  let arg15 : BitVec 32 := Scf.iv v1044 c1_i32_413 k1_t2
  let c4_i32_716 : BitVec 32 := 4#32
  let v1707 : BitVec 32 := Scalar.muli arg15 c4_i32_716
  let v1708 : BitVec 32 := Scalar.addi v1707 c0_i32_717
  let v1709 : Index := Scalar.indexCast v1708
  let c0_720 : Index := 0#32
  ![0, 0, v1709.toNat, 0]
def k1_off7 (i : grid1.Coords) : Fin 4 → Nat :=
  let c0_414 : Index := 0#32
  let c0_415 : Index := 0#32
  let arg1 : BitVec 32 := BitVec.ofNat 32 (i 1).val
  let c256_i32 : BitVec 32 := 256#32
  let v1047 : BitVec 32 := Scalar.muli arg1 c256_i32
  let v1048 : Index := Scalar.indexCast v1047
  let c0_416 : Index := 0#32
  ![0, 0, v1048.toNat, 0]
def k1_off8 (i : grid1.Coords) : Fin 2 → Nat :=
  let arg1 : BitVec 32 := BitVec.ofNat 32 (i 1).val
  let c256_i32_420 : BitVec 32 := 256#32
  let v1053 : BitVec 32 := Scalar.muli arg1 c256_i32_420
  let v1054 : Index := Scalar.indexCast v1053
  let c0_421 : Index := 0#32
  ![v1054.toNat, 0]
def k1_off9 (i : grid1.Coords) (c0_i32_423 : BitVec 32) : Fin 4 → Nat :=
  let c0_424 : Index := 0#32
  let c0_425 : Index := 0#32
  let arg1 : BitVec 32 := BitVec.ofNat 32 (i 1).val
  let c4_i32_422 : BitVec 32 := 4#32
  let v1058 : BitVec 32 := Scalar.muli arg1 c4_i32_422
  let v1059 : BitVec 32 := Scalar.addi v1058 c0_i32_423
  let v1060 : Index := Scalar.indexCast v1059
  let c0_426 : Index := 0#32
  ![0, 0, v1060.toNat, 0]
@[reducible] def k1_t3_loop (i : grid1.Coords) : Scf.Loop 32 :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_550 : BitVec 32 := 1#32
  ⟨c0_i32_548, v1311, c1_i32_550⟩
def k1_off10 (i : grid1.Coords) (k1_t3 : Fin (k1_t3_loop i).trips) (c0_i32_708 : BitVec 32) : Fin 2 → Nat :=
  let c0_i32_548 : BitVec 32 := 0#32
  let c1_i32_550 : BitVec 32 := 1#32
  let arg15 : BitVec 32 := Scf.iv c0_i32_548 c1_i32_550 k1_t3
  let c4_i32_707 : BitVec 32 := 4#32
  let v1696 : BitVec 32 := Scalar.muli arg15 c4_i32_707
  let v1697 : BitVec 32 := Scalar.addi v1696 c0_i32_708
  let v1698 : Index := Scalar.indexCast v1697
  let c0_709 : Index := 0#32
  ![v1698.toNat, 0]
def k1_off11 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_719 : BitVec 32 := 256#32
  let v1713 : BitVec 32 := Scalar.muli arg15 c256_i32_719
  let v1714 : Index := Scalar.indexCast v1713
  let c0_720 : Index := 0#32
  ![v1714.toNat, 0]
def k1_off12 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_726 : BitVec 32 := 256#32
  let v1736 : BitVec 32 := Scalar.muli arg15 c256_i32_726
  let v1737 : Index := Scalar.indexCast v1736
  let c128_727 : Index := 128#32
  ![v1737.toNat, 128]
def k1_off13 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_733 : BitVec 32 := 256#32
  let v1759 : BitVec 32 := Scalar.muli arg15 c256_i32_733
  let v1760 : Index := Scalar.indexCast v1759
  let c256_734 : Index := 256#32
  ![v1760.toNat, 256]
def k1_off14 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_740 : BitVec 32 := 256#32
  let v1782 : BitVec 32 := Scalar.muli arg15 c256_i32_740
  let v1783 : Index := Scalar.indexCast v1782
  let c384_741 : Index := 384#32
  ![v1783.toNat, 384]
def k1_off15 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_747 : BitVec 32 := 256#32
  let v1805 : BitVec 32 := Scalar.muli arg15 c256_i32_747
  let v1806 : Index := Scalar.indexCast v1805
  let c512_748 : Index := 512#32
  ![v1806.toNat, 512]
def k1_off16 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_754 : BitVec 32 := 256#32
  let v1828 : BitVec 32 := Scalar.muli arg15 c256_i32_754
  let v1829 : Index := Scalar.indexCast v1828
  let c640_755 : Index := 640#32
  ![v1829.toNat, 640]
def k1_off17 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_761 : BitVec 32 := 256#32
  let v1851 : BitVec 32 := Scalar.muli arg15 c256_i32_761
  let v1852 : Index := Scalar.indexCast v1851
  let c768_762 : Index := 768#32
  ![v1852.toNat, 768]
def k1_off18 (i : grid1.Coords) (k1_t3 : Fin (k1_t3_loop i).trips) : Fin 2 → Nat :=
  let c0_i32_548 : BitVec 32 := 0#32
  let c1_i32_550 : BitVec 32 := 1#32
  let arg15 : BitVec 32 := Scf.iv c0_i32_548 c1_i32_550 k1_t3
  let c256_i32_768 : BitVec 32 := 256#32
  let v1874 : BitVec 32 := Scalar.muli arg15 c256_i32_768
  let v1875 : Index := Scalar.indexCast v1874
  let c896_769 : Index := 896#32
  ![v1875.toNat, 896]
def k1_off19 (i : grid1.Coords) (k1_t3 : Fin (k1_t3_loop i).trips) : Fin 4 → Nat :=
  let c0_778 : Index := 0#32
  let c0_779 : Index := 0#32
  let c0_780 : Index := 0#32
  let c0_i32_548 : BitVec 32 := 0#32
  let c1_i32_550 : BitVec 32 := 1#32
  let arg15 : BitVec 32 := Scf.iv c0_i32_548 c1_i32_550 k1_t3
  let c256_i32_777 : BitVec 32 := 256#32
  let v1898 : BitVec 32 := Scalar.muli arg15 c256_i32_777
  let v1899 : Index := Scalar.indexCast v1898
  ![0, 0, 0, v1899.toNat]
@[reducible] def k1_t4_loop (i : grid1.Coords) : Scf.Loop 32 :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let v1308 : BitVec 32 := Scalar.addi c0_i32_548 v1307
  let c1_i32_551 : BitVec 32 := 1#32
  ⟨v1311, v1308, c1_i32_551⟩
def k1_off20 (i : grid1.Coords) (k1_t4 : Fin (k1_t4_loop i).trips) (c0_i32_708 : BitVec 32) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c4_i32_707 : BitVec 32 := 4#32
  let v1696 : BitVec 32 := Scalar.muli arg15 c4_i32_707
  let v1697 : BitVec 32 := Scalar.addi v1696 c0_i32_708
  let v1698 : Index := Scalar.indexCast v1697
  let c0_709 : Index := 0#32
  ![v1698.toNat, 0]
def k1_off21 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_719 : BitVec 32 := 256#32
  let v1713 : BitVec 32 := Scalar.muli arg15 c256_i32_719
  let v1714 : Index := Scalar.indexCast v1713
  let c0_720 : Index := 0#32
  ![v1714.toNat, 0]
def k1_off22 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_726 : BitVec 32 := 256#32
  let v1736 : BitVec 32 := Scalar.muli arg15 c256_i32_726
  let v1737 : Index := Scalar.indexCast v1736
  let c128_727 : Index := 128#32
  ![v1737.toNat, 128]
def k1_off23 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_733 : BitVec 32 := 256#32
  let v1759 : BitVec 32 := Scalar.muli arg15 c256_i32_733
  let v1760 : Index := Scalar.indexCast v1759
  let c256_734 : Index := 256#32
  ![v1760.toNat, 256]
def k1_off24 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_740 : BitVec 32 := 256#32
  let v1782 : BitVec 32 := Scalar.muli arg15 c256_i32_740
  let v1783 : Index := Scalar.indexCast v1782
  let c384_741 : Index := 384#32
  ![v1783.toNat, 384]
def k1_off25 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_747 : BitVec 32 := 256#32
  let v1805 : BitVec 32 := Scalar.muli arg15 c256_i32_747
  let v1806 : Index := Scalar.indexCast v1805
  let c512_748 : Index := 512#32
  ![v1806.toNat, 512]
def k1_off26 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_754 : BitVec 32 := 256#32
  let v1828 : BitVec 32 := Scalar.muli arg15 c256_i32_754
  let v1829 : Index := Scalar.indexCast v1828
  let c640_755 : Index := 640#32
  ![v1829.toNat, 640]
def k1_off27 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_761 : BitVec 32 := 256#32
  let v1851 : BitVec 32 := Scalar.muli arg15 c256_i32_761
  let v1852 : Index := Scalar.indexCast v1851
  let c768_762 : Index := 768#32
  ![v1852.toNat, 768]
def k1_off28 (i : grid1.Coords) (k1_t4 : Fin (k1_t4_loop i).trips) : Fin 2 → Nat :=
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_768 : BitVec 32 := 256#32
  let v1874 : BitVec 32 := Scalar.muli arg15 c256_i32_768
  let v1875 : Index := Scalar.indexCast v1874
  let c896_769 : Index := 896#32
  ![v1875.toNat, 896]
def k1_off29 (i : grid1.Coords) (k1_t4 : Fin (k1_t4_loop i).trips) : Fin 4 → Nat :=
  let c0_778 : Index := 0#32
  let c0_779 : Index := 0#32
  let c0_780 : Index := 0#32
  let c0_i32_548 : BitVec 32 := 0#32
  let arg1 : BitVec 32 := BitVec.ofNat 32 (i 1).val
  let v1307 : BitVec 32 := Scalar.subi arg1 c0_i32_548
  let c1_i32_549 : BitVec 32 := 1#32
  let v1309 : BitVec 32 := Scalar.divsi v1307 c1_i32_549
  let v1310 : BitVec 32 := Scalar.muli v1309 c1_i32_549
  let v1311 : BitVec 32 := Scalar.addi c0_i32_548 v1310
  let c1_i32_551 : BitVec 32 := 1#32
  let arg15 : BitVec 32 := Scf.iv v1311 c1_i32_551 k1_t4
  let c256_i32_777 : BitVec 32 := 256#32
  let v1898 : BitVec 32 := Scalar.muli arg15 c256_i32_777
  let v1899 : Index := Scalar.indexCast v1898
  ![0, 0, 0, v1899.toNat]
def k1_off30 (i : grid1.Coords) (c0_i32_553 : BitVec 32) : Fin 2 → Nat :=
  let arg1 : BitVec 32 := BitVec.ofNat 32 (i 1).val
  let c4_i32_552 : BitVec 32 := 4#32
  let v1314 : BitVec 32 := Scalar.muli arg1 c4_i32_552
  let v1315 : BitVec 32 := Scalar.addi v1314 c0_i32_553
  let v1316 : Index := Scalar.indexCast v1315
  let c0_554 : Index := 0#32
  ![v1316.toNat, 0]
def k1_off31 (i : grid1.Coords) : Fin 2 → Nat :=
  let arg1 : BitVec 32 := BitVec.ofNat 32 (i 1).val
  let c256_i32_564 : BitVec 32 := 256#32
  let v1331 : BitVec 32 := Scalar.muli arg1 c256_i32_564
  let v1332 : Index := Scalar.indexCast v1331
  let c0_565 : Index := 0#32
  ![v1332.toNat, 0]
def k1_off32 (i : grid1.Coords) : Fin 2 → Nat :=
  let arg1 : BitVec 32 := BitVec.ofNat 32 (i 1).val
  let c256_i32_573 : BitVec 32 := 256#32
  let v1361 : BitVec 32 := Scalar.muli arg1 c256_i32_573
  let v1362 : Index := Scalar.indexCast v1361
  let c128_574 : Index := 128#32
  ![v1362.toNat, 128]
def k1_off33 (i : grid1.Coords) : Fin 2 → Nat :=
  let arg1 : BitVec 32 := BitVec.ofNat 32 (i 1).val
  let c256_i32_582 : BitVec 32 := 256#32
  let v1391 : BitVec 32 := Scalar.muli arg1 c256_i32_582
  let v1392 : Index := Scalar.indexCast v1391
  let c256_583 : Index := 256#32
  ![v1392.toNat, 256]
def k1_off34 (i : grid1.Coords) : Fin 2 → Nat :=
  let arg1 : BitVec 32 := BitVec.ofNat 32 (i 1).val
  let c256_i32_591 : BitVec 32 := 256#32
  let v1421 : BitVec 32 := Scalar.muli arg1 c256_i32_591
  let v1422 : Index := Scalar.indexCast v1421
  let c384_592 : Index := 384#32
  ![v1422.toNat, 384]
def k1_off35 (i : grid1.Coords) : Fin 2 → Nat :=
  let arg1 : BitVec 32 := BitVec.ofNat 32 (i 1).val
  let c256_i32_600 : BitVec 32 := 256#32
  let v1451 : BitVec 32 := Scalar.muli arg1 c256_i32_600
  let v1452 : Index := Scalar.indexCast v1451
  let c512_601 : Index := 512#32
  ![v1452.toNat, 512]
def k1_off36 (i : grid1.Coords) : Fin 2 → Nat :=
  let arg1 : BitVec 32 := BitVec.ofNat 32 (i 1).val
  let c256_i32_609 : BitVec 32 := 256#32
  let v1481 : BitVec 32 := Scalar.muli arg1 c256_i32_609
  let v1482 : Index := Scalar.indexCast v1481
  let c640_610 : Index := 640#32
  ![v1482.toNat, 640]
def k1_off37 (i : grid1.Coords) : Fin 2 → Nat :=
  let arg1 : BitVec 32 := BitVec.ofNat 32 (i 1).val
  let c256_i32_618 : BitVec 32 := 256#32
  let v1511 : BitVec 32 := Scalar.muli arg1 c256_i32_618
  let v1512 : Index := Scalar.indexCast v1511
  let c768_619 : Index := 768#32
  ![v1512.toNat, 768]
def k1_off38 (i : grid1.Coords) : Fin 2 → Nat :=
  let arg1 : BitVec 32 := BitVec.ofNat 32 (i 1).val
  let c256_i32_627 : BitVec 32 := 256#32
  let v1541 : BitVec 32 := Scalar.muli arg1 c256_i32_627
  let v1542 : Index := Scalar.indexCast v1541
  let c896_628 : Index := 896#32
  ![v1542.toNat, 896]
def k1_off39 (i : grid1.Coords) : Fin 4 → Nat :=
  let c0_639 : Index := 0#32
  let c0_640 : Index := 0#32
  let c0_641 : Index := 0#32
  let arg1 : BitVec 32 := BitVec.ofNat 32 (i 1).val
  let c256_i32_638 : BitVec 32 := 256#32
  let v1572 : BitVec 32 := Scalar.muli arg1 c256_i32_638
  let v1573 : Index := Scalar.indexCast v1572
  ![0, 0, 0, v1573.toNat]
def cc1_transform_0 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_4 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_5 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_6 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_7 (i : grid1.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, arg1.toNat, c0_i32_10.toNat, c0_i32_11.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x8192x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x128x8192 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x512 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x1x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "inv_fp8_max" => some ((1 / 448 : ℝ) : EReal)
  | "log2_fp8_max" => some (((Real.log 448) * (Real.log 2)⁻¹ : ℝ) : EReal)
  | "score_mult" => some (((Real.log 2)⁻¹ * (Real.sqrt 128)⁻¹ : ℝ) : EReal)
  | _ => none
-- ==== ReferenceIdeal.lean ====
abbrev S2x8192x8192 : Shape := ⟨3, ![2, 8192, 8192]⟩
abbrev S2x8192x2048 : Shape := ⟨3, ![2, 8192, 2048]⟩
abbrev S2x8192x64x128 : Shape := ⟨4, ![2, 8192, 64, 128]⟩
abbrev S2x8192x16x128 : Shape := ⟨4, ![2, 8192, 16, 128]⟩
abbrev S2x64x128x64x128 : Shape := ⟨5, ![2, 64, 128, 64, 128]⟩
abbrev S_ : Shape := ⟨0, ![]⟩
abbrev S2x64x128x64 : Shape := ⟨4, ![2, 64, 128, 64]⟩
abbrev S2x64x64 : Shape := ⟨3, ![2, 64, 64]⟩
abbrev S2x64x1x64x1 : Shape := ⟨5, ![2, 64, 1, 64, 1]⟩
abbrev S2x16x128 : Shape := ⟨3, ![2, 16, 128]⟩
abbrev S2x1x16x128 : Shape := ⟨4, ![2, 1, 16, 128]⟩
abbrev S2x128x64x16x128 : Shape := ⟨5, ![2, 128, 64, 16, 128]⟩
abbrev S2x128x64x16 : Shape := ⟨4, ![2, 128, 64, 16]⟩
abbrev S2x128x16 : Shape := ⟨3, ![2, 128, 16]⟩
abbrev S2x128x1x16x1 : Shape := ⟨5, ![2, 128, 1, 16, 1]⟩
abbrev S2x8192x64 : Shape := ⟨3, ![2, 8192, 64]⟩
abbrev S2x8192x16 : Shape := ⟨3, ![2, 8192, 16]⟩
abbrev S2x8192x16x4x128 : Shape := ⟨5, ![2, 8192, 16, 4, 128]⟩
abbrev S2x16x8192x8192x4 : Shape := ⟨5, ![2, 16, 8192, 8192, 4]⟩
abbrev S2x16x4x8192x8192 : Shape := ⟨5, ![2, 16, 4, 8192, 8192]⟩
abbrev S2x8192x16x4 : Shape := ⟨4, ![2, 8192, 16, 4]⟩
abbrev S2x16x4x8192 : Shape := ⟨4, ![2, 16, 4, 8192]⟩
abbrev S2x16x8192 : Shape := ⟨3, ![2, 16, 8192]⟩
abbrev S2x16x4x8192x1 : Shape := ⟨5, ![2, 16, 4, 8192, 1]⟩
abbrev S2x16x1x1x8192 : Shape := ⟨5, ![2, 16, 1, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x4x8192x128 : Shape := ⟨5, ![2, 16, 4, 8192, 128]⟩
abbrev S2x16x1x1x128 : Shape := ⟨5, ![2, 16, 1, 1, 128]⟩

abbrev nBuf : Space → Nat
  | .hbm => 235
  | .vmem => 0
  | .smem => 0
  | _ => 0

abbrev hbmTy0_0 (i : Nat) : BufTy := match i % 128 with
  | 0 => ⟨S2x8192x8192, .bf16⟩
  | 1 => ⟨S2x8192x2048, .bf16⟩
  | 2 => ⟨S2x8192x2048, .bf16⟩
  | 3 => ⟨S2x8192x8192, .f32⟩
  | 4 => ⟨S2x8192x64x128, .f32⟩
  | 5 => ⟨S2x8192x2048, .f32⟩
  | 6 => ⟨S2x8192x16x128, .f32⟩
  | 7 => ⟨S2x8192x2048, .f32⟩
  | 8 => ⟨S2x8192x16x128, .f32⟩
  | 9 => ⟨S2x64x128x64x128, .f32⟩
  | 10 => ⟨S2x64x128x64x128, .f32⟩
  | 11 => ⟨S_, .f32⟩
  | 12 => ⟨S2x64x128x64, .f32⟩
  | 13 => ⟨S_, .f32⟩
  | 14 => ⟨S2x64x64, .f32⟩
  | 15 => ⟨S_, .f32⟩
  | 16 => ⟨S2x64x64, .f32⟩
  | 17 => ⟨S2x64x64, .f32⟩
  | 18 => ⟨S2x64x64, .f32⟩
  | 19 => ⟨S_, .f32⟩
  | 20 => ⟨S_, .f32⟩
  | 21 => ⟨S2x64x64, .f32⟩
  | 22 => ⟨S2x64x64, .f32⟩
  | 23 => ⟨S2x64x64, .f32⟩
  | 24 => ⟨S_, .f32⟩
  | 25 => ⟨S2x64x64, .f32⟩
  | 26 => ⟨S2x64x64, .f32⟩
  | 27 => ⟨S_, .f32⟩
  | 28 => ⟨S2x64x64, .f32⟩
  | 29 => ⟨S2x64x64, .f32⟩
  | 30 => ⟨S_, .f32⟩
  | 31 => ⟨S2x64x64, .f32⟩
  | 32 => ⟨S2x64x64, .i1⟩
  | 33 => ⟨S_, .f32⟩
  | 34 => ⟨S2x64x64, .f32⟩
  | 35 => ⟨S2x64x64, .i1⟩
  | 36 => ⟨S2x64x64, .i1⟩
  | 37 => ⟨S_, .f32⟩
  | 38 => ⟨S2x64x64, .f32⟩
  | 39 => ⟨S2x64x64, .f32⟩
  | 40 => ⟨S_, .f32⟩
  | 41 => ⟨S2x64x64, .f32⟩
  | 42 => ⟨S2x64x64, .f32⟩
  | 43 => ⟨S2x64x64, .f32⟩
  | 44 => ⟨S_, .f32⟩
  | 45 => ⟨S2x64x64, .f32⟩
  | 46 => ⟨S2x64x64, .f32⟩
  | 47 => ⟨S2x64x1x64x1, .f32⟩
  | 48 => ⟨S2x64x128x64x128, .f32⟩
  | 49 => ⟨S2x64x128x64x128, .f32⟩
  | 50 => ⟨S_, .f32⟩
  | 51 => ⟨S_, .f32⟩
  | 52 => ⟨S_, .f32⟩
  | 53 => ⟨S2x64x128x64x128, .f32⟩
  | 54 => ⟨S2x64x128x64x128, .f32⟩
  | 55 => ⟨S_, .f32⟩
  | 56 => ⟨S2x64x128x64x128, .f32⟩
  | 57 => ⟨S2x64x128x64x128, .f32⟩
  | 58 => ⟨S2x8192x64x128, .f32⟩
  | 59 => ⟨S_, .f32⟩
  | 60 => ⟨S2x16x128, .f32⟩
  | 61 => ⟨S2x1x16x128, .f32⟩
  | 62 => ⟨S_, .f32⟩
  | 63 => ⟨S2x1x16x128, .f32⟩
  | 64 => ⟨S2x1x16x128, .f32⟩
  | 65 => ⟨S2x8192x16x128, .f32⟩
  | 66 => ⟨S2x8192x16x128, .f32⟩
  | 67 => ⟨S2x128x64x16x128, .f32⟩
  | 68 => ⟨S2x128x64x16x128, .f32⟩
  | 69 => ⟨S_, .f32⟩
  | 70 => ⟨S2x128x64x16, .f32⟩
  | 71 => ⟨S_, .f32⟩
  | 72 => ⟨S2x128x16, .f32⟩
  | 73 => ⟨S_, .f32⟩
  | 74 => ⟨S2x128x16, .f32⟩
  | 75 => ⟨S2x128x16, .f32⟩
  | 76 => ⟨S2x128x16, .f32⟩
  | 77 => ⟨S_, .f32⟩
  | 78 => ⟨S_, .f32⟩
  | 79 => ⟨S2x128x16, .f32⟩
  | 80 => ⟨S2x128x16, .f32⟩
  | 81 => ⟨S2x128x16, .f32⟩
  | 82 => ⟨S_, .f32⟩
  | 83 => ⟨S2x128x16, .f32⟩
  | 84 => ⟨S2x128x16, .f32⟩
  | 85 => ⟨S_, .f32⟩
  | 86 => ⟨S2x128x16, .f32⟩
  | 87 => ⟨S2x128x16, .f32⟩
  | 88 => ⟨S_, .f32⟩
  | 89 => ⟨S2x128x16, .f32⟩
  | 90 => ⟨S2x128x16, .i1⟩
  | 91 => ⟨S_, .f32⟩
  | 92 => ⟨S2x128x16, .f32⟩
  | 93 => ⟨S2x128x16, .i1⟩
  | 94 => ⟨S2x128x16, .i1⟩
  | 95 => ⟨S_, .f32⟩
  | 96 => ⟨S2x128x16, .f32⟩
  | 97 => ⟨S2x128x16, .f32⟩
  | 98 => ⟨S_, .f32⟩
  | 99 => ⟨S2x128x16, .f32⟩
  | 100 => ⟨S2x128x16, .f32⟩
  | 101 => ⟨S2x128x16, .f32⟩
  | 102 => ⟨S_, .f32⟩
  | 103 => ⟨S2x128x16, .f32⟩
  | 104 => ⟨S2x128x16, .f32⟩
  | 105 => ⟨S2x128x1x16x1, .f32⟩
  | 106 => ⟨S2x128x64x16x128, .f32⟩
  | 107 => ⟨S2x128x64x16x128, .f32⟩
  | 108 => ⟨S_, .f32⟩
  | 109 => ⟨S_, .f32⟩
  | 110 => ⟨S_, .f32⟩
  | 111 => ⟨S2x128x64x16x128, .f32⟩
  | 112 => ⟨S2x128x64x16x128, .f32⟩
  | 113 => ⟨S_, .f32⟩
  | 114 => ⟨S2x128x64x16x128, .f32⟩
  | 115 => ⟨S2x128x64x16x128, .f32⟩
  | 116 => ⟨S2x8192x16x128, .f32⟩
  | 117 => ⟨S2x8192x16x128, .f32⟩
  | 118 => ⟨S_, .f32⟩
  | 119 => ⟨S2x16x128, .f32⟩
  | 120 => ⟨S_, .f32⟩
  | 121 => ⟨S2x16x128, .f32⟩
  | 122 => ⟨S2x16x128, .f32⟩
  | 123 => ⟨S2x16x128, .f32⟩
  | 124 => ⟨S_, .f32⟩
  | 125 => ⟨S_, .f32⟩
  | 126 => ⟨S2x16x128, .f32⟩
  | 127 => ⟨S2x16x128, .f32⟩
  | _ => ⟨S2x8192x8192, .bf16⟩

abbrev hbmTy0_1 (i : Nat) : BufTy := match i % 128 with
  | 0 => ⟨S2x16x128, .f32⟩
  | 1 => ⟨S_, .f32⟩
  | 2 => ⟨S2x16x128, .f32⟩
  | 3 => ⟨S2x16x128, .f32⟩
  | 4 => ⟨S_, .f32⟩
  | 5 => ⟨S2x16x128, .f32⟩
  | 6 => ⟨S2x16x128, .f32⟩
  | 7 => ⟨S_, .f32⟩
  | 8 => ⟨S2x16x128, .f32⟩
  | 9 => ⟨S2x16x128, .i1⟩
  | 10 => ⟨S_, .f32⟩
  | 11 => ⟨S2x16x128, .f32⟩
  | 12 => ⟨S2x16x128, .i1⟩
  | 13 => ⟨S2x16x128, .i1⟩
  | 14 => ⟨S_, .f32⟩
  | 15 => ⟨S2x16x128, .f32⟩
  | 16 => ⟨S2x16x128, .f32⟩
  | 17 => ⟨S_, .f32⟩
  | 18 => ⟨S2x16x128, .f32⟩
  | 19 => ⟨S2x16x128, .f32⟩
  | 20 => ⟨S2x16x128, .f32⟩
  | 21 => ⟨S_, .f32⟩
  | 22 => ⟨S2x16x128, .f32⟩
  | 23 => ⟨S2x16x128, .f32⟩
  | 24 => ⟨S2x1x16x128, .f32⟩
  | 25 => ⟨S2x8192x16x128, .f32⟩
  | 26 => ⟨S2x8192x16x128, .f32⟩
  | 27 => ⟨S_, .f32⟩
  | 28 => ⟨S_, .f32⟩
  | 29 => ⟨S_, .f32⟩
  | 30 => ⟨S2x8192x16x128, .f32⟩
  | 31 => ⟨S2x8192x16x128, .f32⟩
  | 32 => ⟨S_, .f32⟩
  | 33 => ⟨S2x8192x16x128, .f32⟩
  | 34 => ⟨S2x8192x16x128, .f32⟩
  | 35 => ⟨S2x64x128x64, .f32⟩
  | 36 => ⟨S2x8192x64, .f32⟩
  | 37 => ⟨S_, .f32⟩
  | 38 => ⟨S_, .f32⟩
  | 39 => ⟨S2x8192x64, .f32⟩
  | 40 => ⟨S2x8192x64, .f32⟩
  | 41 => ⟨S2x128x64x16, .f32⟩
  | 42 => ⟨S2x8192x16, .f32⟩
  | 43 => ⟨S2x8192x16x4x128, .f32⟩
  | 44 => ⟨S2x16x8192x8192x4, .f32⟩
  | 45 => ⟨S2x16x4x8192x8192, .f32⟩
  | 46 => ⟨S2x8192x16x4, .f32⟩
  | 47 => ⟨S2x16x4x8192, .f32⟩
  | 48 => ⟨S2x16x8192, .f32⟩
  | 49 => ⟨S2x16x4x8192x1, .f32⟩
  | 50 => ⟨S2x16x4x8192x8192, .f32⟩
  | 51 => ⟨S2x16x4x8192x8192, .f32⟩
  | 52 => ⟨S2x16x1x1x8192, .f32⟩
  | 53 => ⟨S2x16x4x8192x8192, .f32⟩
  | 54 => ⟨S2x16x4x8192x8192, .f32⟩
  | 55 => ⟨S8192, .i32⟩
  | 56 => ⟨S1x8192, .i32⟩
  | 57 => ⟨S8192x1, .i32⟩
  | 58 => ⟨S8192x8192, .i32⟩
  | 59 => ⟨S8192x8192, .i32⟩
  | 60 => ⟨S8192x8192, .i1⟩
  | 61 => ⟨S_, .f32⟩
  | 62 => ⟨S_, .f32⟩
  | 63 => ⟨S2x16x4x8192x8192, .i1⟩
  | 64 => ⟨S2x16x4x8192x8192, .f32⟩
  | 65 => ⟨S2x16x4x8192x8192, .f32⟩
  | 66 => ⟨S_, .f32⟩
  | 67 => ⟨S2x16x4x8192, .f32⟩
  | 68 => ⟨S2x16x4x8192x1, .f32⟩
  | 69 => ⟨S2x16x4x8192x8192, .f32⟩
  | 70 => ⟨S2x16x4x8192x8192, .f32⟩
  | 71 => ⟨S2x16x4x8192x8192, .f32⟩
  | 72 => ⟨S_, .f32⟩
  | 73 => ⟨S2x16x4x8192, .f32⟩
  | 74 => ⟨S_, .f32⟩
  | 75 => ⟨S2x16x4x8192x8192, .f32⟩
  | 76 => ⟨S2x16x4x8192x8192, .f32⟩
  | 77 => ⟨S_, .f32⟩
  | 78 => ⟨S_, .f32⟩
  | 79 => ⟨S_, .f32⟩
  | 80 => ⟨S2x16x4x8192x8192, .f32⟩
  | 81 => ⟨S2x16x4x8192x8192, .f32⟩
  | 82 => ⟨S_, .f32⟩
  | 83 => ⟨S2x16x4x8192x8192, .f32⟩
  | 84 => ⟨S2x16x4x8192x8192, .f32⟩
  | 85 => ⟨S2x16x4x8192x128, .f32⟩
  | 86 => ⟨S_, .f32⟩
  | 87 => ⟨S_, .f32⟩
  | 88 => ⟨S_, .f32⟩
  | 89 => ⟨S_, .f32⟩
  | 90 => ⟨S_, .f32⟩
  | 91 => ⟨S2x16x4x8192x128, .f32⟩
  | 92 => ⟨S2x16x4x8192x128, .f32⟩
  | 93 => ⟨S2x16x128, .f32⟩
  | 94 => ⟨S2x16x128, .f32⟩
  | 95 => ⟨S2x16x1x1x128, .f32⟩
  | 96 => ⟨S2x16x4x8192x128, .f32⟩
  | 97 => ⟨S2x16x4x8192x128, .f32⟩
  | 98 => ⟨S2x16x4x8192x1, .f32⟩
  | 99 => ⟨S2x16x4x8192x128, .f32⟩
  | 100 => ⟨S2x16x4x8192x128, .f32⟩
  | 101 => ⟨S2x16x4x8192x128, .bf16⟩
  | 102 => ⟨S2x8192x16x4x128, .bf16⟩
  | 103 => ⟨S2x8192x8192, .bf16⟩
  | 104 => ⟨S2x8192x64x128, .fp8e4m3⟩
  | 105 => ⟨S2x8192x16x128, .fp8e4m3⟩
  | 106 => ⟨S2x8192x16x128, .fp8e4m3⟩
  | _ => ⟨S2x8192x8192, .bf16⟩

abbrev hbmTy (i : Nat) : BufTy := match i / 128 with
  | 0 => hbmTy0_0 i
  | 1 => hbmTy0_1 i
  | _ => ⟨S2x8192x8192, .bf16⟩

abbrev bufTy : (tb : Table) → Fin (tcTables nBuf tb) → BufTy
  | .hbm, ⟨i, _⟩ => hbmTy i
  | _, _ => ⟨S2x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_call0_v0 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_cst_15 : Ref sig .tc := ⟨.hbm, 71, rfl⟩
abbrev main_v46 : Ref sig .tc := ⟨.hbm, 72, rfl⟩
abbrev main_cst_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_17 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_18 : Ref sig .tc := ⟨.hbm, 82, rfl⟩
abbrev main_v54 : Ref sig .tc := ⟨.hbm, 83, rfl⟩
abbrev main_v55 : Ref sig .tc := ⟨.hbm, 84, rfl⟩
abbrev main_cst_19 : Ref sig .tc := ⟨.hbm, 85, rfl⟩
abbrev main_v56 : Ref sig .tc := ⟨.hbm, 86, rfl⟩
abbrev main_v57 : Ref sig .tc := ⟨.hbm, 87, rfl⟩
abbrev main_cst_20 : Ref sig .tc := ⟨.hbm, 88, rfl⟩
abbrev main_v58 : Ref sig .tc := ⟨.hbm, 89, rfl⟩
abbrev main_v59 : Ref sig .tc := ⟨.hbm, 90, rfl⟩
abbrev main_cst_21 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_22 : Ref sig .tc := ⟨.hbm, 95, rfl⟩
abbrev main_call2_v0 : Ref sig .tc := ⟨.hbm, 96, rfl⟩
abbrev main_v63 : Ref sig .tc := ⟨.hbm, 97, rfl⟩
abbrev main_cst_23 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_24 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_cst_26 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_27 : Ref sig .tc := ⟨.hbm, 118, rfl⟩
abbrev main_v75 : Ref sig .tc := ⟨.hbm, 119, rfl⟩
abbrev main_cst_28 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_29 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_30 : Ref sig .tc := ⟨.hbm, 129, rfl⟩
abbrev main_v83 : Ref sig .tc := ⟨.hbm, 130, rfl⟩
abbrev main_v84 : Ref sig .tc := ⟨.hbm, 131, rfl⟩
abbrev main_cst_31 : Ref sig .tc := ⟨.hbm, 132, rfl⟩
abbrev main_v85 : Ref sig .tc := ⟨.hbm, 133, rfl⟩
abbrev main_v86 : Ref sig .tc := ⟨.hbm, 134, rfl⟩
abbrev main_cst_32 : Ref sig .tc := ⟨.hbm, 135, rfl⟩
abbrev main_v87 : Ref sig .tc := ⟨.hbm, 136, rfl⟩
abbrev main_v88 : Ref sig .tc := ⟨.hbm, 137, rfl⟩
abbrev main_cst_33 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_34 : Ref sig .tc := ⟨.hbm, 142, rfl⟩
abbrev main_call4_v0 : Ref sig .tc := ⟨.hbm, 143, rfl⟩
abbrev main_v92 : Ref sig .tc := ⟨.hbm, 144, rfl⟩
abbrev main_cst_35 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_37 : Ref sig .tc := ⟨.hbm, 155, rfl⟩
abbrev main_cst_38 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_cst_39 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_40 : Ref sig .tc := ⟨.hbm, 189, rfl⟩
abbrev main_call6_v0 : Ref sig .tc := ⟨.hbm, 190, rfl⟩
abbrev main_call6_v1 : Ref sig .tc := ⟨.hbm, 191, rfl⟩
abbrev main_call6_v2 : Ref sig .tc := ⟨.hbm, 192, rfl⟩
abbrev main_v127 : Ref sig .tc := ⟨.hbm, 193, rfl⟩
abbrev main_cst_41 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_42 : Ref sig .tc := ⟨.hbm, 200, rfl⟩
abbrev main_v133 : Ref sig .tc := ⟨.hbm, 201, rfl⟩
abbrev main_cst_43 : Ref sig .tc := ⟨.hbm, 202, rfl⟩
abbrev main_v134 : Ref sig .tc := ⟨.hbm, 203, rfl⟩
abbrev main_v135 : Ref sig .tc := ⟨.hbm, 204, rfl⟩
abbrev main_cst_44 : Ref sig .tc := ⟨.hbm, 205, rfl⟩
abbrev main_cst_45 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_call7_v3 : Ref sig .tc := ⟨.hbm, 210, rfl⟩
abbrev main_call7_v4 : Ref sig .tc := ⟨.hbm, 211, rfl⟩
abbrev main_v136 : Ref sig .tc := ⟨.hbm, 212, rfl⟩
abbrev main_v137 : Ref sig .tc := ⟨.hbm, 213, rfl⟩
abbrev main_cst_46 : Ref sig .tc := ⟨.hbm, 214, rfl⟩
abbrev main_cst_47 : Ref sig .tc := ⟨.hbm, 215, rfl⟩
abbrev main_v138 : Ref sig .tc := ⟨.hbm, 216, rfl⟩
abbrev main_cst_48 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩

abbrev nD : Nat := 1
abbrev τ : Topo := Topo.v7x

variable {F : FTy → Type} [FloatOps F]
-- ==== Proof.Kernel.K0.lean ====
/- The first kernel (`_kv_prep`): its run on any staging buffers, the proof data and the body obligation, for any entry contents and
   owed tally. The loops go by the invariants of the generated Loops module. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Kernel.K0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱₀ : Variants) (V : (c : Dev nD) → (b : Ref sig .tc) → Buf (Elt F) ((c : Thread nD τ).loc b)) (D : Dev nD → CellTallies nD τ sig Unit)

/-- The region's invariant on core `c`: the library's `Pipeline.ΦA spec0 c` at any index and level type. -/
def ΦK (c : Dev nD) : sProp 𝕄 :=
  iprop(Pipeline.scopedRest  (Name := ℕ)  (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S1x1x8192x128 .fp8e4m3 := (Memref.whole cc0_stg2_0 : Memref sig .tc .vmem S1x1x8192x128 .fp8e4m3).view
/-- One staging buffer of output window 3, through which its contents are stated (`View.read_writes_of_cover`: the
    choice does not matter). -/
abbrev VO0_3 : View sig .tc .vmem S1x1x128x128 .f32 := (Memref.whole cc0_stg3_0 : Memref sig .tc .vmem S1x1x128x128 .f32).view
/-- One staging buffer of output window 4, through which its contents are stated (`View.read_writes_of_cover`: the
    choice does not matter). -/
abbrev VO0_4 : View sig .tc .vmem S1x1x8192x128 .fp8e4m3 := (Memref.whole cc0_stg4_0 : Memref sig .tc .vmem S1x1x8192x128 .fp8e4m3).view
/-- One staging buffer of output window 5, through which its contents are stated (`View.read_writes_of_cover`: the
    choice does not matter). -/
abbrev VO0_5 : View sig .tc .vmem S1x1x128x8192 .fp8e4m3 := (Memref.whole cc0_stg5_0 : Memref sig .tc .vmem S1x1x128x8192 .fp8e4m3).view
/-- One staging buffer of output window 6, through which its contents are stated (`View.read_writes_of_cover`: the
    choice does not matter). -/
abbrev VO0_6 : View sig .tc .vmem S1x1x8x128 .f32 := (Memref.whole cc0_stg6_0 : Memref sig .tc .vmem S1x1x8x128 .f32).view
/-- Each window's current staging memref at point `t`, spelled as the pipeline passes it (`bodyAt0`), and its wholeness. -/
abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8192x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8192x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8x128 .f32 := win0_6.stage (cfg0.slots t 6)
abbrev hs0_6 (t : Fin cfg0.N) : (ms0_6 t).IsWhole := hstage0_6 ((cfg0.slots t 6).cast nbuf0_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) :
    Σ' (L2 : List (View.Piece (Elt F) S1x1x8192x128 .fp8e4m3)), Σ' (L3 : List (View.Piece (Elt F) S1x1x128x128 .f32)), Σ' (L4 : List (View.Piece (Elt F) S1x1x8192x128 .fp8e4m3)), Σ' (L5 : List (View.Piece (Elt F) S1x1x128x8192 .fp8e4m3)), { L6 : List (View.Piece (Elt F) S1x1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) 𝒱₀ c none) E (cc0_kv_prep i arg2 harg2 arg3 harg3 arg4 harg4 arg5 harg5 arg6 harg6 arg7 harg7 arg8 harg8) K } := by
  refine ⟨?_, ?_, ?_, ?_, ?_, fun E K => ?run⟩
  case run =>
    simp only [cc0_kv_prep_eq_skeleton]; unfold cc0_kv_prep_skel
    simp only [k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

/-- The run's pieces for output 2 tile its block (16 stores of `S1x1x512x128`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8192x128.Idx) :
    ∃ pc ∈ (kernelRun0_A  𝒱₀ c i arg2 harg2 arg3 harg3 arg4 harg4 arg5 harg5 arg6 harg6 arg7 harg7 arg8 harg8 x0 x1).1, y ∈ pc.1.set :=
  View.cover_of_tiledL (kernelRun0_A  𝒱₀ c i arg2 harg2 arg3 harg3 arg4 harg4 arg5 harg5 arg6 harg6 arg7 harg7 arg8 harg8 x0 x1).1 S1x1x512x128.size (by sl_kernel_rfl) y

/-- What the run leaves in output 2's staging buffer: its pieces read back over junk. -/
def out0_A_2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8192x128 .fp8e4m3 :=
  VO0_2.read (Elt F) (VO0_2.writes (Elt F) VO0_2.junk (kernelRun0_A  𝒱₀ c i arg2 harg2 arg3 harg3 arg4 harg4 arg5 harg5 arg6 harg6 arg7 harg7 arg8 harg8 x0 x1).1)

/-- The run's pieces for output 3 tile its block (16 stores of `S1x1x8x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x128x128.Idx) :
    ∃ pc ∈ (kernelRun0_A  𝒱₀ c i arg2 harg2 arg3 harg3 arg4 harg4 arg5 harg5 arg6 harg6 arg7 harg7 arg8 harg8 x0 x1).2.1, y ∈ pc.1.set :=
  View.cover_of_tiledL (kernelRun0_A  𝒱₀ c i arg2 harg2 arg3 harg3 arg4 harg4 arg5 harg5 arg6 harg6 arg7 harg7 arg8 harg8 x0 x1).2.1 S1x1x8x128.size (by sl_kernel_rfl) y

/-- What the run leaves in output 3's staging buffer: its pieces read back over junk. -/
def out0_A_3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x128x128 .f32 :=
  VO0_3.read (Elt F) (VO0_3.writes (Elt F) VO0_3.junk (kernelRun0_A  𝒱₀ c i arg2 harg2 arg3 harg3 arg4 harg4 arg5 harg5 arg6 harg6 arg7 harg7 arg8 harg8 x0 x1).2.1)

/-- The run's pieces for output 4 tile its block (16 stores of `S1x1x512x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8192x128.Idx) :
    ∃ pc ∈ (kernelRun0_A  𝒱₀ c i arg2 harg2 arg3 harg3 arg4 harg4 arg5 harg5 arg6 harg6 arg7 harg7 arg8 harg8 x0 x1).2.2.1, y ∈ pc.1.set :=
  View.cover_of_tiledL (kernelRun0_A  𝒱₀ c i arg2 harg2 arg3 harg3 arg4 harg4 arg5 harg5 arg6 harg6 arg7 harg7 arg8 harg8 x0 x1).2.2.1 S1x1x512x128.size (by sl_kernel_rfl) y

/-- What the run leaves in output 4's staging buffer: its pieces read back over junk. -/
def out0_A_4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8192x128 .fp8e4m3 :=
  VO0_4.read (Elt F) (VO0_4.writes (Elt F) VO0_4.junk (kernelRun0_A  𝒱₀ c i arg2 harg2 arg3 harg3 arg4 harg4 arg5 harg5 arg6 harg6 arg7 harg7 arg8 harg8 x0 x1).2.2.1)

/-- The run's pieces for output 5 tile its block (16 stores of `S1x1x128x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x128x8192.Idx) :
    ∃ pc ∈ (kernelRun0_A  𝒱₀ c i arg2 harg2 arg3 harg3 arg4 harg4 arg5 harg5 arg6 harg6 arg7 harg7 arg8 harg8 x0 x1).2.2.2.1, y ∈ pc.1.set :=
  View.cover_of_tiledL (kernelRun0_A  𝒱₀ c i arg2 harg2 arg3 harg3 arg4 harg4 arg5 harg5 arg6 harg6 arg7 harg7 arg8 harg8 x0 x1).2.2.2.1 S1x1x128x512.size (by sl_kernel_rfl) y

/-- What the run leaves in output 5's staging buffer: its pieces read back over junk. -/
def out0_A_5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x128x8192 .fp8e4m3 :=
  VO0_5.read (Elt F) (VO0_5.writes (Elt F) VO0_5.junk (kernelRun0_A  𝒱₀ c i arg2 harg2 arg3 harg3 arg4 harg4 arg5 harg5 arg6 harg6 arg7 harg7 arg8 harg8 x0 x1).2.2.2.1)

/-- The run's pieces for output 6 tile its block (1 store of `S1x1x8x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8x128.Idx) :
    ∃ pc ∈ (kernelRun0_A  𝒱₀ c i arg2 harg2 arg3 harg3 arg4 harg4 arg5 harg5 arg6 harg6 arg7 harg7 arg8 harg8 x0 x1).2.2.2.2.1, y ∈ pc.1.set :=
  View.cover_of_tiledL (kernelRun0_A  𝒱₀ c i arg2 harg2 arg3 harg3 arg4 harg4 arg5 harg5 arg6 harg6 arg7 harg7 arg8 harg8 x0 x1).2.2.2.2.1 S1x1x8x128.size (by sl_kernel_rfl) y

/-- What the run leaves in output 6's staging buffer: its pieces read back over junk. -/
def out0_A_6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8x128 .f32 :=
  VO0_6.read (Elt F) (VO0_6.writes (Elt F) VO0_6.junk (kernelRun0_A  𝒱₀ c i arg2 harg2 arg3 harg3 arg4 harg4 arg5 harg5 arg6 harg6 arg7 harg7 arg8 harg8 x0 x1).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x1x8192x128 .fp8e4m3 × Vec F S1x1x128x128 .f32 × Vec F S1x1x8192x128 .fp8e4m3 × Vec F S1x1x128x8192 .fp8e4m3 × Vec F S1x1x8x128 .f32 :=
  (out0_A_2  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_3  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_4  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_5  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_6  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0  𝒱₀ V c t).1
    | ⟨3, _⟩ => (outsAt0  𝒱₀ V c t).2.1
    | ⟨4, _⟩ => (outsAt0  𝒱₀ V c t).2.2.1
    | ⟨5, _⟩ => (outsAt0  𝒱₀ V c t).2.2.2.1
    | ⟨6, _⟩ => (outsAt0  𝒱₀ V c t).2.2.2.2
  Φ _ := ΦK (F := F)  c
  q _ := fullShare
  owed _ := D c

variable (ι : Unit)

local notation "𝕕" => dat  𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = (outsAt0  𝒱₀ V c t).1 := by dsimp only [dat]
theorem after0_3 (c : Dev nD) (t : Fin cfg0.N) : (𝕕 c).after 3 t = (outsAt0  𝒱₀ V c t).2.1 := by dsimp only [dat]
theorem after0_4 (c : Dev nD) (t : Fin cfg0.N) : (𝕕 c).after 4 t = (outsAt0  𝒱₀ V c t).2.2.1 := by dsimp only [dat]
theorem after0_5 (c : Dev nD) (t : Fin cfg0.N) : (𝕕 c).after 5 t = (outsAt0  𝒱₀ V c t).2.2.2.1 := by dsimp only [dat]
theorem after0_6 (c : Dev nD) (t : Fin cfg0.N) : (𝕕 c).after 6 t = (outsAt0  𝒱₀ V c t).2.2.2.2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t))

/-- The body at any point: the inputs' memrefs hold their blocks (`before0_W`); so the
    run applies; the invariant passes through unread; the core owes `D c` throughout. -/
theorem sound_body (c : Dev nD) (t : Fin cfg0.N) :
    bodyPre  𝒱₀ V D ι c t ⊢ wp frame (wpE (defs₀ (F := F)) 𝒱₀ c none) Set.univ (bodyAt0 t) (fun _ => bodyPost  𝒱₀ V D ι c t) := by
  unfold bodyPre bodyPost bodyAt0
  simp only [before0_0, before0_1]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6]
  unfold outsAt0
  unfold out0_A_2 out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A  𝒱₀ c (grid0.coords t) _ _ _ _ _ _ _ _ _ _ _ _ _ _ (iblk V c 0 t) (iblk V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, ⟨%e2, H2⟩, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2  𝒱₀ c _ _ _ _ _ _ _ _ _ _ _ _ _ _ _ _ _)
  isplitl [H3]
  · unfold owns; iexists _; isplitr
    swap; · iexact H3
    ipureintro; exact View.read_writes_of_cover _ _ _ _ _ (cover0_A_3  𝒱₀ c _ _ _ _ _ _ _ _ _ _ _ _ _ _ _ _ _)
  isplitl [H4]
  · unfold owns; iexists _; isplitr
    swap; · iexact H4
    ipureintro; exact View.read_writes_of_cover _ _ _ _ _ (cover0_A_4  𝒱₀ c _ _ _ _ _ _ _ _ _ _ _ _ _ _ _ _ _)
  isplitl [H5]
  · unfold owns; iexists _; isplitr
    swap; · iexact H5
    ipureintro; exact View.read_writes_of_cover _ _ _ _ _ (cover0_A_5  𝒱₀ c _ _ _ _ _ _ _ _ _ _ _ _ _ _ _ _ _)
  unfold owns; iexists _; isplitr
  swap; · iexact H6
  ipureintro; exact View.read_writes_of_cover _ _ _ _ _ (cover0_A_6  𝒱₀ c _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body  𝒱₀ V D ι c t) rfl .rfl fun _ => .rfl

end Cert.Kernel.K0

end
-- ==== Proof.Kernel.K1Run.lean ====
module

public import proofs.«01_k».proof.Proof.Gen.Kernel.Loops
public import proofs.«01_k».proof.Proof.Gen.Kernel.Points
public import proofs.«01_k».proof.Proof.Gen.Kernel.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 65536

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱₀ : Variants)

set_option maxHeartbeats 20000000 in
/-- The attention body on any staging memrefs and any contents of its five scratch buffers: the pieces that its stores leave in the three
    outputs, with the proof that the body runs to a continuation holding the inputs as they were and the outputs with the pieces
    written. The pieces are what the run finds. -/
def kernelRun (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)
    (x2 : Vec F S1x256x512 .bf16) (x3 : Vec F S1x1x8192x128 .fp8e4m3) (x4 : Vec F S1x1x128x128 .f32) (x5 : Vec F S1x1x128x8192 .fp8e4m3) (x6 : Vec F S1x1x8x128 .f32)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L7 : List (View.Piece (Elt F) S1x256x512 .bf16)), Σ' (L8 : List (View.Piece (Elt F) S1x256x512 .fp8e4m3)), { L9 : List (View.Piece (Elt F) S1x1x1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) 𝒱₀ c none) E (cc1_sage_attention i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1_sage_attention_eq_skeleton]; unfold cc1_sage_attention_skel
    simp only [k1_part56_eq_skeleton]; unfold k1_part56_skel
    simp only [k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton]
    unfold owns
    iintro ⟨⟨%e2, %h2, H2⟩, ⟨%e3, %h3, H3⟩, ⟨%e4, %h4, H4⟩, ⟨%e5, %h5, H5⟩, ⟨%e6, %h6, H6⟩, ⟨%d7, %e7, -, H7⟩, ⟨%d8, %e8, -, H8⟩, ⟨%d9, %e9, -, H9⟩, H10, H11, H12, H13, H14, Hk⟩
    obtain rfl := harg2.eq_unread h2; obtain rfl := harg3.eq_unread h3; obtain rfl := harg4.eq_unread h4; obtain rfl := harg5.eq_unread h5; obtain rfl := harg6.eq_unread h6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Kernel.K1

end
-- ==== Proof.Kernel.K1Fun.lean ====
module

public import proofs.«01_k».proof.Proof.Kernel.K1Run
public import Idealize.ShloMosaic.Lib.Pointwise

@[expose] public section

set_option maxRecDepth 65536

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The loops' trip counts and the closed forms of their offsets -/

theorem trips1 (i : grid1.Coords) : (k1_t1_loop i).trips = (i 1).val := by
  have h : ∀ n : Fin 32, Scf.trips 0#32 (Scalar.addi 0#32 (Scalar.muli (Scalar.divsi (Scalar.subi (BitVec.ofNat 32 n.val) 0#32) 1#32) 1#32)) 1#32 = n.val := by decide
  exact h (i 1)

theorem trips2 (i : grid1.Coords) : (k1_t2_loop i).trips = 0 := by
  have := (k1_t2_abs i).2.1; omega

theorem trips3 (i : grid1.Coords) : (k1_t3_loop i).trips = (i 1).val := by
  have h : ∀ n : Fin 32, Scf.trips 0#32 (Scalar.addi 0#32 (Scalar.muli (Scalar.divsi (Scalar.subi (BitVec.ofNat 32 n.val) 0#32) 1#32) 1#32)) 1#32 = n.val := by decide
  exact h (i 1)

theorem trips4 (i : grid1.Coords) : (k1_t4_loop i).trips = 0 := by
  have := (k1_t4_abs i).2.1; omega

theorem toNat_iv (k : ℕ) (hk : k < 32) : (Scalar.indexCast (Scalar.muli (Scf.iv 0#32 1#32 k) 256#32) : Index).toNat = 256 * k := by
  have h : ∀ n : Fin 32, (Scalar.indexCast (Scalar.muli (Scf.iv 0#32 1#32 n.val) 256#32) : Index).toNat = 256 * n.val := by decide
  exact h ⟨k, hk⟩

theorem toNat_i (i : grid1.Coords) : (Scalar.indexCast (Scalar.muli (BitVec.ofNat 32 (i 1).val) 256#32) : Index).toNat = 256 * (i 1).val := by
  have h : ∀ n : Fin 32, (Scalar.indexCast (Scalar.muli (BitVec.ofNat 32 n.val) 256#32) : Index).toNat = 256 * n.val := by decide
  exact h (i 1)

theorem off2_eq (i : grid1.Coords) (k : Fin (k1_t1_loop i).trips) : k1_off2 i k = ![256 * k.val, 0] := by
  have hk : k.val < 32 := by have := lt_of_lt_of_eq k.isLt (trips1 i); have : (i 1).val < 32 := (i 1).isLt; omega
  unfold k1_off2; exact congrArg (fun n => ![n, 0]) (toNat_iv k.val hk)

theorem off8_eq (i : grid1.Coords) : k1_off8 i = ![256 * (i 1).val, 0] :=
  congrArg (fun n => ![n, 0]) (toNat_i i)

theorem off11_eq (i : grid1.Coords) (k : Fin (k1_t3_loop i).trips) : k1_off11 i k = ![256 * k.val, 0] := by
  have hk : k.val < 32 := by have := lt_of_lt_of_eq k.isLt (trips3 i); have : (i 1).val < 32 := (i 1).isLt; omega
  unfold k1_off11; exact congrArg (fun n => ![n, 0]) (toNat_iv k.val hk)

theorem off12_eq (i : grid1.Coords) (k : Fin (k1_t3_loop i).trips) : k1_off12 i k = ![256 * k.val, 128] := by
  have hk : k.val < 32 := by have := lt_of_lt_of_eq k.isLt (trips3 i); have : (i 1).val < 32 := (i 1).isLt; omega
  unfold k1_off12; exact congrArg (fun n => ![n, 128]) (toNat_iv k.val hk)

theorem off13_eq (i : grid1.Coords) (k : Fin (k1_t3_loop i).trips) : k1_off13 i k = ![256 * k.val, 256] := by
  have hk : k.val < 32 := by have := lt_of_lt_of_eq k.isLt (trips3 i); have : (i 1).val < 32 := (i 1).isLt; omega
  unfold k1_off13; exact congrArg (fun n => ![n, 256]) (toNat_iv k.val hk)

theorem off14_eq (i : grid1.Coords) (k : Fin (k1_t3_loop i).trips) : k1_off14 i k = ![256 * k.val, 384] := by
  have hk : k.val < 32 := by have := lt_of_lt_of_eq k.isLt (trips3 i); have : (i 1).val < 32 := (i 1).isLt; omega
  unfold k1_off14; exact congrArg (fun n => ![n, 384]) (toNat_iv k.val hk)

theorem off15_eq (i : grid1.Coords) (k : Fin (k1_t3_loop i).trips) : k1_off15 i k = ![256 * k.val, 512] := by
  have hk : k.val < 32 := by have := lt_of_lt_of_eq k.isLt (trips3 i); have : (i 1).val < 32 := (i 1).isLt; omega
  unfold k1_off15; exact congrArg (fun n => ![n, 512]) (toNat_iv k.val hk)

theorem off16_eq (i : grid1.Coords) (k : Fin (k1_t3_loop i).trips) : k1_off16 i k = ![256 * k.val, 640] := by
  have hk : k.val < 32 := by have := lt_of_lt_of_eq k.isLt (trips3 i); have : (i 1).val < 32 := (i 1).isLt; omega
  unfold k1_off16; exact congrArg (fun n => ![n, 640]) (toNat_iv k.val hk)

theorem off17_eq (i : grid1.Coords) (k : Fin (k1_t3_loop i).trips) : k1_off17 i k = ![256 * k.val, 768] := by
  have hk : k.val < 32 := by have := lt_of_lt_of_eq k.isLt (trips3 i); have : (i 1).val < 32 := (i 1).isLt; omega
  unfold k1_off17; exact congrArg (fun n => ![n, 768]) (toNat_iv k.val hk)

theorem off18_eq (i : grid1.Coords) (k : Fin (k1_t3_loop i).trips) : k1_off18 i k = ![256 * k.val, 896] := by
  have hk : k.val < 32 := by have := lt_of_lt_of_eq k.isLt (trips3 i); have : (i 1).val < 32 := (i 1).isLt; omega
  unfold k1_off18; exact congrArg (fun n => ![n, 896]) (toNat_iv k.val hk)

/-! ## The raw scores kept in the first scratch buffer -/

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

/-- The raw scores of one full chunk of 256 keys. -/
def rawChunk (X_arg3 : BufTy.Contents (Elt F) arg3.view.ty) (X_arg12 : BufTy.Contents (Elt F) arg12.view.ty) (k : Fin (k1_t1_loop i).trips) : FVec F S256x1024 .f32 :=
  k1_pay3 (arg3.view.readAt (Elt F) (Rect.unit (s := S1x1x8192x128) (k1_off1 i k) S1x1x256x128.size (k1_off1_inb i k)).toLoadRect X_arg3)
    (arg12.view.readAt (Elt F) (Rect.unit (s := S1024x128) ![0, 0] S1024x128.size (by decide)).toLoadRect X_arg12)

/-- What the first pass leaves in the score buffer: the chunks of earlier keys above the chunk `Pm` on the diagonal. -/
def rawAll (X_arg3 : BufTy.Contents (Elt F) arg3.view.ty) (X_arg12 : BufTy.Contents (Elt F) arg12.view.ty) (Pm : FVec F S256x1024 .f32) : S8192x1024.Idx → Elt F .f32 := fun y =>
  if h : (y 0).val / 256 < (k1_t1_loop i).trips then
    rawChunk i arg3 arg12 X_arg3 X_arg12 ⟨(y 0).val / 256, h⟩ (ix2 (n0 := 256) (n1 := 1024) ⟨(y 0).val % 256, Nat.mod_lt _ (by decide)⟩ (y 1))
  else Pm (ix2 (n0 := 256) (n1 := 1024) ⟨(y 0).val % 256, Nat.mod_lt _ (by decide)⟩ (y 1))

theorem mem_st1 (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (init : FVec F S8x128 .f32 × FVec F S8x128 .f32 × FVec F S8x128 .f32 × FVec F S8x128 .f32 × FVec F S8x128 .f32 × FVec F S8x128 .f32 × FVec F S8x128 .f32 × FVec F S8x128 .f32) :
    ∀ n, n ≤ (k1_t1_loop i).trips → ∀ p : View.Piece (Elt F) S8192x1024 .f32,
      (p ∈ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init n).2 ↔
        ∃ k : Fin (k1_t1_loop i).trips, k.val < n ∧ p = ⟨Rect.unit (s := S8192x1024) (k1_off2 i k) S256x1024.size (k1_off2_inb i k), rawChunk i arg3 arg12 X_arg3 X_arg12 k⟩) := by
  intro n
  induction n with
  | zero =>
    intro _ p
    constructor
    · intro h; exact absurd h List.not_mem_nil
    · rintro ⟨k, hk, _⟩; exact absurd hk (Nat.not_lt_zero _)
  | succ n ih =>
    intro hn p
    have e := st_k1_t1_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init ⟨n, hn⟩
    simp only [] at e
    rw [e]
    have ht : ∀ acc, tripL_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 ⟨n, hn⟩ acc = [⟨Rect.unit (s := S8192x1024) (k1_off2 i ⟨n, hn⟩) S256x1024.size (k1_off2_inb i ⟨n, hn⟩), rawChunk i arg3 arg12 X_arg3 X_arg12 ⟨n, hn⟩⟩] := by
      intro acc
      unfold tripL_k1_t1 trip_k1_t1
      rfl
    rw [List.mem_append, ht, List.mem_singleton, ih (by omega)]
    constructor
    · rintro (rfl | ⟨k, hk, rfl⟩)
      · exact ⟨⟨n, hn⟩, Nat.lt_succ_self n, rfl⟩
      · exact ⟨k, by omega, rfl⟩
    · rintro ⟨k, hk, rfl⟩
      rcases Nat.lt_succ_iff_lt_or_eq.mp hk with h | h
      · exact .inr ⟨k, h, rfl⟩
      · left
        obtain ⟨kv, hkv⟩ := k
        obtain rfl : kv = n := h
        rfl

/-- The pieces that the first pass writes into the score buffer, read back under an earlier chunk. -/
theorem read_raw (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (init : FVec F S8x128 .f32 × FVec F S8x128 .f32 × FVec F S8x128 .f32 × FVec F S8x128 .f32 × FVec F S8x128 .f32 × FVec F S8x128 .f32 × FVec F S8x128 .f32 × FVec F S8x128 .f32) (L : List (View.Piece (Elt F) S8192x1024 .f32)) (hL : L = []) (Pm : FVec F S256x1024 .f32)
    (f10 : BufTy.Contents (Elt F) arg10.view.ty) (y : S8192x1024.Idx) (hy : (y 0).val < 256 * (i 1).val) :
    arg10.view.read (Elt F) (arg10.view.writes (Elt F) f10 ((⟨Rect.unit (s := S8192x1024) (k1_off8 i) S256x1024.size (k1_off8_inb i), Pm⟩ : View.Piece (Elt F) S8192x1024 .f32) ::
      (L ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init (k1_t1_loop i).trips).2))) y = rawAll i arg3 arg12 X_arg3 X_arg12 Pm y := by
  subst hL
  apply View.read_writes_apply_of_pieces
  · intro p hp x
    rw [List.nil_append, List.mem_cons, mem_st1 (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init _ le_rfl] at hp
    rcases hp with rfl | ⟨k, -, rfl⟩
    · have h0 : ((Rect.unit (s := S8192x1024) (k1_off8 i) S256x1024.size (k1_off8_inb i)).emb x 0).val = 256 * (i 1).val + (x 0).val := by
        have e0 : k1_off8 i 0 = 256 * (i 1).val := by rw [off8_eq]; rfl
        show k1_off8 i 0 + 1 * (x 0).val = _
        rw [e0, Nat.one_mul]
      have h1 : ((Rect.unit (s := S8192x1024) (k1_off8 i) S256x1024.size (k1_off8_inb i)).emb x 1).val = (x 1).val := by
        have e0 : k1_off8 i 1 = 0 := by rw [off8_eq]; rfl
        show k1_off8 i 1 + 1 * (x 1).val = _
        rw [e0, Nat.one_mul, Nat.zero_add]
      have hx0 : (x 0).val < 256 := (x 0).isLt
      unfold rawAll
      rw [dif_neg (by rw [trips1, h0]; omega)]
      refine congrArg Pm (funext fun a => ?_)
      match a with
      | ⟨0, _⟩ => exact Fin.ext (by show (x 0).val = _ % 256; rw [h0]; omega)
      | ⟨1, _⟩ => exact Fin.ext h1.symm
    · have hk := k.isLt
      have h0 : ((Rect.unit (s := S8192x1024) (k1_off2 i k) S256x1024.size (k1_off2_inb i k)).emb x 0).val = 256 * k.val + (x 0).val := by
        have e0 : k1_off2 i k 0 = 256 * k.val := by rw [off2_eq]; rfl
        show k1_off2 i k 0 + 1 * (x 0).val = _
        rw [e0, Nat.one_mul]
      have h1 : ((Rect.unit (s := S8192x1024) (k1_off2 i k) S256x1024.size (k1_off2_inb i k)).emb x 1).val = (x 1).val := by
        have e0 : k1_off2 i k 1 = 0 := by rw [off2_eq]; rfl
        show k1_off2 i k 1 + 1 * (x 1).val = _
        rw [e0, Nat.one_mul, Nat.zero_add]
      have hx0 : (x 0).val < 256 := (x 0).isLt
      have hq : ((Rect.unit (s := S8192x1024) (k1_off2 i k) S256x1024.size (k1_off2_inb i k)).emb x 0).val / 256 = k.val := by rw [h0]; omega
      unfold rawAll
      rw [dif_pos (by rw [hq]; exact hk)]
      have hk' : (⟨((Rect.unit (s := S8192x1024) (k1_off2 i k) S256x1024.size (k1_off2_inb i k)).emb x 0).val / 256, by rw [hq]; exact hk⟩ : Fin (k1_t1_loop i).trips) = k := Fin.ext hq
      rw [hk']
      refine congrArg (rawChunk i arg3 arg12 X_arg3 X_arg12 k) (funext fun a => ?_)
      match a with
      | ⟨0, _⟩ => exact Fin.ext (by show (x 0).val = _ % 256; rw [h0]; omega)
      | ⟨1, _⟩ => exact Fin.ext h1.symm
  · have hk : (y 0).val / 256 < (k1_t1_loop i).trips := by rw [trips1]; omega
    refine ⟨_, List.mem_cons_of_mem _ ((mem_st1 (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init _ le_rfl _).mpr ⟨⟨(y 0).val / 256, hk⟩, hk, rfl⟩), ?_⟩
    rw [Rect.mem_set_unit]
    intro a
    rw [off2_eq]
    have h1 : (y 1).val < 1024 := (y 1).isLt
    match a with
    | ⟨0, _⟩ => exact ⟨by show 256 * ((y 0).val / 256) ≤ (y 0).val; omega, by show (y 0).val < 256 * ((y 0).val / 256) + 256; omega⟩
    | ⟨1, _⟩ => exact ⟨Nat.zero_le _, by show (y 1).val < 0 + 1024; omega⟩

/-! ## The second pass depends on the score buffer only through the tiles that it reads -/

theorem st3_congr (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (X X' : BufTy.Contents (Elt F) arg10.view.ty) (X_arg11 : BufTy.Contents (Elt F) arg11.view.ty) (G13 G13' : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32)
    (h0 : ∀ k : Fin (k1_t3_loop i).trips, arg10.view.readAt (Elt F) (Rect.unit (s := S8192x1024) (k1_off11 i k) S256x128.size (k1_off11_inb i k)).toLoadRect X = arg10.view.readAt (Elt F) (Rect.unit (s := S8192x1024) (k1_off11 i k) S256x128.size (k1_off11_inb i k)).toLoadRect X') (h1 : ∀ k : Fin (k1_t3_loop i).trips, arg10.view.readAt (Elt F) (Rect.unit (s := S8192x1024) (k1_off12 i k) S256x128.size (k1_off12_inb i k)).toLoadRect X = arg10.view.readAt (Elt F) (Rect.unit (s := S8192x1024) (k1_off12 i k) S256x128.size (k1_off12_inb i k)).toLoadRect X') (h2 : ∀ k : Fin (k1_t3_loop i).trips, arg10.view.readAt (Elt F) (Rect.unit (s := S8192x1024) (k1_off13 i k) S256x128.size (k1_off13_inb i k)).toLoadRect X = arg10.view.readAt (Elt F) (Rect.unit (s := S8192x1024) (k1_off13 i k) S256x128.size (k1_off13_inb i k)).toLoadRect X') (h3 : ∀ k : Fin (k1_t3_loop i).trips, arg10.view.readAt (Elt F) (Rect.unit (s := S8192x1024) (k1_off14 i k) S256x128.size (k1_off14_inb i k)).toLoadRect X = arg10.view.readAt (Elt F) (Rect.unit (s := S8192x1024) (k1_off14 i k) S256x128.size (k1_off14_inb i k)).toLoadRect X') (h4 : ∀ k : Fin (k1_t3_loop i).trips, arg10.view.readAt (Elt F) (Rect.unit (s := S8192x1024) (k1_off15 i k) S256x128.size (k1_off15_inb i k)).toLoadRect X = arg10.view.readAt (Elt F) (Rect.unit (s := S8192x1024) (k1_off15 i k) S256x128.size (k1_off15_inb i k)).toLoadRect X') (h5 : ∀ k : Fin (k1_t3_loop i).trips, arg10.view.readAt (Elt F) (Rect.unit (s := S8192x1024) (k1_off16 i k) S256x128.size (k1_off16_inb i k)).toLoadRect X = arg10.view.readAt (Elt F) (Rect.unit (s := S8192x1024) (k1_off16 i k) S256x128.size (k1_off16_inb i k)).toLoadRect X') (h6 : ∀ k : Fin (k1_t3_loop i).trips, arg10.view.readAt (Elt F) (Rect.unit (s := S8192x1024) (k1_off17 i k) S256x128.size (k1_off17_inb i k)).toLoadRect X = arg10.view.readAt (Elt F) (Rect.unit (s := S8192x1024) (k1_off17 i k) S256x128.size (k1_off17_inb i k)).toLoadRect X') (h7 : ∀ k : Fin (k1_t3_loop i).trips, arg10.view.readAt (Elt F) (Rect.unit (s := S8192x1024) (k1_off18 i k) S256x128.size (k1_off18_inb i k)).toLoadRect X = arg10.view.readAt (Elt F) (Rect.unit (s := S8192x1024) (k1_off18 i k) S256x128.size (k1_off18_inb i k)).toLoadRect X') :
    ∀ n, n ≤ (k1_t3_loop i).trips → st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X X_arg11 G13 G14 init n = st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X' X_arg11 G13' G14 init n := by
  intro n
  induction n with
  | zero => intro _; rfl
  | succ n ih =>
    intro hn
    have e := st_k1_t3_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X X_arg11 G13 G14 init ⟨n, hn⟩
    have e' := st_k1_t3_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X' X_arg11 G13' G14 init ⟨n, hn⟩
    simp only [] at e e'
    rw [e, e', ih (by omega)]
    unfold tripR_k1_t3 trip_k1_t3
    simp only [trip_k1_t3.sl.r_12, trip_k1_t3.sl.HW_arg13_8, trip_k1_t3.sl.r_11, trip_k1_t3.sl.r_6, trip_k1_t3.sl.v1902, trip_k1_t3.sl.r_8, trip_k1_t3.sl.r_4, trip_k1_t3.sl.r_7, trip_k1_t3.sl.r_2, trip_k1_t3.sl.v1779, trip_k1_t3.sl.r, trip_k1_t3.sl.r_1, trip_k1_t3.sl.arg15, trip_k1_t3.sl.r_9, trip_k1_t3.sl.r_3, trip_k1_t3.sl.r_10, trip_k1_t3.sl.r_13, trip_k1_t3.sl.r_5, h0, h1, h2, h3, h4, h5, h6, h7]

end

end Cert.Kernel.K1

end
-- ==== Proof.Kernel.K1Ind.lean ====
module

public import proofs.«01_k».proof.Proof.Kernel.K1Fun

@[expose] public section

set_option maxRecDepth 65536

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

theorem st2_eq (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (v1044 : BitVec 32) (init : FVec F S8x128 .f32 × FVec F S8x128 .f32 × FVec F S8x128 .f32 × FVec F S8x128 .f32 × FVec F S8x128 .f32 × FVec F S8x128 .f32 × FVec F S8x128 .f32 × FVec F S8x128 .f32) :
    st_k1_t2 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 v1044 X_arg3 X_arg4 X_arg12 init (Scf.trips (k1_t2_loop i).lb (k1_t2_loop i).ub (k1_t2_loop i).st) = (init, []) := by
  have h : (Scf.trips (k1_t2_loop i).lb (k1_t2_loop i).ub (k1_t2_loop i).st) = 0 := trips2 i
  rw [h]; rfl

theorem st4_eq (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (v1311 : BitVec 32) (X : BufTy.Contents (Elt F) arg10.view.ty) (X_arg11 : BufTy.Contents (Elt F) arg11.view.ty) (G13 : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32) :
    st_k1_t4 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 v1311 X_arg5 X X_arg11 G13 G14 init (Scf.trips (k1_t4_loop i).lb (k1_t4_loop i).ub (k1_t4_loop i).st) = (init, [], []) := by
  have h : (Scf.trips (k1_t4_loop i).lb (k1_t4_loop i).ub (k1_t4_loop i).st) = 0 := trips4 i
  rw [h]; rfl

/-- The second pass's state over the score buffer as the first pass leaves it does not depend on what the score buffer and the buffer of the weights held before. -/
theorem st3_indep (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (brg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty)
    (init1 : FVec F S8x128 .f32 × FVec F S8x128 .f32 × FVec F S8x128 .f32 × FVec F S8x128 .f32 × FVec F S8x128 .f32 × FVec F S8x128 .f32 × FVec F S8x128 .f32 × FVec F S8x128 .f32) (Pm : FVec F S256x1024 .f32) (f10 f10' : BufTy.Contents (Elt F) arg10.view.ty)
    (X_arg11 : BufTy.Contents (Elt F) arg11.view.ty) (G13 G13' : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32) :
    st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 (arg10.view.writes (Elt F) f10 ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) X_arg11 G13 G14 init (Scf.trips (k1_t3_loop i).lb (k1_t3_loop i).ub (k1_t3_loop i).st)
    = st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 (arg10.view.writes (Elt F) f10' ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) X_arg11 G13' G14 init (Scf.trips (k1_t3_loop i).lb (k1_t3_loop i).ub (k1_t3_loop i).st) := by
  have hrd : ∀ y : S8192x1024.Idx, (y 0).val < 256 * (i 1).val →
      arg10.view.read (Elt F) (arg10.view.writes (Elt F) f10 ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) y
      = arg10.view.read (Elt F) (arg10.view.writes (Elt F) f10' ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) y := fun y hy =>
    (read_raw (F := F) 𝒱₀ c i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 [] rfl Pm f10 y hy).trans
      (read_raw (F := F) 𝒱₀ c i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 [] rfl Pm f10' y hy).symm
  refine st3_congr (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 _ _ X_arg11 G13 G13' G14 init ?h0 ?h1 ?h2 ?h3 ?h4 ?h5 ?h6 ?h7 _ le_rfl
  case h0 =>
    intro k
    refine funext fun x => hrd _ ?_
    have hk := lt_of_lt_of_eq k.isLt (trips3 i)
    have hx : (x 0).val < 256 := (x 0).isLt
    have e0 : k1_off11 i k 0 = 256 * k.val := by rw [off11_eq]; rfl
    show k1_off11 i k 0 + 1 * (x 0).val < _
    rw [e0]; omega
  case h1 =>
    intro k
    refine funext fun x => hrd _ ?_
    have hk := lt_of_lt_of_eq k.isLt (trips3 i)
    have hx : (x 0).val < 256 := (x 0).isLt
    have e0 : k1_off12 i k 0 = 256 * k.val := by rw [off12_eq]; rfl
    show k1_off12 i k 0 + 1 * (x 0).val < _
    rw [e0]; omega
  case h2 =>
    intro k
    refine funext fun x => hrd _ ?_
    have hk := lt_of_lt_of_eq k.isLt (trips3 i)
    have hx : (x 0).val < 256 := (x 0).isLt
    have e0 : k1_off13 i k 0 = 256 * k.val := by rw [off13_eq]; rfl
    show k1_off13 i k 0 + 1 * (x 0).val < _
    rw [e0]; omega
  case h3 =>
    intro k
    refine funext fun x => hrd _ ?_
    have hk := lt_of_lt_of_eq k.isLt (trips3 i)
    have hx : (x 0).val < 256 := (x 0).isLt
    have e0 : k1_off14 i k 0 = 256 * k.val := by rw [off14_eq]; rfl
    show k1_off14 i k 0 + 1 * (x 0).val < _
    rw [e0]; omega
  case h4 =>
    intro k
    refine funext fun x => hrd _ ?_
    have hk := lt_of_lt_of_eq k.isLt (trips3 i)
    have hx : (x 0).val < 256 := (x 0).isLt
    have e0 : k1_off15 i k 0 = 256 * k.val := by rw [off15_eq]; rfl
    show k1_off15 i k 0 + 1 * (x 0).val < _
    rw [e0]; omega
  case h5 =>
    intro k
    refine funext fun x => hrd _ ?_
    have hk := lt_of_lt_of_eq k.isLt (trips3 i)
    have hx : (x 0).val < 256 := (x 0).isLt
    have e0 : k1_off16 i k 0 = 256 * k.val := by rw [off16_eq]; rfl
    show k1_off16 i k 0 + 1 * (x 0).val < _
    rw [e0]; omega
  case h6 =>
    intro k
    refine funext fun x => hrd _ ?_
    have hk := lt_of_lt_of_eq k.isLt (trips3 i)
    have hx : (x 0).val < 256 := (x 0).isLt
    have e0 : k1_off17 i k 0 = 256 * k.val := by rw [off17_eq]; rfl
    show k1_off17 i k 0 + 1 * (x 0).val < _
    rw [e0]; omega
  case h7 =>
    intro k
    refine funext fun x => hrd _ ?_
    have hk := lt_of_lt_of_eq k.isLt (trips3 i)
    have hx : (x 0).val < 256 := (x 0).isLt
    have e0 : k1_off18 i k 0 = 256 * k.val := by rw [off18_eq]; rfl
    show k1_off18 i k 0 + 1 * (x 0).val < _
    rw [e0]; omega

/-! ## The values that the body computes, free of the buffers' earlier contents -/

theorem ind_r_106 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_106 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_106 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_106
  rw [st2_eq, st4_eq, st4_eq]
  rw [st3_indep (f10' := f10') (G13' := f13')]

theorem ind_r_119 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_119
  rw [ind_r_106 (f10' := f10') (f13' := f13')]

theorem ind_v1571 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1571
  rw [st2_eq, st4_eq, st4_eq]
  rw [st3_indep (f10' := f10') (G13' := f13')]

theorem ind_H13_1 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_1
  rw [st2_eq, st4_eq, st4_eq]
  rw [st3_indep (f10' := f10') (G13' := f13')]

theorem ind_H13_4 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_4 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_4 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_4
  rw [ind_H13_1 (f10' := f10') (f13' := f13')]

theorem ind_H13_7 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_7
  rw [ind_H13_4 (f10' := f10') (f13' := f13')]

theorem ind_H13_8 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_8
  rw [ind_H13_7 (f10' := f10') (f13' := f13')]

theorem ind_v1576 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1576 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1576 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1576
  rw [ind_H13_8 (f10' := f10') (f13' := f13')]

theorem ind_H14_1_1 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H14_1_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H14_1_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H14_1_1
  rw [st2_eq, st4_eq, st4_eq]
  rw [st3_indep (f10' := f10') (G13' := f13')]
  rw [ind_v1571 (f10' := f10') (f13' := f13')]
  rw [ind_v1576 (f10' := f10') (f13' := f13')]

theorem ind_v1602 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1602 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1602 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1602
  rw [ind_H14_1_1 (f10' := f10') (f13' := f13')]

theorem ind_v1630 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1630 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1630 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1630
  rw [ind_H14_1_1 (f10' := f10') (f13' := f13')]

theorem ind_r_102 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_102 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_102 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_102
  rw [st2_eq, st4_eq, st4_eq]
  rw [st3_indep (f10' := f10') (G13' := f13')]

theorem ind_r_112 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_112
  rw [ind_r_102 (f10' := f10') (f13' := f13')]

theorem ind_v1588 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1588 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1588 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1588
  rw [ind_H14_1_1 (f10' := f10') (f13' := f13')]

theorem ind_r_108 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_108 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_108 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_108
  rw [st2_eq, st4_eq, st4_eq]
  rw [st3_indep (f10' := f10') (G13' := f13')]

theorem ind_r_124 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_124
  rw [ind_r_108 (f10' := f10') (f13' := f13')]

theorem ind_v1672 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1672 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1672 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1672
  rw [ind_H14_1_1 (f10' := f10') (f13' := f13')]

theorem ind_r_130 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_130 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 = kernelRun.sl.r_130 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10' f13' := by
  unfold kernelRun.sl.r_130
  rw [ind_r_124 (f10' := f10') (f13' := f13')]
  rw [ind_v1672 (f10' := f10') (f13' := f13')]

theorem ind_v1686 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1686 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1686 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1686
  rw [ind_H14_1_1 (f10' := f10') (f13' := f13')]

theorem ind_r_105 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_105 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_105 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_105
  rw [st2_eq, st4_eq, st4_eq]
  rw [st3_indep (f10' := f10') (G13' := f13')]

theorem ind_r_118 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_118
  rw [ind_r_105 (f10' := f10') (f13' := f13')]

theorem ind_v1616 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1616 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1616 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1616
  rw [ind_H14_1_1 (f10' := f10') (f13' := f13')]

theorem ind_r_107 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_107 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_107 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_107
  rw [st2_eq, st4_eq, st4_eq]
  rw [st3_indep (f10' := f10') (G13' := f13')]

theorem ind_r_122 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_122
  rw [ind_r_107 (f10' := f10') (f13' := f13')]

theorem ind_r_103 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_103 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_103 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_103
  rw [st2_eq, st4_eq, st4_eq]
  rw [st3_indep (f10' := f10') (G13' := f13')]

theorem ind_r_113 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_113
  rw [ind_r_103 (f10' := f10') (f13' := f13')]

theorem ind_r_129 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_129 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_129 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_129
  rw [ind_r_113 (f10' := f10') (f13' := f13')]

theorem ind_v1658 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1658 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1658 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1658
  rw [ind_H14_1_1 (f10' := f10') (f13' := f13')]

theorem ind_r_104 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_104 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_104 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_104
  rw [st2_eq, st4_eq, st4_eq]
  rw [st3_indep (f10' := f10') (G13' := f13')]

theorem ind_r_116 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_116
  rw [ind_r_104 (f10' := f10') (f13' := f13')]

theorem ind_r_109 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_109 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_109 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_109
  rw [st2_eq, st4_eq, st4_eq]
  rw [st3_indep (f10' := f10') (G13' := f13')]

theorem ind_r_125 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_125
  rw [ind_r_109 (f10' := f10') (f13' := f13')]

theorem ind_v1644 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1644 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1644 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1644
  rw [ind_H14_1_1 (f10' := f10') (f13' := f13')]

/-- The pieces of the attention output. -/
def pieces7 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) : List (View.Piece (Elt F) S1x256x512 .bf16) :=
  [⟨Rect.unit ![0, 128, 384] ![1, 128, 128] inb_S1x256x512_S1x128x128_0_128_384, k1_pay1 (k1_pay300 (kernelRun.sl.r_125 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1686 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)) (k1_pay301 (kernelRun.sl.r_128 c arg6 harg6 x6))⟩, ⟨Rect.unit ![0, 0, 384] ![1, 128, 128] inb_S1x256x512_S1x128x128_0_0_384, k1_pay299 (kernelRun.sl.r_130 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13)⟩, ⟨Rect.unit ![0, 128, 256] S1x128x128.size inb_S1x256x512_S1x128x128_0_128_256, k1_pay297 (kernelRun.sl.r_122 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1658 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 256] S1x128x128.size inb_S1x256x512_S1x128x128_0_0_256, k1_pay296 (kernelRun.sl.r_119 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1644 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 128, 128] S1x128x128.size inb_S1x256x512_S1x128x128_0_128_128, k1_pay295 (kernelRun.sl.r_118 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1630 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 128] S1x128x128.size inb_S1x256x512_S1x128x128_0_0_128, k1_pay294 (kernelRun.sl.r_116 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1616 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 128, 0] S1x128x128.size inb_S1x256x512_S1x128x128_0_128_0, k1_pay293 (kernelRun.sl.r_128 c arg6 harg6 x6) (kernelRun.sl.r_129 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1602 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 0] S1x128x128.size inb_S1x256x512_S1x128x128_0_0_0, k1_pay291 (kernelRun.sl.r_112 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (View.readAt (Elt F) arg6.view (Rect.unit (s := S1x1x8x128) ![0, 0, 0, 0] S1x1x1x128.size inb_S1x1x8x128_S1x1x1x128_0_0_0_0).toLoadRect (harg6.unread x6)) (kernelRun.sl.v1588 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩]

theorem pieces7_indep (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) (f10' : BufTy.Contents (Elt F) arg10.view.ty) (f13' : BufTy.Contents (Elt F) arg13.view.ty) : pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 = pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10' f13' := by
  unfold pieces7
  rw [ind_r_119 (f10' := f10') (f13' := f13'), ind_v1602 (f10' := f10') (f13' := f13'), ind_v1630 (f10' := f10') (f13' := f13'), ind_r_112 (f10' := f10') (f13' := f13'), ind_v1588 (f10' := f10') (f13' := f13'), ind_r_130 (f10' := f10') (f13' := f13'), ind_v1686 (f10' := f10') (f13' := f13'), ind_r_118 (f10' := f10') (f13' := f13'), ind_v1616 (f10' := f10') (f13' := f13'), ind_r_122 (f10' := f10') (f13' := f13'), ind_r_129 (f10' := f10') (f13' := f13'), ind_v1658 (f10' := f10') (f13' := f13'), ind_r_116 (f10' := f10') (f13' := f13'), ind_r_125 (f10' := f10') (f13' := f13'), ind_v1644 (f10' := f10') (f13' := f13')]

theorem run_7 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).1 = pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 := rfl

theorem run_8 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).2.1 = kernelRun.sl.H8_8 (F := F) c arg2 harg2 x2 := rfl

theorem run_9 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).2.2.1 = kernelRun.sl.H9_8 (F := F) c arg2 harg2 x2 := rfl

end

end Cert.Kernel.K1

end
-- ==== Proof.Kernel.K1.lean ====
module

public import proofs.«01_k».proof.Proof.Kernel.K1Ind

@[expose] public section

set_option maxRecDepth 65536

noncomputable section

namespace Cert.Kernel.K1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱₀ : Variants) (V : (c : Dev nD) → (b : Ref sig .tc) → Buf (Elt F) ((c : Thread nD τ).loc b)) (D : Dev nD → CellTallies nD τ sig Unit)

/-- The region's invariant on core `c`: its scoped buffers that are no staging buffer, each at some contents, and the generator register. -/
def ΦK (c : Dev nD) : sProp 𝕄 :=
  iprop(Pipeline.scopedRest  (Name := ℕ)  (Val := Elt F) spec1 c ∗ ∃ r, prngReg c r)

/-- The invariant, buffer by buffer. -/
theorem ΦK_eq (c : Dev nD) : ΦK (F := F) c = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f, (Memref.whole cc1_scratch0).view.loc (c : Thread nD τ) ↦[(Memref.whole cc1_scratch0).view.set]{fullShare} f) ∗ (∃ f, (Memref.whole cc1_scratch1).view.loc (c : Thread nD τ) ↦[(Memref.whole cc1_scratch1).view.set]{fullShare} f) ∗ (∃ f, (Memref.whole cc1_scratch2).view.loc (c : Thread nD τ) ↦[(Memref.whole cc1_scratch2).view.set]{fullShare} f) ∗ (∃ f, (Memref.whole cc1_scratch3).view.loc (c : Thread nD τ) ↦[(Memref.whole cc1_scratch3).view.set]{fullShare} f) ∗ (∃ f, (Memref.whole cc1_scratch4).view.loc (c : Thread nD τ) ↦[(Memref.whole cc1_scratch4).view.set]{fullShare} f)) ∗ ∃ r, prngReg c r) := by
  unfold ΦK
  rw [scopedRest1_eq]
  simp only [Memref.view_whole, View.set_whole]

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x8192x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128x8192 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1x8x128 .f32 := win1_7.stage (cfg1.slots t 7)
abbrev hs1_7 (t : Fin cfg1.N) : (ms1_7 t).IsWhole := hstage1_7 ((cfg1.slots t 7).cast nbuf1_7)

/-- Output 5's view: one whole view of its block shape. -/
abbrev VO1_5 : View sig .tc .vmem S1x256x512 .bf16 := (Memref.whole cc1_stg5_0 : Memref sig .tc .vmem S1x256x512 .bf16).view

/-- Output 6's view: one whole view of its block shape. -/
abbrev VO1_6 : View sig .tc .vmem S1x256x512 .fp8e4m3 := (Memref.whole cc1_stg6_0 : Memref sig .tc .vmem S1x256x512 .fp8e4m3).view

/-- Output 7's view: one whole view of its block shape. -/
abbrev VO1_7 : View sig .tc .vmem S1x1x1x8x128 .f32 := (Memref.whole cc1_stg7_0 : Memref sig .tc .vmem S1x1x1x8x128 .f32).view

theorem cover1_5 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x256x512.Idx) :
    ∃ pc ∈ (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk), y ∈ pc.1.set :=
  View.cover_of_tiledL (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk) ![1, 128, 128] (by sl_kernel_rfl) y

/-- What the body leaves in output 5's staging buffer: its pieces read back. -/
def out1_5 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x256x512 .bf16 :=
  VO1_5.read (Elt F) (VO1_5.writes (Elt F) VO1_5.junk (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk))

theorem cover1_6 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x256x512.Idx) :
    ∃ pc ∈ (kernelRun.sl.H8_8 (F := F) c arg2 harg2 x2), y ∈ pc.1.set :=
  View.cover_of_tiledL (kernelRun.sl.H8_8 (F := F) c arg2 harg2 x2) ![1, 128, 128] (by sl_kernel_rfl) y

/-- What the body leaves in output 6's staging buffer: its pieces read back. -/
def out1_6 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x256x512 .fp8e4m3 :=
  VO1_6.read (Elt F) (VO1_6.writes (Elt F) VO1_6.junk (kernelRun.sl.H8_8 (F := F) c arg2 harg2 x2))

theorem cover1_7 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x1x1x8x128.Idx) :
    ∃ pc ∈ (kernelRun.sl.H9_8 (F := F) c arg2 harg2 x2), y ∈ pc.1.set :=
  View.cover_of_tiledL (kernelRun.sl.H9_8 (F := F) c arg2 harg2 x2) ![1, 1, 1, 1, 128] (by sl_kernel_rfl) y

/-- What the body leaves in output 7's staging buffer: its pieces read back. -/
def out1_7 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x1x1x8x128 .f32 :=
  VO1_7.read (Elt F) (VO1_7.writes (Elt F) VO1_7.junk (kernelRun.sl.H9_8 (F := F) c arg2 harg2 x2))

/-- What the outputs' staging buffers hold after the body at point `t`. -/
def outsAt1 (c : Dev nD) (t : Fin cfg1.N) : Vec F S1x256x512 .bf16 × Vec F S1x256x512 .fp8e4m3 × Vec F S1x1x1x8x128 .f32 :=
  (out1_5 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t),
   out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t),
   out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))

/-- The proof data of the attention pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt1 𝒱₀ V c t).1
    | ⟨6, _⟩ => (outsAt1 𝒱₀ V c t).2.1
    | ⟨7, _⟩ => (outsAt1 𝒱₀ V c t).2.2
  Φ _ := ΦK (F := F) c
  q _ := fullShare
  owed _ := D c

variable (ι : Unit)

local notation "𝕕" => dat 𝒱₀ V D

theorem A_eq (c : Dev nD) (w : Fin cfg1.W) : (𝕕 c).A w = V c (Pipeline.arrRef spec1 w) := by
  dsimp only [dat]

theorem after1_0 (c : Dev nD) (t : Fin cfg1.N) : (𝕕 c).after 0 t = iblk V c 0 t := by dsimp only [dat]
theorem after1_1 (c : Dev nD) (t : Fin cfg1.N) : (𝕕 c).after 1 t = iblk V c 1 t := by dsimp only [dat]
theorem after1_2 (c : Dev nD) (t : Fin cfg1.N) : (𝕕 c).after 2 t = iblk V c 2 t := by dsimp only [dat]
theorem after1_3 (c : Dev nD) (t : Fin cfg1.N) : (𝕕 c).after 3 t = iblk V c 3 t := by dsimp only [dat]
theorem after1_4 (c : Dev nD) (t : Fin cfg1.N) : (𝕕 c).after 4 t = iblk V c 4 t := by dsimp only [dat]
theorem after1_5 (c : Dev nD) (t : Fin cfg1.N) : (𝕕 c).after 5 t = (outsAt1 𝒱₀ V c t).1 := by dsimp only [dat]
theorem after1_6 (c : Dev nD) (t : Fin cfg1.N) : (𝕕 c).after 6 t = (outsAt1 𝒱₀ V c t).2.1 := by dsimp only [dat]
theorem after1_7 (c : Dev nD) (t : Fin cfg1.N) : (𝕕 c).after 7 t = (outsAt1 𝒱₀ V c t).2.2 := by dsimp only [dat]
theorem before1_0 (c : Dev nD) (t : Fin cfg1.N) (d) : (𝕕 c).before 0 t d = iblk V c 0 t :=
  before1_0_of V (𝕕 c) (A_eq 𝒱₀ V D c 0) (after1_0 𝒱₀ V D c) t d
theorem before1_1 (c : Dev nD) (t : Fin cfg1.N) (d) : (𝕕 c).before 1 t d = iblk V c 1 t :=
  before1_1_of V (𝕕 c) (A_eq 𝒱₀ V D c 1) (after1_1 𝒱₀ V D c) t d
theorem before1_2 (c : Dev nD) (t : Fin cfg1.N) (d) : (𝕕 c).before 2 t d = iblk V c 2 t :=
  before1_2_of V (𝕕 c) (A_eq 𝒱₀ V D c 2) (after1_2 𝒱₀ V D c) t d
theorem before1_3 (c : Dev nD) (t : Fin cfg1.N) (d) : (𝕕 c).before 3 t d = iblk V c 3 t :=
  before1_3_of V (𝕕 c) (A_eq 𝒱₀ V D c 3) (after1_3 𝒱₀ V D c) t d
theorem before1_4 (c : Dev nD) (t : Fin cfg1.N) (d) : (𝕕 c).before 4 t d = iblk V c 4 t :=
  before1_4_of V (𝕕 c) (A_eq 𝒱₀ V D c 4) (after1_4 𝒱₀ V D c) t d

/-- What the body is called with at point `t`, -/
def bodyPre (c : Dev nD) (t : Fin cfg1.N) : sProp 𝕄 :=
  iprop((𝕕 c).Φ t.castSucc ∗ (𝕕 c).owesAt ι t.castSucc ∗ (∃ d, owns (c : Thread nD τ) (ms1_0 t) fullShare ((𝕕 c).before 0 t d)) ∗ (∃ d, owns (c : Thread nD τ) (ms1_1 t) fullShare ((𝕕 c).before 1 t d)) ∗ (∃ d, owns (c : Thread nD τ) (ms1_2 t) fullShare ((𝕕 c).before 2 t d)) ∗ (∃ d, owns (c : Thread nD τ) (ms1_3 t) fullShare ((𝕕 c).before 3 t d)) ∗ (∃ d, owns (c : Thread nD τ) (ms1_4 t) fullShare ((𝕕 c).before 4 t d)) ∗ (∃ d, owns (c : Thread nD τ) (ms1_5 t) fullShare ((𝕕 c).before 5 t d)) ∗ (∃ d, owns (c : Thread nD τ) (ms1_6 t) fullShare ((𝕕 c).before 6 t d)) ∗ (∃ d, owns (c : Thread nD τ) (ms1_7 t) fullShare ((𝕕 c).before 7 t d)))

/-- and what it returns. -/
def bodyPost (c : Dev nD) (t : Fin cfg1.N) : sProp 𝕄 :=
  iprop((𝕕 c).Φ t.succ ∗ (𝕕 c).owesAt ι t.succ ∗ owns (c : Thread nD τ) (ms1_0 t) fullShare ((𝕕 c).after 0 t) ∗ owns (c : Thread nD τ) (ms1_1 t) fullShare ((𝕕 c).after 1 t) ∗ owns (c : Thread nD τ) (ms1_2 t) fullShare ((𝕕 c).after 2 t) ∗ owns (c : Thread nD τ) (ms1_3 t) fullShare ((𝕕 c).after 3 t) ∗ owns (c : Thread nD τ) (ms1_4 t) fullShare ((𝕕 c).after 4 t) ∗ owns (c : Thread nD τ) (ms1_5 t) fullShare ((𝕕 c).after 5 t) ∗ owns (c : Thread nD τ) (ms1_6 t) fullShare ((𝕕 c).after 6 t) ∗ owns (c : Thread nD τ) (ms1_7 t) fullShare ((𝕕 c).after 7 t))

set_option maxHeartbeats 2000000 in
/-- The body at any point: the inputs' memrefs hold their blocks, the scratch buffers hold anything. -/
theorem sound_body (c : Dev nD) (t : Fin cfg1.N) :
    bodyPre 𝒱₀ V D ι c t ⊢ wp frame (wpE (defs₀ (F := F)) 𝒱₀ c none) Set.univ (bodyAt1 t) (fun _ => bodyPost 𝒱₀ V D ι c t) := by
  unfold bodyPre bodyPost bodyAt1
  simp only [before1_0, before1_1, before1_2, before1_3, before1_4]
  rw [show (𝕕 c).Φ t.succ = ΦK (F := F) c from rfl, show (𝕕 c).Φ t.castSucc = ΦK (F := F) c from rfl,
    show (𝕕 c).owesAt ι t.succ = (𝕕 c).owesAt ι t.castSucc from rfl, ΦK_eq,
    after1_0, after1_1, after1_2, after1_3, after1_4, after1_5, after1_6, after1_7]
  unfold outsAt1
  unfold out1_5 out1_6 out1_7; (try dsimp only)
  iintro ⟨⟨⟨R0, R1, R2, R3, R4, R5, R6, R7, R8, R9, R10, R11, R12, R13, ⟨%f0, S0⟩, ⟨%f1, S1⟩, ⟨%f2, S2⟩, ⟨%f3, S3⟩, ⟨%f4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun (F := F) 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) f0 f1 f2 f3 f4).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, ⟨%e5, H5⟩, ⟨%e6, H6⟩, ⟨%e7, H7⟩, S0, S1, S2, S3, S4⟩
  isplitl [R0 R1 R2 R3 R4 R5 R6 R7 R8 R9 R10 R11 R12 R13 S0 S1 S2 S3 S4 Hp]
  · isplitl [R0 R1 R2 R3 R4 R5 R6 R7 R8 R9 R10 R11 R12 R13 S0 S1 S2 S3 S4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [S0]; · iexact S0
      isplitl [S1]; · iexact S1
      isplitl [S2]; · iexact S2
      isplitl [S3]; · iexact S3
      iexact S4
    · iexact Hp
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [run_7, pieces7_indep (f10' := (Memref.whole cc1_scratch0).view.junk) (f13' := (Memref.whole cc1_scratch3).view.junk)]
    exact View.read_writes_of_cover _ _ _ _ _ (cover1_5 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))
  isplitl [H6]
  · unfold owns; iexists _; isplitr
    swap; · iexact H6
    ipureintro
    rw [run_8]
    exact View.read_writes_of_cover _ _ _ _ _ (cover1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))
  unfold owns; iexists _; isplitr
  swap; · iexact H7
  ipureintro
  rw [run_9]
  exact View.read_writes_of_cover _ _ _ _ _ (cover1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (𝕕 c) (defs₀ (F := F)) 𝒱₀ ι Set.univ := fun t => by
  rw [bigSep_W1, bigSep_W1, defs₀_row]
  exact triple_restated (sound_body 𝒱₀ V D ι c t) rfl .rfl fun _ => .rfl

end Cert.Kernel.K1

end
-- ==== Proof.Kernel.Whole.lean ====
/- The whole program: the two kernel regions and the host operations after them as segments, their records built from the kernels'
   body obligations, and the run: every buffer that outlives the kernels ends at a fold of contents from the launch memory, every
   semaphore at zero. -/
module

public import proofs.«01_k».proof.Proof.Gen.Kernel.Regions
public import proofs.«01_k».proof.Proof.Kernel.K0
public import proofs.«01_k».proof.Proof.Kernel.K1
public import Idealize.ShloMosaic.Lib.Pipeline.RegionArrays
public import Idealize.ShloMosaic.Lib.Pipeline.FrameSuffix

@[expose] public section

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

abbrev 𝒱₀ : Variants := Variants.none
/-- Every TensorCore semaphore has the one index, -/
abbrev L : GSem nD τ sig → Finset Unit := fun g => if g.1.2 = .tc then Finset.univ else ∅
/-- at level zero, -/
abbrev lv : GSem nD τ sig → Unit → ℕ := fun _ _ => 0
/-- and nothing is owed. -/
abbrev D₀ : Dev nD → CellTallies nD τ sig Unit := fun _ => 0

variable (m : (ℓ : Loc nD τ sig) → Buf (Elt F) ℓ)

/-- The contents at launch, by the TensorCore's references. -/
abbrev U0 (c : Dev nD) (b : Ref sig .tc) : Buf (Elt F) ((c : Thread nD τ).loc b) := V0 m c (Proc.devRef .tc b)
/-- The contents after the first kernel: its arrays at what its write-backs leave. -/
def W1 (c : Dev nD) : Valuation τ sig (Elt F) :=
  Pipeline.withArrays spec0 c (V0 m c) (fun w => (K0.dat 𝒱₀ (U0 m) D₀ c).arrAt w cfg0.N)
abbrev U1 (c : Dev nD) (b : Ref sig .tc) : Buf (Elt F) ((c : Thread nD τ).loc b) := W1 m c (Proc.devRef .tc b)
/-- The contents after the second kernel. -/
def W2 (c : Dev nD) : Valuation τ sig (Elt F) :=
  Pipeline.withArrays spec1 c (W1 m c) (fun w => (K1.dat 𝒱₀ (U1 m) D₀ c).arrAt w cfg1.N)
/-- The contents at the end. -/
def W3 (c : Dev nD) : Valuation τ sig (Elt F) := StableHlo.after hostOps2 (W2 m c)

/-- The two pipelines' proof data. -/
def pdats : (p : Fin 2) → (c : Dev nD) → Dat τ (Elt F) Unit ℕ (UR sig nD τ) ℕ (cfgs p) c
  | ⟨0, _⟩ => fun c => K0.dat 𝒱₀ (U0 m) D₀ c
  | ⟨1, _⟩ => fun c => K1.dat 𝒱₀ (U1 m) D₀ c

theorem hcut (p : Fin 2) : Pipeline.LevelCut (pcfgs (F := F)) adm () L lv p D₀ (fun _ => 0) where
  hι c w s := by simp [L]
  hιb c w s := le_rfl
  hD c g i h := absurd h (by simp [D₀])

theorem inj0 : Function.Injective (Pipeline.arrRef spec0) := by decide

theorem arr0_S : Pipeline.arrRefs (τ := τ) spec0 ⊆ Pipeline.ucRefs τ sig :=
  Pipeline.arrRefs_sub_ucRefs spec0 (by decide)

theorem W1_arr (c : Dev nD) (w : Fin cfg0.W) : W1 m c (Proc.devRef .tc (Pipeline.arrRef spec0 w)) = (K0.dat 𝒱₀ (U0 m) D₀ c).arrAt w cfg0.N :=
  Pipeline.withArrays_arr spec0 inj0 c _ _ w

theorem W1_of_ne (c : Dev nD) (b : Ref sig .tc) (hb : ∀ w, Pipeline.arrRef spec0 w ≠ b) :
    W1 m c (Proc.devRef .tc b) = V0 m c (Proc.devRef .tc b) :=
  Pipeline.withArrays_of_ne spec0 c _ _ b hb

/-- Across region 0 every other buffer keeps its contents. -/
theorem rest0_eq (c : Dev nD) : ∀ b ∈ (Pipeline.ucRefs τ sig) \ Pipeline.arrRefs (τ := τ) spec0, W1 m c b = V0 m c b := fun b hb => by
  have hn : b ∉ Pipeline.arrRefs (τ := τ) spec0 := (Finset.mem_sdiff.mp hb).2
  unfold W1 Pipeline.withArrays
  rw [dif_neg]
  rintro ⟨w, e⟩
  exact hn (e ▸ Finset.mem_map_of_mem _ (Finset.mem_image_of_mem _ (Finset.mem_univ w)))

set_option backward.isDefEq.respectTransparency.types false in
/-- Region 0's record: its arrays held at the contents before it and after it; every other buffer rides. -/
def R0 : RegionSeg (pcfgs (F := F)) adm (pdats m) () defs₀ 𝒱₀ L lv 0 :=
  Pipeline.RegionSeg.ofHeld (pcfgs (F := F)) adm (pdats m) () defs₀ 𝒱₀ L lv 0 D₀
    (fun c => iprop(∃ r, prngReg c r)) (fun c => iprop(∃ r, prngReg c r))
    launch0.toP rfl
    (fun c => (K0.body_obligation 𝒱₀ (U0 m) D₀ () c).loose) (fun _ _ => rfl) (fun _ => rfl)
    (fun c => (pdats m 0 c).share_full fun _ => rfl) (fun _ => .rfl) (fun _ => .rfl) (fun _ => 0) (hcut 0)
    (fun c => StableHlo.held (c : Thread nD τ) ((Pipeline.ucRefs τ sig) \ Pipeline.arrRefs (τ := τ) spec0) (V0 m c))
    (V0 m) (W1 m) (fun _ _ => rfl)
    (fun c w => (W1_arr m c w).symm)

/-- What rides along every segment. -/
abbrev E0 (c : Dev nD) : sProp 𝕄 := iprop((∃ r, prngReg c r) ∗ ∃ W, owes (c : Thread nD τ) (0 : CellTallies nD τ sig Unit) W)

theorem hpre0 (c : Dev nD) : iprop(StableHlo.held (c : Thread nD τ) (Pipeline.ucRefs τ sig) (V0 m c) ∗ E0 c) ⊢ (R0 m).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (D₀ c) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) : (R0 m).post c ⊢ iprop(StableHlo.held (c : Thread nD τ) (Pipeline.ucRefs τ sig) (W1 m c) ∗ E0 c) := by
  show iprop(StableHlo.held (c : Thread nD τ) (Pipeline.arrRefs (τ := τ) spec0) (W1 m c) ∗ (∃ r, prngReg c r)
    ∗ StableHlo.held (c : Thread nD τ) ((Pipeline.ucRefs τ sig) \ Pipeline.arrRefs (τ := τ) spec0) (V0 m c) ∗ ∃ W, owes (c : Thread nD τ) (D₀ c) W) ⊢ _
  rw [StableHlo.held_sub_split (c : Thread nD τ) arr0_S (W1 m c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

theorem inj1 : Function.Injective (Pipeline.arrRef spec1) := by decide

theorem arr1_S : Pipeline.arrRefs (τ := τ) spec1 ⊆ Pipeline.ucRefs τ sig :=
  Pipeline.arrRefs_sub_ucRefs spec1 (by decide)

theorem W2_arr (c : Dev nD) (w : Fin cfg1.W) : W2 m c (Proc.devRef .tc (Pipeline.arrRef spec1 w)) = (K1.dat 𝒱₀ (U1 m) D₀ c).arrAt w cfg1.N :=
  Pipeline.withArrays_arr spec1 inj1 c _ _ w

theorem W2_of_ne (c : Dev nD) (b : Ref sig .tc) (hb : ∀ w, Pipeline.arrRef spec1 w ≠ b) :
    W2 m c (Proc.devRef .tc b) = W1 m c (Proc.devRef .tc b) :=
  Pipeline.withArrays_of_ne spec1 c _ _ b hb

/-- Across region 1 every other buffer keeps its contents. -/
theorem rest1_eq (c : Dev nD) : ∀ b ∈ (Pipeline.ucRefs τ sig) \ Pipeline.arrRefs (τ := τ) spec1, W2 m c b = W1 m c b := fun b hb => by
  have hn : b ∉ Pipeline.arrRefs (τ := τ) spec1 := (Finset.mem_sdiff.mp hb).2
  unfold W2 Pipeline.withArrays
  rw [dif_neg]
  rintro ⟨w, e⟩
  exact hn (e ▸ Finset.mem_map_of_mem _ (Finset.mem_image_of_mem _ (Finset.mem_univ w)))

set_option backward.isDefEq.respectTransparency.types false in
/-- Region 1's record: its arrays held at the contents before it and after it; every other buffer rides. -/
def R1 : RegionSeg (pcfgs (F := F)) adm (pdats m) () defs₀ 𝒱₀ L lv 1 :=
  Pipeline.RegionSeg.ofHeld (pcfgs (F := F)) adm (pdats m) () defs₀ 𝒱₀ L lv 1 D₀
    (fun c => iprop(∃ r, prngReg c r)) (fun c => iprop(∃ r, prngReg c r))
    launch1.toP rfl
    (fun c => (K1.body_obligation 𝒱₀ (U1 m) D₀ () c).loose) (fun _ _ => rfl) (fun _ => rfl)
    (fun c => (pdats m 1 c).share_full fun _ => rfl) (fun _ => .rfl) (fun _ => .rfl) (fun _ => 0) (hcut 1)
    (fun c => StableHlo.held (c : Thread nD τ) ((Pipeline.ucRefs τ sig) \ Pipeline.arrRefs (τ := τ) spec1) (W1 m c))
    (W1 m) (W2 m) (fun _ _ => rfl)
    (fun c w => (W2_arr m c w).symm)

theorem hpre1 (c : Dev nD) : iprop(StableHlo.held (c : Thread nD τ) (Pipeline.ucRefs τ sig) (W1 m c) ∗ E0 c) ⊢ (R1 m).pre c := by
  show _ ⊢ iprop(StableHlo.held (c : Thread nD τ) (Pipeline.arrRefs (τ := τ) spec1) (W1 m c) ∗ (∃ r, prngReg c r)
    ∗ StableHlo.held (c : Thread nD τ) ((Pipeline.ucRefs τ sig) \ Pipeline.arrRefs (τ := τ) spec1) (W1 m c) ∗ ∃ W, owes (c : Thread nD τ) (D₀ c) W)
  rw [StableHlo.held_sub_split (c : Thread nD τ) arr1_S (W1 m c)]
  iintro ⟨⟨Ha, Hr⟩, Hp, HO⟩
  isplitl [Ha]; · iexact Ha
  isplitl [Hp]; · iexact Hp
  isplitl [Hr]; · iexact Hr
  iexact HO

theorem hpost1 (c : Dev nD) : (R1 m).post c ⊢ iprop(StableHlo.held (c : Thread nD τ) (Pipeline.ucRefs τ sig) (W2 m c) ∗ E0 c) := by
  show iprop(StableHlo.held (c : Thread nD τ) (Pipeline.arrRefs (τ := τ) spec1) (W2 m c) ∗ (∃ r, prngReg c r)
    ∗ StableHlo.held (c : Thread nD τ) ((Pipeline.ucRefs τ sig) \ Pipeline.arrRefs (τ := τ) spec1) (W1 m c) ∗ ∃ W, owes (c : Thread nD τ) (D₀ c) W) ⊢ _
  rw [StableHlo.held_sub_split (c : Thread nD τ) arr1_S (W2 m c),
    StableHlo.held_congr (c : Thread nD τ) (S := (Pipeline.ucRefs τ sig) \ Pipeline.arrRefs (τ := τ) spec1) (rest1_eq m c)]
  iintro ⟨Ha, Hp, Hr, HO⟩
  isplitl [Ha Hr]; · isplitl [Ha] <;> iassumption
  isplitl [Hp]; · iexact Hp
  iexact HO

/-- The host operations after the kernels. -/
def H2 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) (fun c => E0 c)

abbrev segs (c : Dev nD) : List (Seg (pcfgs (F := F)) adm (pdats m) () defs₀ 𝒱₀ L lv) :=
  [.region (R0 m), .region (R1 m), .host (H2 m)]

set_option backward.isDefEq.respectTransparency.types false in
/-- The run: the program terminates, every unscoped buffer ends at `W3`, every semaphore at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = W3 m c b) ∧ r.2.sem = fun _ => 0) := by
  refine Pipeline.θ_run_regions_kit_dev_sems (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0
    (fun g hg => by simp [L, hg]) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E0 c))
    (Tₙ := fun c => iprop(StableHlo.held (c : Thread nD τ) (Pipeline.ucRefs τ sig) (W3 m c)))
    (hch := fun c => ⟨hpre0 m c, (hpost0 m c).trans (hpre1 m c), hpost1 m c, sep_mono .rfl (by
      iintro ⟨-, HO⟩
      iexact HO)⟩)
    (hinit := ?_) (QY := fun c s => ∀ b ∈ Pipeline.ucRefs τ sig, s.mem ((c : Thread nD τ).1, b) = W3 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (W3 m c) s')
    isplitl [Hh] <;> iassumption

theorem W3_of (c : Dev nD) (r : Ref sig .tc) (h : r ∉ hostOps2_W) : W3 m c (Proc.devRef .tc r) = W2 m c (Proc.devRef .tc r) :=
  StableHlo.after_of_writes_sub hostOps2 _ hostOps2_writes h

theorem mem_uc (b : Ref sig .tc) (h : ¬ (Proc.devRef .tc b : DevRef τ sig).isScoped = true) : Proc.devRef .tc b ∈ Pipeline.ucRefs τ sig :=
  Finset.mem_filter.mpr ⟨StableHlo.devRef_mem_tcRefs b, h⟩

theorem W3_main_arg0 (c : Dev nD) : W3 m c (Proc.devRef .tc main_arg0) = m ((c : Thread nD τ).loc main_arg0) :=
  (W3_of m c main_arg0 (by decide)).trans <| (W2_arr m c 0).trans <| ((K1.dat 𝒱₀ (U1 m) D₀ c).arrAt_in 0 rfl _).trans <|
    (K1.A_eq 𝒱₀ (U1 m) D₀ c 0).trans (W1_of_ne m c main_arg0 (by decide))

theorem W3_main_arg1 (c : Dev nD) : W3 m c (Proc.devRef .tc main_arg1) = m ((c : Thread nD τ).loc main_arg1) :=
  (W3_of m c main_arg1 (by decide)).trans <| (W2_of_ne m c main_arg1 (by decide)).trans <| (W1_arr m c 0).trans <|
    ((K0.dat 𝒱₀ (U0 m) D₀ c).arrAt_in 0 rfl _).trans (K0.A_eq 𝒱₀ (U0 m) D₀ c 0)

theorem W3_main_arg2 (c : Dev nD) : W3 m c (Proc.devRef .tc main_arg2) = m ((c : Thread nD τ).loc main_arg2) :=
  (W3_of m c main_arg2 (by decide)).trans <| (W2_of_ne m c main_arg2 (by decide)).trans <| (W1_arr m c 1).trans <|
    ((K0.dat 𝒱₀ (U0 m) D₀ c).arrAt_in 1 rfl _).trans (K0.A_eq 𝒱₀ (U0 m) D₀ c 1)

/-- The frame: the program terminates, its arguments end unchanged, every semaphore ends at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c _ (mem_uc main_arg0 (by decide))).trans (W3_main_arg0 m c),
    (h.1 c _ (mem_uc main_arg1 (by decide))).trans (W3_main_arg1 m c),
    (h.1 c _ (mem_uc main_arg2 (by decide))).trans (W3_main_arg2 m c)⟩, h.2⟩) (run m ρ)

end Cert.Kernel.Whole

end
-- ==== Proof.KernelIdeal.K0.lean ====
/- The first kernel (`_kv_prep`): its run on any staging buffers, the proof data and the body obligation, for any entry contents and
   owed tally. The loops go by the invariants of the generated Loops module. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (𝒱₀ : Variants) (V : (c : Dev nD) → (b : Ref sig .tc) → Buf (Elt F) ((c : Thread nD τ).loc b)) (D : Dev nD → CellTallies nD τ sig Unit)

/-- The region's invariant on core `c`: the library's `Pipeline.ΦA spec0 c` at any index and level type. -/
def ΦK (c : Dev nD) : sProp 𝕄 :=
  iprop(Pipeline.scopedRest  (Name := ℕ)  (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S1x1x8192x128 .fp8e4m3 := (Memref.whole cc0_stg2_0 : Memref sig .tc .vmem S1x1x8192x128 .fp8e4m3).view
/-- One staging buffer of output window 3, through which its contents are stated (`View.read_writes_of_cover`: the
    choice does not matter). -/
abbrev VO0_3 : View sig .tc .vmem S1x1x128x128 .f32 := (Memref.whole cc0_stg3_0 : Memref sig .tc .vmem S1x1x128x128 .f32).view
/-- One staging buffer of output window 4, through which its contents are stated (`View.read_writes_of_cover`: the
    choice does not matter). -/
abbrev VO0_4 : View sig .tc .vmem S1x1x8192x128 .fp8e4m3 := (Memref.whole cc0_stg4_0 : Memref sig .tc .vmem S1x1x8192x128 .fp8e4m3).view
/-- One staging buffer of output window 5, through which its contents are stated (`View.read_writes_of_cover`: the
    choice does not matter). -/
abbrev VO0_5 : View sig .tc .vmem S1x1x128x8192 .fp8e4m3 := (Memref.whole cc0_stg5_0 : Memref sig .tc .vmem S1x1x128x8192 .fp8e4m3).view
/-- One staging buffer of output window 6, through which its contents are stated (`View.read_writes_of_cover`: the
    choice does not matter). -/
abbrev VO0_6 : View sig .tc .vmem S1x1x8x128 .f32 := (Memref.whole cc0_stg6_0 : Memref sig .tc .vmem S1x1x8x128 .f32).view
/-- Each window's current staging memref at point `t`, spelled as the pipeline passes it (`bodyAt0`), and its wholeness. -/
abbrev ms0_0 (t : Fin cfg0.N) : Memref sig .tc .vmem S1x8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x8192x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8192x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x128x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8x128 .f32 := win0_6.stage (cfg0.slots t 6)
abbrev hs0_6 (t : Fin cfg0.N) : (ms0_6 t).IsWhole := hstage0_6 ((cfg0.slots t 6).cast nbuf0_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) :
    Σ' (L2 : List (View.Piece (Elt F) S1x1x8192x128 .fp8e4m3)), Σ' (L3 : List (View.Piece (Elt F) S1x1x128x128 .f32)), Σ' (L4 : List (View.Piece (Elt F) S1x1x8192x128 .fp8e4m3)), Σ' (L5 : List (View.Piece (Elt F) S1x1x128x8192 .fp8e4m3)), { L6 : List (View.Piece (Elt F) S1x1x8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) 𝒱₀ c none) E (cc0_kv_prep i arg2 harg2 arg3 harg3 arg4 harg4 arg5 harg5 arg6 harg6 arg7 harg7 arg8 harg8) K } := by
  refine ⟨?_, ?_, ?_, ?_, ?_, fun E K => ?run⟩
  case run =>
    simp only [cc0_kv_prep_eq_skeleton]; unfold cc0_kv_prep_skel
    simp only [k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

/-- The run's pieces for output 2 tile its block (16 stores of `S1x1x512x128`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8192x128.Idx) :
    ∃ pc ∈ (kernelRun0_A  𝒱₀ c i arg2 harg2 arg3 harg3 arg4 harg4 arg5 harg5 arg6 harg6 arg7 harg7 arg8 harg8 x0 x1).1, y ∈ pc.1.set :=
  View.cover_of_tiledL (kernelRun0_A  𝒱₀ c i arg2 harg2 arg3 harg3 arg4 harg4 arg5 harg5 arg6 harg6 arg7 harg7 arg8 harg8 x0 x1).1 S1x1x512x128.size (by sl_kernel_rfl) y

/-- What the run leaves in output 2's staging buffer: its pieces read back over junk. -/
def out0_A_2 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8192x128 .fp8e4m3 :=
  VO0_2.read (Elt F) (VO0_2.writes (Elt F) VO0_2.junk (kernelRun0_A  𝒱₀ c i arg2 harg2 arg3 harg3 arg4 harg4 arg5 harg5 arg6 harg6 arg7 harg7 arg8 harg8 x0 x1).1)

/-- The run's pieces for output 3 tile its block (16 stores of `S1x1x8x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x128x128.Idx) :
    ∃ pc ∈ (kernelRun0_A  𝒱₀ c i arg2 harg2 arg3 harg3 arg4 harg4 arg5 harg5 arg6 harg6 arg7 harg7 arg8 harg8 x0 x1).2.1, y ∈ pc.1.set :=
  View.cover_of_tiledL (kernelRun0_A  𝒱₀ c i arg2 harg2 arg3 harg3 arg4 harg4 arg5 harg5 arg6 harg6 arg7 harg7 arg8 harg8 x0 x1).2.1 S1x1x8x128.size (by sl_kernel_rfl) y

/-- What the run leaves in output 3's staging buffer: its pieces read back over junk. -/
def out0_A_3 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x128x128 .f32 :=
  VO0_3.read (Elt F) (VO0_3.writes (Elt F) VO0_3.junk (kernelRun0_A  𝒱₀ c i arg2 harg2 arg3 harg3 arg4 harg4 arg5 harg5 arg6 harg6 arg7 harg7 arg8 harg8 x0 x1).2.1)

/-- The run's pieces for output 4 tile its block (16 stores of `S1x1x512x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8192x128.Idx) :
    ∃ pc ∈ (kernelRun0_A  𝒱₀ c i arg2 harg2 arg3 harg3 arg4 harg4 arg5 harg5 arg6 harg6 arg7 harg7 arg8 harg8 x0 x1).2.2.1, y ∈ pc.1.set :=
  View.cover_of_tiledL (kernelRun0_A  𝒱₀ c i arg2 harg2 arg3 harg3 arg4 harg4 arg5 harg5 arg6 harg6 arg7 harg7 arg8 harg8 x0 x1).2.2.1 S1x1x512x128.size (by sl_kernel_rfl) y

/-- What the run leaves in output 4's staging buffer: its pieces read back over junk. -/
def out0_A_4 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8192x128 .fp8e4m3 :=
  VO0_4.read (Elt F) (VO0_4.writes (Elt F) VO0_4.junk (kernelRun0_A  𝒱₀ c i arg2 harg2 arg3 harg3 arg4 harg4 arg5 harg5 arg6 harg6 arg7 harg7 arg8 harg8 x0 x1).2.2.1)

/-- The run's pieces for output 5 tile its block (16 stores of `S1x1x128x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x128x8192.Idx) :
    ∃ pc ∈ (kernelRun0_A  𝒱₀ c i arg2 harg2 arg3 harg3 arg4 harg4 arg5 harg5 arg6 harg6 arg7 harg7 arg8 harg8 x0 x1).2.2.2.1, y ∈ pc.1.set :=
  View.cover_of_tiledL (kernelRun0_A  𝒱₀ c i arg2 harg2 arg3 harg3 arg4 harg4 arg5 harg5 arg6 harg6 arg7 harg7 arg8 harg8 x0 x1).2.2.2.1 S1x1x128x512.size (by sl_kernel_rfl) y

/-- What the run leaves in output 5's staging buffer: its pieces read back over junk. -/
def out0_A_5 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x128x8192 .fp8e4m3 :=
  VO0_5.read (Elt F) (VO0_5.writes (Elt F) VO0_5.junk (kernelRun0_A  𝒱₀ c i arg2 harg2 arg3 harg3 arg4 harg4 arg5 harg5 arg6 harg6 arg7 harg7 arg8 harg8 x0 x1).2.2.2.1)

/-- The run's pieces for output 6 tile its block (1 store of `S1x1x8x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) (y : S1x1x8x128.Idx) :
    ∃ pc ∈ (kernelRun0_A  𝒱₀ c i arg2 harg2 arg3 harg3 arg4 harg4 arg5 harg5 arg6 harg6 arg7 harg7 arg8 harg8 x0 x1).2.2.2.2.1, y ∈ pc.1.set :=
  View.cover_of_tiledL (kernelRun0_A  𝒱₀ c i arg2 harg2 arg3 harg3 arg4 harg4 arg5 harg5 arg6 harg6 arg7 harg7 arg8 harg8 x0 x1).2.2.2.2.1 S1x1x8x128.size (by sl_kernel_rfl) y

/-- What the run leaves in output 6's staging buffer: its pieces read back over junk. -/
def out0_A_6 (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole)
    (x0 : Vec F S1x8192x128 .bf16) (x1 : Vec F S1x8192x128 .bf16) : Vec F S1x1x8x128 .f32 :=
  VO0_6.read (Elt F) (VO0_6.writes (Elt F) VO0_6.junk (kernelRun0_A  𝒱₀ c i arg2 harg2 arg3 harg3 arg4 harg4 arg5 harg5 arg6 harg6 arg7 harg7 arg8 harg8 x0 x1).2.2.2.2.1)

/-! ## What the outputs hold after each point -/

/-- What the outputs' staging buffers hold after the body at point `t` (as a tuple, in window order): the run's contents at
    the point's memrefs and input blocks. -/
def outsAt0 (c : Dev nD) (t : Fin cfg0.N) : Vec F S1x1x8192x128 .fp8e4m3 × Vec F S1x1x128x128 .f32 × Vec F S1x1x8192x128 .fp8e4m3 × Vec F S1x1x128x8192 .fp8e4m3 × Vec F S1x1x8x128 .f32 :=
  (out0_A_2  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_3  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_4  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_5  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t), out0_A_6  𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0  𝒱₀ V c t).1
    | ⟨3, _⟩ => (outsAt0  𝒱₀ V c t).2.1
    | ⟨4, _⟩ => (outsAt0  𝒱₀ V c t).2.2.1
    | ⟨5, _⟩ => (outsAt0  𝒱₀ V c t).2.2.2.1
    | ⟨6, _⟩ => (outsAt0  𝒱₀ V c t).2.2.2.2
  Φ _ := ΦK (F := F)  c
  q _ := fullShare
  owed _ := D c

variable (ι : Unit)

local notation "𝕕" => dat  𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = (outsAt0  𝒱₀ V c t).1 := by dsimp only [dat]
theorem after0_3 (c : Dev nD) (t : Fin cfg0.N) : (𝕕 c).after 3 t = (outsAt0  𝒱₀ V c t).2.1 := by dsimp only [dat]
theorem after0_4 (c : Dev nD) (t : Fin cfg0.N) : (𝕕 c).after 4 t = (outsAt0  𝒱₀ V c t).2.2.1 := by dsimp only [dat]
theorem after0_5 (c : Dev nD) (t : Fin cfg0.N) : (𝕕 c).after 5 t = (outsAt0  𝒱₀ V c t).2.2.2.1 := by dsimp only [dat]
theorem after0_6 (c : Dev nD) (t : Fin cfg0.N) : (𝕕 c).after 6 t = (outsAt0  𝒱₀ V c t).2.2.2.2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t))

/-- The body at any point: the inputs' memrefs hold their blocks (`before0_W`); so the
    run applies; the invariant passes through unread; the core owes `D c` throughout. -/
theorem sound_body (c : Dev nD) (t : Fin cfg0.N) :
    bodyPre  𝒱₀ V D ι c t ⊢ wp frame (wpE (defs₀ (F := F)) 𝒱₀ c none) Set.univ (bodyAt0 t) (fun _ => bodyPost  𝒱₀ V D ι c t) := by
  unfold bodyPre bodyPost bodyAt0
  simp only [before0_0, before0_1]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6]
  unfold outsAt0
  unfold out0_A_2 out0_A_3 out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A  𝒱₀ c (grid0.coords t) _ _ _ _ _ _ _ _ _ _ _ _ _ _ (iblk V c 0 t) (iblk V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, ⟨%e2, H2⟩, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2  𝒱₀ c _ _ _ _ _ _ _ _ _ _ _ _ _ _ _ _ _)
  isplitl [H3]
  · unfold owns; iexists _; isplitr
    swap; · iexact H3
    ipureintro; exact View.read_writes_of_cover _ _ _ _ _ (cover0_A_3  𝒱₀ c _ _ _ _ _ _ _ _ _ _ _ _ _ _ _ _ _)
  isplitl [H4]
  · unfold owns; iexists _; isplitr
    swap; · iexact H4
    ipureintro; exact View.read_writes_of_cover _ _ _ _ _ (cover0_A_4  𝒱₀ c _ _ _ _ _ _ _ _ _ _ _ _ _ _ _ _ _)
  isplitl [H5]
  · unfold owns; iexists _; isplitr
    swap; · iexact H5
    ipureintro; exact View.read_writes_of_cover _ _ _ _ _ (cover0_A_5  𝒱₀ c _ _ _ _ _ _ _ _ _ _ _ _ _ _ _ _ _)
  unfold owns; iexists _; isplitr
  swap; · iexact H6
  ipureintro; exact View.read_writes_of_cover _ _ _ _ _ (cover0_A_6  𝒱₀ c _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (𝕕 c) (defs₀ (F := F)) 𝒱₀ ι Set.univ := fun t => by
  rw [bigSep_W0, bigSep_W0, defs₀_row]
  exact triple_restated (sound_body  𝒱₀ V D ι c t) rfl .rfl fun _ => .rfl

end Cert.KernelIdeal.K0

end
-- ==== Proof.KernelIdeal.K1Run.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (𝒱₀ : Variants)

set_option maxHeartbeats 20000000 in
/-- The attention body on any staging memrefs and any contents of its five scratch buffers: the pieces that its stores leave in the three
    outputs, with the proof that the body runs to a continuation holding the inputs as they were and the outputs with the pieces
    written. The pieces are what the run finds. -/
def kernelRun (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)
    (x2 : Vec F S1x256x512 .bf16) (x3 : Vec F S1x1x8192x128 .fp8e4m3) (x4 : Vec F S1x1x128x128 .f32) (x5 : Vec F S1x1x128x8192 .fp8e4m3) (x6 : Vec F S1x1x8x128 .f32)
    (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L7 : List (View.Piece (Elt F) S1x256x512 .bf16)), Σ' (L8 : List (View.Piece (Elt F) S1x256x512 .fp8e4m3)), { L9 : List (View.Piece (Elt F) S1x1x1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) 𝒱₀ c none) E (cc1_sage_attention i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1_sage_attention_eq_skeleton]; unfold cc1_sage_attention_skel
    simp only [k1_part56_eq_skeleton]; unfold k1_part56_skel
    simp only [k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton]
    unfold owns
    iintro ⟨⟨%e2, %h2, H2⟩, ⟨%e3, %h3, H3⟩, ⟨%e4, %h4, H4⟩, ⟨%e5, %h5, H5⟩, ⟨%e6, %h6, H6⟩, ⟨%d7, %e7, -, H7⟩, ⟨%d8, %e8, -, H8⟩, ⟨%d9, %e9, -, H9⟩, H10, H11, H12, H13, H14, Hk⟩
    obtain rfl := harg2.eq_unread h2; obtain rfl := harg3.eq_unread h3; obtain rfl := harg4.eq_unread h4; obtain rfl := harg5.eq_unread h5; obtain rfl := harg6.eq_unread h6
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.KernelIdeal.K1

end
-- ==== Proof.KernelIdeal.K1Fun.lean ====
module

public import proofs.«01_k».proof.Proof.KernelIdeal.K1Run
public import Idealize.ShloMosaic.Lib.Pointwise

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The loops' trip counts and the closed forms of their offsets -/

theorem trips1 (i : grid1.Coords) : (k1_t1_loop i).trips = (i 1).val := by
  have h : ∀ n : Fin 32, Scf.trips 0#32 (Scalar.addi 0#32 (Scalar.muli (Scalar.divsi (Scalar.subi (BitVec.ofNat 32 n.val) 0#32) 1#32) 1#32)) 1#32 = n.val := by decide
  exact h (i 1)

theorem trips2 (i : grid1.Coords) : (k1_t2_loop i).trips = 0 := by
  have := (k1_t2_abs i).2.1; omega

theorem trips3 (i : grid1.Coords) : (k1_t3_loop i).trips = (i 1).val := by
  have h : ∀ n : Fin 32, Scf.trips 0#32 (Scalar.addi 0#32 (Scalar.muli (Scalar.divsi (Scalar.subi (BitVec.ofNat 32 n.val) 0#32) 1#32) 1#32)) 1#32 = n.val := by decide
  exact h (i 1)

theorem trips4 (i : grid1.Coords) : (k1_t4_loop i).trips = 0 := by
  have := (k1_t4_abs i).2.1; omega

theorem toNat_iv (k : ℕ) (hk : k < 32) : (Scalar.indexCast (Scalar.muli (Scf.iv 0#32 1#32 k) 256#32) : Index).toNat = 256 * k := by
  have h : ∀ n : Fin 32, (Scalar.indexCast (Scalar.muli (Scf.iv 0#32 1#32 n.val) 256#32) : Index).toNat = 256 * n.val := by decide
  exact h ⟨k, hk⟩

theorem toNat_i (i : grid1.Coords) : (Scalar.indexCast (Scalar.muli (BitVec.ofNat 32 (i 1).val) 256#32) : Index).toNat = 256 * (i 1).val := by
  have h : ∀ n : Fin 32, (Scalar.indexCast (Scalar.muli (BitVec.ofNat 32 n.val) 256#32) : Index).toNat = 256 * n.val := by decide
  exact h (i 1)

theorem off2_eq (i : grid1.Coords) (k : Fin (k1_t1_loop i).trips) : k1_off2 i k = ![256 * k.val, 0] := by
  have hk : k.val < 32 := by have := lt_of_lt_of_eq k.isLt (trips1 i); have : (i 1).val < 32 := (i 1).isLt; omega
  unfold k1_off2; exact congrArg (fun n => ![n, 0]) (toNat_iv k.val hk)

theorem off8_eq (i : grid1.Coords) : k1_off8 i = ![256 * (i 1).val, 0] :=
  congrArg (fun n => ![n, 0]) (toNat_i i)

theorem off11_eq (i : grid1.Coords) (k : Fin (k1_t3_loop i).trips) : k1_off11 i k = ![256 * k.val, 0] := by
  have hk : k.val < 32 := by have := lt_of_lt_of_eq k.isLt (trips3 i); have : (i 1).val < 32 := (i 1).isLt; omega
  unfold k1_off11; exact congrArg (fun n => ![n, 0]) (toNat_iv k.val hk)

theorem off12_eq (i : grid1.Coords) (k : Fin (k1_t3_loop i).trips) : k1_off12 i k = ![256 * k.val, 128] := by
  have hk : k.val < 32 := by have := lt_of_lt_of_eq k.isLt (trips3 i); have : (i 1).val < 32 := (i 1).isLt; omega
  unfold k1_off12; exact congrArg (fun n => ![n, 128]) (toNat_iv k.val hk)

theorem off13_eq (i : grid1.Coords) (k : Fin (k1_t3_loop i).trips) : k1_off13 i k = ![256 * k.val, 256] := by
  have hk : k.val < 32 := by have := lt_of_lt_of_eq k.isLt (trips3 i); have : (i 1).val < 32 := (i 1).isLt; omega
  unfold k1_off13; exact congrArg (fun n => ![n, 256]) (toNat_iv k.val hk)

theorem off14_eq (i : grid1.Coords) (k : Fin (k1_t3_loop i).trips) : k1_off14 i k = ![256 * k.val, 384] := by
  have hk : k.val < 32 := by have := lt_of_lt_of_eq k.isLt (trips3 i); have : (i 1).val < 32 := (i 1).isLt; omega
  unfold k1_off14; exact congrArg (fun n => ![n, 384]) (toNat_iv k.val hk)

theorem off15_eq (i : grid1.Coords) (k : Fin (k1_t3_loop i).trips) : k1_off15 i k = ![256 * k.val, 512] := by
  have hk : k.val < 32 := by have := lt_of_lt_of_eq k.isLt (trips3 i); have : (i 1).val < 32 := (i 1).isLt; omega
  unfold k1_off15; exact congrArg (fun n => ![n, 512]) (toNat_iv k.val hk)

theorem off16_eq (i : grid1.Coords) (k : Fin (k1_t3_loop i).trips) : k1_off16 i k = ![256 * k.val, 640] := by
  have hk : k.val < 32 := by have := lt_of_lt_of_eq k.isLt (trips3 i); have : (i 1).val < 32 := (i 1).isLt; omega
  unfold k1_off16; exact congrArg (fun n => ![n, 640]) (toNat_iv k.val hk)

theorem off17_eq (i : grid1.Coords) (k : Fin (k1_t3_loop i).trips) : k1_off17 i k = ![256 * k.val, 768] := by
  have hk : k.val < 32 := by have := lt_of_lt_of_eq k.isLt (trips3 i); have : (i 1).val < 32 := (i 1).isLt; omega
  unfold k1_off17; exact congrArg (fun n => ![n, 768]) (toNat_iv k.val hk)

theorem off18_eq (i : grid1.Coords) (k : Fin (k1_t3_loop i).trips) : k1_off18 i k = ![256 * k.val, 896] := by
  have hk : k.val < 32 := by have := lt_of_lt_of_eq k.isLt (trips3 i); have : (i 1).val < 32 := (i 1).isLt; omega
  unfold k1_off18; exact congrArg (fun n => ![n, 896]) (toNat_iv k.val hk)

/-! ## The raw scores kept in the first scratch buffer -/

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

/-- The raw scores of one full chunk of 256 keys. -/
def rawChunk (X_arg3 : BufTy.Contents (Elt F) arg3.view.ty) (X_arg12 : BufTy.Contents (Elt F) arg12.view.ty) (k : Fin (k1_t1_loop i).trips) : FVec F S256x1024 .f32 :=
  k1_pay3 (arg3.view.readAt (Elt F) (Rect.unit (s := S1x1x8192x128) (k1_off1 i k) S1x1x256x128.size (k1_off1_inb i k)).toLoadRect X_arg3)
    (arg12.view.readAt (Elt F) (Rect.unit (s := S1024x128) ![0, 0] S1024x128.size (by decide)).toLoadRect X_arg12)

/-- What the first pass leaves in the score buffer: the chunks of earlier keys above the chunk `Pm` on the diagonal. -/
def rawAll (X_arg3 : BufTy.Contents (Elt F) arg3.view.ty) (X_arg12 : BufTy.Contents (Elt F) arg12.view.ty) (Pm : FVec F S256x1024 .f32) : S8192x1024.Idx → Elt F .f32 := fun y =>
  if h : (y 0).val / 256 < (k1_t1_loop i).trips then
    rawChunk i arg3 arg12 X_arg3 X_arg12 ⟨(y 0).val / 256, h⟩ (ix2 (n0 := 256) (n1 := 1024) ⟨(y 0).val % 256, Nat.mod_lt _ (by decide)⟩ (y 1))
  else Pm (ix2 (n0 := 256) (n1 := 1024) ⟨(y 0).val % 256, Nat.mod_lt _ (by decide)⟩ (y 1))

theorem mem_st1 (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (init : FVec F S8x128 .f32 × FVec F S8x128 .f32 × FVec F S8x128 .f32 × FVec F S8x128 .f32 × FVec F S8x128 .f32 × FVec F S8x128 .f32 × FVec F S8x128 .f32 × FVec F S8x128 .f32) :
    ∀ n, n ≤ (k1_t1_loop i).trips → ∀ p : View.Piece (Elt F) S8192x1024 .f32,
      (p ∈ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init n).2 ↔
        ∃ k : Fin (k1_t1_loop i).trips, k.val < n ∧ p = ⟨Rect.unit (s := S8192x1024) (k1_off2 i k) S256x1024.size (k1_off2_inb i k), rawChunk i arg3 arg12 X_arg3 X_arg12 k⟩) := by
  intro n
  induction n with
  | zero =>
    intro _ p
    constructor
    · intro h; exact absurd h List.not_mem_nil
    · rintro ⟨k, hk, _⟩; exact absurd hk (Nat.not_lt_zero _)
  | succ n ih =>
    intro hn p
    have e := st_k1_t1_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init ⟨n, hn⟩
    simp only [] at e
    rw [e]
    have ht : ∀ acc, tripL_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 ⟨n, hn⟩ acc = [⟨Rect.unit (s := S8192x1024) (k1_off2 i ⟨n, hn⟩) S256x1024.size (k1_off2_inb i ⟨n, hn⟩), rawChunk i arg3 arg12 X_arg3 X_arg12 ⟨n, hn⟩⟩] := by
      intro acc
      unfold tripL_k1_t1 trip_k1_t1
      rfl
    rw [List.mem_append, ht, List.mem_singleton, ih (by omega)]
    constructor
    · rintro (rfl | ⟨k, hk, rfl⟩)
      · exact ⟨⟨n, hn⟩, Nat.lt_succ_self n, rfl⟩
      · exact ⟨k, by omega, rfl⟩
    · rintro ⟨k, hk, rfl⟩
      rcases Nat.lt_succ_iff_lt_or_eq.mp hk with h | h
      · exact .inr ⟨k, h, rfl⟩
      · left
        obtain ⟨kv, hkv⟩ := k
        obtain rfl : kv = n := h
        rfl

/-- The pieces that the first pass writes into the score buffer, read back under an earlier chunk. -/
theorem read_raw (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (init : FVec F S8x128 .f32 × FVec F S8x128 .f32 × FVec F S8x128 .f32 × FVec F S8x128 .f32 × FVec F S8x128 .f32 × FVec F S8x128 .f32 × FVec F S8x128 .f32 × FVec F S8x128 .f32) (L : List (View.Piece (Elt F) S8192x1024 .f32)) (hL : L = []) (Pm : FVec F S256x1024 .f32)
    (f10 : BufTy.Contents (Elt F) arg10.view.ty) (y : S8192x1024.Idx) (hy : (y 0).val < 256 * (i 1).val) :
    arg10.view.read (Elt F) (arg10.view.writes (Elt F) f10 ((⟨Rect.unit (s := S8192x1024) (k1_off8 i) S256x1024.size (k1_off8_inb i), Pm⟩ : View.Piece (Elt F) S8192x1024 .f32) ::
      (L ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init (k1_t1_loop i).trips).2))) y = rawAll i arg3 arg12 X_arg3 X_arg12 Pm y := by
  subst hL
  apply View.read_writes_apply_of_pieces
  · intro p hp x
    rw [List.nil_append, List.mem_cons, mem_st1 (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init _ le_rfl] at hp
    rcases hp with rfl | ⟨k, -, rfl⟩
    · have h0 : ((Rect.unit (s := S8192x1024) (k1_off8 i) S256x1024.size (k1_off8_inb i)).emb x 0).val = 256 * (i 1).val + (x 0).val := by
        have e0 : k1_off8 i 0 = 256 * (i 1).val := by rw [off8_eq]; rfl
        show k1_off8 i 0 + 1 * (x 0).val = _
        rw [e0, Nat.one_mul]
      have h1 : ((Rect.unit (s := S8192x1024) (k1_off8 i) S256x1024.size (k1_off8_inb i)).emb x 1).val = (x 1).val := by
        have e0 : k1_off8 i 1 = 0 := by rw [off8_eq]; rfl
        show k1_off8 i 1 + 1 * (x 1).val = _
        rw [e0, Nat.one_mul, Nat.zero_add]
      have hx0 : (x 0).val < 256 := (x 0).isLt
      unfold rawAll
      rw [dif_neg (by rw [trips1, h0]; omega)]
      refine congrArg Pm (funext fun a => ?_)
      match a with
      | ⟨0, _⟩ => exact Fin.ext (by show (x 0).val = _ % 256; rw [h0]; omega)
      | ⟨1, _⟩ => exact Fin.ext h1.symm
    · have hk := k.isLt
      have h0 : ((Rect.unit (s := S8192x1024) (k1_off2 i k) S256x1024.size (k1_off2_inb i k)).emb x 0).val = 256 * k.val + (x 0).val := by
        have e0 : k1_off2 i k 0 = 256 * k.val := by rw [off2_eq]; rfl
        show k1_off2 i k 0 + 1 * (x 0).val = _
        rw [e0, Nat.one_mul]
      have h1 : ((Rect.unit (s := S8192x1024) (k1_off2 i k) S256x1024.size (k1_off2_inb i k)).emb x 1).val = (x 1).val := by
        have e0 : k1_off2 i k 1 = 0 := by rw [off2_eq]; rfl
        show k1_off2 i k 1 + 1 * (x 1).val = _
        rw [e0, Nat.one_mul, Nat.zero_add]
      have hx0 : (x 0).val < 256 := (x 0).isLt
      have hq : ((Rect.unit (s := S8192x1024) (k1_off2 i k) S256x1024.size (k1_off2_inb i k)).emb x 0).val / 256 = k.val := by rw [h0]; omega
      unfold rawAll
      rw [dif_pos (by rw [hq]; exact hk)]
      have hk' : (⟨((Rect.unit (s := S8192x1024) (k1_off2 i k) S256x1024.size (k1_off2_inb i k)).emb x 0).val / 256, by rw [hq]; exact hk⟩ : Fin (k1_t1_loop i).trips) = k := Fin.ext hq
      rw [hk']
      refine congrArg (rawChunk i arg3 arg12 X_arg3 X_arg12 k) (funext fun a => ?_)
      match a with
      | ⟨0, _⟩ => exact Fin.ext (by show (x 0).val = _ % 256; rw [h0]; omega)
      | ⟨1, _⟩ => exact Fin.ext h1.symm
  · have hk : (y 0).val / 256 < (k1_t1_loop i).trips := by rw [trips1]; omega
    refine ⟨_, List.mem_cons_of_mem _ ((mem_st1 (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 init _ le_rfl _).mpr ⟨⟨(y 0).val / 256, hk⟩, hk, rfl⟩), ?_⟩
    rw [Rect.mem_set_unit]
    intro a
    rw [off2_eq]
    have h1 : (y 1).val < 1024 := (y 1).isLt
    match a with
    | ⟨0, _⟩ => exact ⟨by show 256 * ((y 0).val / 256) ≤ (y 0).val; omega, by show (y 0).val < 256 * ((y 0).val / 256) + 256; omega⟩
    | ⟨1, _⟩ => exact ⟨Nat.zero_le _, by show (y 1).val < 0 + 1024; omega⟩

/-! ## The second pass depends on the score buffer only through the tiles that it reads -/

theorem st3_congr (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (X X' : BufTy.Contents (Elt F) arg10.view.ty) (X_arg11 : BufTy.Contents (Elt F) arg11.view.ty) (G13 G13' : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32)
    (h0 : ∀ k : Fin (k1_t3_loop i).trips, arg10.view.readAt (Elt F) (Rect.unit (s := S8192x1024) (k1_off11 i k) S256x128.size (k1_off11_inb i k)).toLoadRect X = arg10.view.readAt (Elt F) (Rect.unit (s := S8192x1024) (k1_off11 i k) S256x128.size (k1_off11_inb i k)).toLoadRect X') (h1 : ∀ k : Fin (k1_t3_loop i).trips, arg10.view.readAt (Elt F) (Rect.unit (s := S8192x1024) (k1_off12 i k) S256x128.size (k1_off12_inb i k)).toLoadRect X = arg10.view.readAt (Elt F) (Rect.unit (s := S8192x1024) (k1_off12 i k) S256x128.size (k1_off12_inb i k)).toLoadRect X') (h2 : ∀ k : Fin (k1_t3_loop i).trips, arg10.view.readAt (Elt F) (Rect.unit (s := S8192x1024) (k1_off13 i k) S256x128.size (k1_off13_inb i k)).toLoadRect X = arg10.view.readAt (Elt F) (Rect.unit (s := S8192x1024) (k1_off13 i k) S256x128.size (k1_off13_inb i k)).toLoadRect X') (h3 : ∀ k : Fin (k1_t3_loop i).trips, arg10.view.readAt (Elt F) (Rect.unit (s := S8192x1024) (k1_off14 i k) S256x128.size (k1_off14_inb i k)).toLoadRect X = arg10.view.readAt (Elt F) (Rect.unit (s := S8192x1024) (k1_off14 i k) S256x128.size (k1_off14_inb i k)).toLoadRect X') (h4 : ∀ k : Fin (k1_t3_loop i).trips, arg10.view.readAt (Elt F) (Rect.unit (s := S8192x1024) (k1_off15 i k) S256x128.size (k1_off15_inb i k)).toLoadRect X = arg10.view.readAt (Elt F) (Rect.unit (s := S8192x1024) (k1_off15 i k) S256x128.size (k1_off15_inb i k)).toLoadRect X') (h5 : ∀ k : Fin (k1_t3_loop i).trips, arg10.view.readAt (Elt F) (Rect.unit (s := S8192x1024) (k1_off16 i k) S256x128.size (k1_off16_inb i k)).toLoadRect X = arg10.view.readAt (Elt F) (Rect.unit (s := S8192x1024) (k1_off16 i k) S256x128.size (k1_off16_inb i k)).toLoadRect X') (h6 : ∀ k : Fin (k1_t3_loop i).trips, arg10.view.readAt (Elt F) (Rect.unit (s := S8192x1024) (k1_off17 i k) S256x128.size (k1_off17_inb i k)).toLoadRect X = arg10.view.readAt (Elt F) (Rect.unit (s := S8192x1024) (k1_off17 i k) S256x128.size (k1_off17_inb i k)).toLoadRect X') (h7 : ∀ k : Fin (k1_t3_loop i).trips, arg10.view.readAt (Elt F) (Rect.unit (s := S8192x1024) (k1_off18 i k) S256x128.size (k1_off18_inb i k)).toLoadRect X = arg10.view.readAt (Elt F) (Rect.unit (s := S8192x1024) (k1_off18 i k) S256x128.size (k1_off18_inb i k)).toLoadRect X') :
    ∀ n, n ≤ (k1_t3_loop i).trips → st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X X_arg11 G13 G14 init n = st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X' X_arg11 G13' G14 init n := by
  intro n
  induction n with
  | zero => intro _; rfl
  | succ n ih =>
    intro hn
    have e := st_k1_t3_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X X_arg11 G13 G14 init ⟨n, hn⟩
    have e' := st_k1_t3_succ (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X' X_arg11 G13' G14 init ⟨n, hn⟩
    simp only [] at e e'
    rw [e, e', ih (by omega)]
    unfold tripR_k1_t3 trip_k1_t3
    simp only [trip_k1_t3.sl.HW_arg13_8, trip_k1_t3.sl.v1716, trip_k1_t3.sl.v1720, trip_k1_t3.sl.v1721, trip_k1_t3.sl.v1723, trip_k1_t3.sl.v1724, trip_k1_t3.sl.v1725, trip_k1_t3.sl.v1726, trip_k1_t3.sl.v1727, trip_k1_t3.sl.v1729, trip_k1_t3.sl.v1731, trip_k1_t3.sl.v1732, trip_k1_t3.sl.v1735, trip_k1_t3.sl.v1739, trip_k1_t3.sl.v1743, trip_k1_t3.sl.v1744, trip_k1_t3.sl.v1746, trip_k1_t3.sl.v1747, trip_k1_t3.sl.v1748, trip_k1_t3.sl.v1749, trip_k1_t3.sl.v1750, trip_k1_t3.sl.v1752, trip_k1_t3.sl.v1754, trip_k1_t3.sl.v1755, trip_k1_t3.sl.v1758, trip_k1_t3.sl.v1762, trip_k1_t3.sl.v1766, trip_k1_t3.sl.v1767, trip_k1_t3.sl.v1769, trip_k1_t3.sl.v1770, trip_k1_t3.sl.v1771, trip_k1_t3.sl.v1772, trip_k1_t3.sl.v1773, trip_k1_t3.sl.v1775, trip_k1_t3.sl.v1777, trip_k1_t3.sl.v1778, trip_k1_t3.sl.v1781, trip_k1_t3.sl.v1785, trip_k1_t3.sl.v1789, trip_k1_t3.sl.v1790, trip_k1_t3.sl.v1792, trip_k1_t3.sl.v1793, trip_k1_t3.sl.v1794, trip_k1_t3.sl.v1795, trip_k1_t3.sl.v1796, trip_k1_t3.sl.v1798, trip_k1_t3.sl.v1800, trip_k1_t3.sl.v1801, trip_k1_t3.sl.v1804, trip_k1_t3.sl.v1808, trip_k1_t3.sl.v1812, trip_k1_t3.sl.v1813, trip_k1_t3.sl.v1815, trip_k1_t3.sl.v1816, trip_k1_t3.sl.v1817, trip_k1_t3.sl.v1818, trip_k1_t3.sl.v1819, trip_k1_t3.sl.v1821, trip_k1_t3.sl.v1823, trip_k1_t3.sl.v1824, trip_k1_t3.sl.v1827, trip_k1_t3.sl.v1831, trip_k1_t3.sl.v1835, trip_k1_t3.sl.v1836, trip_k1_t3.sl.v1838, trip_k1_t3.sl.v1839, trip_k1_t3.sl.v1840, trip_k1_t3.sl.v1841, trip_k1_t3.sl.v1842, trip_k1_t3.sl.v1844, trip_k1_t3.sl.v1846, trip_k1_t3.sl.v1847, trip_k1_t3.sl.v1850, trip_k1_t3.sl.v1854, trip_k1_t3.sl.v1858, trip_k1_t3.sl.v1859, trip_k1_t3.sl.v1861, trip_k1_t3.sl.v1862, trip_k1_t3.sl.v1863, trip_k1_t3.sl.v1864, trip_k1_t3.sl.v1865, trip_k1_t3.sl.v1867, trip_k1_t3.sl.v1869, trip_k1_t3.sl.v1870, trip_k1_t3.sl.v1873, trip_k1_t3.sl.v1877, trip_k1_t3.sl.v1881, trip_k1_t3.sl.v1882, trip_k1_t3.sl.v1884, trip_k1_t3.sl.v1885, trip_k1_t3.sl.v1886, trip_k1_t3.sl.v1887, trip_k1_t3.sl.v1888, trip_k1_t3.sl.v1890, trip_k1_t3.sl.v1892, trip_k1_t3.sl.v1893, trip_k1_t3.sl.v1896, trip_k1_t3.sl.v1902, trip_k1_t3.sl.v1903, trip_k1_t3.sl.v1904, trip_k1_t3.sl.v1907, h0, h1, h2, h3, h4, h5, h6, h7]

end

end Cert.KernelIdeal.K1

end
-- ==== Proof.KernelIdeal.K1Ind.lean ====
module

public import proofs.«01_k».proof.Proof.KernelIdeal.K1Fun

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

theorem st2_eq (arg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty) (v1044 : BitVec 32) (init : FVec F S8x128 .f32 × FVec F S8x128 .f32 × FVec F S8x128 .f32 × FVec F S8x128 .f32 × FVec F S8x128 .f32 × FVec F S8x128 .f32 × FVec F S8x128 .f32 × FVec F S8x128 .f32) :
    st_k1_t2 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 v1044 X_arg3 X_arg4 X_arg12 init (Scf.trips (k1_t2_loop i).lb (k1_t2_loop i).ub (k1_t2_loop i).st) = (init, []) := by
  have h : (Scf.trips (k1_t2_loop i).lb (k1_t2_loop i).ub (k1_t2_loop i).st) = 0 := trips2 i
  rw [h]; rfl

theorem st4_eq (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (v1311 : BitVec 32) (X : BufTy.Contents (Elt F) arg10.view.ty) (X_arg11 : BufTy.Contents (Elt F) arg11.view.ty) (G13 : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32) :
    st_k1_t4 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 v1311 X_arg5 X X_arg11 G13 G14 init (Scf.trips (k1_t4_loop i).lb (k1_t4_loop i).ub (k1_t4_loop i).st) = (init, [], []) := by
  have h : (Scf.trips (k1_t4_loop i).lb (k1_t4_loop i).ub (k1_t4_loop i).st) = 0 := trips4 i
  rw [h]; rfl

/-- The second pass's state over the score buffer as the first pass leaves it does not depend on what the score buffer and the buffer of the weights held before. -/
theorem st3_indep (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (brg1 : BitVec 32) (v1032 : FVec F S8x128 .f32) (v1033 : FVec F S8x128 .f32) (v1034 : FVec F S8x128 .f32) (v1035 : FVec F S8x128 .f32) (v1036 : FVec F S8x128 .f32) (X_arg3 : BufTy.Contents (Elt F) arg3.view.ty) (X_arg4 : BufTy.Contents (Elt F) arg4.view.ty) (X_arg12 : BufTy.Contents (Elt F) arg12.view.ty)
    (init1 : FVec F S8x128 .f32 × FVec F S8x128 .f32 × FVec F S8x128 .f32 × FVec F S8x128 .f32 × FVec F S8x128 .f32 × FVec F S8x128 .f32 × FVec F S8x128 .f32 × FVec F S8x128 .f32) (Pm : FVec F S256x1024 .f32) (f10 f10' : BufTy.Contents (Elt F) arg10.view.ty)
    (X_arg11 : BufTy.Contents (Elt F) arg11.view.ty) (G13 G13' : BufTy.Contents (Elt F) arg13.view.ty) (G14 : BufTy.Contents (Elt F) arg14.view.ty) (init : FVec F S8x128 .f32 × FVec F S8x128 .f32 × FVec F S8x128 .f32 × FVec F S8x128 .f32 × FVec F S8x128 .f32 × FVec F S8x128 .f32 × FVec F S8x128 .f32 × FVec F S8x128 .f32) :
    st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 (arg10.view.writes (Elt F) f10 ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) X_arg11 G13 G14 init (Scf.trips (k1_t3_loop i).lb (k1_t3_loop i).ub (k1_t3_loop i).st)
    = st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 (arg10.view.writes (Elt F) f10' ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) X_arg11 G13' G14 init (Scf.trips (k1_t3_loop i).lb (k1_t3_loop i).ub (k1_t3_loop i).st) := by
  have hrd : ∀ y : S8192x1024.Idx, (y 0).val < 256 * (i 1).val →
      arg10.view.read (Elt F) (arg10.view.writes (Elt F) f10 ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) y
      = arg10.view.read (Elt F) (arg10.view.writes (Elt F) f10' ((⟨Rect.unit (s := S8192x1024) (k1_off8 i) S256x1024.size (k1_off8_inb i), Pm⟩ : View.Piece (Elt F) S8192x1024 .f32) ::
      ([] ++ (st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 (Scf.trips (k1_t1_loop i).lb (k1_t1_loop i).ub (k1_t1_loop i).st)).2))) y := fun y hy =>
    (read_raw (F := F) 𝒱₀ c i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 [] rfl Pm f10 y hy).trans
      (read_raw (F := F) 𝒱₀ c i arg2 harg2 arg3 harg3 arg4 harg4 arg5 harg5 arg6 harg6 arg7 harg7 arg8 harg8 arg9 harg9 arg10 harg10 arg11 harg11 arg12 harg12 arg13 harg13 arg14 harg14 brg1 v1032 v1033 v1034 v1035 v1036 X_arg3 X_arg4 X_arg12 init1 [] rfl Pm f10' y hy).symm
  refine st3_congr (F := F) 𝒱₀ c i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 _ _ X_arg11 G13 G13' G14 init ?h0 ?h1 ?h2 ?h3 ?h4 ?h5 ?h6 ?h7 _ le_rfl
  case h0 =>
    intro k
    refine funext fun x => hrd _ ?_
    have hk := lt_of_lt_of_eq k.isLt (trips3 i)
    have hx : (x 0).val < 256 := (x 0).isLt
    have e0 : k1_off11 i k 0 = 256 * k.val := by rw [off11_eq]; rfl
    show k1_off11 i k 0 + 1 * (x 0).val < _
    rw [e0]; omega
  case h1 =>
    intro k
    refine funext fun x => hrd _ ?_
    have hk := lt_of_lt_of_eq k.isLt (trips3 i)
    have hx : (x 0).val < 256 := (x 0).isLt
    have e0 : k1_off12 i k 0 = 256 * k.val := by rw [off12_eq]; rfl
    show k1_off12 i k 0 + 1 * (x 0).val < _
    rw [e0]; omega
  case h2 =>
    intro k
    refine funext fun x => hrd _ ?_
    have hk := lt_of_lt_of_eq k.isLt (trips3 i)
    have hx : (x 0).val < 256 := (x 0).isLt
    have e0 : k1_off13 i k 0 = 256 * k.val := by rw [off13_eq]; rfl
    show k1_off13 i k 0 + 1 * (x 0).val < _
    rw [e0]; omega
  case h3 =>
    intro k
    refine funext fun x => hrd _ ?_
    have hk := lt_of_lt_of_eq k.isLt (trips3 i)
    have hx : (x 0).val < 256 := (x 0).isLt
    have e0 : k1_off14 i k 0 = 256 * k.val := by rw [off14_eq]; rfl
    show k1_off14 i k 0 + 1 * (x 0).val < _
    rw [e0]; omega
  case h4 =>
    intro k
    refine funext fun x => hrd _ ?_
    have hk := lt_of_lt_of_eq k.isLt (trips3 i)
    have hx : (x 0).val < 256 := (x 0).isLt
    have e0 : k1_off15 i k 0 = 256 * k.val := by rw [off15_eq]; rfl
    show k1_off15 i k 0 + 1 * (x 0).val < _
    rw [e0]; omega
  case h5 =>
    intro k
    refine funext fun x => hrd _ ?_
    have hk := lt_of_lt_of_eq k.isLt (trips3 i)
    have hx : (x 0).val < 256 := (x 0).isLt
    have e0 : k1_off16 i k 0 = 256 * k.val := by rw [off16_eq]; rfl
    show k1_off16 i k 0 + 1 * (x 0).val < _
    rw [e0]; omega
  case h6 =>
    intro k
    refine funext fun x => hrd _ ?_
    have hk := lt_of_lt_of_eq k.isLt (trips3 i)
    have hx : (x 0).val < 256 := (x 0).isLt
    have e0 : k1_off17 i k 0 = 256 * k.val := by rw [off17_eq]; rfl
    show k1_off17 i k 0 + 1 * (x 0).val < _
    rw [e0]; omega
  case h7 =>
    intro k
    refine funext fun x => hrd _ ?_
    have hk := lt_of_lt_of_eq k.isLt (trips3 i)
    have hx : (x 0).val < 256 := (x 0).isLt
    have e0 : k1_off18 i k 0 = 256 * k.val := by rw [off18_eq]; rfl
    show k1_off18 i k 0 + 1 * (x 0).val < _
    rw [e0]; omega

/-! ## The values that the body computes, free of the buffers' earlier contents -/

theorem ind_r_109 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_109 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_109 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_109
  rw [st2_eq, st4_eq, st4_eq]
  rw [st3_indep (f10' := f10') (G13' := f13')]

theorem ind_r_125 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_125
  rw [ind_r_109 (f10' := f10') (f13' := f13')]

theorem ind_r_105 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_105 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_105 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_105
  rw [st2_eq, st4_eq, st4_eq]
  rw [st3_indep (f10' := f10') (G13' := f13')]

theorem ind_r_118 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_118
  rw [ind_r_105 (f10' := f10') (f13' := f13')]

theorem ind_v1571 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1571
  rw [st2_eq, st4_eq, st4_eq]
  rw [st3_indep (f10' := f10') (G13' := f13')]

theorem ind_H13_1 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_1
  rw [st2_eq, st4_eq, st4_eq]
  rw [st3_indep (f10' := f10') (G13' := f13')]

theorem ind_H13_4 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_4 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_4 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_4
  rw [ind_H13_1 (f10' := f10') (f13' := f13')]

theorem ind_H13_7 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_7
  rw [ind_H13_4 (f10' := f10') (f13' := f13')]

theorem ind_H13_8 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H13_8
  rw [ind_H13_7 (f10' := f10') (f13' := f13')]

theorem ind_v1576 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1576 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1576 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1576
  rw [ind_H13_8 (f10' := f10') (f13' := f13')]

theorem ind_H14_1_1 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.H14_1_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.H14_1_1 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.H14_1_1
  rw [st2_eq, st4_eq, st4_eq]
  rw [st3_indep (f10' := f10') (G13' := f13')]
  rw [ind_v1571 (f10' := f10') (f13' := f13')]
  rw [ind_v1576 (f10' := f10') (f13' := f13')]

theorem ind_v1658 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1658 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1658 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1658
  rw [ind_H14_1_1 (f10' := f10') (f13' := f13')]

theorem ind_r_107 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_107 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_107 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_107
  rw [st2_eq, st4_eq, st4_eq]
  rw [st3_indep (f10' := f10') (G13' := f13')]

theorem ind_r_122 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_122
  rw [ind_r_107 (f10' := f10') (f13' := f13')]

theorem ind_r_106 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_106 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_106 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_106
  rw [st2_eq, st4_eq, st4_eq]
  rw [st3_indep (f10' := f10') (G13' := f13')]

theorem ind_r_119 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_119
  rw [ind_r_106 (f10' := f10') (f13' := f13')]

theorem ind_r_103 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_103 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_103 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_103
  rw [st2_eq, st4_eq, st4_eq]
  rw [st3_indep (f10' := f10') (G13' := f13')]

theorem ind_r_113 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_113
  rw [ind_r_103 (f10' := f10') (f13' := f13')]

theorem ind_r_129 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_129 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_129 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_129
  rw [ind_r_113 (f10' := f10') (f13' := f13')]

theorem ind_v1630 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1630 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1630 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1630
  rw [ind_H14_1_1 (f10' := f10') (f13' := f13')]

theorem ind_v1616 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1616 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1616 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1616
  rw [ind_H14_1_1 (f10' := f10') (f13' := f13')]

theorem ind_v1588 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1588 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1588 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1588
  rw [ind_H14_1_1 (f10' := f10') (f13' := f13')]

theorem ind_r_104 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_104 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_104 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_104
  rw [st2_eq, st4_eq, st4_eq]
  rw [st3_indep (f10' := f10') (G13' := f13')]

theorem ind_r_116 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_116
  rw [ind_r_104 (f10' := f10') (f13' := f13')]

theorem ind_v1602 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1602 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1602 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1602
  rw [ind_H14_1_1 (f10' := f10') (f13' := f13')]

theorem ind_r_108 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_108 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_108 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_108
  rw [st2_eq, st4_eq, st4_eq]
  rw [st3_indep (f10' := f10') (G13' := f13')]

theorem ind_r_124 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_124
  rw [ind_r_108 (f10' := f10') (f13' := f13')]

theorem ind_v1672 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1672 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1672 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1672
  rw [ind_H14_1_1 (f10' := f10') (f13' := f13')]

theorem ind_r_130 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_130 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 = kernelRun.sl.r_130 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10' f13' := by
  unfold kernelRun.sl.r_130
  rw [ind_r_124 (f10' := f10') (f13' := f13')]
  rw [ind_v1672 (f10' := f10') (f13' := f13')]

theorem ind_r_102 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_102 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_102 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_102
  rw [st2_eq, st4_eq, st4_eq]
  rw [st3_indep (f10' := f10') (G13' := f13')]

theorem ind_r_112 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.r_112
  rw [ind_r_102 (f10' := f10') (f13' := f13')]

theorem ind_v1644 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1644 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1644 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1644
  rw [ind_H14_1_1 (f10' := f10') (f13' := f13')]

theorem ind_v1686 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) (f10' : BufTy.Contents (Elt F) arg10.view.ty) (f13' : BufTy.Contents (Elt F) arg13.view.ty) : kernelRun.sl.v1686 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = kernelRun.sl.v1686 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10' f13' := by
  unfold kernelRun.sl.v1686
  rw [ind_H14_1_1 (f10' := f10') (f13' := f13')]

/-- The pieces of the attention output. -/
def pieces7 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) : List (View.Piece (Elt F) S1x256x512 .bf16) :=
  [⟨Rect.unit ![0, 128, 384] ![1, 128, 128] inb_S1x256x512_S1x128x128_0_128_384, k1_pay1 (k1_pay300 (kernelRun.sl.r_125 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1686 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)) (k1_pay301 (kernelRun.sl.r_128 c arg6 harg6 x6))⟩, ⟨Rect.unit ![0, 0, 384] ![1, 128, 128] inb_S1x256x512_S1x128x128_0_0_384, k1_pay299 (kernelRun.sl.r_130 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13)⟩, ⟨Rect.unit ![0, 128, 256] S1x128x128.size inb_S1x256x512_S1x128x128_0_128_256, k1_pay297 (kernelRun.sl.r_122 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1658 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 256] S1x128x128.size inb_S1x256x512_S1x128x128_0_0_256, k1_pay296 (kernelRun.sl.r_119 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1644 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 128, 128] S1x128x128.size inb_S1x256x512_S1x128x128_0_128_128, k1_pay295 (kernelRun.sl.r_118 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1630 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 128] S1x128x128.size inb_S1x256x512_S1x128x128_0_0_128, k1_pay294 (kernelRun.sl.r_116 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.r_128 c arg6 harg6 x6) (kernelRun.sl.v1616 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 128, 0] S1x128x128.size inb_S1x256x512_S1x128x128_0_128_0, k1_pay293 (kernelRun.sl.r_128 c arg6 harg6 x6) (kernelRun.sl.r_129 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1602 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩, ⟨Rect.unit ![0, 0, 0] S1x128x128.size inb_S1x256x512_S1x128x128_0_0_0, k1_pay291 (kernelRun.sl.r_112 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (View.readAt (Elt F) arg6.view (Rect.unit (s := S1x1x8x128) ![0, 0, 0, 0] S1x1x1x128.size inb_S1x1x8x128_S1x1x1x128_0_0_0_0).toLoadRect (harg6.unread x6)) (kernelRun.sl.v1588 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13)⟩]

theorem pieces7_indep (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) (f10' : BufTy.Contents (Elt F) arg10.view.ty) (f13' : BufTy.Contents (Elt F) arg13.view.ty) : pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 = pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10' f13' := by
  unfold pieces7
  rw [ind_r_125 (f10' := f10') (f13' := f13'), ind_r_118 (f10' := f10') (f13' := f13'), ind_v1658 (f10' := f10') (f13' := f13'), ind_r_122 (f10' := f10') (f13' := f13'), ind_r_119 (f10' := f10') (f13' := f13'), ind_r_129 (f10' := f10') (f13' := f13'), ind_v1630 (f10' := f10') (f13' := f13'), ind_v1616 (f10' := f10') (f13' := f13'), ind_v1588 (f10' := f10') (f13' := f13'), ind_r_116 (f10' := f10') (f13' := f13'), ind_v1602 (f10' := f10') (f13' := f13'), ind_r_130 (f10' := f10') (f13' := f13'), ind_r_112 (f10' := f10') (f13' := f13'), ind_v1644 (f10' := f10') (f13' := f13'), ind_v1686 (f10' := f10') (f13' := f13')]

theorem run_7 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).1 = pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 := rfl

theorem run_8 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).2.1 = kernelRun.sl.H8_8 (F := F) c arg2 harg2 x2 := rfl

theorem run_9 (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : (kernelRun (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f11 f12 f13 f14).2.2.1 = kernelRun.sl.H9_8 (F := F) c arg2 harg2 x2 := rfl

end

end Cert.KernelIdeal.K1

end
-- ==== Proof.KernelIdeal.K1.lean ====
module

public import proofs.«01_k».proof.Proof.KernelIdeal.K1Ind

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (𝒱₀ : Variants) (V : (c : Dev nD) → (b : Ref sig .tc) → Buf (Elt F) ((c : Thread nD τ).loc b)) (D : Dev nD → CellTallies nD τ sig Unit)

/-- The region's invariant on core `c`: its scoped buffers that are no staging buffer, each at some contents, and the generator register. -/
def ΦK (c : Dev nD) : sProp 𝕄 :=
  iprop(Pipeline.scopedRest  (Name := ℕ)  (Val := Elt F) spec1 c ∗ ∃ r, prngReg c r)

/-- The invariant, buffer by buffer. -/
theorem ΦK_eq (c : Dev nD) : ΦK (F := F) c = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f, (Memref.whole cc1_scratch0).view.loc (c : Thread nD τ) ↦[(Memref.whole cc1_scratch0).view.set]{fullShare} f) ∗ (∃ f, (Memref.whole cc1_scratch1).view.loc (c : Thread nD τ) ↦[(Memref.whole cc1_scratch1).view.set]{fullShare} f) ∗ (∃ f, (Memref.whole cc1_scratch2).view.loc (c : Thread nD τ) ↦[(Memref.whole cc1_scratch2).view.set]{fullShare} f) ∗ (∃ f, (Memref.whole cc1_scratch3).view.loc (c : Thread nD τ) ↦[(Memref.whole cc1_scratch3).view.set]{fullShare} f) ∗ (∃ f, (Memref.whole cc1_scratch4).view.loc (c : Thread nD τ) ↦[(Memref.whole cc1_scratch4).view.set]{fullShare} f)) ∗ ∃ r, prngReg c r) := by
  unfold ΦK
  rw [scopedRest1_eq]
  simp only [Memref.view_whole, View.set_whole]

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms1_0 (t : Fin cfg1.N) : Memref sig .tc .vmem S1x256x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x8192x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128x8192 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1x8x128 .f32 := win1_7.stage (cfg1.slots t 7)
abbrev hs1_7 (t : Fin cfg1.N) : (ms1_7 t).IsWhole := hstage1_7 ((cfg1.slots t 7).cast nbuf1_7)

/-- Output 5's view: one whole view of its block shape. -/
abbrev VO1_5 : View sig .tc .vmem S1x256x512 .bf16 := (Memref.whole cc1_stg5_0 : Memref sig .tc .vmem S1x256x512 .bf16).view

/-- Output 6's view: one whole view of its block shape. -/
abbrev VO1_6 : View sig .tc .vmem S1x256x512 .fp8e4m3 := (Memref.whole cc1_stg6_0 : Memref sig .tc .vmem S1x256x512 .fp8e4m3).view

/-- Output 7's view: one whole view of its block shape. -/
abbrev VO1_7 : View sig .tc .vmem S1x1x1x8x128 .f32 := (Memref.whole cc1_stg7_0 : Memref sig .tc .vmem S1x1x1x8x128 .f32).view

theorem cover1_5 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x256x512.Idx) :
    ∃ pc ∈ (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk), y ∈ pc.1.set :=
  View.cover_of_tiledL (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk) ![1, 128, 128] (by sl_kernel_rfl) y

/-- What the body leaves in output 5's staging buffer: its pieces read back. -/
def out1_5 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x256x512 .bf16 :=
  VO1_5.read (Elt F) (VO1_5.writes (Elt F) VO1_5.junk (pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 arg10.view.junk arg13.view.junk))

theorem cover1_6 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x256x512.Idx) :
    ∃ pc ∈ (kernelRun.sl.H8_8 (F := F) c arg2 harg2 x2), y ∈ pc.1.set :=
  View.cover_of_tiledL (kernelRun.sl.H8_8 (F := F) c arg2 harg2 x2) ![1, 128, 128] (by sl_kernel_rfl) y

/-- What the body leaves in output 6's staging buffer: its pieces read back. -/
def out1_6 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x256x512 .fp8e4m3 :=
  VO1_6.read (Elt F) (VO1_6.writes (Elt F) VO1_6.junk (kernelRun.sl.H8_8 (F := F) c arg2 harg2 x2))

theorem cover1_7 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) (y : S1x1x1x8x128.Idx) :
    ∃ pc ∈ (kernelRun.sl.H9_8 (F := F) c arg2 harg2 x2), y ∈ pc.1.set :=
  View.cover_of_tiledL (kernelRun.sl.H9_8 (F := F) c arg2 harg2 x2) ![1, 1, 1, 1, 128] (by sl_kernel_rfl) y

/-- What the body leaves in output 7's staging buffer: its pieces read back. -/
def out1_7 (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole) (x2 : Vec F S1x256x512 .bf16) (x3 : Vec F S1x1x8192x128 .fp8e4m3) (x4 : Vec F S1x1x128x128 .f32) (x5 : Vec F S1x1x128x8192 .fp8e4m3) (x6 : Vec F S1x1x8x128 .f32) : Vec F S1x1x1x8x128 .f32 :=
  VO1_7.read (Elt F) (VO1_7.writes (Elt F) VO1_7.junk (kernelRun.sl.H9_8 (F := F) c arg2 harg2 x2))

/-- What the outputs' staging buffers hold after the body at point `t`. -/
def outsAt1 (c : Dev nD) (t : Fin cfg1.N) : Vec F S1x256x512 .bf16 × Vec F S1x256x512 .fp8e4m3 × Vec F S1x1x1x8x128 .f32 :=
  (out1_5 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t),
   out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t),
   out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))

/-- The proof data of the attention pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt1 𝒱₀ V c t).1
    | ⟨6, _⟩ => (outsAt1 𝒱₀ V c t).2.1
    | ⟨7, _⟩ => (outsAt1 𝒱₀ V c t).2.2
  Φ _ := ΦK (F := F) c
  q _ := fullShare
  owed _ := D c

variable (ι : Unit)

local notation "𝕕" => dat 𝒱₀ V D

theorem A_eq (c : Dev nD) (w : Fin cfg1.W) : (𝕕 c).A w = V c (Pipeline.arrRef spec1 w) := by
  dsimp only [dat]

theorem after1_0 (c : Dev nD) (t : Fin cfg1.N) : (𝕕 c).after 0 t = iblk V c 0 t := by dsimp only [dat]
theorem after1_1 (c : Dev nD) (t : Fin cfg1.N) : (𝕕 c).after 1 t = iblk V c 1 t := by dsimp only [dat]
theorem after1_2 (c : Dev nD) (t : Fin cfg1.N) : (𝕕 c).after 2 t = iblk V c 2 t := by dsimp only [dat]
theorem after1_3 (c : Dev nD) (t : Fin cfg1.N) : (𝕕 c).after 3 t = iblk V c 3 t := by dsimp only [dat]
theorem after1_4 (c : Dev nD) (t : Fin cfg1.N) : (𝕕 c).after 4 t = iblk V c 4 t := by dsimp only [dat]
theorem after1_5 (c : Dev nD) (t : Fin cfg1.N) : (𝕕 c).after 5 t = (outsAt1 𝒱₀ V c t).1 := by dsimp only [dat]
theorem after1_6 (c : Dev nD) (t : Fin cfg1.N) : (𝕕 c).after 6 t = (outsAt1 𝒱₀ V c t).2.1 := by dsimp only [dat]
theorem after1_7 (c : Dev nD) (t : Fin cfg1.N) : (𝕕 c).after 7 t = (outsAt1 𝒱₀ V c t).2.2 := by dsimp only [dat]
theorem before1_0 (c : Dev nD) (t : Fin cfg1.N) (d) : (𝕕 c).before 0 t d = iblk V c 0 t :=
  before1_0_of V (𝕕 c) (A_eq 𝒱₀ V D c 0) (after1_0 𝒱₀ V D c) t d
theorem before1_1 (c : Dev nD) (t : Fin cfg1.N) (d) : (𝕕 c).before 1 t d = iblk V c 1 t :=
  before1_1_of V (𝕕 c) (A_eq 𝒱₀ V D c 1) (after1_1 𝒱₀ V D c) t d
theorem before1_2 (c : Dev nD) (t : Fin cfg1.N) (d) : (𝕕 c).before 2 t d = iblk V c 2 t :=
  before1_2_of V (𝕕 c) (A_eq 𝒱₀ V D c 2) (after1_2 𝒱₀ V D c) t d
theorem before1_3 (c : Dev nD) (t : Fin cfg1.N) (d) : (𝕕 c).before 3 t d = iblk V c 3 t :=
  before1_3_of V (𝕕 c) (A_eq 𝒱₀ V D c 3) (after1_3 𝒱₀ V D c) t d
theorem before1_4 (c : Dev nD) (t : Fin cfg1.N) (d) : (𝕕 c).before 4 t d = iblk V c 4 t :=
  before1_4_of V (𝕕 c) (A_eq 𝒱₀ V D c 4) (after1_4 𝒱₀ V D c) t d

/-- What the body is called with at point `t`, -/
def bodyPre (c : Dev nD) (t : Fin cfg1.N) : sProp 𝕄 :=
  iprop((𝕕 c).Φ t.castSucc ∗ (𝕕 c).owesAt ι t.castSucc ∗ (∃ d, owns (c : Thread nD τ) (ms1_0 t) fullShare ((𝕕 c).before 0 t d)) ∗ (∃ d, owns (c : Thread nD τ) (ms1_1 t) fullShare ((𝕕 c).before 1 t d)) ∗ (∃ d, owns (c : Thread nD τ) (ms1_2 t) fullShare ((𝕕 c).before 2 t d)) ∗ (∃ d, owns (c : Thread nD τ) (ms1_3 t) fullShare ((𝕕 c).before 3 t d)) ∗ (∃ d, owns (c : Thread nD τ) (ms1_4 t) fullShare ((𝕕 c).before 4 t d)) ∗ (∃ d, owns (c : Thread nD τ) (ms1_5 t) fullShare ((𝕕 c).before 5 t d)) ∗ (∃ d, owns (c : Thread nD τ) (ms1_6 t) fullShare ((𝕕 c).before 6 t d)) ∗ (∃ d, owns (c : Thread nD τ) (ms1_7 t) fullShare ((𝕕 c).before 7 t d)))

/-- and what it returns. -/
def bodyPost (c : Dev nD) (t : Fin cfg1.N) : sProp 𝕄 :=
  iprop((𝕕 c).Φ t.succ ∗ (𝕕 c).owesAt ι t.succ ∗ owns (c : Thread nD τ) (ms1_0 t) fullShare ((𝕕 c).after 0 t) ∗ owns (c : Thread nD τ) (ms1_1 t) fullShare ((𝕕 c).after 1 t) ∗ owns (c : Thread nD τ) (ms1_2 t) fullShare ((𝕕 c).after 2 t) ∗ owns (c : Thread nD τ) (ms1_3 t) fullShare ((𝕕 c).after 3 t) ∗ owns (c : Thread nD τ) (ms1_4 t) fullShare ((𝕕 c).after 4 t) ∗ owns (c : Thread nD τ) (ms1_5 t) fullShare ((𝕕 c).after 5 t) ∗ owns (c : Thread nD τ) (ms1_6 t) fullShare ((𝕕 c).after 6 t) ∗ owns (c : Thread nD τ) (ms1_7 t) fullShare ((𝕕 c).after 7 t))

set_option maxHeartbeats 2000000 in
/-- The body at any point: the inputs' memrefs hold their blocks, the scratch buffers hold anything. -/
theorem sound_body (c : Dev nD) (t : Fin cfg1.N) :
    bodyPre 𝒱₀ V D ι c t ⊢ wp frame (wpE (defs₀ (F := F)) 𝒱₀ c none) Set.univ (bodyAt1 t) (fun _ => bodyPost 𝒱₀ V D ι c t) := by
  unfold bodyPre bodyPost bodyAt1
  simp only [before1_0, before1_1, before1_2, before1_3, before1_4]
  rw [show (𝕕 c).Φ t.succ = ΦK (F := F) c from rfl, show (𝕕 c).Φ t.castSucc = ΦK (F := F) c from rfl,
    show (𝕕 c).owesAt ι t.succ = (𝕕 c).owesAt ι t.castSucc from rfl, ΦK_eq,
    after1_0, after1_1, after1_2, after1_3, after1_4, after1_5, after1_6, after1_7]
  unfold outsAt1
  unfold out1_5 out1_6 out1_7; (try dsimp only)
  iintro ⟨⟨⟨R0, R1, R2, R3, R4, R5, R6, R7, R8, R9, R10, R11, R12, R13, ⟨%f0, S0⟩, ⟨%f1, S1⟩, ⟨%f2, S2⟩, ⟨%f3, S3⟩, ⟨%f4, S4⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun (F := F) 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) f0 f1 f2 f3 f4).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, ⟨%e5, H5⟩, ⟨%e6, H6⟩, ⟨%e7, H7⟩, S0, S1, S2, S3, S4⟩
  isplitl [R0 R1 R2 R3 R4 R5 R6 R7 R8 R9 R10 R11 R12 R13 S0 S1 S2 S3 S4 Hp]
  · isplitl [R0 R1 R2 R3 R4 R5 R6 R7 R8 R9 R10 R11 R12 R13 S0 S1 S2 S3 S4]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [S0]; · iexact S0
      isplitl [S1]; · iexact S1
      isplitl [S2]; · iexact S2
      isplitl [S3]; · iexact S3
      iexact S4
    · iexact Hp
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro
    rw [run_7, pieces7_indep (f10' := (Memref.whole cc1_scratch0).view.junk) (f13' := (Memref.whole cc1_scratch3).view.junk)]
    exact View.read_writes_of_cover _ _ _ _ _ (cover1_5 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))
  isplitl [H6]
  · unfold owns; iexists _; isplitr
    swap; · iexact H6
    ipureintro
    rw [run_8]
    exact View.read_writes_of_cover _ _ _ _ _ (cover1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))
  unfold owns; iexists _; isplitr
  swap; · iexact H7
  ipureintro
  rw [run_9]
  exact View.read_writes_of_cover _ _ _ _ _ (cover1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t))

theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (𝕕 c) (defs₀ (F := F)) 𝒱₀ ι Set.univ := fun t => by
  rw [bigSep_W1, bigSep_W1, defs₀_row]
  exact triple_restated (sound_body 𝒱₀ V D ι c t) rfl .rfl fun _ => .rfl

end Cert.KernelIdeal.K1

end
-- ==== Proof.KernelIdeal.Whole.lean ====
/- The whole program: the two kernel regions and the host operations after them as segments, their records built from the kernels'
   body obligations, and the run: every buffer that outlives the kernels ends at a fold of contents from the launch memory, every
   semaphore at zero. -/
module

public import proofs.«01_k».proof.Proof.Gen.KernelIdeal.Regions
public import proofs.«01_k».proof.Proof.KernelIdeal.K0
public import proofs.«01_k».proof.Proof.KernelIdeal.K1
public import Idealize.ShloMosaic.Lib.Pipeline.RegionArrays
public import Idealize.ShloMosaic.Lib.Pipeline.FrameSuffix

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

abbrev 𝒱₀ : Variants := Variants.none
/-- Every TensorCore semaphore has the one index, -/
abbrev L : GSem nD τ sig → Finset Unit := fun g => if g.1.2 = .tc then Finset.univ else ∅
/-- at level zero, -/
abbrev lv : GSem nD τ sig → Unit → ℕ := fun _ _ => 0
/-- and nothing is owed. -/
abbrev D₀ : Dev nD → CellTallies nD τ sig Unit := fun _ => 0

variable (m : (ℓ : Loc nD τ sig) → Buf (Elt F) ℓ)

/-- The contents at launch, by the TensorCore's references. -/
abbrev U0 (c : Dev nD) (b : Ref sig .tc) : Buf (Elt F) ((c : Thread nD τ).loc b) := V0 m c (Proc.devRef .tc b)
/-- The contents after the first kernel: its arrays at what its write-backs leave. -/
def W1 (c : Dev nD) : Valuation τ sig (Elt F) :=
  Pipeline.withArrays spec0 c (V0 m c) (fun w => (K0.dat 𝒱₀ (U0 m) D₀ c).arrAt w cfg0.N)
abbrev U1 (c : Dev nD) (b : Ref sig .tc) : Buf (Elt F) ((c : Thread nD τ).loc b) := W1 m c (Proc.devRef .tc b)
/-- The contents after the second kernel. -/
def W2 (c : Dev nD) : Valuation τ sig (Elt F) :=
  Pipeline.withArrays spec1 c (W1 m c) (fun w => (K1.dat 𝒱₀ (U1 m) D₀ c).arrAt w cfg1.N)
/-- The contents at the end. -/
def W3 (c : Dev nD) : Valuation τ sig (Elt F) := StableHlo.after hostOps2 (W2 m c)

/-- The two pipelines' proof data. -/
def pdats : (p : Fin 2) → (c : Dev nD) → Dat τ (Elt F) Unit ℕ (UR sig nD τ) ℕ (cfgs p) c
  | ⟨0, _⟩ => fun c => K0.dat 𝒱₀ (U0 m) D₀ c
  | ⟨1, _⟩ => fun c => K1.dat 𝒱₀ (U1 m) D₀ c

theorem hcut (p : Fin 2) : Pipeline.LevelCut (pcfgs (F := F)) adm () L lv p D₀ (fun _ => 0) where
  hι c w s := by simp [L]
  hιb c w s := le_rfl
  hD c g i h := absurd h (by simp [D₀])

theorem inj0 : Function.Injective (Pipeline.arrRef spec0) := by decide

theorem arr0_S : Pipeline.arrRefs (τ := τ) spec0 ⊆ Pipeline.ucRefs τ sig :=
  Pipeline.arrRefs_sub_ucRefs spec0 (by decide)

theorem W1_arr (c : Dev nD) (w : Fin cfg0.W) : W1 m c (Proc.devRef .tc (Pipeline.arrRef spec0 w)) = (K0.dat 𝒱₀ (U0 m) D₀ c).arrAt w cfg0.N :=
  Pipeline.withArrays_arr spec0 inj0 c _ _ w

theorem W1_of_ne (c : Dev nD) (b : Ref sig .tc) (hb : ∀ w, Pipeline.arrRef spec0 w ≠ b) :
    W1 m c (Proc.devRef .tc b) = V0 m c (Proc.devRef .tc b) :=
  Pipeline.withArrays_of_ne spec0 c _ _ b hb

/-- Across region 0 every other buffer keeps its contents. -/
theorem rest0_eq (c : Dev nD) : ∀ b ∈ (Pipeline.ucRefs τ sig) \ Pipeline.arrRefs (τ := τ) spec0, W1 m c b = V0 m c b := fun b hb => by
  have hn : b ∉ Pipeline.arrRefs (τ := τ) spec0 := (Finset.mem_sdiff.mp hb).2
  unfold W1 Pipeline.withArrays
  rw [dif_neg]
  rintro ⟨w, e⟩
  exact hn (e ▸ Finset.mem_map_of_mem _ (Finset.mem_image_of_mem _ (Finset.mem_univ w)))

set_option backward.isDefEq.respectTransparency.types false in
/-- Region 0's record: its arrays held at the contents before it and after it; every other buffer rides. -/
def R0 : RegionSeg (pcfgs (F := F)) adm (pdats m) () defs₀ 𝒱₀ L lv 0 :=
  Pipeline.RegionSeg.ofHeld (pcfgs (F := F)) adm (pdats m) () defs₀ 𝒱₀ L lv 0 D₀
    (fun c => iprop(∃ r, prngReg c r)) (fun c => iprop(∃ r, prngReg c r))
    launch0.toP rfl
    (fun c => (K0.body_obligation 𝒱₀ (U0 m) D₀ () c).loose) (fun _ _ => rfl) (fun _ => rfl)
    (fun c => (pdats m 0 c).share_full fun _ => rfl) (fun _ => .rfl) (fun _ => .rfl) (fun _ => 0) (hcut 0)
    (fun c => StableHlo.held (c : Thread nD τ) ((Pipeline.ucRefs τ sig) \ Pipeline.arrRefs (τ := τ) spec0) (V0 m c))
    (V0 m) (W1 m) (fun _ _ => rfl)
    (fun c w => (W1_arr m c w).symm)

/-- What rides along every segment. -/
abbrev E0 (c : Dev nD) : sProp 𝕄 := iprop((∃ r, prngReg c r) ∗ ∃ W, owes (c : Thread nD τ) (0 : CellTallies nD τ sig Unit) W)

theorem hpre0 (c : Dev nD) : iprop(StableHlo.held (c : Thread nD τ) (Pipeline.ucRefs τ sig) (V0 m c) ∗ E0 c) ⊢ (R0 m).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (D₀ c) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem hpost0 (c : Dev nD) : (R0 m).post c ⊢ iprop(StableHlo.held (c : Thread nD τ) (Pipeline.ucRefs τ sig) (W1 m c) ∗ E0 c) := by
  show iprop(StableHlo.held (c : Thread nD τ) (Pipeline.arrRefs (τ := τ) spec0) (W1 m c) ∗ (∃ r, prngReg c r)
    ∗ StableHlo.held (c : Thread nD τ) ((Pipeline.ucRefs τ sig) \ Pipeline.arrRefs (τ := τ) spec0) (V0 m c) ∗ ∃ W, owes (c : Thread nD τ) (D₀ c) W) ⊢ _
  rw [StableHlo.held_sub_split (c : Thread nD τ) arr0_S (W1 m c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

theorem inj1 : Function.Injective (Pipeline.arrRef spec1) := by decide

theorem arr1_S : Pipeline.arrRefs (τ := τ) spec1 ⊆ Pipeline.ucRefs τ sig :=
  Pipeline.arrRefs_sub_ucRefs spec1 (by decide)

theorem W2_arr (c : Dev nD) (w : Fin cfg1.W) : W2 m c (Proc.devRef .tc (Pipeline.arrRef spec1 w)) = (K1.dat 𝒱₀ (U1 m) D₀ c).arrAt w cfg1.N :=
  Pipeline.withArrays_arr spec1 inj1 c _ _ w

theorem W2_of_ne (c : Dev nD) (b : Ref sig .tc) (hb : ∀ w, Pipeline.arrRef spec1 w ≠ b) :
    W2 m c (Proc.devRef .tc b) = W1 m c (Proc.devRef .tc b) :=
  Pipeline.withArrays_of_ne spec1 c _ _ b hb

/-- Across region 1 every other buffer keeps its contents. -/
theorem rest1_eq (c : Dev nD) : ∀ b ∈ (Pipeline.ucRefs τ sig) \ Pipeline.arrRefs (τ := τ) spec1, W2 m c b = W1 m c b := fun b hb => by
  have hn : b ∉ Pipeline.arrRefs (τ := τ) spec1 := (Finset.mem_sdiff.mp hb).2
  unfold W2 Pipeline.withArrays
  rw [dif_neg]
  rintro ⟨w, e⟩
  exact hn (e ▸ Finset.mem_map_of_mem _ (Finset.mem_image_of_mem _ (Finset.mem_univ w)))

set_option backward.isDefEq.respectTransparency.types false in
/-- Region 1's record: its arrays held at the contents before it and after it; every other buffer rides. -/
def R1 : RegionSeg (pcfgs (F := F)) adm (pdats m) () defs₀ 𝒱₀ L lv 1 :=
  Pipeline.RegionSeg.ofHeld (pcfgs (F := F)) adm (pdats m) () defs₀ 𝒱₀ L lv 1 D₀
    (fun c => iprop(∃ r, prngReg c r)) (fun c => iprop(∃ r, prngReg c r))
    launch1.toP rfl
    (fun c => (K1.body_obligation 𝒱₀ (U1 m) D₀ () c).loose) (fun _ _ => rfl) (fun _ => rfl)
    (fun c => (pdats m 1 c).share_full fun _ => rfl) (fun _ => .rfl) (fun _ => .rfl) (fun _ => 0) (hcut 1)
    (fun c => StableHlo.held (c : Thread nD τ) ((Pipeline.ucRefs τ sig) \ Pipeline.arrRefs (τ := τ) spec1) (W1 m c))
    (W1 m) (W2 m) (fun _ _ => rfl)
    (fun c w => (W2_arr m c w).symm)

theorem hpre1 (c : Dev nD) : iprop(StableHlo.held (c : Thread nD τ) (Pipeline.ucRefs τ sig) (W1 m c) ∗ E0 c) ⊢ (R1 m).pre c := by
  show _ ⊢ iprop(StableHlo.held (c : Thread nD τ) (Pipeline.arrRefs (τ := τ) spec1) (W1 m c) ∗ (∃ r, prngReg c r)
    ∗ StableHlo.held (c : Thread nD τ) ((Pipeline.ucRefs τ sig) \ Pipeline.arrRefs (τ := τ) spec1) (W1 m c) ∗ ∃ W, owes (c : Thread nD τ) (D₀ c) W)
  rw [StableHlo.held_sub_split (c : Thread nD τ) arr1_S (W1 m c)]
  iintro ⟨⟨Ha, Hr⟩, Hp, HO⟩
  isplitl [Ha]; · iexact Ha
  isplitl [Hp]; · iexact Hp
  isplitl [Hr]; · iexact Hr
  iexact HO

theorem hpost1 (c : Dev nD) : (R1 m).post c ⊢ iprop(StableHlo.held (c : Thread nD τ) (Pipeline.ucRefs τ sig) (W2 m c) ∗ E0 c) := by
  show iprop(StableHlo.held (c : Thread nD τ) (Pipeline.arrRefs (τ := τ) spec1) (W2 m c) ∗ (∃ r, prngReg c r)
    ∗ StableHlo.held (c : Thread nD τ) ((Pipeline.ucRefs τ sig) \ Pipeline.arrRefs (τ := τ) spec1) (W1 m c) ∗ ∃ W, owes (c : Thread nD τ) (D₀ c) W) ⊢ _
  rw [StableHlo.held_sub_split (c : Thread nD τ) arr1_S (W2 m c),
    StableHlo.held_congr (c : Thread nD τ) (S := (Pipeline.ucRefs τ sig) \ Pipeline.arrRefs (τ := τ) spec1) (rest1_eq m c)]
  iintro ⟨Ha, Hp, Hr, HO⟩
  isplitl [Ha Hr]; · isplitl [Ha] <;> iassumption
  isplitl [Hp]; · iexact Hp
  iexact HO

/-- The host operations after the kernels. -/
def H2 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) (fun c => E0 c)

abbrev segs (c : Dev nD) : List (Seg (pcfgs (F := F)) adm (pdats m) () defs₀ 𝒱₀ L lv) :=
  [.region (R0 m), .region (R1 m), .host (H2 m)]

set_option backward.isDefEq.respectTransparency.types false in
/-- The run: the program terminates, every unscoped buffer ends at `W3`, every semaphore at zero. -/
theorem run (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = W3 m c b) ∧ r.2.sem = fun _ => 0) := by
  refine Pipeline.θ_run_regions_kit_dev_sems (pcfgs (F := F)) adm (pdats m) () cellOf_inj emb₁ defs₀ 𝒱₀ L lv m ρ main
    (segs m)
    (fun c Q => by
      rewrite [main_chain c, Seg.run_eq_chain,
        show (segs m c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) 0
    (fun g hg => by simp [L, hg]) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E0 c))
    (Tₙ := fun c => iprop(StableHlo.held (c : Thread nD τ) (Pipeline.ucRefs τ sig) (W3 m c)))
    (hch := fun c => ⟨hpre0 m c, (hpost0 m c).trans (hpre1 m c), hpost1 m c, sep_mono .rfl (by
      iintro ⟨-, HO⟩
      iexact HO)⟩)
    (hinit := ?_) (QY := fun c s => ∀ b ∈ Pipeline.ucRefs τ sig, s.mem ((c : Thread nD τ).1, b) = W3 m c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    imodintro
    iapply (pointsTo_read_all (Pipeline.ucRefs τ sig) (fun b => ((c : Thread nD τ).1, b)) (W3 m c) s')
    isplitl [Hh] <;> iassumption

theorem W3_of (c : Dev nD) (r : Ref sig .tc) (h : r ∉ hostOps2_W) : W3 m c (Proc.devRef .tc r) = W2 m c (Proc.devRef .tc r) :=
  StableHlo.after_of_writes_sub hostOps2 _ hostOps2_writes h

theorem mem_uc (b : Ref sig .tc) (h : ¬ (Proc.devRef .tc b : DevRef τ sig).isScoped = true) : Proc.devRef .tc b ∈ Pipeline.ucRefs τ sig :=
  Finset.mem_filter.mpr ⟨StableHlo.devRef_mem_tcRefs b, h⟩

theorem W3_main_arg0 (c : Dev nD) : W3 m c (Proc.devRef .tc main_arg0) = m ((c : Thread nD τ).loc main_arg0) :=
  (W3_of m c main_arg0 (by decide)).trans <| (W2_arr m c 0).trans <| ((K1.dat 𝒱₀ (U1 m) D₀ c).arrAt_in 0 rfl _).trans <|
    (K1.A_eq 𝒱₀ (U1 m) D₀ c 0).trans (W1_of_ne m c main_arg0 (by decide))

theorem W3_main_arg1 (c : Dev nD) : W3 m c (Proc.devRef .tc main_arg1) = m ((c : Thread nD τ).loc main_arg1) :=
  (W3_of m c main_arg1 (by decide)).trans <| (W2_of_ne m c main_arg1 (by decide)).trans <| (W1_arr m c 0).trans <|
    ((K0.dat 𝒱₀ (U0 m) D₀ c).arrAt_in 0 rfl _).trans (K0.A_eq 𝒱₀ (U0 m) D₀ c 0)

theorem W3_main_arg2 (c : Dev nD) : W3 m c (Proc.devRef .tc main_arg2) = m ((c : Thread nD τ).loc main_arg2) :=
  (W3_of m c main_arg2 (by decide)).trans <| (W2_of_ne m c main_arg2 (by decide)).trans <| (W1_arr m c 1).trans <|
    ((K0.dat 𝒱₀ (U0 m) D₀ c).arrAt_in 1 rfl _).trans (K0.A_eq 𝒱₀ (U0 m) D₀ c 1)

/-- The frame: the program terminates, its arguments end unchanged, every semaphore ends at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c _ (mem_uc main_arg0 (by decide))).trans (W3_main_arg0 m c),
    (h.1 c _ (mem_uc main_arg1 (by decide))).trans (W3_main_arg1 m c),
    (h.1 c _ (mem_uc main_arg2 (by decide))).trans (W3_main_arg2 m c)⟩, h.2⟩) (run m ρ)

end Cert.KernelIdeal.Whole

end
-- ==== Proof.KernelIdeal.Pow2.lean ====
/- The power-of-two scale, over the extended reals: the search by bits finds the largest power of two not above its argument, which is
   the floor of the logarithm. -/
module

public import Idealize.ShloMosaic.Lib.Pointwise
public import Idealize.ShloMosaic.PureOps.Ideal.Laws

@[expose] public section

noncomputable section

namespace Cert.KernelIdeal.Pow2

open Idealize.ShloMosaic

/-- One step of the search: the exponent field raised by `n`, kept if its power of two is not above `y`. -/
def step (n : BitVec 32) (y : EReal) (be : BitVec 32) : BitVec 32 :=
  Scalar.select (Ideal.cmp .oge y (Ideal.ofBits .f32 (IntOp.shli .vector (IntOp.minsi (be + n) 252#32) 23#32))) (IntOp.minsi (be + n) 252#32) be
/-- The exponent field found. -/
def field (y : EReal) : BitVec 32 :=
  step 1#32 y (step 2#32 y (step 4#32 y (step 8#32 y (step 16#32 y (step 32#32 y (step 64#32 y (step 128#32 y 0#32)))))))
/-- The field with the two corner cases replaced by that of one half. -/
def field' (y : EReal) : BitVec 32 :=
  let b := Scalar.select (Ideal.cmp .oeq y (Ideal.ofBits .f32 0x7F800000#32)) 255#32 (field y)
  Scalar.select (IntOp.cmpi .eq b 0#32 ||| IntOp.cmpi .eq b 255#32) 126#32 b
def scale (y : EReal) : EReal := Ideal.ofBits .f32 (IntOp.shli .vector (field' y + 1#32) 23#32)
def inv (y : EReal) : EReal := Ideal.ofBits .f32 (IntOp.shli .vector (253#32 - field' y) 23#32)

/-- The logarithm to base two. -/
def lb (r : ℝ) : ℝ := Real.log r / Real.log 2

theorem le_lb {r : ℝ} (hr : 0 < r) (n : ℤ) : (n : ℝ) ≤ lb r ↔ (2 : ℝ) ^ n ≤ r := by
  unfold lb
  rw [le_div_iff₀ (Real.log_pos (by norm_num)), ← Real.log_zpow, Real.log_le_log_iff (by positivity) hr]

/-- The exponent of the scale: one above the logarithm's floor, capped, and zero off the normal range. -/
def e (y : EReal) : ℤ := if ((2 : ℝ) ^ (-126 : ℤ) : ℝ) ≤ y ∧ y < ⊤ then min (⌊lb y.toReal⌋ + 1) 126 else 0

theorem ieee_word (w : BitVec 32) (b : ℕ) (h0 : 1 ≤ b) (h : b ≤ 254) (h1 : (w.extractLsb' 31 1 == 1#1) = false)
    (h2 : (w.extractLsb' 23 8).toNat = b) (h3 : (w.extractLsb' 0 23).toNat = 0) :
    Ideal.ieee 8 23 w = (((2 : ℝ) ^ ((b : ℤ) - 127) : ℝ) : EReal) := by
  unfold Ideal.ieee
  simp only [Nat.reduceAdd, h1, h2, h3]
  rw [if_neg (by omega), if_neg (by omega)]
  have h4 : ((b : ℤ) - 127) = ((b : ℤ) - (2 ^ (8 - 1) - 1) - (23 : ℕ)) + 23 := by norm_num
  rw [h4, zpow_add₀ (by norm_num)]
  refine congrArg _ ?_
  norm_num
  ring

theorem words : ∀ b : Fin 255, 1 ≤ b.val →
      (((IntOp.shli .vector (BitVec.ofNat 32 b.val) 23#32).extractLsb' 31 1 == 1#1) = false) ∧
      ((IntOp.shli .vector (BitVec.ofNat 32 b.val) 23#32).extractLsb' 23 8).toNat = b.val ∧
      ((IntOp.shli .vector (BitVec.ofNat 32 b.val) 23#32).extractLsb' 0 23).toNat = 0 := by decide +kernel

theorem ofBits_field (b : ℕ) (h0 : 1 ≤ b) (h : b ≤ 254) :
    Ideal.ofBits .f32 (IntOp.shli .vector (BitVec.ofNat 32 b) 23#32) = (((2 : ℝ) ^ ((b : ℤ) - 127) : ℝ) : EReal) := by
  obtain ⟨h1, h2, h3⟩ := words ⟨b, by omega⟩ h0
  exact ieee_word _ b h0 h h1 h2 h3

/-- The test the search makes at field `n`. -/
def T (y : EReal) (n : ℕ) : Prop := (((2 : ℝ) ^ ((n : ℤ) - 127) : ℝ) : EReal) ≤ y

theorem T_mono {y : EReal} {n m : ℕ} (h : n ≤ m) (hT : T y m) : T y n := by
  refine le_trans ?_ hT
  exact EReal.coe_le_coe_iff.2 (zpow_le_zpow_right₀ (by norm_num) (by omega))

theorem minsi_add (b n : ℕ) (hb : b ≤ 252) (hn : n ≤ 128) :
    IntOp.minsi (BitVec.ofNat 32 b + BitVec.ofNat 32 n) 252#32 = BitVec.ofNat 32 (min (b + n) 252) := by
  have H : ∀ s : Fin 381, IntOp.minsi (BitVec.ofNat 32 s.val) 252#32 = BitVec.ofNat 32 (min s.val 252) := by decide +kernel
  have := H ⟨b + n, by omega⟩
  rw [← BitVec.ofNat_add]
  exact this

theorem step_spec (y : EReal) (n b : ℕ) (hn0 : 1 ≤ n) (hn : n ≤ 128) (hb : b ≤ 252) (hT : b = 0 ∨ T y b)
    (hN : ∀ m, b + 2 * n ≤ m → m ≤ 252 → ¬ T y m) :
    ∃ b', step (BitVec.ofNat 32 n) y (BitVec.ofNat 32 b) = BitVec.ofNat 32 b' ∧ b' ≤ 252 ∧ (b' = 0 ∨ T y b') ∧
      ∀ m, b' + n ≤ m → m ≤ 252 → ¬ T y m := by
  unfold step
  rw [minsi_add b n hb hn, ofBits_field _ (by omega) (by omega)]
  by_cases h : T y (min (b + n) 252)
  · refine ⟨min (b + n) 252, ?_, by omega, Or.inr h, fun m h1 h2 => hN m (by omega) h2⟩
    have h' := h
    unfold T at h'
    simp only [Scalar.select, Ideal.cmp, h', decide_true]; rfl
  · refine ⟨b, ?_, hb, hT, fun m h1 h2 h3 => h (T_mono (by omega) h3)⟩
    have h' := h
    unfold T at h'
    simp only [Scalar.select, Ideal.cmp, h', decide_false]; rfl

theorem field_spec (y : EReal) : ∃ b, field y = BitVec.ofNat 32 b ∧ b ≤ 252 ∧ (b = 0 ∨ T y b) ∧ ∀ m, b + 1 ≤ m → m ≤ 252 → ¬ T y m := by
  obtain ⟨b1, e1, h1, t1, n1⟩ := step_spec y 128 0 (by omega) (by omega) (by omega) (Or.inl rfl) (fun m h1 h2 => by omega)
  obtain ⟨b2, e2, h2, t2, n2⟩ := step_spec y 64 b1 (by omega) (by omega) h1 t1 (by simpa using n1)
  obtain ⟨b3, e3, h3, t3, n3⟩ := step_spec y 32 b2 (by omega) (by omega) h2 t2 (by simpa using n2)
  obtain ⟨b4, e4, h4, t4, n4⟩ := step_spec y 16 b3 (by omega) (by omega) h3 t3 (by simpa using n3)
  obtain ⟨b5, e5, h5, t5, n5⟩ := step_spec y 8 b4 (by omega) (by omega) h4 t4 (by simpa using n4)
  obtain ⟨b6, e6, h6, t6, n6⟩ := step_spec y 4 b5 (by omega) (by omega) h5 t5 (by simpa using n5)
  obtain ⟨b7, e7, h7, t7, n7⟩ := step_spec y 2 b6 (by omega) (by omega) h6 t6 (by simpa using n6)
  obtain ⟨b8, e8, h8, t8, n8⟩ := step_spec y 1 b7 (by omega) (by omega) h7 t7 (by simpa using n7)
  refine ⟨b8, ?_, h8, t8, by simpa using n8⟩
  unfold field
  rw [e1, e2, e3, e4, e5, e6, e7, e8]

theorem inf_bits : Ideal.ofBits .f32 0x7F800000#32 = ⊤ := by simp [Ideal.ofBits, Ideal.ieee]

theorem field'_spec (y : EReal) : ∃ b : ℕ, field' y = BitVec.ofNat 32 b ∧ 1 ≤ b ∧ b ≤ 252 ∧ (b : ℤ) - 126 = e y := by
  obtain ⟨b, hb, hle, hT, hN⟩ := field_spec y
  unfold field'
  rw [hb, inf_bits]
  by_cases hy : y = ⊤
  · refine ⟨126, ?_, by omega, by omega, ?_⟩
    · subst hy; simp [Scalar.select, Ideal.cmp, IntOp.cmpi]
    · subst hy; simp [e]
  · have hfin : ∀ b : Fin 253, 1 ≤ b.val → (IntOp.cmpi .eq (BitVec.ofNat 32 b.val) 0#32 ||| IntOp.cmpi .eq (BitVec.ofNat 32 b.val) 255#32) = 0#1 := by
      decide +kernel
    have hsel : Scalar.select (Ideal.cmp .oeq y ⊤) 255#32 (BitVec.ofNat 32 b) = BitVec.ofNat 32 b := by
      simp [Scalar.select, Ideal.cmp, hy]
    simp only [hsel]
    rcases Nat.eq_zero_or_pos b with h0 | h0
    · subst h0
      refine ⟨126, by simp [Scalar.select, IntOp.cmpi], by omega, by omega, ?_⟩
      unfold e
      rw [if_neg]
      · rfl
      · rintro ⟨h1, -⟩
        refine hN 1 le_rfl (by omega) ?_
        unfold T
        norm_num at h1 ⊢
        exact h1
    · refine ⟨b, ?_, h0, hle, ?_⟩
      · have := hfin ⟨b, by omega⟩ h0
        simp only at this
        rw [this]; simp [Scalar.select]
      have hTb : T y b := hT.resolve_left (by omega)
      have h126 : (((2 : ℝ) ^ (-126 : ℤ) : ℝ) : EReal) ≤ y := by simpa [T] using T_mono h0 hTb
      unfold e
      rw [if_pos ⟨h126, lt_top_iff_ne_top.2 hy⟩]
      induction y with
      | bot => simp at h126
      | top => exact absurd rfl hy
      | coe r =>
        rw [EReal.toReal_coe]
        have hr : ((2 : ℝ) ^ (-126 : ℤ)) ≤ r := by exact_mod_cast h126
        have hr0 : 0 < r := lt_of_lt_of_le (by positivity) hr
        have hlow : (b : ℤ) - 127 ≤ ⌊lb r⌋ := by
          rw [Int.le_floor, le_lb hr0]
          exact EReal.coe_le_coe_iff.1 hTb
        by_cases hb2 : b = 252
        · subst hb2; rw [min_eq_right] <;> push_cast at * <;> omega
        · have : ⌊lb r⌋ < (b : ℤ) - 126 := by
            rw [Int.floor_lt, ← not_le, le_lb hr0]
            intro h2
            refine hN (b + 1) le_rfl (by omega) ?_
            unfold T
            have h3 : (((b + 1 : ℕ) : ℤ) - 127) = (b : ℤ) - 126 := by push_cast; ring
            rw [h3]
            exact EReal.coe_le_coe_iff.2 h2
          rw [min_eq_left] <;> omega

theorem e_le (y : EReal) : e y ≤ 126 := by unfold e; split <;> [exact min_le_right _ _; norm_num]

theorem scale_eq (y : EReal) : scale y = (((2 : ℝ) ^ (e y) : ℝ) : EReal) := by
  obtain ⟨b, hb, h1, h2, he⟩ := field'_spec y
  unfold scale
  rw [hb, ← he, ← BitVec.ofNat_add, ofBits_field _ (by omega) (by omega)]
  congr 2; push_cast; ring

theorem inv_eq (y : EReal) : inv y = (((2 : ℝ) ^ (-(e y)) : ℝ) : EReal) := by
  obtain ⟨b, hb, h1, h2, he⟩ := field'_spec y
  have : (253#32 - BitVec.ofNat 32 b) = BitVec.ofNat 32 (253 - b) := by
    have H : ∀ b : Fin 254, (253#32 - BitVec.ofNat 32 b.val) = BitVec.ofNat 32 (253 - b.val) := by decide +kernel
    exact H ⟨b, by omega⟩
  unfold inv
  rw [hb, this, ← he, ofBits_field _ (by omega) (by omega)]
  congr 2; push_cast [Nat.cast_sub (show b ≤ 253 by omega)]; ring

/-- The exponent in the reference's words. -/
def eRef (y : EReal) : EReal :=
  if (Ideal.ofBits .f32 0x00800000#32) ≤ y ∧ y < ⊤ then
    min (Ideal.liftRound Int.floor (Ideal.div (Ideal.log y) (Ideal.log 2)) + 1) 126 else 0

theorem eRef_eq (y : EReal) : eRef y = ((e y : ℝ) : EReal) := by
  have h1 : Ideal.ofBits .f32 0x00800000#32 = (((2 : ℝ) ^ (-126 : ℤ) : ℝ) : EReal) := ofBits_field 1 le_rfl (by omega)
  unfold eRef e
  rw [h1]
  split
  case isFalse => simp
  case isTrue h =>
    obtain ⟨ha, hb⟩ := h
    induction y with
    | bot => simp at ha
    | top => simp at hb
    | coe r =>
      have hr : ((2 : ℝ) ^ (-126 : ℤ)) ≤ r := by exact_mod_cast ha
      have hr0 : 0 < r := lt_of_lt_of_le (by positivity) hr
      have h2 : (2 : EReal) = ((2 : ℝ) : EReal) := rfl
      have hl : (Real.log 2 : ℝ) ≠ 0 := (Real.log_pos (by norm_num)).ne'
      rw [h2, Ideal.log_coe, Ideal.log_coe, if_neg (by linarith), if_neg (by norm_num), Ideal.div_coe hl, ← EReal.coe_mul, Ideal.liftRound_coe]
      have h3 : Real.log r * (1 / Real.log 2) = lb r := by unfold lb; ring
      rw [h3]
      have h4 : (126 : EReal) = ((126 : ℝ) : EReal) := rfl
      have h5 : (1 : EReal) = ((1 : ℝ) : EReal) := rfl
      rw [EReal.toReal_coe, h4, h5, ← EReal.coe_add, ← (EReal.coe_strictMono.monotone).map_min]
      push_cast
      rfl

end Cert.KernelIdeal.Pow2
-- ==== Proof.KernelIdeal.Q.lean ====
/- The query quantiser of the attention kernel, tile by tile, as one function of the tile. -/
module

public import proofs.«01_k».proof.Proof.KernelIdeal.K1Run
public import proofs.«01_k».proof.Proof.KernelIdeal.Pow2

@[expose] public section

set_option maxRecDepth 65536

noncomputable section

namespace Cert.KernelIdeal.Q

open Cert.KernelIdeal Cert.KernelIdeal.Gen Cert.KernelIdeal.K1
open Idealize.ShloMosaic Idealize.ShloMosaic.TcCoe Idealize.ShloMosaic.Tactic

section
variable {s : Shape}

/-- One step of the search for the exponent field, on a vector. -/
def stepV (n : BitVec 32) (y : FVec Ideal s .f32) (be : IVec s 32) : IVec s 32 :=
  select (cmpf .oge y (bitcastToFloat .f32 (shli (minsi (addi be (broadcast s n)) (broadcast s 252#32)) (broadcast s 23#32))))
    (minsi (addi be (broadcast s n)) (broadcast s 252#32)) be
def fieldV (y : FVec Ideal s .f32) : IVec s 32 :=
  stepV 1#32 y (stepV 2#32 y (stepV 4#32 y (stepV 8#32 y (stepV 16#32 y (stepV 32#32 y (stepV 64#32 y (stepV 128#32 y (broadcast s 0#32))))))))
def infV (y : FVec Ideal s .f32) (b : IVec s 32) : IVec s 32 :=
  select (cmpf .oeq y (broadcast s (Scalar.ofBits .f32 0x7F800000#32))) (broadcast s 255#32) b
def cornerV (b : IVec s 32) : IVec s 32 :=
  select (ori (cmpi .eq b (broadcast s 0#32)) (cmpi .eq b (broadcast s 255#32))) (broadcast s 126#32) b
def fieldV' (y : FVec Ideal s .f32) : IVec s 32 := cornerV (infV y (fieldV y))
def scaleV (y : FVec Ideal s .f32) : FVec Ideal s .f32 := bitcastToFloat .f32 (shli (addi (fieldV' y) (broadcast s 1#32)) (broadcast s 23#32))
def invV (y : FVec Ideal s .f32) : FVec Ideal s .f32 := bitcastToFloat .f32 (shli (subi (broadcast s 253#32) (fieldV' y)) (broadcast s 23#32))

theorem stepV_apply (n : BitVec 32) (y : FVec Ideal s .f32) (be : IVec s 32) (i : s.Idx) : stepV n y be i = Pow2.step n (y i) (be i) := rfl
theorem fieldV'_apply (y : FVec Ideal s .f32) (i : s.Idx) : fieldV' y i = Pow2.field' (y i) := by
  have h : fieldV y i = Pow2.field (y i) := by
    unfold fieldV Pow2.field
    simp only [stepV_apply]
    rfl
  unfold fieldV' Pow2.field'
  rw [← h]
  rfl
theorem scaleV_apply (y : FVec Ideal s .f32) (i : s.Idx) : scaleV y i = Pow2.scale (y i) := by
  unfold Pow2.scale; rw [← fieldV'_apply]; rfl
theorem invV_apply (y : FVec Ideal s .f32) (i : s.Idx) : invV y i = Pow2.inv (y i) := by
  unfold Pow2.inv; rw [← fieldV'_apply]; rfl
end

abbrev Tile := Vec Ideal S1x128x128 .bf16
/-- A tile's largest absolute value over 448, in every place of a vector register. -/
def yT (v0 : Tile) : FVec Ideal S8x128 .f32 := k1_pay85 v0
def scT (v0 : Tile) : FVec Ideal S8x128 .f32 := scaleV (yT v0)
/-- The tile's codes. -/
def codesT (v0 : Tile) : FVec Ideal S128x128 .fp8e4m3 :=
  truncf .fp8e4m3 (minimumf (broadcast S128x128 (Scalar.ofBits .f32 0x43E00000#32)) (maximumf (broadcast S128x128 (Scalar.ofBits .f32 0xC3E00000#32))
    (mulf (k1_pay84 v0) (broadcastTo S128x128 (extractStridedSlice S1x128 ![0, 0] (invV (yT v0)) slices_S8x128_o0_0_S1x128) broadcasts_S1x128_S128x128))))
    bitsLt_fp8e4m3_f32
/-- The row of the tile's scale, -/
def rowT (v0 : Tile) : FVec Ideal S1x128 .f32 := extractStridedSlice S1x128 ![0, 0] (scT v0) slices_S8x128_o0_0_S1x128
/-- and that row times the scores' factor. -/
def qsmT (v0 : Tile) : FVec Ideal S1x128 .f32 := mulf (rowT v0) (broadcast S1x128 (Named.named κ "score_mult" 0x3E0293EE#32))

theorem codes8_0 (v0 : Tile) : k1_pay95 (k1_pay84 v0) (k1_pay85 v0) (k1_pay89 (k1_pay85 v0) (k1_pay86 v0) (k1_pay87 v0) (k1_pay88 v0)) (k1_pay90 (k1_pay85 v0) (k1_pay86 v0) (k1_pay87 v0) (k1_pay88 v0)) (k1_pay91 (k1_pay85 v0) (k1_pay86 v0) (k1_pay87 v0) (k1_pay88 v0)) = shapeCast S1x128x128 (codesT v0) shapeCasts_S128x128_S1x128x128 := rfl
theorem codes12_0 (v0 : Tile) : k1_pay96 (k1_pay84 v0) (k1_pay85 v0) (k1_pay89 (k1_pay85 v0) (k1_pay86 v0) (k1_pay87 v0) (k1_pay88 v0)) (k1_pay90 (k1_pay85 v0) (k1_pay86 v0) (k1_pay87 v0) (k1_pay88 v0)) (k1_pay91 (k1_pay85 v0) (k1_pay86 v0) (k1_pay87 v0) (k1_pay88 v0)) = shapeCast S128x128 (codesT v0) shapeCasts_S128x128_S128x128 := rfl
theorem row_0 (v0 : Tile) : k1_pay98 (k1_pay97 (k1_pay85 v0) (k1_pay89 (k1_pay85 v0) (k1_pay86 v0) (k1_pay87 v0) (k1_pay88 v0)) (k1_pay90 (k1_pay85 v0) (k1_pay86 v0) (k1_pay87 v0) (k1_pay88 v0)) (k1_pay91 (k1_pay85 v0) (k1_pay86 v0) (k1_pay87 v0) (k1_pay88 v0))) = shapeCast S1x1x1x1x128 (rowT v0) shapeCasts_S1x128_S1x1x1x1x128 := rfl
theorem qsm_0 (v0 : Tile) : (k1_pay99 (k1_pay93 (k1_pay85 v0) (k1_pay89 (k1_pay85 v0) (k1_pay86 v0) (k1_pay87 v0) (k1_pay88 v0)) (k1_pay90 (k1_pay85 v0) (k1_pay86 v0) (k1_pay87 v0) (k1_pay88 v0)) (k1_pay91 (k1_pay85 v0) (k1_pay86 v0) (k1_pay87 v0) (k1_pay88 v0)))) = qsmT v0 := rfl
theorem codes8_1 (v0 : Tile) : k1_pay111 (k1_pay100 v0) (k1_pay101 v0) (k1_pay105 (k1_pay101 v0) (k1_pay102 v0) (k1_pay103 v0) k1_pay104) (k1_pay106 (k1_pay101 v0) (k1_pay102 v0) (k1_pay103 v0) k1_pay104) k1_pay107 = shapeCast S1x128x128 (codesT v0) shapeCasts_S128x128_S1x128x128 := rfl
theorem codes12_1 (v0 : Tile) : k1_pay112 (k1_pay100 v0) (k1_pay101 v0) (k1_pay105 (k1_pay101 v0) (k1_pay102 v0) (k1_pay103 v0) k1_pay104) (k1_pay106 (k1_pay101 v0) (k1_pay102 v0) (k1_pay103 v0) k1_pay104) k1_pay107 = shapeCast S128x128 (codesT v0) shapeCasts_S128x128_S128x128 := rfl
theorem row_1 (v0 : Tile) : k1_pay113 (k1_pay109 (k1_pay101 v0) (k1_pay105 (k1_pay101 v0) (k1_pay102 v0) (k1_pay103 v0) k1_pay104) (k1_pay106 (k1_pay101 v0) (k1_pay102 v0) (k1_pay103 v0) k1_pay104) k1_pay107) = shapeCast S1x1x1x1x128 (rowT v0) shapeCasts_S1x128_S1x1x1x1x128 := rfl
theorem qsm_1 (v0 : Tile) : (k1_pay114 (k1_pay109 (k1_pay101 v0) (k1_pay105 (k1_pay101 v0) (k1_pay102 v0) (k1_pay103 v0) k1_pay104) (k1_pay106 (k1_pay101 v0) (k1_pay102 v0) (k1_pay103 v0) k1_pay104) k1_pay107)) = qsmT v0 := rfl
theorem codes8_2 (v0 : Tile) : k1_pay126 (k1_pay115 v0) (k1_pay116 v0) (k1_pay120 (k1_pay116 v0) (k1_pay117 v0) (k1_pay118 v0) (k1_pay119 v0)) (k1_pay121 (k1_pay116 v0) (k1_pay117 v0) (k1_pay118 v0) (k1_pay119 v0)) (k1_pay122 (k1_pay116 v0) (k1_pay117 v0) (k1_pay118 v0) (k1_pay119 v0)) = shapeCast S1x128x128 (codesT v0) shapeCasts_S128x128_S1x128x128 := rfl
theorem codes12_2 (v0 : Tile) : k1_pay127 (k1_pay125 (k1_pay115 v0) (k1_pay116 v0) (k1_pay120 (k1_pay116 v0) (k1_pay117 v0) (k1_pay118 v0) (k1_pay119 v0)) (k1_pay121 (k1_pay116 v0) (k1_pay117 v0) (k1_pay118 v0) (k1_pay119 v0)) (k1_pay122 (k1_pay116 v0) (k1_pay117 v0) (k1_pay118 v0) (k1_pay119 v0))) = shapeCast S128x128 (codesT v0) shapeCasts_S128x128_S128x128 := rfl
theorem row_2 (v0 : Tile) : k1_pay128 (k1_pay124 (k1_pay116 v0) (k1_pay120 (k1_pay116 v0) (k1_pay117 v0) (k1_pay118 v0) (k1_pay119 v0)) (k1_pay121 (k1_pay116 v0) (k1_pay117 v0) (k1_pay118 v0) (k1_pay119 v0)) (k1_pay122 (k1_pay116 v0) (k1_pay117 v0) (k1_pay118 v0) (k1_pay119 v0))) = shapeCast S1x1x1x1x128 (rowT v0) shapeCasts_S1x128_S1x1x1x1x128 := rfl
theorem qsm_2 (v0 : Tile) : (k1_pay129 (k1_pay124 (k1_pay116 v0) (k1_pay120 (k1_pay116 v0) (k1_pay117 v0) (k1_pay118 v0) (k1_pay119 v0)) (k1_pay121 (k1_pay116 v0) (k1_pay117 v0) (k1_pay118 v0) (k1_pay119 v0)) (k1_pay122 (k1_pay116 v0) (k1_pay117 v0) (k1_pay118 v0) (k1_pay119 v0)))) = qsmT v0 := rfl
theorem codes8_3 (v0 : Tile) : k1_pay141 (k1_pay140 (k1_pay130 v0) (k1_pay131 v0) (k1_pay135 (k1_pay131 v0) (k1_pay132 v0) (k1_pay133 v0) k1_pay134) (k1_pay136 (k1_pay131 v0) (k1_pay132 v0) (k1_pay133 v0) k1_pay134) k1_pay137) = shapeCast S1x128x128 (codesT v0) shapeCasts_S128x128_S1x128x128 := rfl
theorem codes12_3 (v0 : Tile) : k1_pay142 (k1_pay140 (k1_pay130 v0) (k1_pay131 v0) (k1_pay135 (k1_pay131 v0) (k1_pay132 v0) (k1_pay133 v0) k1_pay134) (k1_pay136 (k1_pay131 v0) (k1_pay132 v0) (k1_pay133 v0) k1_pay134) k1_pay137) = shapeCast S128x128 (codesT v0) shapeCasts_S128x128_S128x128 := rfl
theorem row_3 (v0 : Tile) : k1_pay143 (k1_pay139 (k1_pay131 v0) (k1_pay135 (k1_pay131 v0) (k1_pay132 v0) (k1_pay133 v0) k1_pay134) (k1_pay136 (k1_pay131 v0) (k1_pay132 v0) (k1_pay133 v0) k1_pay134) k1_pay137) = shapeCast S1x1x1x1x128 (rowT v0) shapeCasts_S1x128_S1x1x1x1x128 := rfl
theorem qsm_3 (v0 : Tile) : (k1_pay144 (k1_pay139 (k1_pay131 v0) (k1_pay135 (k1_pay131 v0) (k1_pay132 v0) (k1_pay133 v0) k1_pay134) (k1_pay136 (k1_pay131 v0) (k1_pay132 v0) (k1_pay133 v0) k1_pay134) k1_pay137)) = qsmT v0 := rfl
theorem codes8_4 (v0 : Tile) : k1_pay157 (k1_pay155 (k1_pay145 v0) (k1_pay146 v0) (k1_pay150 (k1_pay146 v0) k1_pay147 k1_pay148 (k1_pay149 v0)) (k1_pay151 (k1_pay146 v0) k1_pay147 k1_pay148 (k1_pay149 v0)) (k1_pay152 (k1_pay146 v0) k1_pay147 k1_pay148 (k1_pay149 v0))) (Scalar.ofBits .f32 0xC3E00000#32) (Scalar.ofBits .f32 0x43E00000#32) = shapeCast S1x128x128 (codesT v0) shapeCasts_S128x128_S1x128x128 := rfl
theorem codes12_4 (v0 : Tile) : k1_pay158 (k1_pay155 (k1_pay145 v0) (k1_pay146 v0) (k1_pay150 (k1_pay146 v0) k1_pay147 k1_pay148 (k1_pay149 v0)) (k1_pay151 (k1_pay146 v0) k1_pay147 k1_pay148 (k1_pay149 v0)) (k1_pay152 (k1_pay146 v0) k1_pay147 k1_pay148 (k1_pay149 v0))) (Scalar.ofBits .f32 0xC3E00000#32) (Scalar.ofBits .f32 0x43E00000#32) = shapeCast S128x128 (codesT v0) shapeCasts_S128x128_S128x128 := rfl
theorem row_4 (v0 : Tile) : k1_pay159 (k1_pay154 (k1_pay146 v0) (k1_pay150 (k1_pay146 v0) k1_pay147 k1_pay148 (k1_pay149 v0)) (k1_pay151 (k1_pay146 v0) k1_pay147 k1_pay148 (k1_pay149 v0)) (k1_pay152 (k1_pay146 v0) k1_pay147 k1_pay148 (k1_pay149 v0))) = shapeCast S1x1x1x1x128 (rowT v0) shapeCasts_S1x128_S1x1x1x1x128 := rfl
theorem qsm_4 (v0 : Tile) : (k1_pay160 (k1_pay154 (k1_pay146 v0) (k1_pay150 (k1_pay146 v0) k1_pay147 k1_pay148 (k1_pay149 v0)) (k1_pay151 (k1_pay146 v0) k1_pay147 k1_pay148 (k1_pay149 v0)) (k1_pay152 (k1_pay146 v0) k1_pay147 k1_pay148 (k1_pay149 v0)))) = qsmT v0 := rfl
theorem codes8_5 (v0 : Tile) : k1_pay173 (k1_pay161 v0) (k1_pay171 (k1_pay162 v0) (k1_pay166 (k1_pay162 v0) k1_pay163 k1_pay164 k1_pay165) (k1_pay167 (k1_pay162 v0) k1_pay163 k1_pay164 k1_pay165) k1_pay168) = shapeCast S1x128x128 (codesT v0) shapeCasts_S128x128_S1x128x128 := rfl
theorem codes12_5 (v0 : Tile) : k1_pay174 (k1_pay161 v0) (k1_pay171 (k1_pay162 v0) (k1_pay166 (k1_pay162 v0) k1_pay163 k1_pay164 k1_pay165) (k1_pay167 (k1_pay162 v0) k1_pay163 k1_pay164 k1_pay165) k1_pay168) = shapeCast S128x128 (codesT v0) shapeCasts_S128x128_S128x128 := rfl
theorem row_5 (v0 : Tile) : k1_pay175 (k1_pay170 (k1_pay162 v0) (k1_pay166 (k1_pay162 v0) k1_pay163 k1_pay164 k1_pay165) (k1_pay167 (k1_pay162 v0) k1_pay163 k1_pay164 k1_pay165) k1_pay168) = shapeCast S1x1x1x1x128 (rowT v0) shapeCasts_S1x128_S1x1x1x1x128 := rfl
theorem qsm_5 (v0 : Tile) : (k1_pay176 (k1_pay170 (k1_pay162 v0) (k1_pay166 (k1_pay162 v0) k1_pay163 k1_pay164 k1_pay165) (k1_pay167 (k1_pay162 v0) k1_pay163 k1_pay164 k1_pay165) k1_pay168)) = qsmT v0 := rfl
theorem codes8_6 (v0 : Tile) : k1_pay185 (k1_pay177 v0) (k1_pay182 (k1_pay178 v0) (k1_pay179 (k1_pay178 v0) 0#32) (k1_pay180 (k1_pay178 v0) 0#32) (k1_pay181 (k1_pay178 v0) 0#32)) = shapeCast S1x128x128 (codesT v0) shapeCasts_S128x128_S1x128x128 := rfl
theorem codes12_6 (v0 : Tile) : k1_pay186 (k1_pay177 v0) (k1_pay182 (k1_pay178 v0) (k1_pay179 (k1_pay178 v0) 0#32) (k1_pay180 (k1_pay178 v0) 0#32) (k1_pay181 (k1_pay178 v0) 0#32)) = shapeCast S128x128 (codesT v0) shapeCasts_S128x128_S128x128 := rfl
theorem row_6 (v0 : Tile) : k1_pay187 (k1_pay183 (k1_pay178 v0) (k1_pay179 (k1_pay178 v0) 0#32) (k1_pay180 (k1_pay178 v0) 0#32) (k1_pay181 (k1_pay178 v0) 0#32)) = shapeCast S1x1x1x1x128 (rowT v0) shapeCasts_S1x128_S1x1x1x1x128 := rfl
theorem qsm_6 (v0 : Tile) : (k1_pay188 (k1_pay183 (k1_pay178 v0) (k1_pay179 (k1_pay178 v0) 0#32) (k1_pay180 (k1_pay178 v0) 0#32) (k1_pay181 (k1_pay178 v0) 0#32))) = qsmT v0 := rfl
theorem codes8_7 (v0 : Tile) : k1_pay198 (k1_pay189 v0) (k1_pay195 (k1_pay191 (k1_pay190 v0)) (k1_pay192 (k1_pay190 v0)) (k1_pay193 (k1_pay190 v0)) k1_pay194) = shapeCast S1x128x128 (codesT v0) shapeCasts_S128x128_S1x128x128 := rfl
theorem codes12_7 (v0 : Tile) : k1_pay199 (k1_pay189 v0) (k1_pay195 (k1_pay191 (k1_pay190 v0)) (k1_pay192 (k1_pay190 v0)) (k1_pay193 (k1_pay190 v0)) k1_pay194) = shapeCast S128x128 (codesT v0) shapeCasts_S128x128_S128x128 := rfl
theorem row_7 (v0 : Tile) : k1_pay200 (k1_pay195 (k1_pay191 (k1_pay190 v0)) (k1_pay192 (k1_pay190 v0)) (k1_pay193 (k1_pay190 v0)) k1_pay194) 1#32 = shapeCast S1x1x1x1x128 (rowT v0) shapeCasts_S1x128_S1x1x1x1x128 := rfl
theorem qsm_7 (v0 : Tile) : (k1_pay201 (k1_pay195 (k1_pay191 (k1_pay190 v0)) (k1_pay192 (k1_pay190 v0)) (k1_pay193 (k1_pay190 v0)) k1_pay194) 1#32) = qsmT v0 := rfl

end Cert.KernelIdeal.Q
-- ==== Proof.KernelIdeal.Max.lean ====
/- A maximum reduction from minus infinity, over the extended reals, by its universal property. -/
module

public import Idealize.ShloMosaic.Lib.Pointwise
public import Idealize.ShloMosaic.PureOps.Ideal.Laws

@[expose] public section

noncomputable section

namespace Cert.KernelIdeal.Max

open Idealize.ShloMosaic

variable {s t u : Shape}

theorem neg_inf : Ideal.ofBits .f32 0xFF800000#32 = ⊥ := by simp [Ideal.ofBits, Ideal.ieee]

theorem mr_le {axes : List (Fin s.rank)} (src : FVec Ideal s .f32) (h : s.Reduces axes t) (hφ : FKind.Formats .f32)
    (hacc : (0xFF800000#32 : BitVec (FTy.bits .f32)) = FKind.maximumf.neutral .f32 hφ) (j : t.Idx) (z : EReal) :
    (multiReduction .maximumf axes t src 0xFF800000#32 h hφ hacc j : EReal) ≤ z ↔ ∀ i, h.drop i = j → (src i : EReal) ≤ z := by
  rw [multiReduction_maximumf_eq_fold]
  show Finset.fold max (Ideal.ofBits .f32 0xFF800000#32) src _ ≤ z ↔ _
  rw [Finset.fold_max_le, neg_inf]
  simp

/-- Over all result places at once. -/
theorem mr_all_le {axes : List (Fin s.rank)} (src : FVec Ideal s .f32) (h : s.Reduces axes t) (hφ : FKind.Formats .f32)
    (hacc : (0xFF800000#32 : BitVec (FTy.bits .f32)) = FKind.maximumf.neutral .f32 hφ) (z : EReal) :
    (∀ j, (multiReduction .maximumf axes t src 0xFF800000#32 h hφ hacc j : EReal) ≤ z) ↔ ∀ i, (src i : EReal) ≤ z := by
  constructor
  · intro H i; exact (mr_le src h hφ hacc (h.drop i) z).1 (H _) i rfl
  · intro H j; exact (mr_le src h hφ hacc j z).2 fun i _ => H i

theorem sc_all_le (x : s.Idx → EReal) (h : s.ShapeCasts t) (z : EReal) : (∀ j, shapeCast t x h j ≤ z) ↔ ∀ i, x i ≤ z := by
  constructor
  · intro H i
    have := H ((Shape.reshapeEquiv h).symm i)
    unfold shapeCast at this
    rwa [Equiv.apply_symm_apply] at this
  · intro H j; exact H _

/-- The host's reduction. -/
theorem hr_le {axes : List (Fin s.rank)} (x : FVec Ideal s .f32) (h : s.ReducesTo axes t) (hu : 0 < u.numel) (j : t.Idx) (z : EReal) :
    (Host.reduce (FloatOps.maximumf (F := Ideal) (φ := .f32)) x (constant (F := Ideal) u .f32 0xFF800000#32) h hu j : EReal) ≤ z ↔ ∀ i, h.drop i = j → (x i : EReal) ≤ z := by
  rw [Host.reduce_eq_fold]
  show Finset.fold max (Ideal.ofBits .f32 0xFF800000#32) x _ ≤ z ↔ _
  rw [Finset.fold_max_le, neg_inf]
  simp

end Cert.KernelIdeal.Max
-- ==== Proof.KernelIdeal.QVal.lean ====
/- The query quantiser's tile functions, entry by entry. -/
module

public import proofs.«01_k».proof.Proof.KernelIdeal.Q
public import proofs.«01_k».proof.Proof.KernelIdeal.Max
public import Idealize.ShloMosaic.Lib.Pipeline.ValueKit

@[expose] public section

set_option maxRecDepth 65536

noncomputable section

namespace Cert.KernelIdeal.Q

open Cert.KernelIdeal Cert.KernelIdeal.Gen
open Idealize.ShloMosaic Idealize.ShloMosaic.TcCoe Idealize.ShloMosaic.Tactic

/-- The absolute value over the extended reals. -/
abbrev eabs (a : EReal) : EReal := FloatOps.absf (F := Ideal) (φ := .f32) a
/-- The clip to the code range. -/
def clip (a : EReal) : EReal := min ((448 : ℝ) : EReal) (max ((-448 : ℝ) : EReal) a)

theorem b448 : Ideal.ofBits .f32 0x43E00000#32 = ((448 : ℝ) : EReal) := by simp [Ideal.ofBits, Ideal.ieee, -EReal.coe_mul]; norm_num
theorem bm448 : Ideal.ofBits .f32 0xC3E00000#32 = ((-448 : ℝ) : EReal) := by simp [Ideal.ofBits, Ideal.ieee, -EReal.coe_mul]; norm_num

theorem named_inv : (Named.named (F := Ideal) (φ := .f32) κ "inv_fp8_max" 0x3B124925#32 : EReal) = ((1 / 448 : ℝ) : EReal) := by
  show (κ "inv_fp8_max").getD _ = _
  have h : κ "inv_fp8_max" = some ((1 / 448 : ℝ) : EReal) := by unfold κ; rfl
  rw [h]; rfl
theorem named_score : (Named.named (F := Ideal) (φ := .f32) κ "score_mult" 0x3E0293EE#32 : EReal) = (((Real.log 2)⁻¹ * (Real.sqrt 128)⁻¹ : ℝ) : EReal) := by
  show (κ "score_mult").getD _ = _
  have h : κ "score_mult" = some (((Real.log 2)⁻¹ * (Real.sqrt 128)⁻¹ : ℝ) : EReal) := by unfold κ; rfl
  rw [h]; rfl

section
variable {s : Shape}
theorem mulf_ap (a b : FVec Ideal s .f32) (i : s.Idx) : (mulf a b i : EReal) = (a i : EReal) * (b i : EReal) := rfl
theorem broadcast_ap (x : EReal) (i : s.Idx) : (broadcast s x i : EReal) = x := rfl
theorem clip_ap (a b : EReal) (x : FVec Ideal s .f32) (i : s.Idx) :
    (truncf .fp8e4m3 (minimumf (broadcast s (a : Ideal .f32)) (maximumf (broadcast s (b : Ideal .f32)) x)) bitsLt_fp8e4m3_f32 i : EReal)
      = min a (max b (x i : EReal)) := rfl
theorem ofBits_ap (w : BitVec 32) : (Scalar.ofBits (F := Ideal) .f32 w : EReal) = Ideal.ofBits .f32 w := rfl
end

def maxT (v0 : Tile) : EReal := ⨆ i, eabs (v0 i)

theorem yT_apply (v0 : Tile) (i : S8x128.Idx) : (yT v0 i : EReal) = maxT v0 * ((1 / 448 : ℝ) : EReal) := by
  unfold yT k1_pay85
  refine (mulf_ap _ _ i).trans ?_
  rw [broadcast_ap, named_inv]
  congr 1
  refine eq_of_forall_ge_iff fun z => ?_
  unfold maxT
  rw [iSup_le_iff]
  have h1 : ∀ (x : FVec Ideal S1x1 .f32) (i : S8x128.Idx), (broadcastTo S8x128 x broadcasts_S1x1_S8x128 i : EReal) ≤ z ↔ ∀ j, (x j : EReal) ≤ z := by
    intro x i
    have : ∀ j k : S1x1.Idx, j = k := fun j k => funext fun a => by
      match a with
      | ⟨0, _⟩ => exact Subsingleton.elim (α := Fin 1) _ _
      | ⟨1, _⟩ => exact Subsingleton.elim (α := Fin 1) _ _
    constructor
    · intro h j; refine le_of_eq_of_le ?_ h; exact congrArg x (this _ _)
    · intro h; exact h _
  refine (h1 _ i).trans ?_
  refine (Max.sc_all_le _ _ z).trans ?_
  refine (Max.sc_all_le _ _ z).trans ?_
  refine (Max.mr_all_le _ _ _ _ z).trans ?_
  refine (Max.sc_all_le _ _ z).trans ?_
  refine (Max.mr_all_le _ _ _ _ z).trans ?_
  refine (Max.mr_all_le _ _ _ _ z).trans ?_
  refine (Max.sc_all_le _ _ z).trans ?_
  exact Max.sc_all_le (fun i => eabs (v0 i)) shapeCasts_S1x128x128_S128x128 z

def eT (v0 : Tile) : ℤ := Pow2.e (maxT v0 * ((1 / 448 : ℝ) : EReal))

theorem scT_apply (v0 : Tile) (i : S8x128.Idx) : (scT v0 i : EReal) = (((2 : ℝ) ^ eT v0 : ℝ) : EReal) := by
  unfold scT; rw [scaleV_apply, yT_apply, Pow2.scale_eq]; rfl

theorem rowT_apply (v0 : Tile) (i : S1x128.Idx) : (rowT v0 i : EReal) = (((2 : ℝ) ^ eT v0 : ℝ) : EReal) := scT_apply v0 _

theorem qsmT_apply (v0 : Tile) (i : S1x128.Idx) :
    (qsmT v0 i : EReal) = (((2 : ℝ) ^ eT v0 * ((Real.log 2)⁻¹ * (Real.sqrt 128)⁻¹) : ℝ) : EReal) := by
  unfold qsmT
  rw [EReal.coe_mul, ← rowT_apply v0 i, mulf_ap, broadcast_ap, named_score]

theorem codesT_apply (v0 : Tile) (i : S128x128.Idx) :
    (codesT v0 i : EReal) = clip ((k1_pay84 v0 i : EReal) * (((2 : ℝ) ^ (-eT v0) : ℝ) : EReal)) := by
  have h : ∀ j, (invV (yT v0) j : EReal) = (((2 : ℝ) ^ (-eT v0) : ℝ) : EReal) := fun j => by
    rw [invV_apply, yT_apply, Pow2.inv_eq]; rfl
  unfold codesT
  refine (clip_ap _ _ _ i).trans ?_
  rw [ofBits_ap, ofBits_ap, b448, bm448, mulf_ap]
  unfold clip
  congr 3
  exact h _

end Cert.KernelIdeal.Q
-- ==== Proof.KernelIdeal.QOut.lean ====
/- The query codes and scales: what the attention kernel leaves in its second and third result, entry by entry. -/
module

public import proofs.«01_k».proof.Proof.KernelIdeal.QVal
public import proofs.«01_k».proof.Proof.KernelIdeal.K1
public import Idealize.ShloMosaic.Lib.Pipeline.ValueKit
public import Idealize.ShloMosaic.Lib.WholeRead

@[expose] public section

set_option maxRecDepth 65536

noncomputable section

namespace Cert.KernelIdeal.Q

open Cert.KernelIdeal Cert.KernelIdeal.Gen Cert.KernelIdeal.K1
open Idealize.ShloMosaic Idealize.ShloMosaic.TcCoe Idealize.ShloMosaic.Tactic

/-- Two shape casts there and back. -/
theorem sc_sc {s t : Shape} {α : Type} (x : s.Idx → α) (h : s.ShapeCasts t) (h' : t.ShapeCasts s) (j : s.Idx) :
    shapeCast s (shapeCast t x h) h' j = x j := by
  show x (Shape.reshapeEquiv h (Shape.reshapeEquiv h' j)) = x j
  rw [Shape.reshapeEquiv_reshapeEquiv, Shape.reshapeEquiv_self]

abbrev Blk := Vec Ideal S1x256x512 .bf16
/-- The tile of rows `128 a …` and lanes `128 b …` of a block. -/
def tileAt (x2 : Blk) (a b : ℕ) (ha : a < 2) (hb : b < 4) : Tile := fun i =>
  x2 (ix3 (n0 := 1) (n1 := 256) (n2 := 512) 0 ⟨128 * a + (i 1).val, by have : (i 1).val < 128 := (i 1).isLt; omega⟩
    ⟨128 * b + (i 2).val, by have : (i 2).val < 128 := (i 2).isLt; omega⟩)

theorem tileAt_congr (x2 : Blk) {a b a' b' : ℕ} (ha) (hb) (ha') (hb') (h1 : a = a') (h2 : b = b') : tileAt x2 a b ha hb = tileAt x2 a' b' ha' hb' := by
  subst h1; subst h2; rfl

theorem y1_lt (y : S1x256x512.Idx) : (y 1).val / 128 < 2 := by have : (y 1).val < 256 := (y 1).isLt; omega
theorem y2_lt (y : S1x256x512.Idx) : (y 2).val / 128 < 4 := by have : (y 2).val < 512 := (y 2).isLt; omega

/-- The block of codes. -/
def G8 (x2 : Blk) (y : S1x256x512.Idx) : EReal :=
  clip ((x2 y : EReal) * (((2 : ℝ) ^ (-eT (tileAt x2 ((y 1).val / 128) ((y 2).val / 128) (y1_lt y) (y2_lt y))) : ℝ) : EReal))

theorem codes_cast (v0 : Tile) (x : S1x128x128.Idx) :
    (shapeCast S1x128x128 (codesT v0) shapeCasts_S128x128_S1x128x128 x : EReal) = clip ((v0 x : EReal) * (((2 : ℝ) ^ (-eT v0) : ℝ) : EReal)) := by
  refine (codesT_apply v0 _).trans ?_
  have h : (k1_pay84 v0 (Shape.reshapeEquiv shapeCasts_S128x128_S1x128x128 x) : EReal) = v0 x := sc_sc v0 shapeCasts_S1x128x128_S128x128 shapeCasts_S128x128_S1x128x128 x
  rw [h]

theorem read_tile (arg2 : Memref sig .tc .vmem S1x256x512 .bf16) (harg2 : arg2.IsWhole) (x2 : Blk) (a b : ℕ) (ha : a < 2) (hb : b < 4)
    (off : Fin 3 → ℕ) (h0 : off 0 = 0) (h1 : off 1 = 128 * a) (h2 : off 2 = 128 * b) (inb) :
    View.readAt (Elt Ideal) arg2.view (Rect.unit (s := S1x256x512) off S1x128x128.size inb).toLoadRect (harg2.unread x2) = tileAt x2 a b ha hb := by
  funext x
  refine (harg2.readAt_unread x2 _ x).trans ?_
  unfold tileAt
  refine congrArg x2 (funext fun d => Fin.ext ?_)
  match d with
  | ⟨0, _⟩ => show off 0 + 1 * (x 0).val = 0; have : (x 0).val < 1 := (x 0).isLt; omega
  | ⟨1, _⟩ => show off 1 + 1 * (x 1).val = 128 * a + (x 1).val; omega
  | ⟨2, _⟩ => show off 2 + 1 * (x 2).val = 128 * b + (x 2).val; omega

theorem piece8 (x2 : Blk) (v0 : Tile) (a b : ℕ) (ha : a < 2) (hb : b < 4) (hv : v0 = tileAt x2 a b ha hb)
    (off : Fin 3 → ℕ) (h0 : off 0 = 0) (h1 : off 1 = 128 * a) (h2 : off 2 = 128 * b) (inb) (x : S1x128x128.Idx) :
    (shapeCast S1x128x128 (codesT v0) shapeCasts_S128x128_S1x128x128 x : EReal)
      = G8 x2 ((Rect.unit (s := S1x256x512) off S1x128x128.size inb).emb x) := by
  rw [codes_cast]
  unfold G8
  have e1 : ((Rect.unit (s := S1x256x512) off S1x128x128.size inb).emb x 1).val / 128 = a := by
    show (off 1 + 1 * (x 1).val) / 128 = a; have : (x 1).val < 128 := (x 1).isLt; omega
  have e2 : ((Rect.unit (s := S1x256x512) off S1x128x128.size inb).emb x 2).val / 128 = b := by
    show (off 2 + 1 * (x 2).val) / 128 = b; have : (x 2).val < 128 := (x 2).isLt; omega
  have e3 : tileAt x2 _ _ (y1_lt ((Rect.unit (s := S1x256x512) off S1x128x128.size inb).emb x)) (y2_lt ((Rect.unit (s := S1x256x512) off S1x128x128.size inb).emb x)) = v0 := by
    rw [hv]; exact tileAt_congr x2 _ _ _ _ e1 e2
  rw [e3]
  have e4 : v0 x = x2 ((Rect.unit (s := S1x256x512) off S1x128x128.size inb).emb x) := by
    rw [hv]
    unfold tileAt
    refine congrArg x2 (funext fun d => Fin.ext ?_)
    match d with
    | ⟨0, _⟩ => show 0 = off 0 + 1 * (x 0).val; have : (x 0).val < 1 := (x 0).isLt; omega
    | ⟨1, _⟩ => show 128 * a + (x 1).val = off 1 + 1 * (x 1).val; omega
    | ⟨2, _⟩ => show 128 * b + (x 2).val = off 2 + 1 * (x 2).val; omega
  rw [e4]

theorem read8 (c : Dev nD) (arg2 : Memref sig .tc .vmem S1x256x512 .bf16) (harg2 : arg2.IsWhole) (x2 : Blk) (v : View sig .tc .vmem S1x256x512 .fp8e4m3)
    (f) (y : S1x256x512.Idx) (hy : ∃ p ∈ kernelRun.sl.H8_8 (F := Ideal) c arg2 harg2 x2, y ∈ p.1.set) :
    v.read (Elt Ideal) (v.writes (Elt Ideal) f (kernelRun.sl.H8_8 (F := Ideal) c arg2 harg2 x2)) y = G8 x2 y := by
  refine View.read_writes_apply_of_pieces _ _ (G8 x2) _ ?_ y hy
  unfold kernelRun.sl.H8_8
  intro p hp x
  simp only [List.mem_cons, List.not_mem_nil, or_false] at hp
  rcases hp with rfl | rfl | rfl | rfl | rfl | rfl | rfl | rfl
  · exact (congrFun (codes8_7 _) x).trans (piece8 x2 _ 1 3 (by decide) (by decide) (read_tile arg2 harg2 x2 1 3 (by decide) (by decide) ![0, 128, 384] rfl rfl rfl inb_S1x256x512_S1x128x128_0_128_384) _ rfl rfl rfl inb_S1x256x512_S1x128x128_0_128_384 x)
  · exact (congrFun (codes8_6 _) x).trans (piece8 x2 _ 0 3 (by decide) (by decide) (read_tile arg2 harg2 x2 0 3 (by decide) (by decide) ![0, 0, 384] rfl rfl rfl inb_S1x256x512_S1x128x128_0_0_384) _ rfl rfl rfl inb_S1x256x512_S1x128x128_0_0_384 x)
  · exact (congrFun (codes8_5 _) x).trans (piece8 x2 _ 1 2 (by decide) (by decide) (read_tile arg2 harg2 x2 1 2 (by decide) (by decide) ![0, 128, 256] rfl rfl rfl inb_S1x256x512_S1x128x128_0_128_256) _ rfl rfl rfl inb_S1x256x512_S1x128x128_0_128_256 x)
  · exact (congrFun (codes8_4 _) x).trans (piece8 x2 _ 0 2 (by decide) (by decide) (read_tile arg2 harg2 x2 0 2 (by decide) (by decide) ![0, 0, 256] rfl rfl rfl inb_S1x256x512_S1x128x128_0_0_256) _ rfl rfl rfl inb_S1x256x512_S1x128x128_0_0_256 x)
  · exact (congrFun (codes8_3 _) x).trans (piece8 x2 _ 1 1 (by decide) (by decide) (read_tile arg2 harg2 x2 1 1 (by decide) (by decide) ![0, 128, 128] rfl rfl rfl inb_S1x256x512_S1x128x128_0_128_128) _ rfl rfl rfl inb_S1x256x512_S1x128x128_0_128_128 x)
  · exact (congrFun (codes8_2 _) x).trans (piece8 x2 _ 0 1 (by decide) (by decide) (read_tile arg2 harg2 x2 0 1 (by decide) (by decide) ![0, 0, 128] rfl rfl rfl inb_S1x256x512_S1x128x128_0_0_128) _ rfl rfl rfl inb_S1x256x512_S1x128x128_0_0_128 x)
  · exact (congrFun (codes8_1 _) x).trans (piece8 x2 _ 1 0 (by decide) (by decide) (read_tile arg2 harg2 x2 1 0 (by decide) (by decide) ![0, 128, 0] rfl rfl rfl inb_S1x256x512_S1x128x128_0_128_0) _ rfl rfl rfl inb_S1x256x512_S1x128x128_0_128_0 x)
  · exact (congrFun (codes8_0 _) x).trans (piece8 x2 _ 0 0 (by decide) (by decide) (read_tile arg2 harg2 x2 0 0 (by decide) (by decide) ![0, 0, 0] rfl rfl rfl inb_S1x256x512_S1x128x128_0_0_0) _ rfl rfl rfl inb_S1x256x512_S1x128x128_0_0_0 x)

/-- The block of scales: eight rows, one a tile, every lane equal. -/
def G9 (x2 : Blk) (y : S1x1x1x8x128.Idx) : EReal :=
  (((2 : ℝ) ^ eT (tileAt x2 ((y 3).val % 2) ((y 3).val / 2) (Nat.mod_lt _ (by decide)) (by have : (y 3).val < 8 := (y 3).isLt; omega)) : ℝ) : EReal)

theorem piece9 (x2 : Blk) (v0 : Tile) (a b : ℕ) (ha : a < 2) (hb : b < 4) (hv : v0 = tileAt x2 a b ha hb)
    (off : Fin 5 → ℕ) (h3 : off 3 = 2 * b + a) (inb) (x : S1x1x1x1x128.Idx) :
    (shapeCast S1x1x1x1x128 (rowT v0) shapeCasts_S1x128_S1x1x1x1x128 x : EReal)
      = G9 x2 ((Rect.unit (s := S1x1x1x8x128) off S1x1x1x1x128.size inb).emb x) := by
  refine (rowT_apply v0 _).trans ?_
  unfold G9
  have e1 : ((Rect.unit (s := S1x1x1x8x128) off S1x1x1x1x128.size inb).emb x 3).val = 2 * b + a := by
    show off 3 + 1 * (x 3).val = _; have : (x 3).val < 1 := (x 3).isLt; omega
  have e2 : (2 * b + a) % 2 = a := by omega
  have e3 : (2 * b + a) / 2 = b := by omega
  have e4 := tileAt_congr x2 (a := ((Rect.unit (s := S1x1x1x8x128) off S1x1x1x1x128.size inb).emb x 3).val % 2) (b := ((Rect.unit (s := S1x1x1x8x128) off S1x1x1x1x128.size inb).emb x 3).val / 2)
    (Nat.mod_lt _ (by decide)) (by rw [e1]; omega) ha hb (by rw [e1, e2]) (by rw [e1, e3])
  rw [hv, e4]

theorem read9 (c : Dev nD) (arg2 : Memref sig .tc .vmem S1x256x512 .bf16) (harg2 : arg2.IsWhole) (x2 : Blk) (v : View sig .tc .vmem S1x1x1x8x128 .f32)
    (f) (y : S1x1x1x8x128.Idx) (hy : ∃ p ∈ kernelRun.sl.H9_8 (F := Ideal) c arg2 harg2 x2, y ∈ p.1.set) :
    v.read (Elt Ideal) (v.writes (Elt Ideal) f (kernelRun.sl.H9_8 (F := Ideal) c arg2 harg2 x2)) y = G9 x2 y := by
  refine View.read_writes_apply_of_pieces _ _ (G9 x2) _ ?_ y hy
  unfold kernelRun.sl.H9_8
  intro p hp x
  simp only [List.mem_cons, List.not_mem_nil, or_false] at hp
  rcases hp with rfl | rfl | rfl | rfl | rfl | rfl | rfl | rfl
  · exact (congrFun (row_7 _) x).trans (piece9 x2 _ 1 3 (by decide) (by decide) (read_tile arg2 harg2 x2 1 3 (by decide) (by decide) ![0, 128, 384] rfl rfl rfl inb_S1x256x512_S1x128x128_0_128_384) _ rfl inb_S1x1x1x8x128_S1x1x1x1x128_0_0_0_7_0 x)
  · exact (congrFun (row_6 _) x).trans (piece9 x2 _ 0 3 (by decide) (by decide) (read_tile arg2 harg2 x2 0 3 (by decide) (by decide) ![0, 0, 384] rfl rfl rfl inb_S1x256x512_S1x128x128_0_0_384) _ rfl inb_S1x1x1x8x128_S1x1x1x1x128_0_0_0_6_0 x)
  · exact (congrFun (row_5 _) x).trans (piece9 x2 _ 1 2 (by decide) (by decide) (read_tile arg2 harg2 x2 1 2 (by decide) (by decide) ![0, 128, 256] rfl rfl rfl inb_S1x256x512_S1x128x128_0_128_256) _ rfl inb_S1x1x1x8x128_S1x1x1x1x128_0_0_0_5_0 x)
  · exact (congrFun (row_4 _) x).trans (piece9 x2 _ 0 2 (by decide) (by decide) (read_tile arg2 harg2 x2 0 2 (by decide) (by decide) ![0, 0, 256] rfl rfl rfl inb_S1x256x512_S1x128x128_0_0_256) _ rfl inb_S1x1x1x8x128_S1x1x1x1x128_0_0_0_4_0 x)
  · exact (congrFun (row_3 _) x).trans (piece9 x2 _ 1 1 (by decide) (by decide) (read_tile arg2 harg2 x2 1 1 (by decide) (by decide) ![0, 128, 128] rfl rfl rfl inb_S1x256x512_S1x128x128_0_128_128) _ rfl inb_S1x1x1x8x128_S1x1x1x1x128_0_0_0_3_0 x)
  · exact (congrFun (row_2 _) x).trans (piece9 x2 _ 0 1 (by decide) (by decide) (read_tile arg2 harg2 x2 0 1 (by decide) (by decide) ![0, 0, 128] rfl rfl rfl inb_S1x256x512_S1x128x128_0_0_128) _ rfl inb_S1x1x1x8x128_S1x1x1x1x128_0_0_0_2_0 x)
  · exact (congrFun (row_1 _) x).trans (piece9 x2 _ 1 0 (by decide) (by decide) (read_tile arg2 harg2 x2 1 0 (by decide) (by decide) ![0, 128, 0] rfl rfl rfl inb_S1x256x512_S1x128x128_0_128_0) _ rfl inb_S1x1x1x8x128_S1x1x1x1x128_0_0_0_1_0 x)
  · exact (congrFun (row_0 _) x).trans (piece9 x2 _ 0 0 (by decide) (by decide) (read_tile arg2 harg2 x2 0 0 (by decide) (by decide) ![0, 0, 0] rfl rfl rfl inb_S1x256x512_S1x128x128_0_0_0) _ rfl inb_S1x1x1x8x128_S1x1x1x1x128_0_0_0_0_0 x)

/-! ## The arrays -/

/-- The largest absolute value of block `T` of 128 rows, head `h`. -/
def qMax (X : S2x8192x8192.Idx → EReal) (b : Fin 2) (T : Fin 64) (h : Fin 64) : EReal :=
  ⨆ r : Fin 128, ⨆ d : Fin 128, eabs (X (ix3 (n0 := 2) (n1 := 8192) (n2 := 8192) b ⟨128 * T.val + r.val, by omega⟩ ⟨128 * h.val + d.val, by omega⟩))
/-- The exponent of its scale, -/
def qE (X : S2x8192x8192.Idx → EReal) (b : Fin 2) (T : Fin 64) (h : Fin 64) : ℤ := Pow2.e (qMax X b T h * ((1 / 448 : ℝ) : EReal))
/-- and its codes. -/
def qCode (X : S2x8192x8192.Idx → EReal) (j : S2x8192x8192.Idx) : EReal :=
  clip (X j * (((2 : ℝ) ^ (-qE X (j 0) ⟨(j 1).val / 128, by have : (j 1).val < 8192 := (j 1).isLt; omega⟩ ⟨(j 2).val / 128, by have : (j 2).val < 8192 := (j 2).isLt; omega⟩) : ℝ) : EReal))

/-- The scales as the kernel stores them: block `2 i + lt % 2` of head `4 k + lt / 2` in row `lt`. -/
def qScale (X : S2x8192x8192.Idx → EReal) (j : S2x16x32x8x128.Idx) : EReal :=
  (((2 : ℝ) ^ qE X (j 0) ⟨2 * (j 2).val + (j 3).val % 2, by have : (j 2).val < 32 := (j 2).isLt; omega⟩
    ⟨4 * (j 1).val + (j 3).val / 2, by have : (j 1).val < 16 := (j 1).isLt; have : (j 3).val < 8 := (j 3).isLt; omega⟩ : ℝ) : EReal)

theorem maxT_tile (X : S2x8192x8192.Idx → EReal) (v0 : Tile) (b : Fin 2) (T h : Fin 64)
    (hv : ∀ i : S1x128x128.Idx, v0 i = X (ix3 (n0 := 2) (n1 := 8192) (n2 := 8192) b ⟨128 * T.val + (i 1).val, by have : (i 1).val < 128 := (i 1).isLt; omega⟩
      ⟨128 * h.val + (i 2).val, by have : (i 2).val < 128 := (i 2).isLt; omega⟩)) : eT v0 = qE X b T h := by
  unfold eT qE
  congr 2
  unfold maxT qMax
  refine eq_of_forall_ge_iff fun z => ?_
  simp only [iSup_le_iff]
  constructor
  · intro H r d
    have := H (ix3 (n0 := 1) (n1 := 128) (n2 := 128) 0 r d)
    rw [hv] at this
    exact this
  · intro H i
    rw [hv]
    exact H ⟨(i 1).val, (i 1).isLt⟩ ⟨(i 2).val, (i 2).isLt⟩

theorem idx1 : ∀ t : Fin cfg1.N, win1_0.index t = ![t.val / 512, t.val % 32, t.val / 32 % 16] ∧ win1_6.index t = ![t.val / 512, t.val % 32, t.val / 32 % 16] ∧
    win1_7.index t = ![t.val / 512, t.val / 32 % 16, t.val % 32, 0, 0] := (by decide +kernel : ∀ t : Fin grid1.N, _)

variable (𝒱₀ : Variants) (V : (c : Dev nD) → (b : Ref sig .tc) → Buf (Elt Ideal) ((c : Thread nD τ).loc b)) (D : Dev nD → CellTallies nD τ sig Unit)

theorem outs6 (c : Dev nD) (t : Fin cfg1.N) : (outsAt1 𝒱₀ V c t).2.1 = G8 (iblk V c 0 t) := by
  have h := fun y => read8 c (ms1_0 t) (hs1_0 t) (iblk V c 0 t) VO1_6 VO1_6.junk y (cover1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) y)
  unfold outsAt1
  dsimp only
  unfold out1_6
  exact funext h

theorem outs7 (c : Dev nD) (t : Fin cfg1.N) : (outsAt1 𝒱₀ V c t).2.2 = G9 (iblk V c 0 t) := by
  have h := fun y => read9 c (ms1_0 t) (hs1_0 t) (iblk V c 0 t) VO1_7 VO1_7.junk y (cover1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) y)
  unfold outsAt1
  dsimp only
  unfold out1_7
  exact funext h

theorem final_6 (c : Dev nD) : (K1.dat 𝒱₀ V D c).arrAt 6 cfg1.N = qCode (V c main_arg0) := by
  refine (K1.dat 𝒱₀ V D c).arrAt_eq_of_covers 6 (qCode (V c main_arg0)) (by decide +kernel) fun t hf y => ?_
  blk_simp
  rw [after1_6]
  rw [outs6]
  unfold G8 qCode
  obtain ⟨i0, i6, i7⟩ := idx1 t
  have ht : t.val < 1024 := lt_of_lt_of_eq t.isLt (by decide)
  have y0 : (y 0).val < 1 := (y 0).isLt
  have y1 : (y 1).val < 256 := (y 1).isLt
  have y2 : (y 2).val < 512 := (y 2).isLt
  congr 2
  · rw [maxT_tile (V c main_arg0) _ ((((cfg1.win 6).blk t).view.emb y) 0) ⟨((((cfg1.win 6).blk t).view.emb y) 1).val / 128, by blk_simp [i6]; omega⟩
      ⟨((((cfg1.win 6).blk t).view.emb y) 2).val / 128, by blk_simp [i6]; omega⟩]
    intro i
    have z1 : (i 1).val < 128 := (i 1).isLt
    have z2 : (i 2).val < 128 := (i 2).isLt
    unfold tileAt
    blk_ext [iblk, i0, i6]

theorem final_7 (c : Dev nD) : (K1.dat 𝒱₀ V D c).arrAt 7 cfg1.N = qScale (V c main_arg0) := by
  refine (K1.dat 𝒱₀ V D c).arrAt_eq_of_covers 7 (qScale (V c main_arg0)) (by decide +kernel) fun t hf y => ?_
  blk_simp
  rw [after1_7]
  rw [outs7]
  unfold G9 qScale
  obtain ⟨i0, i6, i7⟩ := idx1 t
  have ht : t.val < 1024 := lt_of_lt_of_eq t.isLt (by decide)
  have y3 : (y 3).val < 8 := (y 3).isLt
  have y0 : (y 0).val < 1 := (y 0).isLt
  have y1 : (y 1).val < 1 := (y 1).isLt
  have y2 : (y 2).val < 1 := (y 2).isLt
  rw [maxT_tile (V c main_arg0) _ ((((cfg1.win 7).blk t).view.emb y) 0)]
  intro i
  have z1 : (i 1).val < 128 := (i 1).isLt
  have z2 : (i 2).val < 128 := (i 2).isLt
  unfold tileAt
  blk_ext [iblk, i0, i7]

end Cert.KernelIdeal.Q
-- ==== Proof.KernelIdeal.KVal.lean ====
/- The key and value quantiser's tile functions, entry by entry. -/
module

public import proofs.«01_k».proof.Proof.KernelIdeal.QVal
public import Idealize.ShloMosaic.Lib.Pipeline.ValueKit

@[expose] public section

set_option maxRecDepth 65536

noncomputable section

namespace Cert.KernelIdeal.KV

open Cert.KernelIdeal Cert.KernelIdeal.Gen
open Idealize.ShloMosaic Idealize.ShloMosaic.TcCoe Idealize.ShloMosaic.Tactic
open Cert.KernelIdeal.Q (eabs clip b448 bm448 named_inv mulf_ap broadcast_ap clip_ap ofBits_ap scaleV invV scaleV_apply invV_apply)
open Cert.KernelIdeal.Max (neg_inf)

/-- 512 rows of one head of the keys or of the values. -/
abbrev Rows := Vec Ideal S1x512x128 .bf16
/-- The two running 8 × 128 blocks. -/
abbrev Run8 := FVec Ideal S8x128 .f32
abbrev Row := FVec Ideal S1x128 .f32

theorem pay6_ap (v6 : Row) (v : Rows) (r : Fin 512) (d : Fin 128) :
    (k0_pay6 v6 v (ix2 r d) : EReal) = (v (ix3 0 r d) : EReal) - (v6 (ix2 0 d) : EReal) := by
  unfold k0_pay6
  simp only [pointwise]
  try rfl

/-- The largest size in 64 rows. -/
def kMaxT (v6 : Row) (v : Rows) (g : Fin 8) : EReal :=
  ⨆ r : Fin 64, ⨆ d : Fin 128, eabs ((v (ix3 0 ⟨64 * g.val + r.val, by omega⟩ d) : EReal) - (v6 (ix2 0 d) : EReal))

theorem pay7_ap (v6 : Row) (v : Rows) (g : Fin 8) (l : Fin 128) : (k0_pay7 v6 v (ix2 g l) : EReal) = kMaxT v6 v g * ((1 / 448 : ℝ) : EReal) := by
  unfold k0_pay7
  refine (mulf_ap _ _ _).trans ?_
  rw [broadcast_ap, named_inv]
  congr 1
  simp only [pointwise]
  refine eq_of_forall_ge_iff fun z => ?_
  rw [neg_inf]
  simp only [Finset.fold_max_le, bot_le, Finset.mem_univ, true_and, forall_const]
  unfold kMaxT
  simp only [iSup_le_iff]
  constructor
  · intro H r d
    have := H d r
    rw [pay6_ap] at this
    refine le_of_eq_of_le ?_ this
    refine congrArg (fun s => eabs ((v (ix3 0 s d) : EReal) - (v6 (ix2 0 d) : EReal))) (Fin.ext ?_)
    show 64 * g.val + r.val = g.val * 64 + r.val
    omega
  · intro H d r
    refine le_of_eq_of_le ?_ (H r d)
    refine (congrArg eabs (pay6_ap v6 v _ d)).trans (congrArg (fun s => eabs ((v (ix3 0 s d) : EReal) - (v6 (ix2 0 d) : EReal))) (Fin.ext ?_))
    show g.val * 64 + r.val = 64 * g.val + r.val
    omega

/-- The codes of 512 rows of keys and their eight rows of scales. -/
def kcT (v6 : Row) (v : Rows) : FVec Ideal S1x1x512x128 .fp8e4m3 :=
  shapeCast S1x1x512x128 (truncf .fp8e4m3 (minimumf (broadcast S512x128 (Scalar.ofBits .f32 0x43E00000#32))
    (maximumf (broadcast S512x128 (Scalar.ofBits .f32 0xC3E00000#32))
      (shapeCast S512x128 (mulf (shapeCast S8x64x128 (k0_pay6 v6 v) shapeCasts_S512x128_S8x64x128)
        (broadcastTo S8x64x128 (shapeCast S8x1x128 (invV (k0_pay7 v6 v)) shapeCasts_S8x128_S8x1x128) broadcasts_S8x1x128_S8x64x128)) shapeCasts_S8x64x128_S512x128)))
    bitsLt_fp8e4m3_f32) shapeCasts_S512x128_S1x1x512x128
def ksT (v6 : Row) (v : Rows) : FVec Ideal S1x1x8x128 .f32 := shapeCast S1x1x8x128 (scaleV (k0_pay7 v6 v)) shapeCasts_S8x128_S1x1x8x128

def kET (v6 : Row) (v : Rows) (g : Fin 8) : ℤ := Pow2.e (kMaxT v6 v g * ((1 / 448 : ℝ) : EReal))

theorem ksT_ap (v6 : Row) (v : Rows) (j : S1x1x8x128.Idx) : (ksT v6 v j : EReal) = (((2 : ℝ) ^ kET v6 v (j 2) : ℝ) : EReal) := by
  have h : ksT v6 v j = scaleV (k0_pay7 v6 v) (ix2 (j 2) (j 3)) := by
    unfold ksT
    simp only [pointwise]
  refine h.trans ((scaleV_apply _ _).trans ((congrArg Pow2.scale (pay7_ap v6 v (j 2) (j 3))).trans (Pow2.scale_eq _)))

theorem kcT_ap (v6 : Row) (v : Rows) (j : S1x1x512x128.Idx) : (kcT v6 v j : EReal) =
    clip (((v (ix3 0 (j 2) (j 3)) : EReal) - (v6 (ix2 0 (j 3)) : EReal)) * (((2 : ℝ) ^ (-kET v6 v ⟨(j 2).val / 64, by have : (j 2).val < 512 := (j 2).isLt; omega⟩) : ℝ) : EReal)) := by
  have h1 : ∀ g l, (invV (k0_pay7 v6 v) (ix2 g l) : EReal) = (((2 : ℝ) ^ (-kET v6 v g) : ℝ) : EReal) := fun g l =>
    (invV_apply _ _).trans ((congrArg Pow2.inv (pay7_ap v6 v g l)).trans (Pow2.inv_eq _))
  unfold kcT
  generalize hX : k0_pay6 v6 v = X
  generalize hY : invV (k0_pay7 v6 v) = Y at h1 ⊢
  have h2 : ∀ r d, (X (ix2 r d) : EReal) = (v (ix3 0 r d) : EReal) - (v6 (ix2 0 d) : EReal) := fun r d => by rw [← hX, pay6_ap]
  refine Eq.trans ?_ (congrArg clip (congrArg₂ (· * ·) (h2 (j 2) (j 3)) (h1 ⟨(j 2).val / 64, by have : (j 2).val < 512 := (j 2).isLt; omega⟩ (j 3))))
  simp only [pointwise]
  rw [b448, bm448]
  rfl

theorem sum_range_mul (g : ℕ → EReal) (m n : ℕ) : ∑ s ∈ Finset.range (m * n), g s = ∑ j ∈ Finset.range n, ∑ r ∈ Finset.range m, g (j * m + r) := by
  induction n with
  | zero => simp
  | succ n ih => rw [Nat.mul_succ, Finset.sum_range_add, ih, Finset.sum_range_succ, Nat.mul_comm m n]

theorem sum_pay17 (d : Fin 128) : ∑ r : Fin 8, (k0_pay17 (F := Ideal) (ix2 r d) : EReal) = 0 := by
  refine Finset.sum_eq_zero fun r _ => ?_
  show Ideal.ofBits .f32 0x00000000#32 = 0
  simp [Ideal.ofBits, Ideal.ieee]

theorem le_pay17 (d : Fin 128) (z : EReal) : (∀ r : Fin 8, (k0_pay17 (F := Ideal) (ix2 r d) : EReal) ≤ z) ↔ 0 ≤ z := by
  have h : ∀ r : Fin 8, (k0_pay17 (F := Ideal) (ix2 r d) : EReal) = 0 := fun r => by
    show Ideal.ofBits .f32 0x00000000#32 = 0
    simp [Ideal.ofBits, Ideal.ieee]
  simp only [h]
  simp

theorem pay18_ap (c1 : Run8) (v : Rows) (r : Fin 8) (d : Fin 128) : (k0_pay18 c1 v (ix2 r d) : EReal) =
    (c1 (ix2 r d) : EReal) + ∑ j : Fin 64, (v (ix3 0 ⟨j.val * 8 + r.val, by omega⟩ d) : EReal) := by
  unfold k0_pay18
  simp only [pointwise]

theorem sum_pay18 (c1 : Run8) (v : Rows) (d : Fin 128) : ∑ r : Fin 8, (k0_pay18 c1 v (ix2 r d) : EReal) =
    ∑ r : Fin 8, (c1 (ix2 r d) : EReal) + ∑ s ∈ Finset.range 512, if h : s < 512 then (v (ix3 0 ⟨s, h⟩ d) : EReal) else 0 := by
  refine Eq.trans ?_ (congrArg _ (sum_range_mul (fun s => if h : s < 512 then (v (ix3 0 ⟨s, h⟩ d) : EReal) else 0) 8 64).symm)
  rw [Finset.sum_comm]
  simp only [pay18_ap]
  rw [Finset.sum_add_distrib]
  refine congrArg (_ + ·) ?_
  rw [Finset.sum_range]
  refine Finset.sum_congr rfl fun r _ => ?_
  rw [Finset.sum_range]
  refine Finset.sum_congr rfl fun j _ => ?_
  rw [dif_pos (by omega)]

theorem le_pay19 (c2 : Run8) (v : Rows) (d : Fin 128) (z : EReal) : (∀ r : Fin 8, (k0_pay19 c2 v (ix2 r d) : EReal) ≤ z) ↔
    (∀ r : Fin 8, (c2 (ix2 r d) : EReal) ≤ z) ∧ ∀ s : Fin 512, eabs (v (ix3 0 s d)) ≤ z := by
  unfold k0_pay19
  simp only [pointwise]
  rw [neg_inf]
  simp only [max_le_iff, Finset.fold_max_le, bot_le, Finset.mem_univ, true_and, forall_const]
  constructor
  · intro H
    refine ⟨fun r => (H r).1, fun s => ?_⟩
    have := (H ⟨s.val % 8, Nat.mod_lt _ (by decide)⟩).2 ⟨s.val / 8, by omega⟩
    have e : (⟨s.val / 8 * 8 + s.val % 8, by omega⟩ : Fin 512) = s := Fin.ext (by show s.val / 8 * 8 + s.val % 8 = s.val; omega)
    exact le_of_eq_of_le (congrArg (fun s' => eabs (v (ix3 0 s' d))) e).symm this
  · rintro ⟨H1, H2⟩ r
    exact ⟨H1 r, fun k => H2 _⟩

/-- The lane's mean, from the sums. -/
theorem pay20_ap (c1 : Run8) (d : Fin 128) : (k0_pay20 c1 (ix2 0 d) : EReal) = (∑ r : Fin 8, (c1 (ix2 r d) : EReal)) * ((1 / 8192 : ℝ) : EReal) := by
  unfold k0_pay20
  simp only [pointwise]
  refine congrArg (_ * ·) ?_
  simp [Ideal.ofBits, Ideal.ieee, -EReal.coe_mul]; norm_num

/-- A lane's largest size, over the block's eight rows. -/
def vMaxT (c2 : Run8) (d : Fin 128) : EReal := ⨆ r : Fin 8, (c2 (ix2 r d) : EReal)
def vET (c2 : Run8) (d : Fin 128) : ℤ := Pow2.e (vMaxT c2 d * ((1 / 448 : ℝ) : EReal))

theorem pay21_ap (c2 : Run8) (r : Fin 8) (d : Fin 128) : (k0_pay21 c2 (ix2 r d) : EReal) = vMaxT c2 d * ((1 / 448 : ℝ) : EReal) := by
  unfold k0_pay21
  refine (mulf_ap _ _ _).trans ?_
  rw [broadcast_ap, named_inv]
  congr 1
  simp only [pointwise]
  refine eq_of_forall_ge_iff fun z => ?_
  rw [neg_inf]
  simp only [Finset.fold_max_le, bot_le, Finset.mem_univ, true_and, forall_const]
  unfold vMaxT
  simp only [iSup_le_iff]
  rfl

theorem pay2_eq (c2 : Run8) : k0_pay2 (k0_pay21 c2) (k0_pay25 (k0_pay21 c2) (k0_pay22 c2) (k0_pay23 c2) (k0_pay24 c2)) (k0_pay26 (k0_pay21 c2) (k0_pay22 c2) (k0_pay23 c2) (k0_pay24 c2))
    (k0_pay27 (k0_pay21 c2) (k0_pay22 c2) (k0_pay23 c2) (k0_pay24 c2)) = shapeCast S1x1x8x128 (scaleV (k0_pay21 c2)) shapeCasts_S8x128_S1x1x8x128 := rfl

/-- The codes of 512 rows of values. -/
def vcT (c2 : Run8) (v : Rows) : FVec Ideal S512x128 .f32 :=
  minimumf (broadcast S512x128 (Scalar.ofBits .f32 0x43E00000#32)) (maximumf (broadcast S512x128 (Scalar.ofBits .f32 0xC3E00000#32))
    (mulf (extf .f32 (shapeCast S512x128 v shapeCasts_S1x512x128_S512x128) bitsLt_bf16_f32)
      (broadcastTo S512x128 (extractStridedSlice S1x128 ![0, 0] (invV (k0_pay21 c2)) slices_S8x128_o0_0_S1x128) broadcasts_S1x128_S512x128)))

theorem pay3_eq (c2 : Run8) (v : Rows) : k0_pay3 (k0_pay21 c2) (k0_pay25 (k0_pay21 c2) (k0_pay22 c2) (k0_pay23 c2) (k0_pay24 c2)) (k0_pay26 (k0_pay21 c2) (k0_pay22 c2) (k0_pay23 c2) (k0_pay24 c2))
    (k0_pay27 (k0_pay21 c2) (k0_pay22 c2) (k0_pay23 c2) (k0_pay24 c2)) v = vcT c2 v := rfl

theorem pay2_ap (c2 : Run8) (j : S1x1x8x128.Idx) : (k0_pay2 (k0_pay21 c2) (k0_pay25 (k0_pay21 c2) (k0_pay22 c2) (k0_pay23 c2) (k0_pay24 c2)) (k0_pay26 (k0_pay21 c2) (k0_pay22 c2) (k0_pay23 c2) (k0_pay24 c2))
    (k0_pay27 (k0_pay21 c2) (k0_pay22 c2) (k0_pay23 c2) (k0_pay24 c2)) j : EReal) = (((2 : ℝ) ^ vET c2 (j 3) : ℝ) : EReal) := by
  rw [pay2_eq]
  have h : shapeCast S1x1x8x128 (scaleV (k0_pay21 c2)) shapeCasts_S8x128_S1x1x8x128 j = scaleV (k0_pay21 c2) (ix2 (j 2) (j 3)) := by
    simp only [pointwise]
  refine h.trans ((scaleV_apply _ _).trans ((congrArg Pow2.scale (pay21_ap c2 (j 2) (j 3))).trans (Pow2.scale_eq _)))

theorem vcT_ap (c2 : Run8) (v : Rows) (r : Fin 512) (d : Fin 128) : (vcT c2 v (ix2 r d) : EReal) = clip ((v (ix3 0 r d) : EReal) * (((2 : ℝ) ^ (-vET c2 d) : ℝ) : EReal)) := by
  have h1 : ∀ g l, (invV (k0_pay21 c2) (ix2 g l) : EReal) = (((2 : ℝ) ^ (-vET c2 l) : ℝ) : EReal) := fun g l =>
    (invV_apply _ _).trans ((congrArg Pow2.inv (pay21_ap c2 g l)).trans (Pow2.inv_eq _))
  unfold vcT
  generalize hY : invV (k0_pay21 c2) = Y at h1 ⊢
  refine Eq.trans ?_ (congrArg (fun a => clip ((v (ix3 0 r d) : EReal) * a)) (h1 0 d))
  show min (Ideal.ofBits .f32 0x43E00000#32) (max (Ideal.ofBits .f32 0xC3E00000#32) _) = _
  rw [b448, bm448]
  simp only [pointwise]
  refine congrArg (fun a => clip ((v (ix3 0 r d) : EReal) * (Y (ix2 0 a) : EReal))) (Fin.ext ?_)
  exact Nat.zero_add _

end Cert.KernelIdeal.KV
-- ==== Proof.KernelIdeal.KRun.lean ====
/- The two loops of the key and value quantiser: the sums and maxima the first leaves, and the pieces the second stores. -/
module

public import proofs.«01_k».proof.Proof.KernelIdeal.KVal
public import proofs.«01_k».proof.Proof.KernelIdeal.K0
public import Idealize.ShloMosaic.Lib.Pipeline.ValueKit
public import Idealize.ShloMosaic.Lib.WholeRead

@[expose] public section

set_option maxRecDepth 65536

noncomputable section

namespace Cert.KernelIdeal.KV

open Cert.KernelIdeal Cert.KernelIdeal.Gen Cert.KernelIdeal.K0
open Idealize.ShloMosaic Idealize.ShloMosaic.TcCoe Idealize.ShloMosaic.Tactic
open Cert.KernelIdeal.Q (eabs clip)

/-- One head of the keys or of the values. -/
abbrev Head := Vec Ideal S1x8192x128 .bf16

theorem trips_1 : k0_t1_loop.trips = 16 := by decide +kernel
theorem trips_2 : k0_t2_loop.trips = 16 := by decide +kernel

/-- Rows `512 k` onwards. -/
def rowsOf (x : Head) (k : Fin 16) : Rows := fun i => x (ix3 (n0 := 1) (n1 := 8192) (n2 := 128) 0 ⟨512 * k.val + (i 1).val, by have : (i 1).val < 512 := (i 1).isLt; omega⟩ (i 2))

theorem read_rows (arg : Memref sig .tc .vmem S1x8192x128 .bf16) (harg : arg.IsWhole) (x : Head) (k : Fin 16) (off : Fin 3 → ℕ)
    (h : off = ![0, 512 * k.val, 0]) (inb) :
    View.readAt (Elt Ideal) arg.view (Rect.unit (s := S1x8192x128) off S1x512x128.size inb).toLoadRect (harg.unread x) = rowsOf x k := by
  subst h
  funext i
  refine (harg.readAt_unread x _ i).trans ?_
  unfold rowsOf
  refine congrArg x (funext fun d => Fin.ext ?_)
  have h0 : (i 0).val < 1 := (i 0).isLt
  match d with
  | ⟨0, _⟩ => show 0 + 1 * (i 0).val = 0; omega
  | ⟨1, _⟩ => show 512 * k.val + 1 * (i 1).val = 512 * k.val + (i 1).val; omega
  | ⟨2, _⟩ => show 0 + 1 * (i 2).val = (i 2).val; omega

section
variable (𝒱₀ : Variants) (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole) (x0 x1 : Head)

/-- The first loop's blocks after `n` trips. -/
abbrev st1 (n : ℕ) : Run8 × Run8 := st_k0_t1 (F := Ideal) 𝒱₀ c none i arg2 harg2 arg3 harg3 arg4 harg4 arg5 harg5 arg6 harg6 arg7 harg7 arg8 harg8 (harg2.unread x0) (harg3.unread x1) (k0_pay17, k0_pay17) n

theorem st1_succ (k : Fin 16) : st1 𝒱₀ c i arg2 harg2 arg3 harg3 arg4 harg4 arg5 harg5 arg6 harg6 arg7 harg7 arg8 harg8 x0 x1 (k.val + 1) =
    (k0_pay18 (st1 𝒱₀ c i arg2 harg2 arg3 harg3 arg4 harg4 arg5 harg5 arg6 harg6 arg7 harg7 arg8 harg8 x0 x1 k.val).1 (rowsOf x0 k), k0_pay19 (st1 𝒱₀ c i arg2 harg2 arg3 harg3 arg4 harg4 arg5 harg5 arg6 harg6 arg7 harg7 arg8 harg8 x0 x1 k.val).2 (rowsOf x1 k)) := by
  refine (st_k0_t1_succ (F := Ideal) 𝒱₀ c none i arg2 harg2 arg3 harg3 arg4 harg4 arg5 harg5 arg6 harg6 arg7 harg7 arg8 harg8 (harg2.unread x0) (harg3.unread x1) (k0_pay17, k0_pay17) ⟨k.val, lt_of_lt_of_eq k.isLt trips_1.symm⟩).trans ?_
  unfold tripR_k0_t1 trip_k0_t1
  exact Prod.ext
    (congrArg (k0_pay18 (st1 𝒱₀ c i arg2 harg2 arg3 harg3 arg4 harg4 arg5 harg5 arg6 harg6 arg7 harg7 arg8 harg8 x0 x1 k.val).1) (read_rows arg2 harg2 x0 k _ (k0_off1_eq _) _))
    (congrArg (k0_pay19 (st1 𝒱₀ c i arg2 harg2 arg3 harg3 arg4 harg4 arg5 harg5 arg6 harg6 arg7 harg7 arg8 harg8 x0 x1 k.val).2) (read_rows arg3 harg3 x1 k _ (k0_off1_eq _) _))

/-- The sum of a lane's first `n` entries, -/
def pre (x : Head) (d : Fin 128) (n : ℕ) : EReal := ∑ s ∈ Finset.range n, if h : s < 8192 then (x (ix3 (n0 := 1) (n1 := 8192) (n2 := 128) 0 ⟨s, h⟩ d) : EReal) else 0

/-- which the first loop's block of sums adds up to, -/
theorem sum_st1 (d : Fin 128) : ∀ n, n ≤ 16 → ∑ r : Fin 8, ((st1 𝒱₀ c i arg2 harg2 arg3 harg3 arg4 harg4 arg5 harg5 arg6 harg6 arg7 harg7 arg8 harg8 x0 x1 n).1 (ix2 r d) : EReal) = pre x0 d (512 * n) := by
  intro n
  induction n with
  | zero => intro _; exact sum_pay17 d
  | succ n ih =>
    intro hn
    rw [show st1 𝒱₀ c i arg2 harg2 arg3 harg3 arg4 harg4 arg5 harg5 arg6 harg6 arg7 harg7 arg8 harg8 x0 x1 (n + 1) = _ from st1_succ 𝒱₀ c i arg2 harg2 arg3 harg3 arg4 harg4 arg5 harg5 arg6 harg6 arg7 harg7 arg8 harg8 x0 x1 ⟨n, hn⟩]
    rw [sum_pay18, ih (by omega)]
    unfold pre rowsOf
    rw [show 512 * (n + 1) = 512 * n + 512 by omega, Finset.sum_range_add]
    congr 1
    refine Finset.sum_congr rfl fun s hs => ?_
    have hs' : s < 512 := Finset.mem_range.1 hs
    rw [dif_pos hs', dif_pos (by omega)]
    rfl

/-- and the largest size in a lane's first `512 n` entries. -/
theorem max_st1 (d : Fin 128) (z : EReal) : ∀ n, n ≤ 16 → ((∀ r : Fin 8, ((st1 𝒱₀ c i arg2 harg2 arg3 harg3 arg4 harg4 arg5 harg5 arg6 harg6 arg7 harg7 arg8 harg8 x0 x1 n).2 (ix2 r d) : EReal) ≤ z) ↔
    0 ≤ z ∧ ∀ s : Fin 8192, s.val < 512 * n → eabs (x1 (ix3 (n0 := 1) (n1 := 8192) (n2 := 128) 0 s d)) ≤ z) := by
  intro n
  induction n with
  | zero =>
    intro _
    refine (le_pay17 d z).trans ⟨fun h => ⟨h, fun s hs => absurd hs (by omega)⟩, fun h => h.1⟩
  | succ n ih =>
    intro hn
    rw [show st1 𝒱₀ c i arg2 harg2 arg3 harg3 arg4 harg4 arg5 harg5 arg6 harg6 arg7 harg7 arg8 harg8 x0 x1 (n + 1) = _ from st1_succ 𝒱₀ c i arg2 harg2 arg3 harg3 arg4 harg4 arg5 harg5 arg6 harg6 arg7 harg7 arg8 harg8 x0 x1 ⟨n, hn⟩]
    rw [le_pay19, ih (by omega)]
    unfold rowsOf
    constructor
    · rintro ⟨⟨h0, h1⟩, h2⟩
      refine ⟨h0, fun s hs => ?_⟩
      by_cases hlt : s.val < 512 * n
      · exact h1 s hlt
      · have := h2 ⟨s.val - 512 * n, by omega⟩
        have e : (⟨512 * n + (s.val - 512 * n), by have := s.isLt; omega⟩ : Fin 8192) = s := Fin.ext (by show 512 * n + (s.val - 512 * n) = s.val; omega)
        have e2 := congrArg (fun s' => eabs (x1 (ix3 (n0 := 1) (n1 := 8192) (n2 := 128) 0 s' d))) e
        exact le_of_eq_of_le e2.symm this
    · rintro ⟨h0, h1⟩
      exact ⟨⟨h0, fun s hs => h1 s (by omega)⟩, fun r => h1 ⟨512 * n + r.val, by have := r.isLt; omega⟩ (by show 512 * n + r.val < _; have := r.isLt; omega)⟩

/-! ### The second loop's pieces -/

variable (v6 : Row) (c2 : Run8)

/-- The trips' pieces, with the scales' words of the running maxima `c2`. -/
abbrev tr2 (k : Fin k0_t2_loop.trips) := trip_k0_t2 (F := Ideal) 𝒱₀ c none i arg2 harg2 arg3 harg3 arg4 harg4 arg5 harg5 arg6 harg6 arg7 harg7 arg8 harg8 v6 (k0_pay21 c2)
  (k0_pay25 (k0_pay21 c2) (k0_pay22 c2) (k0_pay23 c2) (k0_pay24 c2)) (k0_pay26 (k0_pay21 c2) (k0_pay22 c2) (k0_pay23 c2) (k0_pay24 c2))
  (k0_pay27 (k0_pay21 c2) (k0_pay22 c2) (k0_pay23 c2) (k0_pay24 c2)) (harg2.unread x0) (harg3.unread x1) k
abbrev pb2 (n : ℕ) := pb_k0_t2 (F := Ideal) 𝒱₀ c none i arg2 harg2 arg3 harg3 arg4 harg4 arg5 harg5 arg6 harg6 arg7 harg7 arg8 harg8 v6 (k0_pay21 c2)
  (k0_pay25 (k0_pay21 c2) (k0_pay22 c2) (k0_pay23 c2) (k0_pay24 c2)) (k0_pay26 (k0_pay21 c2) (k0_pay22 c2) (k0_pay23 c2) (k0_pay24 c2))
  (k0_pay27 (k0_pay21 c2) (k0_pay22 c2) (k0_pay23 c2) (k0_pay24 c2)) (harg2.unread x0) (harg3.unread x1) n

theorem mem_pb2 (p) : ∀ n, p ∈ (pb2 𝒱₀ c i arg2 harg2 arg3 harg3 arg4 harg4 arg5 harg5 arg6 harg6 arg7 harg7 arg8 harg8 x0 x1 v6 c2 n).1 → ∃ k, p ∈ (tr2 𝒱₀ c i arg2 harg2 arg3 harg3 arg4 harg4 arg5 harg5 arg6 harg6 arg7 harg7 arg8 harg8 x0 x1 v6 c2 k).1 := by
  intro n
  induction n with
  | zero => intro h; exact absurd h (List.not_mem_nil)
  | succ n ih =>
    intro h
    unfold pb2 pb_k0_t2 pb_k0_t2Step at h
    split at h
    case isTrue hk =>
      rcases List.mem_append.1 h with h | h
      · exact ⟨⟨n, hk⟩, h⟩
      · exact ih h
    case isFalse => exact ih h

theorem mem_pb3 (p) : ∀ n, p ∈ (pb2 𝒱₀ c i arg2 harg2 arg3 harg3 arg4 harg4 arg5 harg5 arg6 harg6 arg7 harg7 arg8 harg8 x0 x1 v6 c2 n).2.1 → ∃ k, p ∈ (tr2 𝒱₀ c i arg2 harg2 arg3 harg3 arg4 harg4 arg5 harg5 arg6 harg6 arg7 harg7 arg8 harg8 x0 x1 v6 c2 k).2.1 := by
  intro n
  induction n with
  | zero => intro h; exact absurd h (List.not_mem_nil)
  | succ n ih =>
    intro h
    unfold pb2 pb_k0_t2 pb_k0_t2Step at h
    split at h
    case isTrue hk =>
      rcases List.mem_append.1 h with h | h
      · exact ⟨⟨n, hk⟩, h⟩
      · exact ih h
    case isFalse => exact ih h

theorem mem_pb4 (p) : ∀ n, p ∈ (pb2 𝒱₀ c i arg2 harg2 arg3 harg3 arg4 harg4 arg5 harg5 arg6 harg6 arg7 harg7 arg8 harg8 x0 x1 v6 c2 n).2.2.1 → ∃ k, p ∈ (tr2 𝒱₀ c i arg2 harg2 arg3 harg3 arg4 harg4 arg5 harg5 arg6 harg6 arg7 harg7 arg8 harg8 x0 x1 v6 c2 k).2.2.1 := by
  intro n
  induction n with
  | zero => intro h; exact absurd h (List.not_mem_nil)
  | succ n ih =>
    intro h
    unfold pb2 pb_k0_t2 pb_k0_t2Step at h
    split at h
    case isTrue hk =>
      rcases List.mem_append.1 h with h | h
      · exact ⟨⟨n, hk⟩, h⟩
      · exact ih h
    case isFalse => exact ih h

theorem mem_pb5 (p) : ∀ n, p ∈ (pb2 𝒱₀ c i arg2 harg2 arg3 harg3 arg4 harg4 arg5 harg5 arg6 harg6 arg7 harg7 arg8 harg8 x0 x1 v6 c2 n).2.2.2 → ∃ k, p ∈ (tr2 𝒱₀ c i arg2 harg2 arg3 harg3 arg4 harg4 arg5 harg5 arg6 harg6 arg7 harg7 arg8 harg8 x0 x1 v6 c2 k).2.2.2.1 := by
  intro n
  induction n with
  | zero => intro h; exact absurd h (List.not_mem_nil)
  | succ n ih =>
    intro h
    unfold pb2 pb_k0_t2 pb_k0_t2Step at h
    split at h
    case isTrue hk =>
      rcases List.mem_append.1 h with h | h
      · exact ⟨⟨n, hk⟩, h⟩
      · exact ih h
    case isFalse => exact ih h

theorem trip2 (k : Fin k0_t2_loop.trips) : (tr2 𝒱₀ c i arg2 harg2 arg3 harg3 arg4 harg4 arg5 harg5 arg6 harg6 arg7 harg7 arg8 harg8 x0 x1 v6 c2 k).1 =
    [⟨Rect.unit (k0_off4 k) S1x1x512x128.size (k0_off4_inb k), kcT v6 (rowsOf x0 ⟨k.val, lt_of_lt_of_eq k.isLt trips_2⟩)⟩] := by
  have h2 := read_rows arg2 harg2 x0 ⟨k.val, lt_of_lt_of_eq k.isLt trips_2⟩ _ (k0_off2_eq k) (k0_off2_inb k)
  have h3 := read_rows arg3 harg3 x1 ⟨k.val, lt_of_lt_of_eq k.isLt trips_2⟩ _ (k0_off2_eq k) (k0_off2_inb k)
  rw [← h2]
  unfold tr2 trip_k0_t2
  rfl

theorem trip3 (k : Fin k0_t2_loop.trips) : (tr2 𝒱₀ c i arg2 harg2 arg3 harg3 arg4 harg4 arg5 harg5 arg6 harg6 arg7 harg7 arg8 harg8 x0 x1 v6 c2 k).2.1 =
    [⟨Rect.unit (k0_off3 k) S1x1x8x128.size (k0_off3_inb k), ksT v6 (rowsOf x0 ⟨k.val, lt_of_lt_of_eq k.isLt trips_2⟩)⟩] := by
  have h2 := read_rows arg2 harg2 x0 ⟨k.val, lt_of_lt_of_eq k.isLt trips_2⟩ _ (k0_off2_eq k) (k0_off2_inb k)
  have h3 := read_rows arg3 harg3 x1 ⟨k.val, lt_of_lt_of_eq k.isLt trips_2⟩ _ (k0_off2_eq k) (k0_off2_inb k)
  rw [← h2]
  unfold tr2 trip_k0_t2
  rfl

theorem trip4 (k : Fin k0_t2_loop.trips) : (tr2 𝒱₀ c i arg2 harg2 arg3 harg3 arg4 harg4 arg5 harg5 arg6 harg6 arg7 harg7 arg8 harg8 x0 x1 v6 c2 k).2.2.1 =
    [⟨Rect.unit (k0_off4 k) S1x1x512x128.size (k0_off4_inb k), k0_pay4 (k0_pay21 c2) (k0_pay25 (k0_pay21 c2) (k0_pay22 c2) (k0_pay23 c2) (k0_pay24 c2)) (k0_pay26 (k0_pay21 c2) (k0_pay22 c2) (k0_pay23 c2) (k0_pay24 c2)) (k0_pay27 (k0_pay21 c2) (k0_pay22 c2) (k0_pay23 c2) (k0_pay24 c2)) (rowsOf x1 ⟨k.val, lt_of_lt_of_eq k.isLt trips_2⟩)⟩] := by
  have h2 := read_rows arg2 harg2 x0 ⟨k.val, lt_of_lt_of_eq k.isLt trips_2⟩ _ (k0_off2_eq k) (k0_off2_inb k)
  have h3 := read_rows arg3 harg3 x1 ⟨k.val, lt_of_lt_of_eq k.isLt trips_2⟩ _ (k0_off2_eq k) (k0_off2_inb k)
  rw [← h3]
  unfold tr2 trip_k0_t2
  rfl

theorem trip5 (k : Fin k0_t2_loop.trips) : (tr2 𝒱₀ c i arg2 harg2 arg3 harg3 arg4 harg4 arg5 harg5 arg6 harg6 arg7 harg7 arg8 harg8 x0 x1 v6 c2 k).2.2.2.1 =
    [⟨Rect.unit (k0_off5 k) S1x1x128x512.size (k0_off5_inb k), k0_pay5 (k0_pay21 c2) (k0_pay25 (k0_pay21 c2) (k0_pay22 c2) (k0_pay23 c2) (k0_pay24 c2)) (k0_pay26 (k0_pay21 c2) (k0_pay22 c2) (k0_pay23 c2) (k0_pay24 c2)) (k0_pay27 (k0_pay21 c2) (k0_pay22 c2) (k0_pay23 c2) (k0_pay24 c2)) (rowsOf x1 ⟨k.val, lt_of_lt_of_eq k.isLt trips_2⟩)⟩] := by
  have h2 := read_rows arg2 harg2 x0 ⟨k.val, lt_of_lt_of_eq k.isLt trips_2⟩ _ (k0_off2_eq k) (k0_off2_inb k)
  have h3 := read_rows arg3 harg3 x1 ⟨k.val, lt_of_lt_of_eq k.isLt trips_2⟩ _ (k0_off2_eq k) (k0_off2_inb k)
  rw [← h3]
  unfold tr2 trip_k0_t2
  rfl

/-! ### The heads' values -/

/-- A lane's mean, -/
def kMean (x : Head) (d : Fin 128) : EReal := pre x d 8192 * ((1 / 8192 : ℝ) : EReal)
/-- the keys less the mean, -/
def kf (x : Head) (s : Fin 8192) (d : Fin 128) : EReal := (x (ix3 (n0 := 1) (n1 := 8192) (n2 := 128) 0 s d) : EReal) - kMean x d
/-- their largest size over a block of 64 rows, and the exponent of its scale, -/
def hMax (x : Head) (g : Fin 128) : EReal := ⨆ r : Fin 64, ⨆ d : Fin 128, eabs (kf x ⟨64 * g.val + r.val, by omega⟩ d)
def hE (x : Head) (g : Fin 128) : ℤ := Pow2.e (hMax x g * ((1 / 448 : ℝ) : EReal))
/-- the values' largest size over a lane, and the exponent of its scale. -/
def hVMax (x : Head) (d : Fin 128) : EReal := ⨆ s : Fin 8192, eabs (x (ix3 (n0 := 1) (n1 := 8192) (n2 := 128) 0 s d))
def hVE (x : Head) (d : Fin 128) : ℤ := Pow2.e (hVMax x d * ((1 / 448 : ℝ) : EReal))

theorem eabs_nonneg (a : EReal) : 0 ≤ eabs a := by
  show 0 ≤ max a (-a)
  rcases le_total 0 a with h | h
  · exact le_max_of_le_left h
  · exact le_max_of_le_right (EReal.neg_nonneg.2 h)

theorem st1_mean (d : Fin 128) : (k0_pay20 (st1 𝒱₀ c i arg2 harg2 arg3 harg3 arg4 harg4 arg5 harg5 arg6 harg6 arg7 harg7 arg8 harg8 x0 x1 16).1 (ix2 0 d) : EReal) = kMean x0 d := by
  rw [pay20_ap, sum_st1 𝒱₀ c i arg2 harg2 arg3 harg3 arg4 harg4 arg5 harg5 arg6 harg6 arg7 harg7 arg8 harg8 x0 x1 d 16 le_rfl]
  rfl

theorem st1_vE (d : Fin 128) : vET (st1 𝒱₀ c i arg2 harg2 arg3 harg3 arg4 harg4 arg5 harg5 arg6 harg6 arg7 harg7 arg8 harg8 x0 x1 16).2 d = hVE x1 d := by
  have h : vMaxT (st1 𝒱₀ c i arg2 harg2 arg3 harg3 arg4 harg4 arg5 harg5 arg6 harg6 arg7 harg7 arg8 harg8 x0 x1 16).2 d = hVMax x1 d := by
    refine eq_of_forall_ge_iff fun z => ?_
    unfold vMaxT hVMax
    rw [iSup_le_iff, iSup_le_iff, max_st1 𝒱₀ c i arg2 harg2 arg3 harg3 arg4 harg4 arg5 harg5 arg6 harg6 arg7 harg7 arg8 harg8 x0 x1 d z 16 le_rfl]
    exact ⟨fun h s => h.2 s (by have := s.isLt; omega), fun h => ⟨(eabs_nonneg _).trans (h 0), fun s _ => h s⟩⟩
  unfold vET hVE
  rw [h]

/-- The five output blocks of a head. -/
def G2 (x0 : Head) (y : S1x1x8192x128.Idx) : EReal :=
  clip (kf x0 (y 2) (y 3) * (((2 : ℝ) ^ (-hE x0 ⟨(y 2).val / 64, by have : (y 2).val < 8192 := (y 2).isLt; omega⟩) : ℝ) : EReal))
def G3 (x0 : Head) (y : S1x1x128x128.Idx) : EReal := (((2 : ℝ) ^ hE x0 (y 2) : ℝ) : EReal)
def G4 (x1 : Head) (y : S1x1x8192x128.Idx) : EReal :=
  clip ((x1 (ix3 (n0 := 1) (n1 := 8192) (n2 := 128) 0 (y 2) (y 3)) : EReal) * (((2 : ℝ) ^ (-hVE x1 (y 3)) : ℝ) : EReal))
def G5 (x1 : Head) (y : S1x1x128x8192.Idx) : EReal :=
  clip ((x1 (ix3 (n0 := 1) (n1 := 8192) (n2 := 128) 0 (y 3) (y 2)) : EReal) * (((2 : ℝ) ^ (-hVE x1 (y 2)) : ℝ) : EReal))
def G6 (x1 : Head) (y : S1x1x8x128.Idx) : EReal := (((2 : ℝ) ^ hVE x1 (y 3) : ℝ) : EReal)

section
variable (x : Head) (v6 : Row) (hv6 : ∀ d : Fin 128, (v6 (ix2 0 d) : EReal) = kMean x d) (k : Fin 16)
include hv6
theorem kET_rows (g : Fin 8) : kET v6 (rowsOf x k) g = hE x ⟨8 * k.val + g.val, by omega⟩ := by
  have h : kMaxT v6 (rowsOf x k) g = hMax x ⟨8 * k.val + g.val, by omega⟩ := by
    unfold kMaxT hMax kf
    refine iSup_congr fun r => iSup_congr fun d => ?_
    rw [hv6]
    refine congrArg (fun s => eabs ((x (ix3 (n0 := 1) (n1 := 8192) (n2 := 128) 0 s d) : EReal) - kMean x d)) (Fin.ext ?_)
    show 512 * k.val + (64 * g.val + r.val) = 64 * (8 * k.val + g.val) + r.val
    omega
  unfold kET hE
  rw [h]

theorem piece2 (off : Fin 4 → ℕ) (ho : off = ![0, 0, 512 * k.val, 0]) (inb) (j : S1x1x512x128.Idx) :
    (kcT v6 (rowsOf x k) j : EReal) = G2 x ((Rect.unit (s := S1x1x8192x128) off S1x1x512x128.size inb).emb j) := by
  subst ho
  have j2 : (j 2).val < 512 := (j 2).isLt
  have j3 : (j 3).val < 128 := (j 3).isLt
  have e2 : ((Rect.unit (s := S1x1x8192x128) ![0, 0, 512 * k.val, 0] S1x1x512x128.size inb).emb j) 2 = (⟨512 * k.val + (j 2).val, by omega⟩ : Fin 8192) :=
    Fin.ext (by show 512 * k.val + 1 * (j 2).val = 512 * k.val + (j 2).val; omega)
  have e3 : ((Rect.unit (s := S1x1x8192x128) ![0, 0, 512 * k.val, 0] S1x1x512x128.size inb).emb j) 3 = (j 3 : Fin 128) :=
    Fin.ext (by show 0 + 1 * (j 3).val = (j 3).val; omega)
  rw [kcT_ap, kET_rows x v6 hv6 k]
  unfold G2
  refine congrArg clip (congrArg₂ (· * ·) ((congrArg (fun u : EReal => (rowsOf x k (ix3 (n0 := 1) (n1 := 512) (n2 := 128) 0 (j 2) (j 3)) : EReal) - u) (hv6 (j 3))).trans ?_) (congrArg (fun e : ℤ => (((2 : ℝ) ^ (-e) : ℝ) : EReal)) (congrArg (hE x) (Fin.ext ?_))))
  · unfold kf
    rw [e2, e3]
    rfl
  · show 8 * k.val + (j 2).val / 64 = (512 * k.val + 1 * (j 2).val) / 64
    omega

theorem piece3 (off : Fin 4 → ℕ) (ho : off = ![0, 0, 8 * k.val, 0]) (inb) (j : S1x1x8x128.Idx) :
    (ksT v6 (rowsOf x k) j : EReal) = G3 x ((Rect.unit (s := S1x1x128x128) off S1x1x8x128.size inb).emb j) := by
  subst ho
  have j2 : (j 2).val < 8 := (j 2).isLt
  refine (ksT_ap v6 _ j).trans ?_
  unfold G3
  refine congrArg (fun e : ℤ => (((2 : ℝ) ^ e : ℝ) : EReal)) ((kET_rows x v6 hv6 k (j 2)).trans (congrArg (hE x) (Fin.ext ?_)))
  show 8 * k.val + (j 2).val = 8 * k.val + 1 * (j 2).val
  omega
end

section
variable (x : Head) (c2 : Run8) (hc2 : ∀ d : Fin 128, vET c2 d = hVE x d) (k : Fin 16)
include hc2
theorem piece4 (off : Fin 4 → ℕ) (ho : off = ![0, 0, 512 * k.val, 0]) (inb) (j : S1x1x512x128.Idx) :
    (k0_pay4 (k0_pay21 c2) (k0_pay25 (k0_pay21 c2) (k0_pay22 c2) (k0_pay23 c2) (k0_pay24 c2)) (k0_pay26 (k0_pay21 c2) (k0_pay22 c2) (k0_pay23 c2) (k0_pay24 c2)) (k0_pay27 (k0_pay21 c2) (k0_pay22 c2) (k0_pay23 c2) (k0_pay24 c2)) (rowsOf x k) j : EReal)
      = G4 x ((Rect.unit (s := S1x1x8192x128) off S1x1x512x128.size inb).emb j) := by
  subst ho
  have j2 : (j 2).val < 512 := (j 2).isLt
  have e2 : ((Rect.unit (s := S1x1x8192x128) ![0, 0, 512 * k.val, 0] S1x1x512x128.size inb).emb j) 2 = (⟨512 * k.val + (j 2).val, by omega⟩ : Fin 8192) :=
    Fin.ext (by show 512 * k.val + 1 * (j 2).val = 512 * k.val + (j 2).val; omega)
  have e3 : ((Rect.unit (s := S1x1x8192x128) ![0, 0, 512 * k.val, 0] S1x1x512x128.size inb).emb j) 3 = (j 3 : Fin 128) :=
    Fin.ext (by show 0 + 1 * (j 3).val = (j 3).val; omega)
  unfold k0_pay4 G4
  rw [pay3_eq, e2, e3]
  have h : (shapeCast S1x1x512x128 (truncf .fp8e4m3 (vcT c2 (rowsOf x k)) bitsLt_fp8e4m3_f32) shapeCasts_S512x128_S1x1x512x128 j : EReal) = vcT c2 (rowsOf x k) (ix2 (j 2) (j 3)) := by
    simp only [pointwise]
  exact h.trans ((vcT_ap c2 _ (j 2) (j 3)).trans (congrArg (fun e : ℤ => clip ((rowsOf x k (ix3 (n0 := 1) (n1 := 512) (n2 := 128) 0 (j 2) (j 3)) : EReal) * (((2 : ℝ) ^ (-e) : ℝ) : EReal))) (hc2 (j 3))))

theorem piece5 (off : Fin 4 → ℕ) (ho : off = ![0, 0, 0, 512 * k.val]) (inb) (j : S1x1x128x512.Idx) :
    (k0_pay5 (k0_pay21 c2) (k0_pay25 (k0_pay21 c2) (k0_pay22 c2) (k0_pay23 c2) (k0_pay24 c2)) (k0_pay26 (k0_pay21 c2) (k0_pay22 c2) (k0_pay23 c2) (k0_pay24 c2)) (k0_pay27 (k0_pay21 c2) (k0_pay22 c2) (k0_pay23 c2) (k0_pay24 c2)) (rowsOf x k) j : EReal)
      = G5 x ((Rect.unit (s := S1x1x128x8192) off S1x1x128x512.size inb).emb j) := by
  subst ho
  have j3 : (j 3).val < 512 := (j 3).isLt
  have e3 : ((Rect.unit (s := S1x1x128x8192) ![0, 0, 0, 512 * k.val] S1x1x128x512.size inb).emb j) 3 = (⟨512 * k.val + (j 3).val, by omega⟩ : Fin 8192) :=
    Fin.ext (by show 512 * k.val + 1 * (j 3).val = 512 * k.val + (j 3).val; omega)
  have e2 : ((Rect.unit (s := S1x1x128x8192) ![0, 0, 0, 512 * k.val] S1x1x128x512.size inb).emb j) 2 = (j 2 : Fin 128) :=
    Fin.ext (by show 0 + 1 * (j 2).val = (j 2).val; omega)
  unfold k0_pay5 G5
  rw [pay3_eq, e2, e3]
  have h : (shapeCast S1x1x128x512 (truncf .fp8e4m3 (transpose S128x512 [1, 0] (vcT c2 (rowsOf x k)) transposes_S512x128_p1_0_S128x512) bitsLt_fp8e4m3_f32) shapeCasts_S128x512_S1x1x128x512 j : EReal) = vcT c2 (rowsOf x k) (ix2 (j 3) (j 2)) := by
    simp only [pointwise]
  exact h.trans ((vcT_ap c2 _ (j 3) (j 2)).trans (congrArg (fun e : ℤ => clip ((rowsOf x k (ix3 (n0 := 1) (n1 := 512) (n2 := 128) 0 (j 3) (j 2)) : EReal) * (((2 : ℝ) ^ (-e) : ℝ) : EReal))) (hc2 (j 2))))

theorem piece6 (inb) (j : S1x1x8x128.Idx) : (k0_pay2 (k0_pay21 c2) (k0_pay25 (k0_pay21 c2) (k0_pay22 c2) (k0_pay23 c2) (k0_pay24 c2)) (k0_pay26 (k0_pay21 c2) (k0_pay22 c2) (k0_pay23 c2) (k0_pay24 c2)) (k0_pay27 (k0_pay21 c2) (k0_pay22 c2) (k0_pay23 c2) (k0_pay24 c2)) j : EReal)
      = G6 x ((Rect.unit (s := S1x1x8x128) ![0, 0, 0, 0] ![1, 1, 8, 128] inb).emb j) := by
  refine (pay2_ap c2 j).trans ?_
  unfold G6
  refine congrArg (fun e : ℤ => (((2 : ℝ) ^ e : ℝ) : EReal)) ((hc2 (j 3)).trans (congrArg (hVE x) (Fin.ext ?_)))
  show (j 3).val = 0 + 1 * (j 3).val
  omega
end

end

end Cert.KernelIdeal.KV
-- ==== Proof.KernelIdeal.KOut.lean ====
/- The key and value codes and scales: what the preparing kernel leaves in its five results, entry by entry. -/
module

public import proofs.«01_k».proof.Proof.KernelIdeal.KRun
public import proofs.«01_k».proof.Proof.KernelIdeal.K0
public import Idealize.ShloMosaic.Lib.Pipeline.ValueKit
public import Idealize.ShloMosaic.Lib.WholeRead

@[expose] public section

set_option maxRecDepth 65536

noncomputable section

namespace Cert.KernelIdeal.KV

open Cert.KernelIdeal Cert.KernelIdeal.Gen Cert.KernelIdeal.K0
open Idealize.ShloMosaic Idealize.ShloMosaic.TcCoe Idealize.ShloMosaic.Tactic

section
variable (𝒱₀ : Variants) (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x1x8192x128 .fp8e4m3) (harg4 : arg4.IsWhole) (arg5 : Memref sig .tc .vmem S1x1x128x128 .f32) (harg5 : arg5.IsWhole) (arg6 : Memref sig .tc .vmem S1x1x8192x128 .fp8e4m3) (harg6 : arg6.IsWhole) (arg7 : Memref sig .tc .vmem S1x1x128x8192 .fp8e4m3) (harg7 : arg7.IsWhole) (arg8 : Memref sig .tc .vmem S1x1x8x128 .f32) (harg8 : arg8.IsWhole) (x0 x1 : Head)

/-- What a head's scan over the rows leaves. -/
abbrev row0 : Row := (k0_pay20 (st1 𝒱₀ c i arg2 harg2 arg3 harg3 arg4 harg4 arg5 harg5 arg6 harg6 arg7 harg7 arg8 harg8 x0 x1 16).1)
abbrev run0 : Run8 := (st1 𝒱₀ c i arg2 harg2 arg3 harg3 arg4 harg4 arg5 harg5 arg6 harg6 arg7 harg7 arg8 harg8 x0 x1 16).2

theorem run_2 : (kernelRun0_A 𝒱₀ c i arg2 harg2 arg3 harg3 arg4 harg4 arg5 harg5 arg6 harg6 arg7 harg7 arg8 harg8 x0 x1).1 = (pb2 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) 16).1 := by
  unfold kernelRun0_A
  rfl

theorem run_3 : (kernelRun0_A 𝒱₀ c i arg2 harg2 arg3 harg3 arg4 harg4 arg5 harg5 arg6 harg6 arg7 harg7 arg8 harg8 x0 x1).2.1 = (pb2 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) 16).2.1 := by
  unfold kernelRun0_A
  rfl

theorem run_4 : (kernelRun0_A 𝒱₀ c i arg2 harg2 arg3 harg3 arg4 harg4 arg5 harg5 arg6 harg6 arg7 harg7 arg8 harg8 x0 x1).2.2.1 = (pb2 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) 16).2.2.1 := by
  unfold kernelRun0_A
  rfl

theorem run_5 : (kernelRun0_A 𝒱₀ c i arg2 harg2 arg3 harg3 arg4 harg4 arg5 harg5 arg6 harg6 arg7 harg7 arg8 harg8 x0 x1).2.2.2.1 = (pb2 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) 16).2.2.2 := by
  unfold kernelRun0_A
  rfl

theorem run_6 : ∃ inb, (kernelRun0_A 𝒱₀ c i arg2 harg2 arg3 harg3 arg4 harg4 arg5 harg5 arg6 harg6 arg7 harg7 arg8 harg8 x0 x1).2.2.2.2.1 = [⟨Rect.unit (s := S1x1x8x128) ![0, 0, 0, 0] ![1, 1, 8, 128] inb, k0_pay2 (k0_pay21 (run0 𝒱₀ c i arg2 harg2 arg3 harg3 arg4 harg4 arg5 harg5 arg6 harg6 arg7 harg7 arg8 harg8 x0 x1)) (k0_pay25 (k0_pay21 (run0 𝒱₀ c i arg2 harg2 arg3 harg3 arg4 harg4 arg5 harg5 arg6 harg6 arg7 harg7 arg8 harg8 x0 x1)) (k0_pay22 (run0 𝒱₀ c i arg2 harg2 arg3 harg3 arg4 harg4 arg5 harg5 arg6 harg6 arg7 harg7 arg8 harg8 x0 x1)) (k0_pay23 (run0 𝒱₀ c i arg2 harg2 arg3 harg3 arg4 harg4 arg5 harg5 arg6 harg6 arg7 harg7 arg8 harg8 x0 x1)) (k0_pay24 (run0 𝒱₀ c i arg2 harg2 arg3 harg3 arg4 harg4 arg5 harg5 arg6 harg6 arg7 harg7 arg8 harg8 x0 x1))) (k0_pay26 (k0_pay21 (run0 𝒱₀ c i arg2 harg2 arg3 harg3 arg4 harg4 arg5 harg5 arg6 harg6 arg7 harg7 arg8 harg8 x0 x1)) (k0_pay22 (run0 𝒱₀ c i arg2 harg2 arg3 harg3 arg4 harg4 arg5 harg5 arg6 harg6 arg7 harg7 arg8 harg8 x0 x1)) (k0_pay23 (run0 𝒱₀ c i arg2 harg2 arg3 harg3 arg4 harg4 arg5 harg5 arg6 harg6 arg7 harg7 arg8 harg8 x0 x1)) (k0_pay24 (run0 𝒱₀ c i arg2 harg2 arg3 harg3 arg4 harg4 arg5 harg5 arg6 harg6 arg7 harg7 arg8 harg8 x0 x1))) (k0_pay27 (k0_pay21 (run0 𝒱₀ c i arg2 harg2 arg3 harg3 arg4 harg4 arg5 harg5 arg6 harg6 arg7 harg7 arg8 harg8 x0 x1)) (k0_pay22 (run0 𝒱₀ c i arg2 harg2 arg3 harg3 arg4 harg4 arg5 harg5 arg6 harg6 arg7 harg7 arg8 harg8 x0 x1)) (k0_pay23 (run0 𝒱₀ c i arg2 harg2 arg3 harg3 arg4 harg4 arg5 harg5 arg6 harg6 arg7 harg7 arg8 harg8 x0 x1)) (k0_pay24 (run0 𝒱₀ c i arg2 harg2 arg3 harg3 arg4 harg4 arg5 harg5 arg6 harg6 arg7 harg7 arg8 harg8 x0 x1)))⟩] := by
  refine ⟨?_, ?_⟩
  rotate_left
  · unfold kernelRun0_A
    rfl

theorem read_2 (V : View sig .tc .vmem S1x1x8192x128 .fp8e4m3) (d : _) (y : S1x1x8192x128.Idx) (hy : ∃ pc ∈ (kernelRun0_A 𝒱₀ c i arg2 harg2 arg3 harg3 arg4 harg4 arg5 harg5 arg6 harg6 arg7 harg7 arg8 harg8 x0 x1).1, y ∈ pc.1.set) :
    V.read (Elt Ideal) (V.writes (Elt Ideal) d (kernelRun0_A 𝒱₀ c i arg2 harg2 arg3 harg3 arg4 harg4 arg5 harg5 arg6 harg6 arg7 harg7 arg8 harg8 x0 x1).1) y = G2 x0 y := by
  refine View.read_writes_apply_of_pieces _ _ (G2 x0) _ ?_ y hy
  intro p hp j
  rw [run_2] at hp
  obtain ⟨k, hk⟩ := mem_pb2 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) p 16 hp
  rw [trip2] at hk
  obtain rfl := List.mem_singleton.1 hk
  exact piece2 x0 _ (st1_mean 𝒱₀ c i arg2 harg2 arg3 harg3 arg4 harg4 arg5 harg5 arg6 harg6 arg7 harg7 arg8 harg8 x0 x1) ⟨k.val, lt_of_lt_of_eq k.isLt trips_2⟩ _ (k0_off4_eq k) (k0_off4_inb k) j

theorem read_3 (V : View sig .tc .vmem S1x1x128x128 .f32) (d : _) (y : S1x1x128x128.Idx) (hy : ∃ pc ∈ (kernelRun0_A 𝒱₀ c i arg2 harg2 arg3 harg3 arg4 harg4 arg5 harg5 arg6 harg6 arg7 harg7 arg8 harg8 x0 x1).2.1, y ∈ pc.1.set) :
    V.read (Elt Ideal) (V.writes (Elt Ideal) d (kernelRun0_A 𝒱₀ c i arg2 harg2 arg3 harg3 arg4 harg4 arg5 harg5 arg6 harg6 arg7 harg7 arg8 harg8 x0 x1).2.1) y = G3 x0 y := by
  refine View.read_writes_apply_of_pieces _ _ (G3 x0) _ ?_ y hy
  intro p hp j
  rw [run_3] at hp
  obtain ⟨k, hk⟩ := mem_pb3 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) p 16 hp
  rw [trip3] at hk
  obtain rfl := List.mem_singleton.1 hk
  exact piece3 x0 _ (st1_mean 𝒱₀ c i arg2 harg2 arg3 harg3 arg4 harg4 arg5 harg5 arg6 harg6 arg7 harg7 arg8 harg8 x0 x1) ⟨k.val, lt_of_lt_of_eq k.isLt trips_2⟩ _ (k0_off3_eq k) (k0_off3_inb k) j

theorem read_4 (V : View sig .tc .vmem S1x1x8192x128 .fp8e4m3) (d : _) (y : S1x1x8192x128.Idx) (hy : ∃ pc ∈ (kernelRun0_A 𝒱₀ c i arg2 harg2 arg3 harg3 arg4 harg4 arg5 harg5 arg6 harg6 arg7 harg7 arg8 harg8 x0 x1).2.2.1, y ∈ pc.1.set) :
    V.read (Elt Ideal) (V.writes (Elt Ideal) d (kernelRun0_A 𝒱₀ c i arg2 harg2 arg3 harg3 arg4 harg4 arg5 harg5 arg6 harg6 arg7 harg7 arg8 harg8 x0 x1).2.2.1) y = G4 x1 y := by
  refine View.read_writes_apply_of_pieces _ _ (G4 x1) _ ?_ y hy
  intro p hp j
  rw [run_4] at hp
  obtain ⟨k, hk⟩ := mem_pb4 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) p 16 hp
  rw [trip4] at hk
  obtain rfl := List.mem_singleton.1 hk
  exact piece4 x1 _ (st1_vE 𝒱₀ c i arg2 harg2 arg3 harg3 arg4 harg4 arg5 harg5 arg6 harg6 arg7 harg7 arg8 harg8 x0 x1) ⟨k.val, lt_of_lt_of_eq k.isLt trips_2⟩ _ (k0_off4_eq k) (k0_off4_inb k) j

theorem read_5 (V : View sig .tc .vmem S1x1x128x8192 .fp8e4m3) (d : _) (y : S1x1x128x8192.Idx) (hy : ∃ pc ∈ (kernelRun0_A 𝒱₀ c i arg2 harg2 arg3 harg3 arg4 harg4 arg5 harg5 arg6 harg6 arg7 harg7 arg8 harg8 x0 x1).2.2.2.1, y ∈ pc.1.set) :
    V.read (Elt Ideal) (V.writes (Elt Ideal) d (kernelRun0_A 𝒱₀ c i arg2 harg2 arg3 harg3 arg4 harg4 arg5 harg5 arg6 harg6 arg7 harg7 arg8 harg8 x0 x1).2.2.2.1) y = G5 x1 y := by
  refine View.read_writes_apply_of_pieces _ _ (G5 x1) _ ?_ y hy
  intro p hp j
  rw [run_5] at hp
  obtain ⟨k, hk⟩ := mem_pb5 𝒱₀ c i arg2 harg2 arg3 harg3 arg4 harg4 arg5 harg5 arg6 harg6 arg7 harg7 arg8 harg8 x0 x1 (row0 𝒱₀ c i arg2 harg2 arg3 harg3 arg4 harg4 arg5 harg5 arg6 harg6 arg7 harg7 arg8 harg8 x0 x1) (run0 𝒱₀ c i arg2 harg2 arg3 harg3 arg4 harg4 arg5 harg5 arg6 harg6 arg7 harg7 arg8 harg8 x0 x1) p 16 hp
  rw [trip5] at hk
  obtain rfl := List.mem_singleton.1 hk
  exact piece5 x1 _ (st1_vE 𝒱₀ c i arg2 harg2 arg3 harg3 arg4 harg4 arg5 harg5 arg6 harg6 arg7 harg7 arg8 harg8 x0 x1) ⟨k.val, lt_of_lt_of_eq k.isLt trips_2⟩ _ (k0_off5_eq k) (k0_off5_inb k) j

theorem read_6 (V : View sig .tc .vmem S1x1x8x128 .f32) (d : _) (y : S1x1x8x128.Idx) (hy : ∃ pc ∈ (kernelRun0_A 𝒱₀ c i arg2 harg2 arg3 harg3 arg4 harg4 arg5 harg5 arg6 harg6 arg7 harg7 arg8 harg8 x0 x1).2.2.2.2.1, y ∈ pc.1.set) :
    V.read (Elt Ideal) (V.writes (Elt Ideal) d (kernelRun0_A 𝒱₀ c i arg2 harg2 arg3 harg3 arg4 harg4 arg5 harg5 arg6 harg6 arg7 harg7 arg8 harg8 x0 x1).2.2.2.2.1) y = G6 x1 y := by
  refine View.read_writes_apply_of_pieces _ _ (G6 x1) _ ?_ y hy
  intro p hp j
  obtain ⟨inb, hr⟩ := run_6 𝒱₀ c i arg2 harg2 arg3 harg3 arg4 harg4 arg5 harg5 arg6 harg6 arg7 harg7 arg8 harg8 x0 x1
  rw [hr] at hp
  obtain rfl := List.mem_singleton.1 hp
  exact piece6 x1 _ (st1_vE 𝒱₀ c i arg2 harg2 arg3 harg3 arg4 harg4 arg5 harg5 arg6 harg6 arg7 harg7 arg8 harg8 x0 x1) inb j
end

variable (𝒱₀ : Variants) (V : (c : Dev nD) → (b : Ref sig .tc) → Buf (Elt Ideal) ((c : Thread nD τ).loc b)) (D : Dev nD → CellTallies nD τ sig Unit)

/-- A head of an array of keys or values, -/
def headOf (X : Vec Ideal S2x8192x2048 .bf16) (b : Fin 2) (h : Fin 16) : Head := fun i =>
  X (ix3 (n0 := 2) (n1 := 8192) (n2 := 2048) b ⟨(i 1).val, (i 1).isLt⟩ ⟨128 * h.val + (i 2).val, by have : (i 2).val < 128 := (i 2).isLt; omega⟩)
/-- and the five results. -/
def kCode (X : Vec Ideal S2x8192x2048 .bf16) (j : S2x16x8192x128.Idx) : EReal := G2 (headOf X (j 0) (j 1)) (ix4 (n0 := 1) (n1 := 1) (n2 := 8192) (n3 := 128) 0 0 (j 2) (j 3))
def kScale (X : Vec Ideal S2x8192x2048 .bf16) (j : S2x16x128x128.Idx) : EReal := G3 (headOf X (j 0) (j 1)) (ix4 (n0 := 1) (n1 := 1) (n2 := 128) (n3 := 128) 0 0 (j 2) (j 3))
def vCode (X : Vec Ideal S2x8192x2048 .bf16) (j : S2x16x8192x128.Idx) : EReal := G4 (headOf X (j 0) (j 1)) (ix4 (n0 := 1) (n1 := 1) (n2 := 8192) (n3 := 128) 0 0 (j 2) (j 3))
def vCodeT (X : Vec Ideal S2x8192x2048 .bf16) (j : S2x16x128x8192.Idx) : EReal := G5 (headOf X (j 0) (j 1)) (ix4 (n0 := 1) (n1 := 1) (n2 := 128) (n3 := 8192) 0 0 (j 2) (j 3))
def vScale (X : Vec Ideal S2x8192x2048 .bf16) (j : S2x16x8x128.Idx) : EReal := G6 (headOf X (j 0) (j 1)) (ix4 (n0 := 1) (n1 := 1) (n2 := 8) (n3 := 128) 0 0 (j 2) (j 3))

theorem idx0 : ∀ t : Fin cfg0.N, win0_0.index t = ![t.val / 16, 0, t.val % 16] ∧ win0_1.index t = ![t.val / 16, 0, t.val % 16] ∧ win0_2.index t = ![t.val / 16, t.val % 16, 0, 0] ∧ win0_3.index t = ![t.val / 16, t.val % 16, 0, 0] ∧ win0_4.index t = ![t.val / 16, t.val % 16, 0, 0] ∧ win0_5.index t = ![t.val / 16, t.val % 16, 0, 0] ∧ win0_6.index t = ![t.val / 16, t.val % 16, 0, 0] :=
  (by decide +kernel : ∀ t : Fin grid0.N, _)

theorem outs_2 (c : Dev nD) (t : Fin cfg0.N) : (outsAt0 𝒱₀ V c t).1 = G2 (iblk V c 0 t) := by
  have h := fun y => read_2 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) VO0_2 VO0_2.junk y (cover0_A_2 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) y)
  unfold outsAt0
  dsimp only
  unfold out0_A_2
  exact funext h

theorem final_2 (c : Dev nD) : (K0.dat 𝒱₀ V D c).arrAt 2 cfg0.N = kCode (V c main_arg1) := by
  refine (K0.dat 𝒱₀ V D c).arrAt_eq_of_covers 2 (kCode (V c main_arg1)) (by decide +kernel) fun t hf y => ?_
  blk_simp
  rw [after0_2]
  rw [outs_2]
  unfold kCode
  obtain ⟨i0, i1, i2, i3, i4, i5, i6⟩ := idx0 t
  have ht : t.val < 32 := lt_of_lt_of_eq t.isLt (by decide)
  have y0 : (y 0).val < 1 := (y 0).isLt
  have y1 : (y 1).val < 1 := (y 1).isLt
  have y2 : (y 2).val < 8192 := (y 2).isLt
  have y3 : (y 3).val < 128 := (y 3).isLt
  refine congrArg₂ G2 (funext fun i => ?_) ?_
  · have z0 : (i 0).val < 1 := (i 0).isLt
    have z1 : (i 1).val < 8192 := (i 1).isLt
    have z2 : (i 2).val < 128 := (i 2).isLt
    unfold headOf
    blk_ext [iblk, i0, i2]
  · blk_ext [i2]

theorem outs_3 (c : Dev nD) (t : Fin cfg0.N) : (outsAt0 𝒱₀ V c t).2.1 = G3 (iblk V c 0 t) := by
  have h := fun y => read_3 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) VO0_3 VO0_3.junk y (cover0_A_3 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) y)
  unfold outsAt0
  dsimp only
  unfold out0_A_3
  exact funext h

theorem final_3 (c : Dev nD) : (K0.dat 𝒱₀ V D c).arrAt 3 cfg0.N = kScale (V c main_arg1) := by
  refine (K0.dat 𝒱₀ V D c).arrAt_eq_of_covers 3 (kScale (V c main_arg1)) (by decide +kernel) fun t hf y => ?_
  blk_simp
  rw [after0_3]
  rw [outs_3]
  unfold kScale
  obtain ⟨i0, i1, i2, i3, i4, i5, i6⟩ := idx0 t
  have ht : t.val < 32 := lt_of_lt_of_eq t.isLt (by decide)
  have y0 : (y 0).val < 1 := (y 0).isLt
  have y1 : (y 1).val < 1 := (y 1).isLt
  have y2 : (y 2).val < 128 := (y 2).isLt
  have y3 : (y 3).val < 128 := (y 3).isLt
  refine congrArg₂ G3 (funext fun i => ?_) ?_
  · have z0 : (i 0).val < 1 := (i 0).isLt
    have z1 : (i 1).val < 8192 := (i 1).isLt
    have z2 : (i 2).val < 128 := (i 2).isLt
    unfold headOf
    blk_ext [iblk, i0, i3]
  · blk_ext [i3]

theorem outs_4 (c : Dev nD) (t : Fin cfg0.N) : (outsAt0 𝒱₀ V c t).2.2.1 = G4 (iblk V c 1 t) := by
  have h := fun y => read_4 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) VO0_4 VO0_4.junk y (cover0_A_4 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) y)
  unfold outsAt0
  dsimp only
  unfold out0_A_4
  exact funext h

theorem final_4 (c : Dev nD) : (K0.dat 𝒱₀ V D c).arrAt 4 cfg0.N = vCode (V c main_arg2) := by
  refine (K0.dat 𝒱₀ V D c).arrAt_eq_of_covers 4 (vCode (V c main_arg2)) (by decide +kernel) fun t hf y => ?_
  blk_simp
  rw [after0_4]
  rw [outs_4]
  unfold vCode
  obtain ⟨i0, i1, i2, i3, i4, i5, i6⟩ := idx0 t
  have ht : t.val < 32 := lt_of_lt_of_eq t.isLt (by decide)
  have y0 : (y 0).val < 1 := (y 0).isLt
  have y1 : (y 1).val < 1 := (y 1).isLt
  have y2 : (y 2).val < 8192 := (y 2).isLt
  have y3 : (y 3).val < 128 := (y 3).isLt
  refine congrArg₂ G4 (funext fun i => ?_) ?_
  · have z0 : (i 0).val < 1 := (i 0).isLt
    have z1 : (i 1).val < 8192 := (i 1).isLt
    have z2 : (i 2).val < 128 := (i 2).isLt
    unfold headOf
    blk_ext [iblk, i1, i4]
  · blk_ext [i4]

theorem outs_5 (c : Dev nD) (t : Fin cfg0.N) : (outsAt0 𝒱₀ V c t).2.2.2.1 = G5 (iblk V c 1 t) := by
  have h := fun y => read_5 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) VO0_5 VO0_5.junk y (cover0_A_5 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) y)
  unfold outsAt0
  dsimp only
  unfold out0_A_5
  exact funext h

theorem final_5 (c : Dev nD) : (K0.dat 𝒱₀ V D c).arrAt 5 cfg0.N = vCodeT (V c main_arg2) := by
  refine (K0.dat 𝒱₀ V D c).arrAt_eq_of_covers 5 (vCodeT (V c main_arg2)) (by decide +kernel) fun t hf y => ?_
  blk_simp
  rw [after0_5]
  rw [outs_5]
  unfold vCodeT
  obtain ⟨i0, i1, i2, i3, i4, i5, i6⟩ := idx0 t
  have ht : t.val < 32 := lt_of_lt_of_eq t.isLt (by decide)
  have y0 : (y 0).val < 1 := (y 0).isLt
  have y1 : (y 1).val < 1 := (y 1).isLt
  have y2 : (y 2).val < 128 := (y 2).isLt
  have y3 : (y 3).val < 8192 := (y 3).isLt
  refine congrArg₂ G5 (funext fun i => ?_) ?_
  · have z0 : (i 0).val < 1 := (i 0).isLt
    have z1 : (i 1).val < 8192 := (i 1).isLt
    have z2 : (i 2).val < 128 := (i 2).isLt
    unfold headOf
    blk_ext [iblk, i1, i5]
  · blk_ext [i5]

theorem outs_6 (c : Dev nD) (t : Fin cfg0.N) : (outsAt0 𝒱₀ V c t).2.2.2.2 = G6 (iblk V c 1 t) := by
  have h := fun y => read_6 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) VO0_6 VO0_6.junk y (cover0_A_6 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) y)
  unfold outsAt0
  dsimp only
  unfold out0_A_6
  exact funext h

theorem final_6 (c : Dev nD) : (K0.dat 𝒱₀ V D c).arrAt 6 cfg0.N = vScale (V c main_arg2) := by
  refine (K0.dat 𝒱₀ V D c).arrAt_eq_of_covers 6 (vScale (V c main_arg2)) (by decide +kernel) fun t hf y => ?_
  blk_simp
  rw [after0_6]
  rw [outs_6]
  unfold vScale
  obtain ⟨i0, i1, i2, i3, i4, i5, i6⟩ := idx0 t
  have ht : t.val < 32 := lt_of_lt_of_eq t.isLt (by decide)
  have y0 : (y 0).val < 1 := (y 0).isLt
  have y1 : (y 1).val < 1 := (y 1).isLt
  have y2 : (y 2).val < 8 := (y 2).isLt
  have y3 : (y 3).val < 128 := (y 3).isLt
  refine congrArg₂ G6 (funext fun i => ?_) ?_
  · have z0 : (i 0).val < 1 := (i 0).isLt
    have z1 : (i 1).val < 8192 := (i 1).isLt
    have z2 : (i 2).val < 128 := (i 2).isLt
    unfold headOf
    blk_ext [iblk, i1, i6]
  · blk_ext [i6]

end Cert.KernelIdeal.KV
-- ==== Proof.KernelIdeal.Model.lean ====
/- The six quantised results as functions of the arguments, entry by entry: the queries', keys' and values' codes and scales. -/
module

public import proofs.«01_k».proof.Proof.KernelIdeal.QOut
public import proofs.«01_k».proof.Proof.KernelIdeal.KOut

@[expose] public section

noncomputable section

namespace Cert.KernelIdeal.Model

open Idealize.ShloMosaic Cert.KernelIdeal
open Cert.KernelIdeal.Q (qE clip eabs)
open Cert.KernelIdeal.KV (headOf kf hE hVE)

/-- The codes of the queries, by row, head and lane, -/
def m0 (X : Vec Ideal S2x8192x8192 .bf16) (b : Fin 2) (s : Fin 8192) (h : Fin 64) (d : Fin 128) : EReal :=
  clip ((X (ix3 (n0 := 2) (n1 := 8192) (n2 := 8192) b s ⟨128 * h.val + d.val, by omega⟩) : EReal) * (((2 : ℝ) ^ (-qE X b ⟨s.val / 128, by omega⟩ h) : ℝ) : EReal))
/-- and their scales, by block of 128 rows and head; -/
def m1 (X : Vec Ideal S2x8192x8192 .bf16) (b : Fin 2) (T : Fin 64) (h : Fin 64) : EReal := (((2 : ℝ) ^ qE X b T h : ℝ) : EReal)
/-- the codes of the centred keys, -/
def m2 (X : Vec Ideal S2x8192x2048 .bf16) (b : Fin 2) (s : Fin 8192) (h : Fin 16) (d : Fin 128) : EReal :=
  clip (kf (headOf X b h) s d * (((2 : ℝ) ^ (-hE (headOf X b h) ⟨s.val / 64, by omega⟩) : ℝ) : EReal))
/-- and their scales, by block of 64 rows; -/
def m3 (X : Vec Ideal S2x8192x2048 .bf16) (b : Fin 2) (g : Fin 128) (h : Fin 16) : EReal := (((2 : ℝ) ^ hE (headOf X b h) g : ℝ) : EReal)
/-- the codes of the values, -/
def m4 (X : Vec Ideal S2x8192x2048 .bf16) (b : Fin 2) (s : Fin 8192) (h : Fin 16) (d : Fin 128) : EReal :=
  clip ((headOf X b h (ix3 (n0 := 1) (n1 := 8192) (n2 := 128) 0 s d) : EReal) * (((2 : ℝ) ^ (-hVE (headOf X b h) d) : ℝ) : EReal))
/-- and their scales, by lane. -/
def m5 (X : Vec Ideal S2x8192x2048 .bf16) (b : Fin 2) (h : Fin 16) (d : Fin 128) : EReal := (((2 : ℝ) ^ hVE (headOf X b h) d : ℝ) : EReal)

end Cert.KernelIdeal.Model
-- ==== Proof.KernelIdeal.A1.lean ====
/- The two passes' steps, tile by tile. -/
module

public import proofs.«01_k».proof.Proof.KernelIdeal.K1Ind
import all proofs.«01_k».proof.Proof.Gen.KernelIdeal.Loops

@[expose] public section

set_option maxRecDepth 65536

noncomputable section

namespace Cert.KernelIdeal.K1

open Cert.KernelIdeal Cert.KernelIdeal.Gen
open Idealize.ShloMosaic Idealize.ShloMosaic.TcCoe Idealize.ShloMosaic.Tactic

variable {F : FTy → Type} [FloatOps F] [Named F]

/-- The scales of the four blocks of keys in a chunk. -/
def K4 (a b c d : Vec F S1x1x1x128 .f32) : FVec F S4x128 .f32 := k1_pay7 (k1_pay4 a) (k1_pay5 b) (k1_pay6 c) d

/-- The largest scaled raw scores of one tile, eight rows of them. -/
def tileA (V : FVec F S256x128 .f32) (K : FVec F S4x128 .f32) : FVec F S8x128 .f32 :=
  multiReduction .maximumf [0] S8x128
    (mulf (multiReduction .maximumf [1] S4x8x128 (shapeCast S4x8x8x128 V shapeCasts_S256x128_S4x8x8x128) 0xFF800000#32 reduces_S4x8x8x128_S4x8x128 (.inl rfl) rfl)
      (broadcastTo S4x8x128 (shapeCast S4x1x128 K shapeCasts_S4x128_S4x1x128) broadcasts_S4x1x128_S4x8x128))
    0xFF800000#32 reduces_S4x8x128_S8x128 (.inl rfl) rfl
/-- One step of the running maximum. -/
def stepA (acc : FVec F S8x128 .f32) (V : FVec F S256x128 .f32) (K : FVec F S4x128 .f32) : FVec F S8x128 .f32 := maximumf acc (tileA V K)

/-- The weights of one tile, -/
def tileP (m : FVec F S1x128 .f32) (C : FVec F S4x128 .f32) (V : FVec F S256x128 .f32) : FVec F S256x128 .f32 :=
  exp2 (subf (shapeCast S256x128 (mulf (shapeCast S4x64x128 V shapeCasts_S256x128_S4x64x128)
    (broadcastTo S4x64x128 (shapeCast S4x1x128 C shapeCasts_S4x128_S4x1x128) broadcasts_S4x1x128_S4x64x128)) shapeCasts_S4x64x128_S256x128)
    (broadcastTo S256x128 m broadcasts_S1x128_S256x128))
/-- their sums, eight rows of them, -/
def stepS (acc : FVec F S8x128 .f32) (P : FVec F S256x128 .f32) : FVec F S8x128 .f32 :=
  addf acc (multiReduction .add [0] S8x128 (shapeCast S32x8x128 P shapeCasts_S256x128_S32x8x128) 0x00000000#32 reduces_S32x8x128_S8x128 (.inl rfl) rfl)
/-- and their codes. -/
def tileC (P : FVec F S256x128 .f32) : FVec F S256x128 .fp8e4m3 :=
  shapeCast S256x128 (truncf .fp8e4m3 (minimumf (broadcast S256x128 (Scalar.ofBits .f32 0x43E00000#32)) (maximumf (broadcast S256x128 (Scalar.ofBits .f32 0xC3E00000#32)) P)) bitsLt_fp8e4m3_f32) shapeCasts_S256x128_S256x128

def stepA8 (acc : FVec F S8x128 .f32 × FVec F S8x128 .f32 × FVec F S8x128 .f32 × FVec F S8x128 .f32 × FVec F S8x128 .f32 × FVec F S8x128 .f32 × FVec F S8x128 .f32 × FVec F S8x128 .f32) (raw : FVec F S256x1024 .f32) (K : FVec F S4x128 .f32) : FVec F S8x128 .f32 × FVec F S8x128 .f32 × FVec F S8x128 .f32 × FVec F S8x128 .f32 × FVec F S8x128 .f32 × FVec F S8x128 .f32 × FVec F S8x128 .f32 × FVec F S8x128 .f32 :=
  (stepA acc.1 (extractStridedSlice S256x128 ![0, 0] raw slices_S256x1024_o0_0_S256x128) K,
    stepA acc.2.1 (extractStridedSlice S256x128 ![0, 128] raw slices_S256x1024_o0_128_S256x128) K,
    stepA acc.2.2.1 (extractStridedSlice S256x128 ![0, 256] raw slices_S256x1024_o0_256_S256x128) K,
    stepA acc.2.2.2.1 (extractStridedSlice S256x128 ![0, 384] raw slices_S256x1024_o0_384_S256x128) K,
    stepA acc.2.2.2.2.1 (extractStridedSlice S256x128 ![0, 512] raw slices_S256x1024_o0_512_S256x128) K,
    stepA acc.2.2.2.2.2.1 (extractStridedSlice S256x128 ![0, 640] raw slices_S256x1024_o0_640_S256x128) K,
    stepA acc.2.2.2.2.2.2.1 (extractStridedSlice S256x128 ![0, 768] raw slices_S256x1024_o0_768_S256x128) K,
    stepA acc.2.2.2.2.2.2.2 (extractStridedSlice S256x128 ![0, 896] raw slices_S256x1024_o0_896_S256x128) K)

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

/-- The raw scores of a chunk. -/
def rawP (X_arg3 : BufTy.Contents (Elt F) arg3.view.ty) (X_arg12 : BufTy.Contents (Elt F) arg12.view.ty) (k : Fin (k1_t1_loop i).trips) : FVec F S256x1024 .f32 :=
  k1_pay2 (arg3.view.readAt (Elt F) (Rect.unit (s := S1x1x8192x128) (k1_off1 i k) S1x1x256x128.size (k1_off1_inb i k)).toLoadRect X_arg3)
    (arg12.view.readAt (Elt F) (Rect.unit (s := S1024x128) ![0, 0] S1024x128.size (by decide)).toLoadRect X_arg12)

theorem rawChunk_ap (X_arg3 : BufTy.Contents (Elt F) arg3.view.ty) (X_arg12 : BufTy.Contents (Elt F) arg12.view.ty) (k : Fin (k1_t1_loop i).trips) (j : S256x1024.Idx) :
    rawChunk i arg3 arg12 X_arg3 X_arg12 k j = rawP i arg3 arg12 X_arg3 X_arg12 k j := by
  unfold rawChunk rawP k1_pay3
  exact congrArg _ (Shape.reshapeEquiv_self _ j)

/-- The scales that one chunk reads. -/
def ksAt (X_arg4 : BufTy.Contents (Elt F) arg4.view.ty) (k : Fin (k1_t1_loop i).trips) : FVec F S4x128 .f32 :=
  K4 (arg4.view.readAt (Elt F) (Rect.unit (s := S1x1x128x128) (k1_off3 i k 0#32) S1x1x1x128.size (k1_off3_inb i k 0)).toLoadRect X_arg4)
    (arg4.view.readAt (Elt F) (Rect.unit (s := S1x1x128x128) (k1_off3 i k 1#32) S1x1x1x128.size (k1_off3_inb i k 1)).toLoadRect X_arg4)
    (arg4.view.readAt (Elt F) (Rect.unit (s := S1x1x128x128) (k1_off3 i k 2#32) S1x1x1x128.size (k1_off3_inb i k 2)).toLoadRect X_arg4)
    (arg4.view.readAt (Elt F) (Rect.unit (s := S1x1x128x128) (k1_off3 i k 3#32) S1x1x1x128.size (k1_off3_inb i k 3)).toLoadRect X_arg4)

theorem tripR1 (arg1 : BitVec 32) (v1032 v1033 v1034 v1035 v1036 : FVec F S8x128 .f32) (X_arg3 : BufTy.Contents (Elt F) arg3.view.ty) (X_arg4 : BufTy.Contents (Elt F) arg4.view.ty) (X_arg12 : BufTy.Contents (Elt F) arg12.view.ty) (k : Fin (k1_t1_loop i).trips) (acc : FVec F S8x128 .f32 × FVec F S8x128 .f32 × FVec F S8x128 .f32 × FVec F S8x128 .f32 × FVec F S8x128 .f32 × FVec F S8x128 .f32 × FVec F S8x128 .f32 × FVec F S8x128 .f32) :
    tripR_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1032 v1033 v1034 v1035 v1036 X_arg3 X_arg4 X_arg12 k acc
      = stepA8 acc (rawP i arg3 arg12 X_arg3 X_arg12 k) (ksAt i arg4 X_arg4 k) := by
  unfold tripR_k1_t1 trip_k1_t1
  with_unfolding_all rfl

/-- The factors that one chunk reads. -/
def cAt (X_arg11 : BufTy.Contents (Elt F) arg11.view.ty) (k : Fin (k1_t3_loop i).trips) : FVec F S4x1024 .f32 :=
  k1_pay26 (arg11.view.readAt (Elt F) (Rect.unit (s := S128x1024) (k1_off10 i k 0#32) S1x1024.size (k1_off10_inb i k 0)).toLoadRect X_arg11)
    (arg11.view.readAt (Elt F) (Rect.unit (s := S128x1024) (k1_off10 i k 1#32) S1x1024.size (k1_off10_inb i k 1)).toLoadRect X_arg11)
    (arg11.view.readAt (Elt F) (Rect.unit (s := S128x1024) (k1_off10 i k 2#32) S1x1024.size (k1_off10_inb i k 2)).toLoadRect X_arg11)
    (arg11.view.readAt (Elt F) (Rect.unit (s := S128x1024) (k1_off10 i k 3#32) S1x1024.size (k1_off10_inb i k 3)).toLoadRect X_arg11)

def pieces13 (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (X_arg10 : BufTy.Contents (Elt F) arg10.view.ty) (X_arg11 : BufTy.Contents (Elt F) arg11.view.ty) (k : Fin (k1_t3_loop i).trips) : List (View.Piece (Elt F) S256x1024 .fp8e4m3) :=
  [⟨Rect.unit (s := S256x1024) ![0, 896] S256x128.size inb_S256x1024_S256x128_0_896, tileC (tileP v1238 (extractStridedSlice S4x128 ![0, 896] (cAt i arg11 X_arg11 k) slices_S4x1024_o0_896_S4x128) (arg10.view.readAt (Elt F) (Rect.unit (s := S8192x1024) (k1_off18 i k) S256x128.size (k1_off18_inb i k)).toLoadRect X_arg10))⟩,
   ⟨Rect.unit (s := S256x1024) ![0, 768] S256x128.size inb_S256x1024_S256x128_0_768, tileC (tileP v1233 (extractStridedSlice S4x128 ![0, 768] (cAt i arg11 X_arg11 k) slices_S4x1024_o0_768_S4x128) (arg10.view.readAt (Elt F) (Rect.unit (s := S8192x1024) (k1_off17 i k) S256x128.size (k1_off17_inb i k)).toLoadRect X_arg10))⟩,
   ⟨Rect.unit (s := S256x1024) ![0, 640] S256x128.size inb_S256x1024_S256x128_0_640, tileC (tileP v1228 (extractStridedSlice S4x128 ![0, 640] (cAt i arg11 X_arg11 k) slices_S4x1024_o0_640_S4x128) (arg10.view.readAt (Elt F) (Rect.unit (s := S8192x1024) (k1_off16 i k) S256x128.size (k1_off16_inb i k)).toLoadRect X_arg10))⟩,
   ⟨Rect.unit (s := S256x1024) ![0, 512] S256x128.size inb_S256x1024_S256x128_0_512, tileC (tileP v1223 (extractStridedSlice S4x128 ![0, 512] (cAt i arg11 X_arg11 k) slices_S4x1024_o0_512_S4x128) (arg10.view.readAt (Elt F) (Rect.unit (s := S8192x1024) (k1_off15 i k) S256x128.size (k1_off15_inb i k)).toLoadRect X_arg10))⟩,
   ⟨Rect.unit (s := S256x1024) ![0, 384] S256x128.size inb_S256x1024_S256x128_0_384, tileC (tileP v1218 (extractStridedSlice S4x128 ![0, 384] (cAt i arg11 X_arg11 k) slices_S4x1024_o0_384_S4x128) (arg10.view.readAt (Elt F) (Rect.unit (s := S8192x1024) (k1_off14 i k) S256x128.size (k1_off14_inb i k)).toLoadRect X_arg10))⟩,
   ⟨Rect.unit (s := S256x1024) ![0, 256] S256x128.size inb_S256x1024_S256x128_0_256, tileC (tileP v1213 (extractStridedSlice S4x128 ![0, 256] (cAt i arg11 X_arg11 k) slices_S4x1024_o0_256_S4x128) (arg10.view.readAt (Elt F) (Rect.unit (s := S8192x1024) (k1_off13 i k) S256x128.size (k1_off13_inb i k)).toLoadRect X_arg10))⟩,
   ⟨Rect.unit (s := S256x1024) ![0, 128] S256x128.size inb_S256x1024_S256x128_0_128, tileC (tileP v1208 (extractStridedSlice S4x128 ![0, 128] (cAt i arg11 X_arg11 k) slices_S4x1024_o0_128_S4x128) (arg10.view.readAt (Elt F) (Rect.unit (s := S8192x1024) (k1_off12 i k) S256x128.size (k1_off12_inb i k)).toLoadRect X_arg10))⟩,
   ⟨Rect.unit (s := S256x1024) ![0, 0] S256x128.size inb_S256x1024_S256x128_0_0, tileC (tileP v1203 (extractStridedSlice S4x128 ![0, 0] (cAt i arg11 X_arg11 k) slices_S4x1024_o0_0_S4x128) (arg10.view.readAt (Elt F) (Rect.unit (s := S8192x1024) (k1_off11 i k) S256x128.size (k1_off11_inb i k)).toLoadRect X_arg10))⟩]

theorem tripR3 (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (X_arg10 : BufTy.Contents (Elt F) arg10.view.ty) (X_arg11 : BufTy.Contents (Elt F) arg11.view.ty) (k : Fin (k1_t3_loop i).trips) (acc : FVec F S8x128 .f32 × FVec F S8x128 .f32 × FVec F S8x128 .f32 × FVec F S8x128 .f32 × FVec F S8x128 .f32 × FVec F S8x128 .f32 × FVec F S8x128 .f32 × FVec F S8x128 .f32) (g13) (g14) :
    tripR_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X_arg10 X_arg11 k acc g13 g14
      = (stepS acc.1 (tileP v1203 (extractStridedSlice S4x128 ![0, 0] (cAt i arg11 X_arg11 k) slices_S4x1024_o0_0_S4x128) (arg10.view.readAt (Elt F) (Rect.unit (s := S8192x1024) (k1_off11 i k) S256x128.size (k1_off11_inb i k)).toLoadRect X_arg10)),
    stepS acc.2.1 (tileP v1208 (extractStridedSlice S4x128 ![0, 128] (cAt i arg11 X_arg11 k) slices_S4x1024_o0_128_S4x128) (arg10.view.readAt (Elt F) (Rect.unit (s := S8192x1024) (k1_off12 i k) S256x128.size (k1_off12_inb i k)).toLoadRect X_arg10)),
    stepS acc.2.2.1 (tileP v1213 (extractStridedSlice S4x128 ![0, 256] (cAt i arg11 X_arg11 k) slices_S4x1024_o0_256_S4x128) (arg10.view.readAt (Elt F) (Rect.unit (s := S8192x1024) (k1_off13 i k) S256x128.size (k1_off13_inb i k)).toLoadRect X_arg10)),
    stepS acc.2.2.2.1 (tileP v1218 (extractStridedSlice S4x128 ![0, 384] (cAt i arg11 X_arg11 k) slices_S4x1024_o0_384_S4x128) (arg10.view.readAt (Elt F) (Rect.unit (s := S8192x1024) (k1_off14 i k) S256x128.size (k1_off14_inb i k)).toLoadRect X_arg10)),
    stepS acc.2.2.2.2.1 (tileP v1223 (extractStridedSlice S4x128 ![0, 512] (cAt i arg11 X_arg11 k) slices_S4x1024_o0_512_S4x128) (arg10.view.readAt (Elt F) (Rect.unit (s := S8192x1024) (k1_off15 i k) S256x128.size (k1_off15_inb i k)).toLoadRect X_arg10)),
    stepS acc.2.2.2.2.2.1 (tileP v1228 (extractStridedSlice S4x128 ![0, 640] (cAt i arg11 X_arg11 k) slices_S4x1024_o0_640_S4x128) (arg10.view.readAt (Elt F) (Rect.unit (s := S8192x1024) (k1_off16 i k) S256x128.size (k1_off16_inb i k)).toLoadRect X_arg10)),
    stepS acc.2.2.2.2.2.2.1 (tileP v1233 (extractStridedSlice S4x128 ![0, 768] (cAt i arg11 X_arg11 k) slices_S4x1024_o0_768_S4x128) (arg10.view.readAt (Elt F) (Rect.unit (s := S8192x1024) (k1_off17 i k) S256x128.size (k1_off17_inb i k)).toLoadRect X_arg10)),
    stepS acc.2.2.2.2.2.2.2 (tileP v1238 (extractStridedSlice S4x128 ![0, 896] (cAt i arg11 X_arg11 k) slices_S4x1024_o0_896_S4x128) (arg10.view.readAt (Elt F) (Rect.unit (s := S8192x1024) (k1_off18 i k) S256x128.size (k1_off18_inb i k)).toLoadRect X_arg10))) := by
  unfold tripR_k1_t3 trip_k1_t3
  with_unfolding_all rfl

theorem tripL3_13 (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (X_arg10 : BufTy.Contents (Elt F) arg10.view.ty) (X_arg11 : BufTy.Contents (Elt F) arg11.view.ty) (k : Fin (k1_t3_loop i).trips) (acc : FVec F S8x128 .f32 × FVec F S8x128 .f32 × FVec F S8x128 .f32 × FVec F S8x128 .f32 × FVec F S8x128 .f32 × FVec F S8x128 .f32 × FVec F S8x128 .f32 × FVec F S8x128 .f32) (g13) (g14) :
    (tripL_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X_arg10 X_arg11 k acc g13 g14).1
      = pieces13 i arg10 arg11 v1203 v1208 v1213 v1218 v1223 v1228 v1233 v1238 X_arg10 X_arg11 k := by
  unfold tripL_k1_t3 trip_k1_t3
  with_unfolding_all rfl

theorem tripL3_14 (arg1 : BitVec 32) (v1203 : FVec F S1x128 .f32) (v1208 : FVec F S1x128 .f32) (v1213 : FVec F S1x128 .f32) (v1218 : FVec F S1x128 .f32) (v1223 : FVec F S1x128 .f32) (v1228 : FVec F S1x128 .f32) (v1233 : FVec F S1x128 .f32) (v1238 : FVec F S1x128 .f32) (v1299 : FVec F S8x128 .f32) (v1300 : FVec F S8x128 .f32) (v1301 : FVec F S8x128 .f32) (v1302 : FVec F S8x128 .f32) (v1303 : FVec F S8x128 .f32) (v1304 : FVec F S8x128 .f32) (cst_546 : F .f32) (X_arg5 : BufTy.Contents (Elt F) arg5.view.ty) (X_arg10 : BufTy.Contents (Elt F) arg10.view.ty) (X_arg11 : BufTy.Contents (Elt F) arg11.view.ty) (k : Fin (k1_t3_loop i).trips) (acc : FVec F S8x128 .f32 × FVec F S8x128 .f32 × FVec F S8x128 .f32 × FVec F S8x128 .f32 × FVec F S8x128 .f32 × FVec F S8x128 .f32 × FVec F S8x128 .f32 × FVec F S8x128 .f32) (g13) (g14) :
    (tripL_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 arg1 v1203 v1208 v1213 v1218 v1223 v1228 v1233 v1238 v1299 v1300 v1301 v1302 v1303 v1304 cst_546 X_arg5 X_arg10 X_arg11 k acc g13 g14).2
      = [⟨Rect.unit (s := S128x1024) ![0, 0] S128x1024.size inb_S128x1024_S128x1024_0_0, k1_pay54 (arg14.view.readAt (Elt F) (Rect.unit (s := S128x1024) ![0, 0] S128x1024.size inb_S128x1024_S128x1024_0_0).toLoadRect g14)
          (arg5.view.readAt (Elt F) (Rect.unit (s := S1x1x128x8192) (k1_off19 i k) S1x1x128x256.size (k1_off19_inb i k)).toLoadRect X_arg5)
          (arg13.view.readCov (pieces13 i arg10 arg11 v1203 v1208 v1213 v1218 v1223 v1228 v1233 v1238 X_arg10 X_arg11 k) (Rect.unit (s := S256x1024) ![0, 0] S256x1024.size inb_S256x1024_S256x1024_0_0).toLoadRect)⟩] := by
  unfold tripL_k1_t3 trip_k1_t3
  with_unfolding_all rfl

end

end Cert.KernelIdeal.K1

end
-- ==== Proof.KernelIdeal.A2.lean ====
/- The two passes' steps over the extended reals, entry by entry. -/
module

public import proofs.«01_k».proof.Proof.KernelIdeal.A1
public import proofs.«01_k».proof.Proof.KernelIdeal.QOut

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Cert.KernelIdeal.Q (eabs clip b448 bm448 mulf_ap broadcast_ap clip_ap ofBits_ap)
open Cert.KernelIdeal.Max (neg_inf)

abbrev T8 := FVec Ideal S8x128 .f32
abbrev Carry := T8 × T8 × T8 × T8 × T8 × T8 × T8 × T8

/-- The part of a carried value that belongs to one tile. -/
def pr (t : Fin 8) (a : Carry) : T8 :=
  match t with
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2

def col (t : Fin 8) (l : Fin 128) : Fin 1024 := ⟨128 * t.val + l.val, by omega⟩

/-- One tile of a block. -/
def tileOf {n : ℕ} (raw : (Idealize.ShloMosaic.Shape.Idx ⟨2, ![n, 1024]⟩) → EReal) (t : Fin 8) : (Idealize.ShloMosaic.Shape.Idx ⟨2, ![n, 128]⟩) → EReal :=
  fun j => raw (ix2 (n0 := n) (n1 := 1024) (j 0) (col t (j 1)))

theorem pr_stepA8 (t : Fin 8) (acc : Carry) (raw : FVec Ideal S256x1024 .f32) (K : FVec Ideal S4x128 .f32) :
    pr t (stepA8 acc raw K) = stepA (pr t acc) (tileOf (n := 256) raw t) K := by
  match t with
  | 0 => exact congrArg (stepA _ · K) (funext fun j => congrArg raw (funext fun a => match a with | ⟨0, _⟩ => Fin.ext (by show 0 + (j 0).val = (j 0).val; omega) | ⟨1, _⟩ => Fin.ext (by show 0 + (j 1).val = 128 * 0 + (j 1).val; omega)))
  | 1 => exact congrArg (stepA _ · K) (funext fun j => congrArg raw (funext fun a => match a with | ⟨0, _⟩ => Fin.ext (by show 0 + (j 0).val = (j 0).val; omega) | ⟨1, _⟩ => Fin.ext (by show 128 + (j 1).val = 128 * 1 + (j 1).val; omega)))
  | 2 => exact congrArg (stepA _ · K) (funext fun j => congrArg raw (funext fun a => match a with | ⟨0, _⟩ => Fin.ext (by show 0 + (j 0).val = (j 0).val; omega) | ⟨1, _⟩ => Fin.ext (by show 256 + (j 1).val = 128 * 2 + (j 1).val; omega)))
  | 3 => exact congrArg (stepA _ · K) (funext fun j => congrArg raw (funext fun a => match a with | ⟨0, _⟩ => Fin.ext (by show 0 + (j 0).val = (j 0).val; omega) | ⟨1, _⟩ => Fin.ext (by show 384 + (j 1).val = 128 * 3 + (j 1).val; omega)))
  | 4 => exact congrArg (stepA _ · K) (funext fun j => congrArg raw (funext fun a => match a with | ⟨0, _⟩ => Fin.ext (by show 0 + (j 0).val = (j 0).val; omega) | ⟨1, _⟩ => Fin.ext (by show 512 + (j 1).val = 128 * 4 + (j 1).val; omega)))
  | 5 => exact congrArg (stepA _ · K) (funext fun j => congrArg raw (funext fun a => match a with | ⟨0, _⟩ => Fin.ext (by show 0 + (j 0).val = (j 0).val; omega) | ⟨1, _⟩ => Fin.ext (by show 640 + (j 1).val = 128 * 5 + (j 1).val; omega)))
  | 6 => exact congrArg (stepA _ · K) (funext fun j => congrArg raw (funext fun a => match a with | ⟨0, _⟩ => Fin.ext (by show 0 + (j 0).val = (j 0).val; omega) | ⟨1, _⟩ => Fin.ext (by show 768 + (j 1).val = 128 * 6 + (j 1).val; omega)))
  | 7 => exact congrArg (stepA _ · K) (funext fun j => congrArg raw (funext fun a => match a with | ⟨0, _⟩ => Fin.ext (by show 0 + (j 0).val = (j 0).val; omega) | ⟨1, _⟩ => Fin.ext (by show 896 + (j 1).val = 128 * 7 + (j 1).val; omega)))

theorem mul_le_fold (k : ℝ) (hk : 0 < k) (S : Finset (Fin 8)) (f : Fin 8 → EReal) (z : EReal) :
    S.fold max ⊥ f * (k : EReal) ≤ z ↔ ∀ m ∈ S, f m * (k : EReal) ≤ z := by
  induction S using Finset.induction_on with
  | empty => simp [EReal.bot_mul_coe_of_pos hk]
  | insert a S ha ih =>
    rw [Finset.fold_insert ha]
    have hm : Monotone fun x : EReal => x * (k : EReal) := fun a b hab => mul_le_mul_of_nonneg_right hab (EReal.coe_nonneg.2 hk.le)
    rw [show max (f a) (S.fold max ⊥ f) * (k : EReal) = max (f a * k) (S.fold max ⊥ f * k) from hm.map_max]
    rw [max_le_iff, ih]
    simp

theorem stepA_le (acc : T8) (V : FVec Ideal S256x128 .f32) (K : FVec Ideal S4x128 .f32) (kr : Fin 4 → ℝ) (l : Fin 128) (hk : ∀ i, 0 < kr i)
    (hK : ∀ i, (K (ix2 i l) : EReal) = (kr i : EReal)) (z : EReal) :
    (∀ r : Fin 8, (stepA acc V K (ix2 r l) : EReal) ≤ z) ↔ (∀ r : Fin 8, (acc (ix2 r l) : EReal) ≤ z) ∧
      ∀ s : Fin 256, (V (ix2 s l) : EReal) * (kr ⟨s.val / 64, by omega⟩ : EReal) ≤ z := by
  unfold stepA tileA
  simp only [pointwise]
  have hm := fun i => mul_le_fold (kr i) (hk i)
  show (∀ r : Fin 8, max (acc (ix2 r l) : EReal) (Finset.fold max (Ideal.ofBits .f32 0xFF800000#32) (fun k : Fin 4 =>
    Finset.fold max (Ideal.ofBits .f32 0xFF800000#32) (fun m : Fin 8 => (V (ix2 (n0 := 256) (n1 := 128) ⟨k.val * 64 + m.val * 8 + r.val, by omega⟩ l) : EReal)) Finset.univ
      * (K (ix2 (n0 := 4) (n1 := 128) k l) : EReal)) Finset.univ) ≤ z) ↔ _
  rw [neg_inf]
  simp only [max_le_iff, Finset.fold_max_le, bot_le, Finset.mem_univ, true_and, forall_const, hK, hm]
  constructor
  · intro H
    refine ⟨fun r => (H r).1, fun s => ?_⟩
    have := (H ⟨s.val % 8, Nat.mod_lt _ (by decide)⟩).2 ⟨s.val / 64, by omega⟩ ⟨s.val / 8 % 8, Nat.mod_lt _ (by decide)⟩
    have e : (⟨s.val / 64 * 64 + s.val / 8 % 8 * 8 + s.val % 8, by omega⟩ : Fin 256) = s := Fin.ext (by show s.val / 64 * 64 + s.val / 8 % 8 * 8 + s.val % 8 = s.val; omega)
    exact le_of_eq_of_le (congrArg (fun s' => (V (ix2 s' l) : EReal) * (kr ⟨s.val / 64, by omega⟩ : EReal)) e).symm this
  · rintro ⟨H1, H2⟩ r
    refine ⟨H1 r, fun k m => ?_⟩
    have := H2 ⟨k.val * 64 + m.val * 8 + r.val, by omega⟩
    refine le_of_eq_of_le (congrArg (fun k' => (V (ix2 ⟨k.val * 64 + m.val * 8 + r.val, by omega⟩ l) : EReal) * (kr k' : EReal)) (Fin.ext ?_)) this
    show k.val = (k.val * 64 + m.val * 8 + r.val) / 64
    omega

theorem tileP_ap (m : FVec Ideal S1x128 .f32) (C : FVec Ideal S4x128 .f32) (V : FVec Ideal S256x128 .f32) (s : Fin 256) (l : Fin 128) :
    (tileP m C V (ix2 s l) : EReal) = FloatOps.exp2 (F := Ideal) (φ := .f32) (((V (ix2 s l) : EReal) * (C (ix2 ⟨s.val / 64, by omega⟩ l) : EReal)) - (m (ix2 0 l) : EReal) : EReal) := by
  unfold tileP
  simp only [pointwise]
  rfl

theorem sum_stepS (acc : T8) (P : FVec Ideal S256x128 .f32) (l : Fin 128) :
    ∑ r : Fin 8, (stepS acc P (ix2 r l) : EReal) = ∑ r : Fin 8, (acc (ix2 r l) : EReal) + ∑ s : Fin 256, (P (ix2 s l) : EReal) := by
  unfold stepS
  simp only [pointwise]
  rw [Finset.sum_add_distrib]
  refine congrArg (_ + ·) ?_
  rw [← (finProdFinEquiv (m := 32) (n := 8)).sum_comp, Fintype.sum_prod_type, Finset.sum_comm]
  refine Finset.sum_congr rfl fun r _ => Finset.sum_congr rfl fun k _ => ?_
  refine congrArg (fun s => (P (ix2 s l) : EReal)) (Fin.ext ?_)
  show r.val * 8 + k.val = k.val + 8 * r.val
  omega

theorem tileC_ap (P : FVec Ideal S256x128 .f32) (j : S256x128.Idx) : (tileC P j : EReal) = clip (P j) := by
  unfold tileC
  refine (congrArg _ (Shape.reshapeEquiv_self _ j)).trans ?_
  refine (clip_ap _ _ P j).trans ?_
  rw [ofBits_ap, ofBits_ap, b448, bm448]; rfl

end Cert.KernelIdeal.K1

end
-- ==== Proof.KernelIdeal.A3.lean ====
/- What the chunks of the two passes read, entry by entry. -/
module

public import proofs.«01_k».proof.Proof.KernelIdeal.A2

@[expose] public section

set_option maxRecDepth 65536

noncomputable section

namespace Cert.KernelIdeal.K1

open Cert.KernelIdeal Cert.KernelIdeal.Gen
open Idealize.ShloMosaic Idealize.ShloMosaic.TcCoe Idealize.ShloMosaic.Tactic

theorem b0 : Ideal.ofBits .f32 0x00000000#32 = 0 := by simp [Ideal.ofBits, Ideal.ieee]

theorem pay2_ap (a : Vec Ideal S1x1x256x128 .fp8e4m3) (b : Vec Ideal S1024x128 .fp8e4m3) (s : Fin 256) (c : Fin 1024) :
    (k1_pay2 a b (ix2 s c) : EReal) = ∑ d : Fin 128, (a (ix4 0 0 s d) : EReal) * (b (ix2 c d) : EReal) := by
  unfold k1_pay2
  simp only [pointwise]
  rw [zero_add]

theorem pay54_ap (o : Vec Ideal S128x1024 .f32) (a : Vec Ideal S1x1x128x256 .fp8e4m3) (b : Vec Ideal S256x1024 .fp8e4m3) (d : Fin 128) (c : Fin 1024) :
    (k1_pay54 o a b (ix2 d c) : EReal) = (o (ix2 d c) : EReal) + ∑ s : Fin 256, (a (ix4 0 0 d s) : EReal) * (b (ix2 s c) : EReal) := by
  unfold k1_pay54
  simp only [pointwise]
  rw [zero_add]

theorem k4_sc (a : Vec Ideal S1x1x1x128 .f32) (l : Fin 128) : (shapeCast S1x128 a shapeCasts_S1x1x1x128_S1x128 (ix2 0 l) : EReal) = a (ix4 0 0 0 l) := by
  simp only [pointwise]

theorem K4_ap (a b c d : Vec Ideal S1x1x1x128 .f32) (i : Fin 4) (l : Fin 128) :
    K4 a b c d (ix2 i l) = (match i with | 0 => a | 1 => b | 2 => c | 3 => d) (ix4 0 0 0 l) := by
  match i with
  | 0 => exact (congrArg (k1_pay4 a) (a₂ := ix2 0 l) (funext fun x => match x with | ⟨0, _⟩ => rfl | ⟨1, _⟩ => rfl)).trans (k4_sc a l)
  | 1 => exact (congrArg (k1_pay5 b) (a₂ := ix2 0 l) (funext fun x => match x with | ⟨0, _⟩ => rfl | ⟨1, _⟩ => rfl)).trans (k4_sc b l)
  | 2 => exact (congrArg (k1_pay6 c) (a₂ := ix2 0 l) (funext fun x => match x with | ⟨0, _⟩ => rfl | ⟨1, _⟩ => rfl)).trans (k4_sc c l)
  | 3 => exact (congrArg (shapeCast S1x128 d shapeCasts_S1x1x1x128_S1x128) (a₂ := ix2 0 l) (funext fun x => match x with | ⟨0, _⟩ => rfl | ⟨1, _⟩ => rfl)).trans (k4_sc d l)

theorem pay26_ap (a b c d : Vec Ideal S1x1024 .f32) (i : Fin 4) (l : Fin 1024) :
    k1_pay26 a b c d (ix2 i l) = (match i with | 0 => a | 1 => b | 2 => c | 3 => d) (ix2 0 l) := by
  match i with
  | 0 => exact congrArg a (a₂ := ix2 0 l) (funext fun x => match x with | ⟨0, _⟩ => rfl | ⟨1, _⟩ => rfl)
  | 1 => exact congrArg b (a₂ := ix2 0 l) (funext fun x => match x with | ⟨0, _⟩ => rfl | ⟨1, _⟩ => rfl)
  | 2 => exact congrArg c (a₂ := ix2 0 l) (funext fun x => match x with | ⟨0, _⟩ => rfl | ⟨1, _⟩ => rfl)
  | 3 => exact congrArg d (a₂ := ix2 0 l) (funext fun x => match x with | ⟨0, _⟩ => rfl | ⟨1, _⟩ => rfl)

end Cert.KernelIdeal.K1

end
-- ==== Proof.KernelIdeal.A4.lean ====
/- The body's values in terms of the two passes' steps. -/
module

public import proofs.«01_k».proof.Proof.KernelIdeal.A3
import all proofs.«01_k».proof.Proof.KernelIdeal.K1Run

@[expose] public section

set_option maxRecDepth 65536

noncomputable section

namespace Cert.KernelIdeal.K1

open Cert.KernelIdeal Cert.KernelIdeal.Gen
open Idealize.ShloMosaic Idealize.ShloMosaic.TcCoe Idealize.ShloMosaic.Tactic

variable {F : FTy → Type} [FloatOps F] [Named F]

/-- Which keys of the chunk on the diagonal a token sees. -/
def seen (h : BitVec 32) : IVec S256x128 1 :=
  cmpi .sle (iota .tc S256x128 32 [0] iota_S256x128_d0_w32) (addi (iota .tc S256x128 32 [1] iota_S256x128_d1_w32) (broadcast S256x128 h))
def maskA (h : BitVec 32) (V : FVec F S256x128 .f32) : FVec F S256x128 .f32 := select (seen h) V (broadcast S256x128 (Scalar.ofBits .f32 0xFF800000#32))
def maskB (h : BitVec 32) (V : FVec F S256x128 .f32) : FVec F S256x128 .f32 := select (seen h) V (broadcast S256x128 (Scalar.ofBits .f32 0x00000000#32))
/-- The exponent's offset. -/
def mpT (ms : FVec F S8x128 .f32) (q : FVec F S1x128 .f32) : FVec F S1x128 .f32 :=
  subf (mulf (shapeCast S1x128 (multiReduction .maximumf [0] S128 ms 0xFF800000#32 reduces_S8x128_S128 (.inl rfl) rfl) shapeCasts_S128_S1x128) q)
    (broadcast S1x128 (Named.named κ "log2_fp8_max" 0x410CEAED#32))
/-- One tile of the output. -/
def outT (ls : FVec F S8x128 .f32) (o : FVec F S128x128 .f32) (vs : FVec F S1x128 .f32) : FVec F S1x128x128 .bf16 :=
  shapeCast S1x128x128 (truncf .bf16 (mulf (transpose S128x128 [1, 0] (mulf o (broadcastTo S128x128
    (divf (broadcast S1x128 (Scalar.ofBits .f32 0x3F800000#32)) (shapeCast S1x128 (multiReduction .add [0] S128 ls 0x00000000#32 reduces_S8x128_S128 (.inl rfl) rfl) shapeCasts_S128_S1x128))
    broadcasts_S1x128_S128x128)) transposes_S128x128_p1_0_S128x128) (broadcastTo S128x128 vs broadcasts_S1x128_S128x128)) bitsLt_bf16_f32) shapeCasts_S128x128_S1x128x128
/-- One tile of the factors. -/
def facT (q : FVec F S1x128 .f32) (k : Vec F S1x1x128x128 .f32) : FVec F S128x128 .f32 :=
  shapeCast S128x128 (mulf (shapeCast S128x128 k shapeCasts_S1x1x128x128_S128x128) (broadcastTo S128x128 q broadcasts_S1x128_S128x128)) shapeCasts_S128x128_S128x128

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

def S1 (x2 : Vec F S1x256x512 .bf16) (x3 : Vec F S1x1x8192x128 .fp8e4m3) (x4 : Vec F S1x1x128x128 .f32) := st_k1_t1 (F := F) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt F) arg12.view.junk (kernelRun.sl.H12_8 (F := F) c arg2 harg2 x2)) (k1_pay202, k1_pay203, k1_pay204, k1_pay205, k1_pay206, k1_pay207, k1_pay208, k1_pay209) (k1_t1_loop i).trips
def S2 (x2 : Vec F S1x256x512 .bf16) (x3 : Vec F S1x1x8192x128 .fp8e4m3) (x4 : Vec F S1x1x128x128 .f32) := st_k1_t2 (F := F) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (kernelRun.sl.v1044 i) (harg3.unread x3) (harg4.unread x4) (arg12.view.writes (Elt F) arg12.view.junk (kernelRun.sl.H12_8 (F := F) c arg2 harg2 x2)) ((S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.2.1, (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.2.2) (k1_t2_loop i).trips
def L10 (x2 : Vec F S1x256x512 .bf16) (x3 : Vec F S1x1x8192x128 .fp8e4m3) (x4 : Vec F S1x1x128x128 .f32) : List (View.Piece (Elt F) S8192x1024 .f32) :=
  ⟨Rect.unit (s := S8192x1024) (k1_off8 i) S256x1024.size (k1_off8_inb i), k1_pay217 (View.readAt (Elt F) arg3.view (Rect.unit (s := S1x1x8192x128) (k1_off7 i) S1x1x256x128.size (k1_off7_inb i)).toLoadRect (harg3.unread x3)) (kernelRun.sl.v1051 (F := F) c arg2 harg2 arg12 x2)⟩
    :: ((S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).2 ++ (S1 𝒱₀ c i arg2 harg2 arg3 harg3 arg4 harg4 arg5 harg5 arg6 harg6 arg7 harg7 arg8 harg8 arg9 harg9 arg10 harg10 arg11 harg11 arg12 harg12 arg13 harg13 arg14 harg14 x2 x3 x4).2)
def S3 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) := st_k1_t3 (F := F) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt F) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt F) arg11.view.junk (kernelRun.sl.H11_8 (F := F) c arg2 harg2 arg4 harg4 x2 x4)) f13
  (arg14.view.writes (Elt F) arg14.view.junk kernelRun.sl.H14_1) (k1_pay250, k1_pay251, k1_pay252, k1_pay253, k1_pay254, k1_pay255, k1_pay256 kernelRun.sl.cst_546, k1_pay257) (k1_t3_loop i).trips
def S4 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) := st_k1_t4 (F := F) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (kernelRun.sl.v1311 i) (harg5.unread x5) (arg10.view.writes (Elt F) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt F) arg11.view.junk (kernelRun.sl.H11_8 (F := F) c arg2 harg2 arg4 harg4 x2 x4))
  (arg13.view.writes (Elt F) f13 (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.1) (arg14.view.writes (Elt F) arg14.view.junk ((S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.2 ++ kernelRun.sl.H14_1)) ((S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.2.1, (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.2.2) (k1_t4_loop i).trips

/-- The diagonal chunk's scores, scales and factors. -/
def Rd (x2 : Vec F S1x256x512 .bf16) (x3 : Vec F S1x1x8192x128 .fp8e4m3) : FVec F S256x1024 .f32 := k1_pay216 (View.readAt (Elt F) arg3.view (Rect.unit (s := S1x1x8192x128) (k1_off7 i) S1x1x256x128.size (k1_off7_inb i)).toLoadRect (harg3.unread x3)) (kernelRun.sl.v1051 (F := F) c arg2 harg2 arg12 x2)
def Kd (x4 : Vec F S1x1x128x128 .f32) : FVec F S4x128 .f32 := K4 (View.readAt (Elt F) arg4.view (Rect.unit (s := S1x1x128x128) (k1_off9 i 0#32) S1x1x1x128.size (k1_off9_inb i 0)).toLoadRect (harg4.unread x4)) (View.readAt (Elt F) arg4.view (Rect.unit (s := S1x1x128x128) (k1_off9 i 1#32) S1x1x1x128.size (k1_off9_inb i 1)).toLoadRect (harg4.unread x4)) (View.readAt (Elt F) arg4.view (Rect.unit (s := S1x1x128x128) (k1_off9 i 2#32) S1x1x1x128.size (k1_off9_inb i 2)).toLoadRect (harg4.unread x4)) (View.readAt (Elt F) arg4.view (Rect.unit (s := S1x1x128x128) (k1_off9 i 3#32) S1x1x1x128.size (k1_off9_inb i 3)).toLoadRect (harg4.unread x4))
def Cd (x2 : Vec F S1x256x512 .bf16) (x4 : Vec F S1x1x128x128 .f32) : FVec F S4x1024 .f32 := k1_pay26 (View.readAt (Elt F) arg11.view (Rect.unit (s := S128x1024) (k1_off30 i 0#32) S1x1024.size (k1_off30_inb i 0)).toLoadRect (arg11.view.writes (Elt F) arg11.view.junk (kernelRun.sl.H11_8 (F := F) c arg2 harg2 arg4 harg4 x2 x4))) (View.readAt (Elt F) arg11.view (Rect.unit (s := S128x1024) (k1_off30 i 1#32) S1x1024.size (k1_off30_inb i 1)).toLoadRect (arg11.view.writes (Elt F) arg11.view.junk (kernelRun.sl.H11_8 (F := F) c arg2 harg2 arg4 harg4 x2 x4))) (View.readAt (Elt F) arg11.view (Rect.unit (s := S128x1024) (k1_off30 i 2#32) S1x1024.size (k1_off30_inb i 2)).toLoadRect (arg11.view.writes (Elt F) arg11.view.junk (kernelRun.sl.H11_8 (F := F) c arg2 harg2 arg4 harg4 x2 x4))) (View.readAt (Elt F) arg11.view (Rect.unit (s := S128x1024) (k1_off30 i 3#32) S1x1024.size (k1_off30_inb i 3)).toLoadRect (arg11.view.writes (Elt F) arg11.view.junk (kernelRun.sl.H11_8 (F := F) c arg2 harg2 arg4 harg4 x2 x4)))

theorem mp_0 (x2 : Vec F S1x256x512 .bf16) (x3 : Vec F S1x1x8192x128 .fp8e4m3) (x4 : Vec F S1x1x128x128 .f32) : kernelRun.sl.r_92 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.1 (maskA 0#32 (extractStridedSlice S256x128 ![0, 0] (Rd c i arg2 harg2 arg3 harg3 arg12 x2 x3) slices_S256x1024_o0_0_S256x128)) (Kd i arg4 harg4 x4)) (kernelRun.sl.r_10 (F := F) c arg2 harg2 x2) := by
  with_unfolding_all rfl

theorem mp_1 (x2 : Vec F S1x256x512 .bf16) (x3 : Vec F S1x1x8192x128 .fp8e4m3) (x4 : Vec F S1x1x128x128 .f32) : kernelRun.sl.r_94 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.1 (maskA 128#32 (extractStridedSlice S256x128 ![0, 128] (Rd c i arg2 harg2 arg3 harg3 arg12 x2 x3) slices_S256x1024_o0_128_S256x128)) (Kd i arg4 harg4 x4)) (kernelRun.sl.r_18 (F := F) c arg2 harg2 x2) := by
  with_unfolding_all rfl

theorem mp_2 (x2 : Vec F S1x256x512 .bf16) (x3 : Vec F S1x1x8192x128 .fp8e4m3) (x4 : Vec F S1x1x128x128 .f32) : kernelRun.sl.r_95 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.1 (maskA 0#32 (extractStridedSlice S256x128 ![0, 256] (Rd c i arg2 harg2 arg3 harg3 arg12 x2 x3) slices_S256x1024_o0_256_S256x128)) (Kd i arg4 harg4 x4)) (kernelRun.sl.r_29 (F := F) c arg2 harg2 x2) := by
  with_unfolding_all rfl

theorem mp_3 (x2 : Vec F S1x256x512 .bf16) (x3 : Vec F S1x1x8192x128 .fp8e4m3) (x4 : Vec F S1x1x128x128 .f32) : kernelRun.sl.r_96 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.1 (maskA 128#32 (extractStridedSlice S256x128 ![0, 384] (Rd c i arg2 harg2 arg3 harg3 arg12 x2 x3) slices_S256x1024_o0_384_S256x128)) (Kd i arg4 harg4 x4)) (kernelRun.sl.r_38 (F := F) c arg2 harg2 x2) := by
  with_unfolding_all rfl

theorem mp_4 (x2 : Vec F S1x256x512 .bf16) (x3 : Vec F S1x1x8192x128 .fp8e4m3) (x4 : Vec F S1x1x128x128 .f32) : kernelRun.sl.r_97 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.1 (maskA 0#32 (extractStridedSlice S256x128 ![0, 512] (Rd c i arg2 harg2 arg3 harg3 arg12 x2 x3) slices_S256x1024_o0_512_S256x128)) (Kd i arg4 harg4 x4)) (kernelRun.sl.r_47 (F := F) c arg2 harg2 x2) := by
  with_unfolding_all rfl

theorem mp_5 (x2 : Vec F S1x256x512 .bf16) (x3 : Vec F S1x1x8192x128 .fp8e4m3) (x4 : Vec F S1x1x128x128 .f32) : kernelRun.sl.r_98 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.1 (maskA 128#32 (extractStridedSlice S256x128 ![0, 640] (Rd c i arg2 harg2 arg3 harg3 arg12 x2 x3) slices_S256x1024_o0_640_S256x128)) (Kd i arg4 harg4 x4)) (kernelRun.sl.r_54 (F := F) c arg2 harg2 x2) := by
  with_unfolding_all rfl

theorem mp_6 (x2 : Vec F S1x256x512 .bf16) (x3 : Vec F S1x1x8192x128 .fp8e4m3) (x4 : Vec F S1x1x128x128 .f32) : kernelRun.sl.r_99 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.2.1 (maskA 0#32 (extractStridedSlice S256x128 ![0, 768] (Rd c i arg2 harg2 arg3 harg3 arg12 x2 x3) slices_S256x1024_o0_768_S256x128)) (Kd i arg4 harg4 x4)) (kernelRun.sl.r_62 (F := F) c arg2 harg2 x2) := by
  with_unfolding_all rfl

theorem mp_7 (x2 : Vec F S1x256x512 .bf16) (x3 : Vec F S1x1x8192x128 .fp8e4m3) (x4 : Vec F S1x1x128x128 .f32) : kernelRun.sl.r_100 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 = mpT (stepA (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).1.2.2.2.2.2.2.2 (maskA 128#32 (extractStridedSlice S256x128 ![0, 896] (Rd c i arg2 harg2 arg3 harg3 arg12 x2 x3) slices_S256x1024_o0_896_S256x128)) (Kd i arg4 harg4 x4)) (kernelRun.sl.r_69 (F := F) c arg2 harg2 x2) := by
  with_unfolding_all rfl

theorem vr_0 (x2 : Vec F S1x256x512 .bf16) (x3 : Vec F S1x1x8192x128 .fp8e4m3) (x4 : Vec F S1x1x128x128 .f32) : (kernelRun.sl.v1333 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off31 i) S256x128.size (k1_off31_inb i)).toLoadRect := by
  with_unfolding_all rfl

def P_0 (x2 : Vec F S1x256x512 .bf16) (x3 : Vec F S1x1x8192x128 .fp8e4m3) (x4 : Vec F S1x1x128x128 .f32) : FVec F S256x128 .f32 := maskB 0#32 (tileP (kernelRun.sl.r_92 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 0] (Cd c i arg2 harg2 arg4 harg4 arg11 x2 x4) slices_S4x1024_o0_0_S4x128) (kernelRun.sl.v1333 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_0 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.1 (P_0 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_1 (x2 : Vec F S1x256x512 .bf16) (x3 : Vec F S1x1x8192x128 .fp8e4m3) (x4 : Vec F S1x1x128x128 .f32) : (kernelRun.sl.v1363 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off32 i) S256x128.size (k1_off32_inb i)).toLoadRect := by
  with_unfolding_all rfl

def P_1 (x2 : Vec F S1x256x512 .bf16) (x3 : Vec F S1x1x8192x128 .fp8e4m3) (x4 : Vec F S1x1x128x128 .f32) : FVec F S256x128 .f32 := maskB 128#32 (tileP (kernelRun.sl.r_94 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 128] (Cd c i arg2 harg2 arg4 harg4 arg11 x2 x4) slices_S4x1024_o0_128_S4x128) (kernelRun.sl.v1363 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_1 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.1 (P_1 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_2 (x2 : Vec F S1x256x512 .bf16) (x3 : Vec F S1x1x8192x128 .fp8e4m3) (x4 : Vec F S1x1x128x128 .f32) : (kernelRun.sl.v1393 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off33 i) S256x128.size (k1_off33_inb i)).toLoadRect := by
  with_unfolding_all rfl

def P_2 (x2 : Vec F S1x256x512 .bf16) (x3 : Vec F S1x1x8192x128 .fp8e4m3) (x4 : Vec F S1x1x128x128 .f32) : FVec F S256x128 .f32 := maskB 0#32 (tileP (kernelRun.sl.r_95 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 256] (Cd c i arg2 harg2 arg4 harg4 arg11 x2 x4) slices_S4x1024_o0_256_S4x128) (kernelRun.sl.v1393 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_2 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.1 (P_2 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_3 (x2 : Vec F S1x256x512 .bf16) (x3 : Vec F S1x1x8192x128 .fp8e4m3) (x4 : Vec F S1x1x128x128 .f32) : (kernelRun.sl.v1423 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off34 i) S256x128.size (k1_off34_inb i)).toLoadRect := by
  with_unfolding_all rfl

def P_3 (x2 : Vec F S1x256x512 .bf16) (x3 : Vec F S1x1x8192x128 .fp8e4m3) (x4 : Vec F S1x1x128x128 .f32) : FVec F S256x128 .f32 := maskB 128#32 (tileP (kernelRun.sl.r_96 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 384] (Cd c i arg2 harg2 arg4 harg4 arg11 x2 x4) slices_S4x1024_o0_384_S4x128) (kernelRun.sl.v1423 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_3 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.1 (P_3 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_4 (x2 : Vec F S1x256x512 .bf16) (x3 : Vec F S1x1x8192x128 .fp8e4m3) (x4 : Vec F S1x1x128x128 .f32) : (kernelRun.sl.v1453 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off35 i) S256x128.size (k1_off35_inb i)).toLoadRect := by
  with_unfolding_all rfl

def P_4 (x2 : Vec F S1x256x512 .bf16) (x3 : Vec F S1x1x8192x128 .fp8e4m3) (x4 : Vec F S1x1x128x128 .f32) : FVec F S256x128 .f32 := maskB 0#32 (tileP (kernelRun.sl.r_97 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 512] (Cd c i arg2 harg2 arg4 harg4 arg11 x2 x4) slices_S4x1024_o0_512_S4x128) (kernelRun.sl.v1453 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_4 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.1 (P_4 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_5 (x2 : Vec F S1x256x512 .bf16) (x3 : Vec F S1x1x8192x128 .fp8e4m3) (x4 : Vec F S1x1x128x128 .f32) : (kernelRun.sl.v1483 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off36 i) S256x128.size (k1_off36_inb i)).toLoadRect := by
  with_unfolding_all rfl

def P_5 (x2 : Vec F S1x256x512 .bf16) (x3 : Vec F S1x1x8192x128 .fp8e4m3) (x4 : Vec F S1x1x128x128 .f32) : FVec F S256x128 .f32 := maskB 128#32 (tileP (kernelRun.sl.r_98 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 640] (Cd c i arg2 harg2 arg4 harg4 arg11 x2 x4) slices_S4x1024_o0_640_S4x128) (kernelRun.sl.v1483 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_5 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.1 (P_5 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_6 (x2 : Vec F S1x256x512 .bf16) (x3 : Vec F S1x1x8192x128 .fp8e4m3) (x4 : Vec F S1x1x128x128 .f32) : (kernelRun.sl.v1513 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off37 i) S256x128.size (k1_off37_inb i)).toLoadRect := by
  with_unfolding_all rfl

def P_6 (x2 : Vec F S1x256x512 .bf16) (x3 : Vec F S1x1x8192x128 .fp8e4m3) (x4 : Vec F S1x1x128x128 .f32) : FVec F S256x128 .f32 := maskB 0#32 (tileP (kernelRun.sl.r_99 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 768] (Cd c i arg2 harg2 arg4 harg4 arg11 x2 x4) slices_S4x1024_o0_768_S4x128) (kernelRun.sl.v1513 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_6 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.2.1 (P_6 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

theorem vr_7 (x2 : Vec F S1x256x512 .bf16) (x3 : Vec F S1x1x8192x128 .fp8e4m3) (x4 : Vec F S1x1x128x128 .f32) : (kernelRun.sl.v1543 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) = arg10.view.readCov (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) (k1_off38 i) S256x128.size (k1_off38_inb i)).toLoadRect := by
  with_unfolding_all rfl

def P_7 (x2 : Vec F S1x256x512 .bf16) (x3 : Vec F S1x1x8192x128 .fp8e4m3) (x4 : Vec F S1x1x128x128 .f32) : FVec F S256x128 .f32 := maskB 128#32 (tileP (kernelRun.sl.r_100 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (extractStridedSlice S4x128 ![0, 896] (Cd c i arg2 harg2 arg4 harg4 arg11 x2 x4) slices_S4x1024_o0_896_S4x128) (kernelRun.sl.v1543 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4))

theorem ls_7 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = stepS (S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1.2.2.2.2.2.2.2 (P_7 𝒱₀ c i arg2 harg2 arg3 harg3 arg4 harg4 arg5 harg5 arg6 harg6 arg7 harg7 arg8 harg8 arg9 harg9 arg10 harg10 arg11 harg11 arg12 harg12 arg13 harg13 arg14 harg14 x2 x3 x4) := by
  with_unfolding_all rfl

def L13 (x2 : Vec F S1x256x512 .bf16) (x3 : Vec F S1x1x8192x128 .fp8e4m3) (x4 : Vec F S1x1x128x128 .f32) : List (View.Piece (Elt F) S256x1024 .fp8e4m3) :=
  [⟨Rect.unit (s := S256x1024) ![0, 896] S256x128.size inb_S256x1024_S256x128_0_896, tileC (P_7 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 768] S256x128.size inb_S256x1024_S256x128_0_768, tileC (P_6 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 640] S256x128.size inb_S256x1024_S256x128_0_640, tileC (P_5 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 512] S256x128.size inb_S256x1024_S256x128_0_512, tileC (P_4 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 384] S256x128.size inb_S256x1024_S256x128_0_384, tileC (P_3 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 256] S256x128.size inb_S256x1024_S256x128_0_256, tileC (P_2 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 128] S256x128.size inb_S256x1024_S256x128_0_128, tileC (P_1 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩,
   ⟨Rect.unit (s := S256x1024) ![0, 0] S256x128.size inb_S256x1024_S256x128_0_0, tileC (P_0 𝒱₀ c i arg2 harg2 arg3 harg3 arg4 harg4 arg5 harg5 arg6 harg6 arg7 harg7 arg8 harg8 arg9 harg9 arg10 harg10 arg11 harg11 arg12 harg12 arg13 harg13 arg14 harg14 x2 x3 x4)⟩]
theorem h13 (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = L13 𝒱₀ c i arg2 harg2 arg3 harg3 arg4 harg4 arg5 harg5 arg6 harg6 arg7 harg7 arg8 harg8 arg9 harg9 arg10 harg10 arg11 harg11 arg12 harg12 arg13 harg13 arg14 harg14 x2 x3 x4 ++ ((S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.1 ++ (S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.1) := by
  with_unfolding_all rfl

theorem v1571_eq (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov ((S4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.2 ++ ((S3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.2 ++ kernelRun.sl.H14_1)) (Rect.unit (s := S128x1024) ![0, 0] S128x1024.size inb_S128x1024_S128x1024_0_0).toLoadRect := by
  with_unfolding_all rfl

/-- The output before its last division. -/
def oAll (x2 : Vec F S1x256x512 .bf16) (x3 : Vec F S1x1x8192x128 .fp8e4m3) (x4 : Vec F S1x1x128x128 .f32) (x5 : Vec F S1x1x128x8192 .fp8e4m3) (f10 : BufTy.Contents (Elt F) arg10.view.ty) (f13 : BufTy.Contents (Elt F) arg13.view.ty) : FVec F S128x1024 .f32 :=
  k1_pay54 (kernelRun.sl.v1571 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (View.readAt (Elt F) arg5.view (Rect.unit (s := S1x1x128x8192) (k1_off39 i) S1x1x128x256.size (k1_off39_inb i)).toLoadRect (harg5.unread x5))
    (arg13.view.readCov (kernelRun.sl.H13_8 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S256x1024) ![0, 0] S256x1024.size inb_S256x1024_S256x1024_0_0).toLoadRect)

def vsRow (x6 : Vec F S1x1x8x128 .f32) : FVec F S1x128 .f32 := kernelRun.sl.r_128 (F := F) c arg6 harg6 x6

theorem pieces7_eq (x2 : Vec F S1x256x512 .bf16) (x3 : Vec F S1x1x8192x128 .fp8e4m3) (x4 : Vec F S1x1x128x128 .f32) (x5 : Vec F S1x1x128x8192 .fp8e4m3) (x6 : Vec F S1x1x8x128 .f32) (f10 : BufTy.Contents (Elt F) arg10.view.ty) (f13 : BufTy.Contents (Elt F) arg13.view.ty) : pieces7 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 =
  [⟨Rect.unit (s := S1x256x512) ![0, 128, 384] ![1, 128, 128] inb_S1x256x512_S1x128x128_0_128_384, outT (kernelRun.sl.r_125 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1686 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 0, 384] ![1, 128, 128] inb_S1x256x512_S1x128x128_0_0_384, outT (kernelRun.sl.r_124 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1672 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 128, 256] ![1, 128, 128] inb_S1x256x512_S1x128x128_0_128_256, outT (kernelRun.sl.r_122 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1658 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 0, 256] ![1, 128, 128] inb_S1x256x512_S1x128x128_0_0_256, outT (kernelRun.sl.r_119 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1644 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 128, 128] ![1, 128, 128] inb_S1x256x512_S1x128x128_0_128_128, outT (kernelRun.sl.r_118 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1630 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 0, 128] ![1, 128, 128] inb_S1x256x512_S1x128x128_0_0_128, outT (kernelRun.sl.r_116 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1616 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 128, 0] ![1, 128, 128] inb_S1x256x512_S1x128x128_0_128_0, outT (kernelRun.sl.r_113 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1602 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩,
   ⟨Rect.unit (s := S1x256x512) ![0, 0, 0] ![1, 128, 128] inb_S1x256x512_S1x128x128_0_0_0, outT (kernelRun.sl.r_112 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (kernelRun.sl.v1588 (F := F) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (vsRow c arg6 harg6 x6)⟩] := by
  with_unfolding_all rfl

end

end Cert.KernelIdeal.K1

end
-- ==== Proof.KernelIdeal.A5.lean ====
/- What the body reads back from its buffers, entry by entry. -/
module

public import proofs.«01_k».proof.Proof.KernelIdeal.A4
public import Idealize.ShloMosaic.Lib.WritesUnit
public import Idealize.ShloMosaic.Lib.VecWindow
import all proofs.«01_k».proof.Proof.KernelIdeal.K1Run

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Cert.KernelIdeal.Q

/-! ## Closed forms of the offsets -/

theorem toNat_iv4 (k : ℕ) (hk : k < 32) (b : Fin 4) : (Scalar.indexCast (Scalar.addi (Scalar.muli (Scf.iv 0#32 1#32 k) 4#32) (BitVec.ofNat 32 b.val)) : Index).toNat = 4 * k + b.val := by
  have h : ∀ n : Fin 32, ∀ b : Fin 4, (Scalar.indexCast (Scalar.addi (Scalar.muli (Scf.iv 0#32 1#32 n.val) 4#32) (BitVec.ofNat 32 b.val)) : Index).toNat = 4 * n.val + b.val := by decide
  exact h ⟨k, hk⟩ b
theorem toNat_i4 (i : grid1.Coords) (b : Fin 4) : (Scalar.indexCast (Scalar.addi (Scalar.muli (BitVec.ofNat 32 (i 1).val) 4#32) (BitVec.ofNat 32 b.val)) : Index).toNat = 4 * (i 1).val + b.val := by
  have h : ∀ n : Fin 32, ∀ b : Fin 4, (Scalar.indexCast (Scalar.addi (Scalar.muli (BitVec.ofNat 32 n.val) 4#32) (BitVec.ofNat 32 b.val)) : Index).toNat = 4 * n.val + b.val := by decide
  exact h (i 1) b
theorem lt1 (i : grid1.Coords) (k : Fin (k1_t1_loop i).trips) : k.val < 32 := by
  have := lt_of_lt_of_eq k.isLt (trips1 i); have : (i 1).val < 32 := (i 1).isLt; omega
theorem lt3 (i : grid1.Coords) (k : Fin (k1_t3_loop i).trips) : k.val < 32 := by
  have := lt_of_lt_of_eq k.isLt (trips3 i); have : (i 1).val < 32 := (i 1).isLt; omega

theorem off1_eq (i : grid1.Coords) (k : Fin (k1_t1_loop i).trips) : k1_off1 i k = ![0, 0, 256 * k.val, 0] :=
  congrArg (fun n => ![0, 0, n, 0]) (toNat_iv k.val (lt1 i k))
theorem off3_eq (i : grid1.Coords) (k : Fin (k1_t1_loop i).trips) (b : Fin 4) : k1_off3 i k (BitVec.ofNat 32 b.val) = ![0, 0, 4 * k.val + b.val, 0] :=
  congrArg (fun n => ![0, 0, n, 0]) (toNat_iv4 k.val (lt1 i k) b)
theorem off7_eq (i : grid1.Coords) : k1_off7 i = ![0, 0, 256 * (i 1).val, 0] :=
  congrArg (fun n => ![0, 0, n, 0]) (toNat_i i)
theorem off9_eq (i : grid1.Coords) (b : Fin 4) : k1_off9 i (BitVec.ofNat 32 b.val) = ![0, 0, 4 * (i 1).val + b.val, 0] :=
  congrArg (fun n => ![0, 0, n, 0]) (toNat_i4 i b)
theorem off10_eq (i : grid1.Coords) (k : Fin (k1_t3_loop i).trips) (b : Fin 4) : k1_off10 i k (BitVec.ofNat 32 b.val) = ![4 * k.val + b.val, 0] :=
  congrArg (fun n => ![n, 0]) (toNat_iv4 k.val (lt3 i k) b)
theorem off19_eq (i : grid1.Coords) (k : Fin (k1_t3_loop i).trips) : k1_off19 i k = ![0, 0, 0, 256 * k.val] :=
  congrArg (fun n => ![0, 0, 0, n]) (toNat_iv k.val (lt3 i k))
theorem off30_eq (i : grid1.Coords) (b : Fin 4) : k1_off30 i (BitVec.ofNat 32 b.val) = ![4 * (i 1).val + b.val, 0] :=
  congrArg (fun n => ![n, 0]) (toNat_i4 i b)
theorem off39_eq (i : grid1.Coords) : k1_off39 i = ![0, 0, 0, 256 * (i 1).val] :=
  congrArg (fun n => ![0, 0, 0, n]) (toNat_i i)
theorem off31_eq (i : grid1.Coords) : k1_off31 i = ![256 * (i 1).val, 0] :=
  congrArg (fun n => ![n, 0]) (toNat_i i)
theorem off32_eq (i : grid1.Coords) : k1_off32 i = ![256 * (i 1).val, 128] :=
  congrArg (fun n => ![n, 128]) (toNat_i i)
theorem off33_eq (i : grid1.Coords) : k1_off33 i = ![256 * (i 1).val, 256] :=
  congrArg (fun n => ![n, 256]) (toNat_i i)
theorem off34_eq (i : grid1.Coords) : k1_off34 i = ![256 * (i 1).val, 384] :=
  congrArg (fun n => ![n, 384]) (toNat_i i)
theorem off35_eq (i : grid1.Coords) : k1_off35 i = ![256 * (i 1).val, 512] :=
  congrArg (fun n => ![n, 512]) (toNat_i i)
theorem off36_eq (i : grid1.Coords) : k1_off36 i = ![256 * (i 1).val, 640] :=
  congrArg (fun n => ![n, 640]) (toNat_i i)
theorem off37_eq (i : grid1.Coords) : k1_off37 i = ![256 * (i 1).val, 768] :=
  congrArg (fun n => ![n, 768]) (toNat_i i)
theorem off38_eq (i : grid1.Coords) : k1_off38 i = ![256 * (i 1).val, 896] :=
  congrArg (fun n => ![n, 896]) (toNat_i i)

/-! ## The values that are read -/

/-- The key codes, the key scales and the value codes, by position. -/
def kc (x3 : Vec Ideal S1x1x8192x128 .fp8e4m3) (s : ℕ) (d : Fin 128) : EReal := if h : s < 8192 then x3 (ix4 (n0 := 1) (n1 := 1) (n2 := 8192) (n3 := 128) 0 0 ⟨s, h⟩ d) else 0
def kS (x4 : Vec Ideal S1x1x128x128 .f32) (b : ℕ) (l : Fin 128) : EReal := if h : b < 128 then x4 (ix4 (n0 := 1) (n1 := 1) (n2 := 128) (n3 := 128) 0 0 ⟨b, h⟩ l) else 0
def vc (x5 : Vec Ideal S1x1x128x8192 .fp8e4m3) (d : Fin 128) (s : ℕ) : EReal := if h : s < 8192 then x5 (ix4 (n0 := 1) (n1 := 1) (n2 := 128) (n3 := 8192) 0 0 d ⟨s, h⟩) else 0
/-- The query tile, its codes and its factor. -/
def tl (x2 : Vec Ideal S1x256x512 .bf16) (t : Fin 8) : Tile := tileAt x2 (t.val % 2) (t.val / 2) (Nat.mod_lt _ (by decide)) (by omega)
def qc (x2 : Vec Ideal S1x256x512 .bf16) (t : Fin 8) (j d : Fin 128) : EReal :=
  clip ((tl x2 t (ix3 (n0 := 1) (n1 := 128) (n2 := 128) 0 j d) : EReal) * (((2 : ℝ) ^ (-eT (tl x2 t)) : ℝ) : EReal))
def qs (x2 : Vec Ideal S1x256x512 .bf16) (t : Fin 8) : ℝ := (2 : ℝ) ^ eT (tl x2 t) * ((Real.log 2)⁻¹ * (Real.sqrt 128)⁻¹)
/-- The raw score of a key for a query. -/
def raw (x2 : Vec Ideal S1x256x512 .bf16) (x3 : Vec Ideal S1x1x8192x128 .fp8e4m3) (s : ℕ) (t : Fin 8) (j : Fin 128) : EReal := ∑ d : Fin 128, kc x3 s d * qc x2 t j d

/-! ## Reading back eight pieces side by side -/

section
variable {e : EltTy}
theorem rows8 (v : View sig .tc .vmem S1024x128 e) (f) (w0 w1 w2 w3 w4 w5 w6 w7 : S128x128.Idx → Elt Ideal e) (R : List (View.Piece (Elt Ideal) S1024x128 e)) (t : Fin 8) (s l : Fin 128) :
    v.read (Elt Ideal) (v.writes (Elt Ideal) f ((⟨Rect.unit (s := S1024x128) ![896, 0] S128x128.size inb_S1024x128_S128x128_896_0, w7⟩ : View.Piece (Elt Ideal) S1024x128 e) :: (⟨Rect.unit (s := S1024x128) ![768, 0] S128x128.size inb_S1024x128_S128x128_768_0, w6⟩ : View.Piece (Elt Ideal) S1024x128 e) :: (⟨Rect.unit (s := S1024x128) ![640, 0] S128x128.size inb_S1024x128_S128x128_640_0, w5⟩ : View.Piece (Elt Ideal) S1024x128 e) :: (⟨Rect.unit (s := S1024x128) ![512, 0] S128x128.size inb_S1024x128_S128x128_512_0, w4⟩ : View.Piece (Elt Ideal) S1024x128 e) :: (⟨Rect.unit (s := S1024x128) ![384, 0] S128x128.size inb_S1024x128_S128x128_384_0, w3⟩ : View.Piece (Elt Ideal) S1024x128 e) :: (⟨Rect.unit (s := S1024x128) ![256, 0] S128x128.size inb_S1024x128_S128x128_256_0, w2⟩ : View.Piece (Elt Ideal) S1024x128 e) :: (⟨Rect.unit (s := S1024x128) ![128, 0] S128x128.size inb_S1024x128_S128x128_128_0, w1⟩ : View.Piece (Elt Ideal) S1024x128 e) :: (⟨Rect.unit (s := S1024x128) ![0, 0] S128x128.size inb_S1024x128_S128x128_0_0, w0⟩ : View.Piece (Elt Ideal) S1024x128 e) :: R)) (ix2 (n0 := 1024) (n1 := 128) (col t s) l) = (match t with | 0 => w0 | 1 => w1 | 2 => w2 | 3 => w3 | 4 => w4 | 5 => w5 | 6 => w6 | 7 => w7) (ix2 s l) := by
  match t with
  | 0 =>
    refine (View.read_writes_cons_unit_of_not_mem v f _ _ _ _ rfl 0 (.inl ?_)).trans ?_
    · show 128 * 0 + _ < 896; omega
    refine (View.read_writes_cons_unit_of_not_mem v f _ _ _ _ rfl 0 (.inl ?_)).trans ?_
    · show 128 * 0 + _ < 768; omega
    refine (View.read_writes_cons_unit_of_not_mem v f _ _ _ _ rfl 0 (.inl ?_)).trans ?_
    · show 128 * 0 + _ < 640; omega
    refine (View.read_writes_cons_unit_of_not_mem v f _ _ _ _ rfl 0 (.inl ?_)).trans ?_
    · show 128 * 0 + _ < 512; omega
    refine (View.read_writes_cons_unit_of_not_mem v f _ _ _ _ rfl 0 (.inl ?_)).trans ?_
    · show 128 * 0 + _ < 384; omega
    refine (View.read_writes_cons_unit_of_not_mem v f _ _ _ _ rfl 0 (.inl ?_)).trans ?_
    · show 128 * 0 + _ < 256; omega
    refine (View.read_writes_cons_unit_of_not_mem v f _ _ _ _ rfl 0 (.inl ?_)).trans ?_
    · show 128 * 0 + _ < 128; omega
    refine View.read_writes_cons_unit_of_mem v f _ _ _ _ (ix2 s l) rfl fun a => ?_
    match a with
    | ⟨0, _⟩ => show 128 * 0 + s.val = 0 + s.val; omega
    | ⟨1, _⟩ => show l.val = 0 + l.val; omega
  | 1 =>
    refine (View.read_writes_cons_unit_of_not_mem v f _ _ _ _ rfl 0 (.inl ?_)).trans ?_
    · show 128 * 1 + _ < 896; omega
    refine (View.read_writes_cons_unit_of_not_mem v f _ _ _ _ rfl 0 (.inl ?_)).trans ?_
    · show 128 * 1 + _ < 768; omega
    refine (View.read_writes_cons_unit_of_not_mem v f _ _ _ _ rfl 0 (.inl ?_)).trans ?_
    · show 128 * 1 + _ < 640; omega
    refine (View.read_writes_cons_unit_of_not_mem v f _ _ _ _ rfl 0 (.inl ?_)).trans ?_
    · show 128 * 1 + _ < 512; omega
    refine (View.read_writes_cons_unit_of_not_mem v f _ _ _ _ rfl 0 (.inl ?_)).trans ?_
    · show 128 * 1 + _ < 384; omega
    refine (View.read_writes_cons_unit_of_not_mem v f _ _ _ _ rfl 0 (.inl ?_)).trans ?_
    · show 128 * 1 + _ < 256; omega
    refine View.read_writes_cons_unit_of_mem v f _ _ _ _ (ix2 s l) rfl fun a => ?_
    match a with
    | ⟨0, _⟩ => show 128 * 1 + s.val = 128 + s.val; omega
    | ⟨1, _⟩ => show l.val = 0 + l.val; omega
  | 2 =>
    refine (View.read_writes_cons_unit_of_not_mem v f _ _ _ _ rfl 0 (.inl ?_)).trans ?_
    · show 128 * 2 + _ < 896; omega
    refine (View.read_writes_cons_unit_of_not_mem v f _ _ _ _ rfl 0 (.inl ?_)).trans ?_
    · show 128 * 2 + _ < 768; omega
    refine (View.read_writes_cons_unit_of_not_mem v f _ _ _ _ rfl 0 (.inl ?_)).trans ?_
    · show 128 * 2 + _ < 640; omega
    refine (View.read_writes_cons_unit_of_not_mem v f _ _ _ _ rfl 0 (.inl ?_)).trans ?_
    · show 128 * 2 + _ < 512; omega
    refine (View.read_writes_cons_unit_of_not_mem v f _ _ _ _ rfl 0 (.inl ?_)).trans ?_
    · show 128 * 2 + _ < 384; omega
    refine View.read_writes_cons_unit_of_mem v f _ _ _ _ (ix2 s l) rfl fun a => ?_
    match a with
    | ⟨0, _⟩ => show 128 * 2 + s.val = 256 + s.val; omega
    | ⟨1, _⟩ => show l.val = 0 + l.val; omega
  | 3 =>
    refine (View.read_writes_cons_unit_of_not_mem v f _ _ _ _ rfl 0 (.inl ?_)).trans ?_
    · show 128 * 3 + _ < 896; omega
    refine (View.read_writes_cons_unit_of_not_mem v f _ _ _ _ rfl 0 (.inl ?_)).trans ?_
    · show 128 * 3 + _ < 768; omega
    refine (View.read_writes_cons_unit_of_not_mem v f _ _ _ _ rfl 0 (.inl ?_)).trans ?_
    · show 128 * 3 + _ < 640; omega
    refine (View.read_writes_cons_unit_of_not_mem v f _ _ _ _ rfl 0 (.inl ?_)).trans ?_
    · show 128 * 3 + _ < 512; omega
    refine View.read_writes_cons_unit_of_mem v f _ _ _ _ (ix2 s l) rfl fun a => ?_
    match a with
    | ⟨0, _⟩ => show 128 * 3 + s.val = 384 + s.val; omega
    | ⟨1, _⟩ => show l.val = 0 + l.val; omega
  | 4 =>
    refine (View.read_writes_cons_unit_of_not_mem v f _ _ _ _ rfl 0 (.inl ?_)).trans ?_
    · show 128 * 4 + _ < 896; omega
    refine (View.read_writes_cons_unit_of_not_mem v f _ _ _ _ rfl 0 (.inl ?_)).trans ?_
    · show 128 * 4 + _ < 768; omega
    refine (View.read_writes_cons_unit_of_not_mem v f _ _ _ _ rfl 0 (.inl ?_)).trans ?_
    · show 128 * 4 + _ < 640; omega
    refine View.read_writes_cons_unit_of_mem v f _ _ _ _ (ix2 s l) rfl fun a => ?_
    match a with
    | ⟨0, _⟩ => show 128 * 4 + s.val = 512 + s.val; omega
    | ⟨1, _⟩ => show l.val = 0 + l.val; omega
  | 5 =>
    refine (View.read_writes_cons_unit_of_not_mem v f _ _ _ _ rfl 0 (.inl ?_)).trans ?_
    · show 128 * 5 + _ < 896; omega
    refine (View.read_writes_cons_unit_of_not_mem v f _ _ _ _ rfl 0 (.inl ?_)).trans ?_
    · show 128 * 5 + _ < 768; omega
    refine View.read_writes_cons_unit_of_mem v f _ _ _ _ (ix2 s l) rfl fun a => ?_
    match a with
    | ⟨0, _⟩ => show 128 * 5 + s.val = 640 + s.val; omega
    | ⟨1, _⟩ => show l.val = 0 + l.val; omega
  | 6 =>
    refine (View.read_writes_cons_unit_of_not_mem v f _ _ _ _ rfl 0 (.inl ?_)).trans ?_
    · show 128 * 6 + _ < 896; omega
    refine View.read_writes_cons_unit_of_mem v f _ _ _ _ (ix2 s l) rfl fun a => ?_
    match a with
    | ⟨0, _⟩ => show 128 * 6 + s.val = 768 + s.val; omega
    | ⟨1, _⟩ => show l.val = 0 + l.val; omega
  | 7 =>
    refine View.read_writes_cons_unit_of_mem v f _ _ _ _ (ix2 s l) rfl fun a => ?_
    match a with
    | ⟨0, _⟩ => show 128 * 7 + s.val = 896 + s.val; omega
    | ⟨1, _⟩ => show l.val = 0 + l.val; omega

theorem cols8_128 (v : View sig .tc .vmem S128x1024 e) (f) (w0 w1 w2 w3 w4 w5 w6 w7 : S128x128.Idx → Elt Ideal e) (R : List (View.Piece (Elt Ideal) S128x1024 e)) (t : Fin 8) (s : Fin 128) (l : Fin 128) :
    v.read (Elt Ideal) (v.writes (Elt Ideal) f ((⟨Rect.unit (s := S128x1024) ![0, 896] S128x128.size inb_S128x1024_S128x128_0_896, w7⟩ : View.Piece (Elt Ideal) S128x1024 e) :: (⟨Rect.unit (s := S128x1024) ![0, 768] S128x128.size inb_S128x1024_S128x128_0_768, w6⟩ : View.Piece (Elt Ideal) S128x1024 e) :: (⟨Rect.unit (s := S128x1024) ![0, 640] S128x128.size inb_S128x1024_S128x128_0_640, w5⟩ : View.Piece (Elt Ideal) S128x1024 e) :: (⟨Rect.unit (s := S128x1024) ![0, 512] S128x128.size inb_S128x1024_S128x128_0_512, w4⟩ : View.Piece (Elt Ideal) S128x1024 e) :: (⟨Rect.unit (s := S128x1024) ![0, 384] S128x128.size inb_S128x1024_S128x128_0_384, w3⟩ : View.Piece (Elt Ideal) S128x1024 e) :: (⟨Rect.unit (s := S128x1024) ![0, 256] S128x128.size inb_S128x1024_S128x128_0_256, w2⟩ : View.Piece (Elt Ideal) S128x1024 e) :: (⟨Rect.unit (s := S128x1024) ![0, 128] S128x128.size inb_S128x1024_S128x128_0_128, w1⟩ : View.Piece (Elt Ideal) S128x1024 e) :: (⟨Rect.unit (s := S128x1024) ![0, 0] S128x128.size inb_S128x1024_S128x128_0_0, w0⟩ : View.Piece (Elt Ideal) S128x1024 e) :: R)) (ix2 (n0 := 128) (n1 := 1024) s (col t l)) = (match t with | 0 => w0 | 1 => w1 | 2 => w2 | 3 => w3 | 4 => w4 | 5 => w5 | 6 => w6 | 7 => w7) (ix2 s l) := by
  match t with
  | 0 =>
    refine (View.read_writes_cons_unit_of_not_mem v f _ _ _ _ rfl 1 (.inl ?_)).trans ?_
    · show 128 * 0 + _ < 896; omega
    refine (View.read_writes_cons_unit_of_not_mem v f _ _ _ _ rfl 1 (.inl ?_)).trans ?_
    · show 128 * 0 + _ < 768; omega
    refine (View.read_writes_cons_unit_of_not_mem v f _ _ _ _ rfl 1 (.inl ?_)).trans ?_
    · show 128 * 0 + _ < 640; omega
    refine (View.read_writes_cons_unit_of_not_mem v f _ _ _ _ rfl 1 (.inl ?_)).trans ?_
    · show 128 * 0 + _ < 512; omega
    refine (View.read_writes_cons_unit_of_not_mem v f _ _ _ _ rfl 1 (.inl ?_)).trans ?_
    · show 128 * 0 + _ < 384; omega
    refine (View.read_writes_cons_unit_of_not_mem v f _ _ _ _ rfl 1 (.inl ?_)).trans ?_
    · show 128 * 0 + _ < 256; omega
    refine (View.read_writes_cons_unit_of_not_mem v f _ _ _ _ rfl 1 (.inl ?_)).trans ?_
    · show 128 * 0 + _ < 128; omega
    refine View.read_writes_cons_unit_of_mem v f _ _ _ _ (ix2 s l) rfl fun a => ?_
    match a with
    | ⟨0, _⟩ => show s.val = 0 + s.val; omega
    | ⟨1, _⟩ => show 128 * 0 + l.val = 0 + l.val; omega
  | 1 =>
    refine (View.read_writes_cons_unit_of_not_mem v f _ _ _ _ rfl 1 (.inl ?_)).trans ?_
    · show 128 * 1 + _ < 896; omega
    refine (View.read_writes_cons_unit_of_not_mem v f _ _ _ _ rfl 1 (.inl ?_)).trans ?_
    · show 128 * 1 + _ < 768; omega
    refine (View.read_writes_cons_unit_of_not_mem v f _ _ _ _ rfl 1 (.inl ?_)).trans ?_
    · show 128 * 1 + _ < 640; omega
    refine (View.read_writes_cons_unit_of_not_mem v f _ _ _ _ rfl 1 (.inl ?_)).trans ?_
    · show 128 * 1 + _ < 512; omega
    refine (View.read_writes_cons_unit_of_not_mem v f _ _ _ _ rfl 1 (.inl ?_)).trans ?_
    · show 128 * 1 + _ < 384; omega
    refine (View.read_writes_cons_unit_of_not_mem v f _ _ _ _ rfl 1 (.inl ?_)).trans ?_
    · show 128 * 1 + _ < 256; omega
    refine View.read_writes_cons_unit_of_mem v f _ _ _ _ (ix2 s l) rfl fun a => ?_
    match a with
    | ⟨0, _⟩ => show s.val = 0 + s.val; omega
    | ⟨1, _⟩ => show 128 * 1 + l.val = 128 + l.val; omega
  | 2 =>
    refine (View.read_writes_cons_unit_of_not_mem v f _ _ _ _ rfl 1 (.inl ?_)).trans ?_
    · show 128 * 2 + _ < 896; omega
    refine (View.read_writes_cons_unit_of_not_mem v f _ _ _ _ rfl 1 (.inl ?_)).trans ?_
    · show 128 * 2 + _ < 768; omega
    refine (View.read_writes_cons_unit_of_not_mem v f _ _ _ _ rfl 1 (.inl ?_)).trans ?_
    · show 128 * 2 + _ < 640; omega
    refine (View.read_writes_cons_unit_of_not_mem v f _ _ _ _ rfl 1 (.inl ?_)).trans ?_
    · show 128 * 2 + _ < 512; omega
    refine (View.read_writes_cons_unit_of_not_mem v f _ _ _ _ rfl 1 (.inl ?_)).trans ?_
    · show 128 * 2 + _ < 384; omega
    refine View.read_writes_cons_unit_of_mem v f _ _ _ _ (ix2 s l) rfl fun a => ?_
    match a with
    | ⟨0, _⟩ => show s.val = 0 + s.val; omega
    | ⟨1, _⟩ => show 128 * 2 + l.val = 256 + l.val; omega
  | 3 =>
    refine (View.read_writes_cons_unit_of_not_mem v f _ _ _ _ rfl 1 (.inl ?_)).trans ?_
    · show 128 * 3 + _ < 896; omega
    refine (View.read_writes_cons_unit_of_not_mem v f _ _ _ _ rfl 1 (.inl ?_)).trans ?_
    · show 128 * 3 + _ < 768; omega
    refine (View.read_writes_cons_unit_of_not_mem v f _ _ _ _ rfl 1 (.inl ?_)).trans ?_
    · show 128 * 3 + _ < 640; omega
    refine (View.read_writes_cons_unit_of_not_mem v f _ _ _ _ rfl 1 (.inl ?_)).trans ?_
    · show 128 * 3 + _ < 512; omega
    refine View.read_writes_cons_unit_of_mem v f _ _ _ _ (ix2 s l) rfl fun a => ?_
    match a with
    | ⟨0, _⟩ => show s.val = 0 + s.val; omega
    | ⟨1, _⟩ => show 128 * 3 + l.val = 384 + l.val; omega
  | 4 =>
    refine (View.read_writes_cons_unit_of_not_mem v f _ _ _ _ rfl 1 (.inl ?_)).trans ?_
    · show 128 * 4 + _ < 896; omega
    refine (View.read_writes_cons_unit_of_not_mem v f _ _ _ _ rfl 1 (.inl ?_)).trans ?_
    · show 128 * 4 + _ < 768; omega
    refine (View.read_writes_cons_unit_of_not_mem v f _ _ _ _ rfl 1 (.inl ?_)).trans ?_
    · show 128 * 4 + _ < 640; omega
    refine View.read_writes_cons_unit_of_mem v f _ _ _ _ (ix2 s l) rfl fun a => ?_
    match a with
    | ⟨0, _⟩ => show s.val = 0 + s.val; omega
    | ⟨1, _⟩ => show 128 * 4 + l.val = 512 + l.val; omega
  | 5 =>
    refine (View.read_writes_cons_unit_of_not_mem v f _ _ _ _ rfl 1 (.inl ?_)).trans ?_
    · show 128 * 5 + _ < 896; omega
    refine (View.read_writes_cons_unit_of_not_mem v f _ _ _ _ rfl 1 (.inl ?_)).trans ?_
    · show 128 * 5 + _ < 768; omega
    refine View.read_writes_cons_unit_of_mem v f _ _ _ _ (ix2 s l) rfl fun a => ?_
    match a with
    | ⟨0, _⟩ => show s.val = 0 + s.val; omega
    | ⟨1, _⟩ => show 128 * 5 + l.val = 640 + l.val; omega
  | 6 =>
    refine (View.read_writes_cons_unit_of_not_mem v f _ _ _ _ rfl 1 (.inl ?_)).trans ?_
    · show 128 * 6 + _ < 896; omega
    refine View.read_writes_cons_unit_of_mem v f _ _ _ _ (ix2 s l) rfl fun a => ?_
    match a with
    | ⟨0, _⟩ => show s.val = 0 + s.val; omega
    | ⟨1, _⟩ => show 128 * 6 + l.val = 768 + l.val; omega
  | 7 =>
    refine View.read_writes_cons_unit_of_mem v f _ _ _ _ (ix2 s l) rfl fun a => ?_
    match a with
    | ⟨0, _⟩ => show s.val = 0 + s.val; omega
    | ⟨1, _⟩ => show 128 * 7 + l.val = 896 + l.val; omega

theorem cols8_256 (v : View sig .tc .vmem S256x1024 e) (f) (w0 w1 w2 w3 w4 w5 w6 w7 : S256x128.Idx → Elt Ideal e) (R : List (View.Piece (Elt Ideal) S256x1024 e)) (t : Fin 8) (s : Fin 256) (l : Fin 128) :
    v.read (Elt Ideal) (v.writes (Elt Ideal) f ((⟨Rect.unit (s := S256x1024) ![0, 896] S256x128.size inb_S256x1024_S256x128_0_896, w7⟩ : View.Piece (Elt Ideal) S256x1024 e) :: (⟨Rect.unit (s := S256x1024) ![0, 768] S256x128.size inb_S256x1024_S256x128_0_768, w6⟩ : View.Piece (Elt Ideal) S256x1024 e) :: (⟨Rect.unit (s := S256x1024) ![0, 640] S256x128.size inb_S256x1024_S256x128_0_640, w5⟩ : View.Piece (Elt Ideal) S256x1024 e) :: (⟨Rect.unit (s := S256x1024) ![0, 512] S256x128.size inb_S256x1024_S256x128_0_512, w4⟩ : View.Piece (Elt Ideal) S256x1024 e) :: (⟨Rect.unit (s := S256x1024) ![0, 384] S256x128.size inb_S256x1024_S256x128_0_384, w3⟩ : View.Piece (Elt Ideal) S256x1024 e) :: (⟨Rect.unit (s := S256x1024) ![0, 256] S256x128.size inb_S256x1024_S256x128_0_256, w2⟩ : View.Piece (Elt Ideal) S256x1024 e) :: (⟨Rect.unit (s := S256x1024) ![0, 128] S256x128.size inb_S256x1024_S256x128_0_128, w1⟩ : View.Piece (Elt Ideal) S256x1024 e) :: (⟨Rect.unit (s := S256x1024) ![0, 0] S256x128.size inb_S256x1024_S256x128_0_0, w0⟩ : View.Piece (Elt Ideal) S256x1024 e) :: R)) (ix2 (n0 := 256) (n1 := 1024) s (col t l)) = (match t with | 0 => w0 | 1 => w1 | 2 => w2 | 3 => w3 | 4 => w4 | 5 => w5 | 6 => w6 | 7 => w7) (ix2 s l) := by
  match t with
  | 0 =>
    refine (View.read_writes_cons_unit_of_not_mem v f _ _ _ _ rfl 1 (.inl ?_)).trans ?_
    · show 128 * 0 + _ < 896; omega
    refine (View.read_writes_cons_unit_of_not_mem v f _ _ _ _ rfl 1 (.inl ?_)).trans ?_
    · show 128 * 0 + _ < 768; omega
    refine (View.read_writes_cons_unit_of_not_mem v f _ _ _ _ rfl 1 (.inl ?_)).trans ?_
    · show 128 * 0 + _ < 640; omega
    refine (View.read_writes_cons_unit_of_not_mem v f _ _ _ _ rfl 1 (.inl ?_)).trans ?_
    · show 128 * 0 + _ < 512; omega
    refine (View.read_writes_cons_unit_of_not_mem v f _ _ _ _ rfl 1 (.inl ?_)).trans ?_
    · show 128 * 0 + _ < 384; omega
    refine (View.read_writes_cons_unit_of_not_mem v f _ _ _ _ rfl 1 (.inl ?_)).trans ?_
    · show 128 * 0 + _ < 256; omega
    refine (View.read_writes_cons_unit_of_not_mem v f _ _ _ _ rfl 1 (.inl ?_)).trans ?_
    · show 128 * 0 + _ < 128; omega
    refine View.read_writes_cons_unit_of_mem v f _ _ _ _ (ix2 s l) rfl fun a => ?_
    match a with
    | ⟨0, _⟩ => show s.val = 0 + s.val; omega
    | ⟨1, _⟩ => show 128 * 0 + l.val = 0 + l.val; omega
  | 1 =>
    refine (View.read_writes_cons_unit_of_not_mem v f _ _ _ _ rfl 1 (.inl ?_)).trans ?_
    · show 128 * 1 + _ < 896; omega
    refine (View.read_writes_cons_unit_of_not_mem v f _ _ _ _ rfl 1 (.inl ?_)).trans ?_
    · show 128 * 1 + _ < 768; omega
    refine (View.read_writes_cons_unit_of_not_mem v f _ _ _ _ rfl 1 (.inl ?_)).trans ?_
    · show 128 * 1 + _ < 640; omega
    refine (View.read_writes_cons_unit_of_not_mem v f _ _ _ _ rfl 1 (.inl ?_)).trans ?_
    · show 128 * 1 + _ < 512; omega
    refine (View.read_writes_cons_unit_of_not_mem v f _ _ _ _ rfl 1 (.inl ?_)).trans ?_
    · show 128 * 1 + _ < 384; omega
    refine (View.read_writes_cons_unit_of_not_mem v f _ _ _ _ rfl 1 (.inl ?_)).trans ?_
    · show 128 * 1 + _ < 256; omega
    refine View.read_writes_cons_unit_of_mem v f _ _ _ _ (ix2 s l) rfl fun a => ?_
    match a with
    | ⟨0, _⟩ => show s.val = 0 + s.val; omega
    | ⟨1, _⟩ => show 128 * 1 + l.val = 128 + l.val; omega
  | 2 =>
    refine (View.read_writes_cons_unit_of_not_mem v f _ _ _ _ rfl 1 (.inl ?_)).trans ?_
    · show 128 * 2 + _ < 896; omega
    refine (View.read_writes_cons_unit_of_not_mem v f _ _ _ _ rfl 1 (.inl ?_)).trans ?_
    · show 128 * 2 + _ < 768; omega
    refine (View.read_writes_cons_unit_of_not_mem v f _ _ _ _ rfl 1 (.inl ?_)).trans ?_
    · show 128 * 2 + _ < 640; omega
    refine (View.read_writes_cons_unit_of_not_mem v f _ _ _ _ rfl 1 (.inl ?_)).trans ?_
    · show 128 * 2 + _ < 512; omega
    refine (View.read_writes_cons_unit_of_not_mem v f _ _ _ _ rfl 1 (.inl ?_)).trans ?_
    · show 128 * 2 + _ < 384; omega
    refine View.read_writes_cons_unit_of_mem v f _ _ _ _ (ix2 s l) rfl fun a => ?_
    match a with
    | ⟨0, _⟩ => show s.val = 0 + s.val; omega
    | ⟨1, _⟩ => show 128 * 2 + l.val = 256 + l.val; omega
  | 3 =>
    refine (View.read_writes_cons_unit_of_not_mem v f _ _ _ _ rfl 1 (.inl ?_)).trans ?_
    · show 128 * 3 + _ < 896; omega
    refine (View.read_writes_cons_unit_of_not_mem v f _ _ _ _ rfl 1 (.inl ?_)).trans ?_
    · show 128 * 3 + _ < 768; omega
    refine (View.read_writes_cons_unit_of_not_mem v f _ _ _ _ rfl 1 (.inl ?_)).trans ?_
    · show 128 * 3 + _ < 640; omega
    refine (View.read_writes_cons_unit_of_not_mem v f _ _ _ _ rfl 1 (.inl ?_)).trans ?_
    · show 128 * 3 + _ < 512; omega
    refine View.read_writes_cons_unit_of_mem v f _ _ _ _ (ix2 s l) rfl fun a => ?_
    match a with
    | ⟨0, _⟩ => show s.val = 0 + s.val; omega
    | ⟨1, _⟩ => show 128 * 3 + l.val = 384 + l.val; omega
  | 4 =>
    refine (View.read_writes_cons_unit_of_not_mem v f _ _ _ _ rfl 1 (.inl ?_)).trans ?_
    · show 128 * 4 + _ < 896; omega
    refine (View.read_writes_cons_unit_of_not_mem v f _ _ _ _ rfl 1 (.inl ?_)).trans ?_
    · show 128 * 4 + _ < 768; omega
    refine (View.read_writes_cons_unit_of_not_mem v f _ _ _ _ rfl 1 (.inl ?_)).trans ?_
    · show 128 * 4 + _ < 640; omega
    refine View.read_writes_cons_unit_of_mem v f _ _ _ _ (ix2 s l) rfl fun a => ?_
    match a with
    | ⟨0, _⟩ => show s.val = 0 + s.val; omega
    | ⟨1, _⟩ => show 128 * 4 + l.val = 512 + l.val; omega
  | 5 =>
    refine (View.read_writes_cons_unit_of_not_mem v f _ _ _ _ rfl 1 (.inl ?_)).trans ?_
    · show 128 * 5 + _ < 896; omega
    refine (View.read_writes_cons_unit_of_not_mem v f _ _ _ _ rfl 1 (.inl ?_)).trans ?_
    · show 128 * 5 + _ < 768; omega
    refine View.read_writes_cons_unit_of_mem v f _ _ _ _ (ix2 s l) rfl fun a => ?_
    match a with
    | ⟨0, _⟩ => show s.val = 0 + s.val; omega
    | ⟨1, _⟩ => show 128 * 5 + l.val = 640 + l.val; omega
  | 6 =>
    refine (View.read_writes_cons_unit_of_not_mem v f _ _ _ _ rfl 1 (.inl ?_)).trans ?_
    · show 128 * 6 + _ < 896; omega
    refine View.read_writes_cons_unit_of_mem v f _ _ _ _ (ix2 s l) rfl fun a => ?_
    match a with
    | ⟨0, _⟩ => show s.val = 0 + s.val; omega
    | ⟨1, _⟩ => show 128 * 6 + l.val = 768 + l.val; omega
  | 7 =>
    refine View.read_writes_cons_unit_of_mem v f _ _ _ _ (ix2 s l) rfl fun a => ?_
    match a with
    | ⟨0, _⟩ => show s.val = 0 + s.val; omega
    | ⟨1, _⟩ => show 128 * 7 + l.val = 896 + l.val; omega

/-- A read over the whole buffer. -/
theorem cov_ap {s : Shape} (v : View sig .tc .vmem s e) (L : List (View.Piece (Elt Ideal) s e)) {off : Fin s.rank → ℕ} (inb : ∀ a, off a + s.size a ≤ s.size a) (y : s.Idx) :
    v.readCov L (Rect.unit (s := s) off s.size inb).toLoadRect y = v.read (Elt Ideal) (v.writes (Elt Ideal) v.junk L) y :=
  congrFun (View.readAt_full v (v.writes (Elt Ideal) v.junk L) inb) y
end

/-! ## Queries -/

def tR (arg2 : Memref sig .tc .vmem S1x256x512 .bf16) (harg2 : arg2.IsWhole) (x2 : Vec Ideal S1x256x512 .bf16) (off : Fin 3 → ℕ) (inb : ∀ a, off a + S1x128x128.size a ≤ S1x256x512.size a) : Tile :=
  View.readAt (Elt Ideal) arg2.view (Rect.unit (s := S1x256x512) off S1x128x128.size inb).toLoadRect (harg2.unread x2)
theorem tR_0 (arg2 : Memref sig .tc .vmem S1x256x512 .bf16) (harg2 : arg2.IsWhole) (x2 : Vec Ideal S1x256x512 .bf16) : (tR arg2 harg2 x2 ![0, 0, 0] inb_S1x256x512_S1x128x128_0_0_0) = tl x2 0 :=
  read_tile arg2 harg2 x2 0 0 (by decide) (by decide) _ rfl rfl rfl inb_S1x256x512_S1x128x128_0_0_0
theorem qs_0 (c : Dev nD) (arg2 : Memref sig .tc .vmem S1x256x512 .bf16) (harg2 : arg2.IsWhole) (x2 : Vec Ideal S1x256x512 .bf16) (l : Fin 128) : (kernelRun.sl.r_10 (F := Ideal) c arg2 harg2 x2 (ix2 0 l) : EReal) = (qs x2 0 : EReal) := by
  have h : kernelRun.sl.r_10 (F := Ideal) c arg2 harg2 x2 = qsmT (tR arg2 harg2 x2 ![0, 0, 0] inb_S1x256x512_S1x128x128_0_0_0) := by with_unfolding_all rfl
  rw [h, tR_0, qsmT_apply]; rfl
theorem tR_1 (arg2 : Memref sig .tc .vmem S1x256x512 .bf16) (harg2 : arg2.IsWhole) (x2 : Vec Ideal S1x256x512 .bf16) : (tR arg2 harg2 x2 ![0, 128, 0] inb_S1x256x512_S1x128x128_0_128_0) = tl x2 1 :=
  read_tile arg2 harg2 x2 1 0 (by decide) (by decide) _ rfl rfl rfl inb_S1x256x512_S1x128x128_0_128_0
theorem qs_1 (c : Dev nD) (arg2 : Memref sig .tc .vmem S1x256x512 .bf16) (harg2 : arg2.IsWhole) (x2 : Vec Ideal S1x256x512 .bf16) (l : Fin 128) : (kernelRun.sl.r_18 (F := Ideal) c arg2 harg2 x2 (ix2 0 l) : EReal) = (qs x2 1 : EReal) := by
  have h : kernelRun.sl.r_18 (F := Ideal) c arg2 harg2 x2 = qsmT (tR arg2 harg2 x2 ![0, 128, 0] inb_S1x256x512_S1x128x128_0_128_0) := by with_unfolding_all rfl
  rw [h, tR_1, qsmT_apply]; rfl
theorem tR_2 (arg2 : Memref sig .tc .vmem S1x256x512 .bf16) (harg2 : arg2.IsWhole) (x2 : Vec Ideal S1x256x512 .bf16) : (tR arg2 harg2 x2 ![0, 0, 128] inb_S1x256x512_S1x128x128_0_0_128) = tl x2 2 :=
  read_tile arg2 harg2 x2 0 1 (by decide) (by decide) _ rfl rfl rfl inb_S1x256x512_S1x128x128_0_0_128
theorem qs_2 (c : Dev nD) (arg2 : Memref sig .tc .vmem S1x256x512 .bf16) (harg2 : arg2.IsWhole) (x2 : Vec Ideal S1x256x512 .bf16) (l : Fin 128) : (kernelRun.sl.r_29 (F := Ideal) c arg2 harg2 x2 (ix2 0 l) : EReal) = (qs x2 2 : EReal) := by
  have h : kernelRun.sl.r_29 (F := Ideal) c arg2 harg2 x2 = qsmT (tR arg2 harg2 x2 ![0, 0, 128] inb_S1x256x512_S1x128x128_0_0_128) := by with_unfolding_all rfl
  rw [h, tR_2, qsmT_apply]; rfl
theorem tR_3 (arg2 : Memref sig .tc .vmem S1x256x512 .bf16) (harg2 : arg2.IsWhole) (x2 : Vec Ideal S1x256x512 .bf16) : (tR arg2 harg2 x2 ![0, 128, 128] inb_S1x256x512_S1x128x128_0_128_128) = tl x2 3 :=
  read_tile arg2 harg2 x2 1 1 (by decide) (by decide) _ rfl rfl rfl inb_S1x256x512_S1x128x128_0_128_128
theorem qs_3 (c : Dev nD) (arg2 : Memref sig .tc .vmem S1x256x512 .bf16) (harg2 : arg2.IsWhole) (x2 : Vec Ideal S1x256x512 .bf16) (l : Fin 128) : (kernelRun.sl.r_38 (F := Ideal) c arg2 harg2 x2 (ix2 0 l) : EReal) = (qs x2 3 : EReal) := by
  have h : kernelRun.sl.r_38 (F := Ideal) c arg2 harg2 x2 = qsmT (tR arg2 harg2 x2 ![0, 128, 128] inb_S1x256x512_S1x128x128_0_128_128) := by with_unfolding_all rfl
  rw [h, tR_3, qsmT_apply]; rfl
theorem tR_4 (arg2 : Memref sig .tc .vmem S1x256x512 .bf16) (harg2 : arg2.IsWhole) (x2 : Vec Ideal S1x256x512 .bf16) : (tR arg2 harg2 x2 ![0, 0, 256] inb_S1x256x512_S1x128x128_0_0_256) = tl x2 4 :=
  read_tile arg2 harg2 x2 0 2 (by decide) (by decide) _ rfl rfl rfl inb_S1x256x512_S1x128x128_0_0_256
theorem qs_4 (c : Dev nD) (arg2 : Memref sig .tc .vmem S1x256x512 .bf16) (harg2 : arg2.IsWhole) (x2 : Vec Ideal S1x256x512 .bf16) (l : Fin 128) : (kernelRun.sl.r_47 (F := Ideal) c arg2 harg2 x2 (ix2 0 l) : EReal) = (qs x2 4 : EReal) := by
  have h : kernelRun.sl.r_47 (F := Ideal) c arg2 harg2 x2 = qsmT (tR arg2 harg2 x2 ![0, 0, 256] inb_S1x256x512_S1x128x128_0_0_256) := by with_unfolding_all rfl
  rw [h, tR_4, qsmT_apply]; rfl
theorem tR_5 (arg2 : Memref sig .tc .vmem S1x256x512 .bf16) (harg2 : arg2.IsWhole) (x2 : Vec Ideal S1x256x512 .bf16) : (tR arg2 harg2 x2 ![0, 128, 256] inb_S1x256x512_S1x128x128_0_128_256) = tl x2 5 :=
  read_tile arg2 harg2 x2 1 2 (by decide) (by decide) _ rfl rfl rfl inb_S1x256x512_S1x128x128_0_128_256
theorem qs_5 (c : Dev nD) (arg2 : Memref sig .tc .vmem S1x256x512 .bf16) (harg2 : arg2.IsWhole) (x2 : Vec Ideal S1x256x512 .bf16) (l : Fin 128) : (kernelRun.sl.r_54 (F := Ideal) c arg2 harg2 x2 (ix2 0 l) : EReal) = (qs x2 5 : EReal) := by
  have h : kernelRun.sl.r_54 (F := Ideal) c arg2 harg2 x2 = qsmT (tR arg2 harg2 x2 ![0, 128, 256] inb_S1x256x512_S1x128x128_0_128_256) := by with_unfolding_all rfl
  rw [h, tR_5, qsmT_apply]; rfl
theorem tR_6 (arg2 : Memref sig .tc .vmem S1x256x512 .bf16) (harg2 : arg2.IsWhole) (x2 : Vec Ideal S1x256x512 .bf16) : (tR arg2 harg2 x2 ![0, 0, 384] inb_S1x256x512_S1x128x128_0_0_384) = tl x2 6 :=
  read_tile arg2 harg2 x2 0 3 (by decide) (by decide) _ rfl rfl rfl inb_S1x256x512_S1x128x128_0_0_384
theorem qs_6 (c : Dev nD) (arg2 : Memref sig .tc .vmem S1x256x512 .bf16) (harg2 : arg2.IsWhole) (x2 : Vec Ideal S1x256x512 .bf16) (l : Fin 128) : (kernelRun.sl.r_62 (F := Ideal) c arg2 harg2 x2 (ix2 0 l) : EReal) = (qs x2 6 : EReal) := by
  have h : kernelRun.sl.r_62 (F := Ideal) c arg2 harg2 x2 = qsmT (tR arg2 harg2 x2 ![0, 0, 384] inb_S1x256x512_S1x128x128_0_0_384) := by with_unfolding_all rfl
  rw [h, tR_6, qsmT_apply]; rfl
theorem tR_7 (arg2 : Memref sig .tc .vmem S1x256x512 .bf16) (harg2 : arg2.IsWhole) (x2 : Vec Ideal S1x256x512 .bf16) : (tR arg2 harg2 x2 ![0, 128, 384] inb_S1x256x512_S1x128x128_0_128_384) = tl x2 7 :=
  read_tile arg2 harg2 x2 1 3 (by decide) (by decide) _ rfl rfl rfl inb_S1x256x512_S1x128x128_0_128_384
theorem qs_7 (c : Dev nD) (arg2 : Memref sig .tc .vmem S1x256x512 .bf16) (harg2 : arg2.IsWhole) (x2 : Vec Ideal S1x256x512 .bf16) (l : Fin 128) : (kernelRun.sl.r_69 (F := Ideal) c arg2 harg2 x2 (ix2 0 l) : EReal) = (qs x2 7 : EReal) := by
  have h : kernelRun.sl.r_69 (F := Ideal) c arg2 harg2 x2 = qsmT (tR arg2 harg2 x2 ![0, 128, 384] inb_S1x256x512_S1x128x128_0_128_384) := by with_unfolding_all rfl
  rw [h, tR_7, qsmT_apply]; rfl

theorem h12_eq (c : Dev nD) (arg2 : Memref sig .tc .vmem S1x256x512 .bf16) (harg2 : arg2.IsWhole) (x2 : Vec Ideal S1x256x512 .bf16) : kernelRun.sl.H12_8 (F := Ideal) c arg2 harg2 x2 = (⟨Rect.unit (s := S1024x128) ![896, 0] S128x128.size inb_S1024x128_S128x128_896_0, shapeCast S128x128 (codesT (tR arg2 harg2 x2 ![0, 128, 384] inb_S1x256x512_S1x128x128_0_128_384)) shapeCasts_S128x128_S128x128⟩ : View.Piece (Elt Ideal) S1024x128 .fp8e4m3) :: (⟨Rect.unit (s := S1024x128) ![768, 0] S128x128.size inb_S1024x128_S128x128_768_0, shapeCast S128x128 (codesT (tR arg2 harg2 x2 ![0, 0, 384] inb_S1x256x512_S1x128x128_0_0_384)) shapeCasts_S128x128_S128x128⟩ : View.Piece (Elt Ideal) S1024x128 .fp8e4m3) :: (⟨Rect.unit (s := S1024x128) ![640, 0] S128x128.size inb_S1024x128_S128x128_640_0, shapeCast S128x128 (codesT (tR arg2 harg2 x2 ![0, 128, 256] inb_S1x256x512_S1x128x128_0_128_256)) shapeCasts_S128x128_S128x128⟩ : View.Piece (Elt Ideal) S1024x128 .fp8e4m3) :: (⟨Rect.unit (s := S1024x128) ![512, 0] S128x128.size inb_S1024x128_S128x128_512_0, shapeCast S128x128 (codesT (tR arg2 harg2 x2 ![0, 0, 256] inb_S1x256x512_S1x128x128_0_0_256)) shapeCasts_S128x128_S128x128⟩ : View.Piece (Elt Ideal) S1024x128 .fp8e4m3) :: (⟨Rect.unit (s := S1024x128) ![384, 0] S128x128.size inb_S1024x128_S128x128_384_0, shapeCast S128x128 (codesT (tR arg2 harg2 x2 ![0, 128, 128] inb_S1x256x512_S1x128x128_0_128_128)) shapeCasts_S128x128_S128x128⟩ : View.Piece (Elt Ideal) S1024x128 .fp8e4m3) :: (⟨Rect.unit (s := S1024x128) ![256, 0] S128x128.size inb_S1024x128_S128x128_256_0, shapeCast S128x128 (codesT (tR arg2 harg2 x2 ![0, 0, 128] inb_S1x256x512_S1x128x128_0_0_128)) shapeCasts_S128x128_S128x128⟩ : View.Piece (Elt Ideal) S1024x128 .fp8e4m3) :: (⟨Rect.unit (s := S1024x128) ![128, 0] S128x128.size inb_S1024x128_S128x128_128_0, shapeCast S128x128 (codesT (tR arg2 harg2 x2 ![0, 128, 0] inb_S1x256x512_S1x128x128_0_128_0)) shapeCasts_S128x128_S128x128⟩ : View.Piece (Elt Ideal) S1024x128 .fp8e4m3) :: (⟨Rect.unit (s := S1024x128) ![0, 0] S128x128.size inb_S1024x128_S128x128_0_0, shapeCast S128x128 (codesT (tR arg2 harg2 x2 ![0, 0, 0] inb_S1x256x512_S1x128x128_0_0_0)) shapeCasts_S128x128_S128x128⟩ : View.Piece (Elt Ideal) S1024x128 .fp8e4m3) :: [] := by
  with_unfolding_all rfl

theorem code_ap (v0 : Tile) (j d : Fin 128) : (shapeCast S128x128 (codesT v0) shapeCasts_S128x128_S128x128 (ix2 j d) : EReal)
    = clip ((v0 (ix3 (n0 := 1) (n1 := 128) (n2 := 128) 0 j d) : EReal) * (((2 : ℝ) ^ (-eT v0) : ℝ) : EReal)) := by
  refine (congrArg (codesT v0) (Shape.reshapeEquiv_self _ _)).trans ?_
  rw [codesT_apply]
  have : (k1_pay84 v0 (ix2 j d) : EReal) = v0 (ix3 (n0 := 1) (n1 := 128) (n2 := 128) 0 j d) := by unfold k1_pay84; simp only [pointwise]
  rw [this]

theorem read12 (c : Dev nD) (arg2 : Memref sig .tc .vmem S1x256x512 .bf16) (harg2 : arg2.IsWhole) (x2 : Vec Ideal S1x256x512 .bf16) (v : View sig .tc .vmem S1024x128 .fp8e4m3) (f) (t : Fin 8) (j d : Fin 128) :
    (v.read (Elt Ideal) (v.writes (Elt Ideal) f (kernelRun.sl.H12_8 (F := Ideal) c arg2 harg2 x2)) (ix2 (n0 := 1024) (n1 := 128) (col t j) d) : EReal) = qc x2 t j d := by
  rw [h12_eq, rows8]
  match t with
  | 0 => refine (code_ap _ j d).trans ?_; rw [tR_0]; rfl
  | 1 => refine (code_ap _ j d).trans ?_; rw [tR_1]; rfl
  | 2 => refine (code_ap _ j d).trans ?_; rw [tR_2]; rfl
  | 3 => refine (code_ap _ j d).trans ?_; rw [tR_3]; rfl
  | 4 => refine (code_ap _ j d).trans ?_; rw [tR_4]; rfl
  | 5 => refine (code_ap _ j d).trans ?_; rw [tR_5]; rfl
  | 6 => refine (code_ap _ j d).trans ?_; rw [tR_6]; rfl
  | 7 => refine (code_ap _ j d).trans ?_; rw [tR_7]; rfl

theorem h11_eq (c : Dev nD) (arg2 : Memref sig .tc .vmem S1x256x512 .bf16) (harg2 : arg2.IsWhole) (x2 : Vec Ideal S1x256x512 .bf16) (arg4 : Memref sig .tc .vmem S1x1x128x128 .f32) (harg4 : arg4.IsWhole) (x4 : Vec Ideal S1x1x128x128 .f32) : kernelRun.sl.H11_8 (F := Ideal) c arg2 harg2 arg4 harg4 x2 x4 = (⟨Rect.unit (s := S128x1024) ![0, 896] S128x128.size inb_S128x1024_S128x128_0_896, facT (kernelRun.sl.r_69 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 768] S128x128.size inb_S128x1024_S128x128_0_768, facT (kernelRun.sl.r_62 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 640] S128x128.size inb_S128x1024_S128x128_0_640, facT (kernelRun.sl.r_54 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 512] S128x128.size inb_S128x1024_S128x128_0_512, facT (kernelRun.sl.r_47 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 384] S128x128.size inb_S128x1024_S128x128_0_384, facT (kernelRun.sl.r_38 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 256] S128x128.size inb_S128x1024_S128x128_0_256, facT (kernelRun.sl.r_29 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 128] S128x128.size inb_S128x1024_S128x128_0_128, facT (kernelRun.sl.r_18 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: (⟨Rect.unit (s := S128x1024) ![0, 0] S128x128.size inb_S128x1024_S128x128_0_0, facT (kernelRun.sl.r_10 (F := Ideal) c arg2 harg2 x2) (View.readAt (Elt Ideal) arg4.view (Rect.unit (s := S1x1x128x128) ![0, 0, 0, 0] S1x1x128x128.size inb_S1x1x128x128_S1x1x128x128_0_0_0_0).toLoadRect (harg4.unread x4))⟩ : View.Piece (Elt Ideal) S128x1024 .f32) :: [] := by
  with_unfolding_all rfl

theorem fac_ap (q : FVec Ideal S1x128 .f32) (k : Vec Ideal S1x1x128x128 .f32) (b l : Fin 128) :
    (facT q k (ix2 b l) : EReal) = (k (ix4 0 0 b l) : EReal) * (q (ix2 0 l) : EReal) := by
  unfold facT
  refine (congrArg _ (Shape.reshapeEquiv_self _ _)).trans ?_
  refine (mulf_ap _ _ _).trans ?_
  congr 1
  · simp only [pointwise]
  · simp only [pointwise]
    rfl

theorem read11 (c : Dev nD) (arg2 : Memref sig .tc .vmem S1x256x512 .bf16) (harg2 : arg2.IsWhole) (x2 : Vec Ideal S1x256x512 .bf16) (arg4 : Memref sig .tc .vmem S1x1x128x128 .f32) (harg4 : arg4.IsWhole) (x4 : Vec Ideal S1x1x128x128 .f32) (v : View sig .tc .vmem S128x1024 .f32) (f) (t : Fin 8) (b l : Fin 128) :
    (v.read (Elt Ideal) (v.writes (Elt Ideal) f (kernelRun.sl.H11_8 (F := Ideal) c arg2 harg2 arg4 harg4 x2 x4)) (ix2 (n0 := 128) (n1 := 1024) b (col t l)) : EReal) = kS x4 b.val l * (qs x2 t : EReal) := by
  have h4 : ∀ y, (View.readAt (Elt Ideal) arg4.view (Rect.unit (s := S1x1x128x128) ![0, 0, 0, 0] S1x1x128x128.size inb_S1x1x128x128_S1x1x128x128_0_0_0_0).toLoadRect (harg4.unread x4)) y = x4 y := fun y => by rw [harg4.readAt_unread]; exact congrArg x4 (Rect.emb_unit_full _ y)
  rw [h11_eq, cols8_128]
  unfold kS; rw [dif_pos b.isLt]
  match t with
  | 0 => refine (fac_ap _ _ b l).trans ?_; rw [h4, qs_0]
  | 1 => refine (fac_ap _ _ b l).trans ?_; rw [h4, qs_1]
  | 2 => refine (fac_ap _ _ b l).trans ?_; rw [h4, qs_2]
  | 3 => refine (fac_ap _ _ b l).trans ?_; rw [h4, qs_3]
  | 4 => refine (fac_ap _ _ b l).trans ?_; rw [h4, qs_4]
  | 5 => refine (fac_ap _ _ b l).trans ?_; rw [h4, qs_5]
  | 6 => refine (fac_ap _ _ b l).trans ?_; rw [h4, qs_6]
  | 7 => refine (fac_ap _ _ b l).trans ?_; rw [h4, qs_7]

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

theorem v1051_ap (x2 : Vec Ideal S1x256x512 .bf16) (t : Fin 8) (j d : Fin 128) : (kernelRun.sl.v1051 (F := Ideal) c arg2 harg2 arg12 x2 (ix2 (n0 := 1024) (n1 := 128) (col t j) d) : EReal) = qc x2 t j d := by
  have h : kernelRun.sl.v1051 (F := Ideal) c arg2 harg2 arg12 x2 = arg12.view.readCov (kernelRun.sl.H12_8 (F := Ideal) c arg2 harg2 x2) (Rect.unit (s := S1024x128) ![0, 0] S1024x128.size (by decide)).toLoadRect := by with_unfolding_all rfl
  rw [h, cov_ap, read12]

theorem rdX12 (x2 : Vec Ideal S1x256x512 .bf16) (t : Fin 8) (j d : Fin 128) :
    (arg12.view.readAt (Elt Ideal) (Rect.unit (s := S1024x128) ![0, 0] S1024x128.size (by decide)).toLoadRect (arg12.view.writes (Elt Ideal) arg12.view.junk (kernelRun.sl.H12_8 (F := Ideal) c arg2 harg2 x2)) (ix2 (n0 := 1024) (n1 := 128) (col t j) d) : EReal) = qc x2 t j d :=
  (congrFun (View.readAt_full arg12.view _ _) _).trans (read12 c arg2 harg2 x2 _ _ t j d)

theorem key_ap (x3 : Vec Ideal S1x1x8192x128 .fp8e4m3) (off : Fin 4 → ℕ) (o : ℕ) (ho : off = ![0, 0, o, 0]) (inb) (s : Fin 256) (d : Fin 128) :
    (View.readAt (Elt Ideal) arg3.view (Rect.unit (s := S1x1x8192x128) off S1x1x256x128.size inb).toLoadRect (harg3.unread x3) (ix4 0 0 s d) : EReal) = kc x3 (o + s.val) d := by
  subst ho
  have hb : o + 256 ≤ 8192 := inb 2
  refine (harg3.readAt_unread x3 _ _).trans ?_
  unfold kc
  rw [dif_pos (by omega)]
  refine congrArg x3 (funext fun a => Fin.ext ?_)
  match a with
  | ⟨0, _⟩ => rfl
  | ⟨1, _⟩ => rfl
  | ⟨2, _⟩ => show o + 1 * s.val = o + s.val; omega
  | ⟨3, _⟩ => show 0 + 1 * d.val = d.val; omega

theorem val_ap (x5 : Vec Ideal S1x1x128x8192 .fp8e4m3) (off : Fin 4 → ℕ) (o : ℕ) (ho : off = ![0, 0, 0, o]) (inb) (s : Fin 256) (d : Fin 128) :
    (View.readAt (Elt Ideal) arg5.view (Rect.unit (s := S1x1x128x8192) off S1x1x128x256.size inb).toLoadRect (harg5.unread x5) (ix4 0 0 d s) : EReal) = vc x5 d (o + s.val) := by
  subst ho
  have hb : o + 256 ≤ 8192 := inb 3
  refine (harg5.readAt_unread x5 _ _).trans ?_
  unfold vc
  rw [dif_pos (by omega)]
  refine congrArg x5 (funext fun a => Fin.ext ?_)
  match a with
  | ⟨0, _⟩ => rfl
  | ⟨1, _⟩ => rfl
  | ⟨2, _⟩ => show 0 + 1 * d.val = d.val; omega
  | ⟨3, _⟩ => show o + 1 * s.val = o + s.val; omega

theorem ks_ap (x4 : Vec Ideal S1x1x128x128 .f32) (off : Fin 4 → ℕ) (o : ℕ) (ho : off = ![0, 0, o, 0]) (inb) (l : Fin 128) :
    (View.readAt (Elt Ideal) arg4.view (Rect.unit (s := S1x1x128x128) off S1x1x1x128.size inb).toLoadRect (harg4.unread x4) (ix4 0 0 0 l) : EReal) = kS x4 o l := by
  subst ho
  have hb : o + 1 ≤ 128 := inb 2
  refine (harg4.readAt_unread x4 _ _).trans ?_
  unfold kS
  rw [dif_pos (by omega)]
  refine congrArg x4 (funext fun a => Fin.ext ?_)
  match a with
  | ⟨0, _⟩ => rfl
  | ⟨1, _⟩ => rfl
  | ⟨2, _⟩ => rfl
  | ⟨3, _⟩ => show 0 + 1 * l.val = l.val; omega

theorem fr_ap (x2 : Vec Ideal S1x256x512 .bf16) (x4 : Vec Ideal S1x1x128x128 .f32) (off : Fin 2 → ℕ) (o : ℕ) (ho : off = ![o, 0]) (inb) (t : Fin 8) (l : Fin 128) :
    (View.readAt (Elt Ideal) arg11.view (Rect.unit (s := S128x1024) off S1x1024.size inb).toLoadRect (arg11.view.writes (Elt Ideal) arg11.view.junk (kernelRun.sl.H11_8 (F := Ideal) c arg2 harg2 arg4 harg4 x2 x4)) (ix2 (n0 := 1) (n1 := 1024) 0 (col t l)) : EReal) = kS x4 o l * (qs x2 t : EReal) := by
  subst ho
  have hb : o + 1 ≤ 128 := inb 0
  refine (View.readAt_apply ..).trans ?_
  refine (congrArg _ (funext fun a => Fin.ext ?_)).trans (read11 c arg2 harg2 x2 arg4 harg4 x4 _ _ t ⟨o, by omega⟩ l)
  match a with
  | ⟨0, _⟩ => rfl
  | ⟨1, _⟩ => show 0 + 1 * (col t l).val = (col t l).val; omega

theorem rawP_ap (x2 : Vec Ideal S1x256x512 .bf16) (x3 : Vec Ideal S1x1x8192x128 .fp8e4m3) (k : Fin (k1_t1_loop i).trips) (s : Fin 256) (t : Fin 8) (j : Fin 128) :
    (rawP i arg3 arg12 (harg3.unread x3) (arg12.view.writes (Elt Ideal) arg12.view.junk (kernelRun.sl.H12_8 (F := Ideal) c arg2 harg2 x2)) k (ix2 s (col t j)) : EReal) = raw x2 x3 (256 * k.val + s.val) t j := by
  unfold rawP
  rw [pay2_ap]
  refine Finset.sum_congr rfl fun d _ => ?_
  rw [key_ap arg3 harg3 x3 _ _ (off1_eq i k), rdX12]

theorem Rd_ap (x2 : Vec Ideal S1x256x512 .bf16) (x3 : Vec Ideal S1x1x8192x128 .fp8e4m3) (s : Fin 256) (t : Fin 8) (j : Fin 128) :
    (Rd (F := Ideal) c i arg2 harg2 arg3 harg3 arg12 x2 x3 (ix2 s (col t j)) : EReal) = raw x2 x3 (256 * (i 1).val + s.val) t j := by
  refine (pay2_ap _ _ s (col t j)).trans ?_
  refine Finset.sum_congr rfl fun d _ => ?_
  rw [key_ap arg3 harg3 x3 _ _ (off7_eq i), v1051_ap]

theorem ksAt_ap (x4 : Vec Ideal S1x1x128x128 .f32) (k : Fin (k1_t1_loop i).trips) (b : Fin 4) (l : Fin 128) :
    (ksAt (F := Ideal) i arg4 (harg4.unread x4) k (ix2 b l) : EReal) = kS x4 (4 * k.val + b.val) l := by
  unfold ksAt
  rw [K4_ap]
  match b with
  | 0 => exact ks_ap arg4 harg4 x4 _ _ (off3_eq i k 0) _ l
  | 1 => exact ks_ap arg4 harg4 x4 _ _ (off3_eq i k 1) _ l
  | 2 => exact ks_ap arg4 harg4 x4 _ _ (off3_eq i k 2) _ l
  | 3 => exact ks_ap arg4 harg4 x4 _ _ (off3_eq i k 3) _ l

theorem Kd_ap (x4 : Vec Ideal S1x1x128x128 .f32) (b : Fin 4) (l : Fin 128) :
    (Kd (F := Ideal) i arg4 harg4 x4 (ix2 b l) : EReal) = kS x4 (4 * (i 1).val + b.val) l := by
  unfold Kd
  rw [K4_ap]
  match b with
  | 0 => exact ks_ap arg4 harg4 x4 _ _ (off9_eq i 0) _ l
  | 1 => exact ks_ap arg4 harg4 x4 _ _ (off9_eq i 1) _ l
  | 2 => exact ks_ap arg4 harg4 x4 _ _ (off9_eq i 2) _ l
  | 3 => exact ks_ap arg4 harg4 x4 _ _ (off9_eq i 3) _ l

theorem cAt_ap (x2 : Vec Ideal S1x256x512 .bf16) (x4 : Vec Ideal S1x1x128x128 .f32) (k : Fin (k1_t3_loop i).trips) (b : Fin 4) (t : Fin 8) (l : Fin 128) :
    (cAt (F := Ideal) i arg11 (arg11.view.writes (Elt Ideal) arg11.view.junk (kernelRun.sl.H11_8 (F := Ideal) c arg2 harg2 arg4 harg4 x2 x4)) k (ix2 b (col t l)) : EReal) = kS x4 (4 * k.val + b.val) l * (qs x2 t : EReal) := by
  unfold cAt
  rw [pay26_ap]
  match b with
  | 0 => exact fr_ap c arg2 harg2 arg4 harg4 arg11 x2 x4 _ _ (off10_eq i k 0) _ t l
  | 1 => exact fr_ap c arg2 harg2 arg4 harg4 arg11 x2 x4 _ _ (off10_eq i k 1) _ t l
  | 2 => exact fr_ap c arg2 harg2 arg4 harg4 arg11 x2 x4 _ _ (off10_eq i k 2) _ t l
  | 3 => exact fr_ap c arg2 harg2 arg4 harg4 arg11 x2 x4 _ _ (off10_eq i k 3) _ t l

theorem Cd_ap (x2 : Vec Ideal S1x256x512 .bf16) (x4 : Vec Ideal S1x1x128x128 .f32) (b : Fin 4) (t : Fin 8) (l : Fin 128) :
    (Cd (F := Ideal) c i arg2 harg2 arg4 harg4 arg11 x2 x4 (ix2 b (col t l)) : EReal) = kS x4 (4 * (i 1).val + b.val) l * (qs x2 t : EReal) := by
  unfold Cd
  rw [pay26_ap]
  match b with
  | 0 => exact fr_ap c arg2 harg2 arg4 harg4 arg11 x2 x4 _ _ (off30_eq i 0) _ t l
  | 1 => exact fr_ap c arg2 harg2 arg4 harg4 arg11 x2 x4 _ _ (off30_eq i 1) _ t l
  | 2 => exact fr_ap c arg2 harg2 arg4 harg4 arg11 x2 x4 _ _ (off30_eq i 2) _ t l
  | 3 => exact fr_ap c arg2 harg2 arg4 harg4 arg11 x2 x4 _ _ (off30_eq i 3) _ t l

/-- The score buffer under an earlier chunk. -/
theorem tile10 (x2 : Vec Ideal S1x256x512 .bf16) (x3 : Vec Ideal S1x1x8192x128 .fp8e4m3) (x4 : Vec Ideal S1x1x128x128 .f32) (f10 : BufTy.Contents (Elt Ideal) arg10.view.ty) (k : ℕ) (hk : k < (i 1).val)
    (off : Fin 2 → ℕ) (t : Fin 8) (ho : off = ![256 * k, 128 * t.val]) (inb) (s : Fin 256) (j : Fin 128) :
    (arg10.view.readAt (Elt Ideal) (Rect.unit (s := S8192x1024) off S256x128.size inb).toLoadRect (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (ix2 (n0 := 256) (n1 := 128) s j) : EReal) = raw x2 x3 (256 * k + s.val) t j := by
  subst ho
  refine (View.readAt_apply ..).trans ?_
  unfold L10
  have h2 : (S2 𝒱₀ c i arg2 harg2 arg3 harg3 arg4 harg4 arg5 harg5 arg6 harg6 arg7 harg7 arg8 harg8 arg9 harg9 arg10 harg10 arg11 harg11 arg12 harg12 arg13 harg13 arg14 harg14 x2 x3 x4).2 = [] := by unfold S2; rw [st2_eq]
  refine (read_raw (F := Ideal) 𝒱₀ c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt Ideal) arg12.view.junk (kernelRun.sl.H12_8 (F := Ideal) c arg2 harg2 x2)) (k1_pay202, k1_pay203, k1_pay204, k1_pay205, k1_pay206, k1_pay207, k1_pay208, k1_pay209) _ h2 _ f10 _ ?_).trans ?_
  · show 256 * k + 1 * s.val < 256 * (i 1).val; omega
  unfold rawAll
  have e0 : (256 * k + 1 * s.val) / 256 = k := by omega
  have e1 : (256 * k + 1 * s.val) % 256 = s.val := by omega
  have hk' : (256 * k + 1 * s.val) / 256 < (k1_t1_loop i).trips := by rw [trips1, e0]; exact hk
  refine (dif_pos hk').trans ?_
  rw [rawChunk_ap]
  refine Eq.trans ?_ ((rawP_ap c i arg2 harg2 arg3 harg3 arg12 x2 x3 ⟨_, hk'⟩ s t j).trans (by show raw x2 x3 (256 * ((256 * k + 1 * s.val) / 256) + s.val) t j = _; rw [e0]))
  refine congrArg _ (funext fun a => Fin.ext ?_)
  match a with
  | ⟨0, _⟩ => exact e1
  | ⟨1, _⟩ => show 128 * t.val + 1 * j.val = 128 * t.val + j.val; omega

/-- The score buffer under the chunk on the diagonal. -/
theorem tileD (x2 : Vec Ideal S1x256x512 .bf16) (x3 : Vec Ideal S1x1x8192x128 .fp8e4m3) (x4 : Vec Ideal S1x1x128x128 .f32)
    (off : Fin 2 → ℕ) (t : Fin 8) (ho : off = ![256 * (i 1).val, 128 * t.val]) (inb) (s : Fin 256) (j : Fin 128) :
    (arg10.view.readCov (L10 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (Rect.unit (s := S8192x1024) off S256x128.size inb).toLoadRect (ix2 (n0 := 256) (n1 := 128) s j) : EReal) = raw x2 x3 (256 * (i 1).val + s.val) t j := by
  subst ho
  refine (View.readAt_apply ..).trans ?_
  unfold L10
  refine (View.read_writes_cons_unit_of_mem (s := S8192x1024) (off' := ![256 * (i 1).val, 0]) arg10.view _ _ _ _ _ (ix2 (n0 := 256) (n1 := 1024) s (col t j)) (off8_eq i) ?_).trans ?_
  · intro a
    match a with
    | ⟨0, _⟩ => show 256 * (i 1).val + 1 * s.val = 256 * (i 1).val + s.val; omega
    | ⟨1, _⟩ => show 128 * t.val + 1 * j.val = 0 + (128 * t.val + j.val); omega
  · refine Eq.trans ?_ (Rd_ap c i arg2 harg2 arg3 harg3 arg12 x2 x3 s t j)
    unfold k1_pay217
    exact congrArg (Rd (F := Ideal) c i arg2 harg2 arg3 harg3 arg12 x2 x3) (Shape.reshapeEquiv_self _ _)

end

end Cert.KernelIdeal.K1

end
-- ==== Proof.KernelIdeal.A6.lean ====
/- The two passes over the keys, carried out. -/
module

public import proofs.«01_k».proof.Proof.KernelIdeal.A5
public import proofs.«01_k».proof.Proof.KernelIdeal.KVal
import all proofs.«01_k».proof.Proof.KernelIdeal.K1Run

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Cert.KernelIdeal.Q
open Cert.KernelIdeal.Max (neg_inf)

theorem named_log : (Named.named (F := Ideal) (φ := .f32) κ "log2_fp8_max" 0x410CEAED#32 : EReal) = ((Real.log 448 * (Real.log 2)⁻¹ : ℝ) : EReal) := by
  show (κ "log2_fp8_max").getD _ = _
  have h : κ "log2_fp8_max" = some ((Real.log 448 * (Real.log 2)⁻¹ : ℝ) : EReal) := by unfold κ; rfl
  rw [h]; rfl

/-- The last position that a query sees. -/
def tok (i : grid1.Coords) (t : Fin 8) (l : Fin 128) : ℕ := 256 * (i 1).val + (128 * (t.val % 2) + l.val)

theorem seen_ap (h : BitVec 32) (hn : ℕ) (hh : h = BitVec.ofNat 32 hn) (hlt : hn ≤ 128) (s : Fin 256) (l : Fin 128) :
    (seen h (ix2 s l) = 1#1) ↔ s.val ≤ hn + l.val := by
  have e : seen h (ix2 s l) = BitVec.ofBool ((BitVec.ofNat 32 s.val).sle (BitVec.ofNat 32 l.val + h)) := by
    unfold seen
    simp only [pointwise, List.foldl_cons, List.foldl_nil, Nat.zero_mul, Nat.zero_add]
    rfl
  rw [e, hh]
  have h1 : (BitVec.ofNat 32 s.val).toInt = s.val := by
    rw [BitVec.toInt_eq_toNat_of_lt (by rw [BitVec.toNat_ofNat]; omega), BitVec.toNat_ofNat]; omega
  have h2 : (BitVec.ofNat 32 l.val + BitVec.ofNat 32 hn).toInt = (hn + l.val : ℕ) := by
    rw [BitVec.toInt_eq_toNat_of_lt (by rw [BitVec.toNat_add, BitVec.toNat_ofNat, BitVec.toNat_ofNat]; omega), BitVec.toNat_add, BitVec.toNat_ofNat, BitVec.toNat_ofNat]; omega
  rw [BitVec.sle_eq_decide, h1, h2]
  by_cases hc : s.val ≤ hn + l.val
  · rw [decide_eq_true (by exact_mod_cast hc)]; simp [hc]
  · rw [decide_eq_false (by exact_mod_cast hc)]; simp [hc]

theorem maskA_ap (h : BitVec 32) (hn : ℕ) (hh : h = BitVec.ofNat 32 hn) (hlt : hn ≤ 128) (V : FVec Ideal S256x128 .f32) (s : Fin 256) (l : Fin 128) :
    (maskA h V (ix2 s l) : EReal) = if s.val ≤ hn + l.val then V (ix2 s l) else ⊥ := by
  have e : (maskA h V (ix2 s l) : EReal) = if seen h (ix2 s l) = 1#1 then V (ix2 s l) else Ideal.ofBits .f32 0xFF800000#32 := rfl
  rw [e, neg_inf]
  simp only [seen_ap h hn hh hlt]
theorem maskB_ap (h : BitVec 32) (hn : ℕ) (hh : h = BitVec.ofNat 32 hn) (hlt : hn ≤ 128) (V : FVec Ideal S256x128 .f32) (s : Fin 256) (l : Fin 128) :
    (maskB h V (ix2 s l) : EReal) = if s.val ≤ hn + l.val then (V (ix2 s l) : EReal) else 0 := by
  have e : (maskB h V (ix2 s l) : EReal) = if seen h (ix2 s l) = 1#1 then (V (ix2 s l) : EReal) else Ideal.ofBits .f32 0x00000000#32 := rfl
  rw [e, b0]
  simp only [seen_ap h hn hh hlt]

theorem mpT_ap (ms : FVec Ideal S8x128 .f32) (q : FVec Ideal S1x128 .f32) (l : Fin 128) :
    (mpT ms q (ix2 0 l) : EReal) = (Finset.univ : Finset (Fin 8)).fold max ⊥ (fun r => (ms (ix2 r l) : EReal)) * (q (ix2 0 l) : EReal) - ((Real.log 448 * (Real.log 2)⁻¹ : ℝ) : EReal) := by
  rw [← named_log, ← neg_inf]
  unfold mpT
  simp only [pointwise]

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

/-! ## The first pass -/

theorem max1 (x2 : Vec Ideal S1x256x512 .bf16) (x3 : Vec Ideal S1x1x8192x128 .fp8e4m3) (x4 : Vec Ideal S1x1x128x128 .f32) (kr : ℕ → Fin 128 → ℝ) (hp : ∀ b l, 0 < kr b l) (hK : ∀ b, b < 128 → ∀ l, kS x4 b l = (kr b l : EReal)) (t : Fin 8) (l : Fin 128) (z : EReal) :
    ∀ n, n ≤ (k1_t1_loop i).trips → ((∀ r : Fin 8, (pr t (st_k1_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt Ideal) arg12.view.junk (kernelRun.sl.H12_8 (F := Ideal) c arg2 harg2 x2)) (k1_pay202, k1_pay203, k1_pay204, k1_pay205, k1_pay206, k1_pay207, k1_pay208, k1_pay209) n).1 (ix2 r l) : EReal) ≤ z) ↔
      ∀ k, k < n → ∀ s : Fin 256, raw x2 x3 (256 * k + s.val) t l * (kr (4 * k + s.val / 64) l : EReal) ≤ z) := by
  intro n
  induction n with
  | zero =>
    intro _
    constructor
    · intro _ k hk; exact absurd hk (Nat.not_lt_zero _)
    · intro _ r
      have : ∀ t : Fin 8, (pr t (k1_pay202, k1_pay203, k1_pay204, k1_pay205, k1_pay206, k1_pay207, k1_pay208, k1_pay209) (ix2 r l) : EReal) = ⊥ := fun t => by
        rw [← neg_inf]; match t with | 0 => rfl | 1 => rfl | 2 => rfl | 3 => rfl | 4 => rfl | 5 => rfl | 6 => rfl | 7 => rfl
      exact (this t).le.trans bot_le
  | succ n ih =>
    intro hn
    have e := st_k1_t1_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt Ideal) arg12.view.junk (kernelRun.sl.H12_8 (F := Ideal) c arg2 harg2 x2)) (k1_pay202, k1_pay203, k1_pay204, k1_pay205, k1_pay206, k1_pay207, k1_pay208, k1_pay209) ⟨n, hn⟩
    simp only [] at e
    rw [e]
    show (∀ r : Fin 8, (pr t (tripR_k1_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt Ideal) arg12.view.junk (kernelRun.sl.H12_8 (F := Ideal) c arg2 harg2 x2)) ⟨n, hn⟩ (st_k1_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) k1_pay202 k1_pay203 k1_pay204 k1_pay205 k1_pay206 (harg3.unread x3) (harg4.unread x4) (arg12.view.writes (Elt Ideal) arg12.view.junk (kernelRun.sl.H12_8 (F := Ideal) c arg2 harg2 x2)) (k1_pay202, k1_pay203, k1_pay204, k1_pay205, k1_pay206, k1_pay207, k1_pay208, k1_pay209) n).1) (ix2 r l) : EReal) ≤ z) ↔ _
    have hn32 : n < 32 := lt1 i ⟨n, hn⟩
    rw [tripR1, pr_stepA8, stepA_le _ _ _ (fun b => kr (4 * n + b.val) l) l (fun b => hp _ _) (fun b => (ksAt_ap i arg4 harg4 x4 ⟨n, hn⟩ b l).trans (hK _ (by show 4 * n + b.val < 128; omega) l)), ih (by omega)]
    constructor
    · rintro ⟨h1, h2⟩ k hk s
      rcases Nat.lt_succ_iff_lt_or_eq.mp hk with h | rfl
      · exact h1 k h s
      · have := h2 s
        unfold tileOf at this
        erw [rawP_ap c i arg2 harg2 arg3 harg3 arg12 x2 x3 ⟨k, hn⟩ s t l] at this
        exact this
    · intro h
      refine ⟨fun k hk s => h k (by omega) s, fun s => ?_⟩
      have := h n (by omega) s
      unfold tileOf
      erw [rawP_ap c i arg2 harg2 arg3 harg3 arg12 x2 x3 ⟨n, hn⟩ s t l]
      exact this

/-- The exponents' offsets, tile by tile. -/
def mpF (x2 : Vec Ideal S1x256x512 .bf16) (x3 : Vec Ideal S1x1x8192x128 .fp8e4m3) (x4 : Vec Ideal S1x1x128x128 .f32) (t : Fin 8) : FVec Ideal S1x128 .f32 :=
  match t with
  | 0 => kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 1 => kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 2 => kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 3 => kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 4 => kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 5 => kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 6 => kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 7 => kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4

theorem slice_tile (V : FVec Ideal S256x1024 .f32) (o : ℕ) (h) (t : Fin 8) (ho : o = 128 * t.val) (s : Fin 256) (l : Fin 128) :
    (extractStridedSlice S256x128 ![0, o] V h (ix2 s l) : EReal) = V (ix2 s (col t l)) := by
  subst ho
  refine congrArg V (funext fun a => Fin.ext ?_)
  match a with
  | ⟨0, _⟩ => show 0 + s.val = s.val; omega
  | ⟨1, _⟩ => rfl
theorem slice_tile4 (V : FVec Ideal S4x1024 .f32) (o : ℕ) (h) (t : Fin 8) (ho : o = 128 * t.val) (s : Fin 4) (l : Fin 128) :
    (extractStridedSlice S4x128 ![0, o] V h (ix2 s l) : EReal) = V (ix2 s (col t l)) := by
  subst ho
  refine congrArg V (funext fun a => Fin.ext ?_)
  match a with
  | ⟨0, _⟩ => show 0 + s.val = s.val; omega
  | ⟨1, _⟩ => rfl

theorem chunk_le (T h l : ℕ) (hT : h + l < 256) (f : ℕ → EReal) (z : EReal) :
    ((∀ k, k < T → ∀ s : Fin 256, f (256 * k + s.val) ≤ z) ∧ ∀ s : Fin 256, s.val ≤ h + l → f (256 * T + s.val) ≤ z) ↔ ∀ s, s ≤ 256 * T + (h + l) → f s ≤ z := by
  constructor
  · rintro ⟨h1, h2⟩ s hs
    by_cases hc : s < 256 * T
    · have := h1 (s / 256) (by omega) ⟨s % 256, Nat.mod_lt _ (by decide)⟩
      simp only [Nat.div_add_mod] at this
      exact this
    · have := h2 ⟨s - 256 * T, by omega⟩ (by show s - 256 * T ≤ h + l; omega)
      have e : 256 * T + (s - 256 * T) = s := by omega
      simp only [e] at this
      exact this
  · intro H
    exact ⟨fun k hk s => H _ (by omega), fun s hs => H _ (by omega)⟩

theorem mp_of (x2 : Vec Ideal S1x256x512 .bf16) (x3 : Vec Ideal S1x1x8192x128 .fp8e4m3) (x4 : Vec Ideal S1x1x128x128 .f32) (kr : ℕ → Fin 128 → ℝ) (hp : ∀ b l, 0 < kr b l) (hK : ∀ b, b < 128 → ∀ l, kS x4 b l = (kr b l : EReal)) (t : Fin 8) (l : Fin 128)
    (m : FVec Ideal S1x128 .f32) (h : BitVec 32) (q : FVec Ideal S1x128 .f32) (V : FVec Ideal S256x128 .f32) (acc : T8)
    (hacc : acc = pr t (S1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4).1) (hq : (q (ix2 0 l) : EReal) = (qs x2 t : EReal)) (hh : h = BitVec.ofNat 32 (128 * (t.val % 2)))
    (hV : ∀ s : Fin 256, (V (ix2 s l) : EReal) = raw x2 x3 (256 * (i 1).val + s.val) t l)
    (hm : m = mpT (stepA acc (maskA h V) (Kd (F := Ideal) i arg4 harg4 x4)) q) :
    ∃ M : EReal, (∀ z, M ≤ z ↔ ∀ s, s ≤ tok i t l → raw x2 x3 s t l * (kr (s / 64) l : EReal) ≤ z) ∧ (m (ix2 0 l) : EReal) = M * (qs x2 t : EReal) - ((Real.log 448 * (Real.log 2)⁻¹ : ℝ) : EReal) := by
  have hi : (i 1).val < 32 := (i 1).isLt
  refine ⟨_, fun z => ?_, by rw [hm, mpT_ap, hq]⟩
  rw [Finset.fold_max_le]
  simp only [bot_le, true_and, Finset.mem_univ, forall_const]
  rw [stepA_le _ _ _ (fun b => kr (4 * (i 1).val + b.val) l) l (fun b => hp _ _) (fun b => (Kd_ap i arg4 harg4 x4 b l).trans (hK _ (by omega) l)), hacc]
  unfold S1
  rw [max1 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK t l z _ le_rfl, trips1]
  unfold tok
  rw [← chunk_le (i 1).val (128 * (t.val % 2)) l.val (by omega) (fun s => raw x2 x3 s t l * (kr (s / 64) l : EReal)) z]
  refine and_congr ?_ ?_
  · refine forall_congr' fun k => forall_congr' fun hk => forall_congr' fun s => ?_
    have e : (256 * k + s.val) / 64 = 4 * k + s.val / 64 := by omega
    simp only [e]
  · refine forall_congr' fun s => ?_
    have e : (256 * (i 1).val + s.val) / 64 = 4 * (i 1).val + s.val / 64 := by omega
    simp only [e]
    rw [maskA_ap h _ hh (by omega), hV]
    by_cases hc : s.val ≤ 128 * (t.val % 2) + l.val
    · simp [hc]
    · simp [hc, EReal.bot_mul_coe_of_pos (hp _ _)]

theorem mpF_ap (x2 : Vec Ideal S1x256x512 .bf16) (x3 : Vec Ideal S1x1x8192x128 .fp8e4m3) (x4 : Vec Ideal S1x1x128x128 .f32) (kr : ℕ → Fin 128 → ℝ) (hp : ∀ b l, 0 < kr b l) (hK : ∀ b, b < 128 → ∀ l, kS x4 b l = (kr b l : EReal)) (t : Fin 8) (l : Fin 128) :
    ∃ M : EReal, (∀ z, M ≤ z ↔ ∀ s, s ≤ tok i t l → raw x2 x3 s t l * (kr (s / 64) l : EReal) ≤ z) ∧ (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t (ix2 0 l) : EReal) = M * (qs x2 t : EReal) - ((Real.log 448 * (Real.log 2)⁻¹ : ℝ) : EReal) := by
  have h2 : (S2 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4).1 = (S1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4).1 := by unfold S2; rw [st2_eq]
  match t with
  | 0 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 0 l _ 0#32 _ _ _ (congrArg (pr 0) h2) (qs_0 c arg2 harg2 x2 l) rfl
            (fun s => (slice_tile _ 0 _ 0 rfl s l).trans (Rd_ap c i arg2 harg2 arg3 harg3 arg12 x2 x3 s 0 l)) (mp_0 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 1 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 1 l _ 128#32 _ _ _ (congrArg (pr 1) h2) (qs_1 c arg2 harg2 x2 l) rfl
            (fun s => (slice_tile _ 128 _ 1 rfl s l).trans (Rd_ap c i arg2 harg2 arg3 harg3 arg12 x2 x3 s 1 l)) (mp_1 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 2 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 2 l _ 0#32 _ _ _ (congrArg (pr 2) h2) (qs_2 c arg2 harg2 x2 l) rfl
            (fun s => (slice_tile _ 256 _ 2 rfl s l).trans (Rd_ap c i arg2 harg2 arg3 harg3 arg12 x2 x3 s 2 l)) (mp_2 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 3 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 3 l _ 128#32 _ _ _ (congrArg (pr 3) h2) (qs_3 c arg2 harg2 x2 l) rfl
            (fun s => (slice_tile _ 384 _ 3 rfl s l).trans (Rd_ap c i arg2 harg2 arg3 harg3 arg12 x2 x3 s 3 l)) (mp_3 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 4 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 4 l _ 0#32 _ _ _ (congrArg (pr 4) h2) (qs_4 c arg2 harg2 x2 l) rfl
            (fun s => (slice_tile _ 512 _ 4 rfl s l).trans (Rd_ap c i arg2 harg2 arg3 harg3 arg12 x2 x3 s 4 l)) (mp_4 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 5 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 5 l _ 128#32 _ _ _ (congrArg (pr 5) h2) (qs_5 c arg2 harg2 x2 l) rfl
            (fun s => (slice_tile _ 640 _ 5 rfl s l).trans (Rd_ap c i arg2 harg2 arg3 harg3 arg12 x2 x3 s 5 l)) (mp_5 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 6 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 6 l _ 0#32 _ _ _ (congrArg (pr 6) h2) (qs_6 c arg2 harg2 x2 l) rfl
            (fun s => (slice_tile _ 768 _ 6 rfl s l).trans (Rd_ap c i arg2 harg2 arg3 harg3 arg12 x2 x3 s 6 l)) (mp_6 𝒱₀ c i arg2 harg2 arg3 harg3 arg4 harg4 arg5 harg5 arg6 harg6 arg7 harg7 arg8 harg8 arg9 harg9 arg10 harg10 arg11 harg11 arg12 harg12 arg13 harg13 arg14 harg14 x2 x3 x4)
  | 7 => exact mp_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK 7 l _ 128#32 _ _ _ (congrArg (pr 7) h2) (qs_7 c arg2 harg2 x2 l) rfl
            (fun s => (slice_tile _ 896 _ 7 rfl s l).trans (Rd_ap c i arg2 harg2 arg3 harg3 arg12 x2 x3 s 7 l)) (mp_7 𝒱₀ c i arg2 harg2 arg3 harg3 arg4 harg4 arg5 harg5 arg6 harg6 arg7 harg7 arg8 harg8 arg9 harg9 arg10 harg10 arg11 harg11 arg12 harg12 arg13 harg13 arg14 harg14 x2 x3 x4)

/-! ## The second pass -/

/-- The weight of a key for a query. -/
def pv (x2 : Vec Ideal S1x256x512 .bf16) (x3 : Vec Ideal S1x1x8192x128 .fp8e4m3) (x4 : Vec Ideal S1x1x128x128 .f32) (s : ℕ) (t : Fin 8) (l : Fin 128) : EReal :=
  FloatOps.exp2 (F := Ideal) (φ := .f32) ((raw x2 x3 s t l * (kS x4 (s / 64) l * (qs x2 t : EReal))) - (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t (ix2 0 l) : EReal) : EReal)

theorem tileP_pv (x2 : Vec Ideal S1x256x512 .bf16) (x3 : Vec Ideal S1x1x8192x128 .fp8e4m3) (x4 : Vec Ideal S1x1x128x128 .f32) (m : FVec Ideal S1x128 .f32) (C : FVec Ideal S4x128 .f32) (V : FVec Ideal S256x128 .f32) (s : Fin 256) (t : Fin 8) (l : Fin 128) (k : ℕ)
    (hm : m = mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t) (hC : ∀ b : Fin 4, (C (ix2 b l) : EReal) = kS x4 (4 * k + b.val) l * (qs x2 t : EReal))
    (hV : (V (ix2 s l) : EReal) = raw x2 x3 (256 * k + s.val) t l) : (tileP m C V (ix2 s l) : EReal) = pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * k + s.val) t l := by
  have e : (256 * k + s.val) / 64 = 4 * k + s.val / 64 := by omega
  rw [tileP_ap, hC, hV, hm]
  unfold pv
  rw [e]

/-- The tile of weights of a chunk. -/
def PT (x2 : Vec Ideal S1x256x512 .bf16) (x3 : Vec Ideal S1x1x8192x128 .fp8e4m3) (x4 : Vec Ideal S1x1x128x128 .f32) (X10 : BufTy.Contents (Elt Ideal) arg10.view.ty) (k : Fin (k1_t3_loop i).trips) (t : Fin 8) : FVec Ideal S256x128 .f32 :=
  match t with
  | 0 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 0) (extractStridedSlice S4x128 ![0, 0] (cAt i arg11 (arg11.view.writes (Elt Ideal) arg11.view.junk (kernelRun.sl.H11_8 (F := Ideal) c arg2 harg2 arg4 harg4 x2 x4)) k) slices_S4x1024_o0_0_S4x128) (arg10.view.readAt (Elt Ideal) (Rect.unit (s := S8192x1024) (k1_off11 i k) S256x128.size (k1_off11_inb i k)).toLoadRect X10)
  | 1 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 1) (extractStridedSlice S4x128 ![0, 128] (cAt i arg11 (arg11.view.writes (Elt Ideal) arg11.view.junk (kernelRun.sl.H11_8 (F := Ideal) c arg2 harg2 arg4 harg4 x2 x4)) k) slices_S4x1024_o0_128_S4x128) (arg10.view.readAt (Elt Ideal) (Rect.unit (s := S8192x1024) (k1_off12 i k) S256x128.size (k1_off12_inb i k)).toLoadRect X10)
  | 2 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 2) (extractStridedSlice S4x128 ![0, 256] (cAt i arg11 (arg11.view.writes (Elt Ideal) arg11.view.junk (kernelRun.sl.H11_8 (F := Ideal) c arg2 harg2 arg4 harg4 x2 x4)) k) slices_S4x1024_o0_256_S4x128) (arg10.view.readAt (Elt Ideal) (Rect.unit (s := S8192x1024) (k1_off13 i k) S256x128.size (k1_off13_inb i k)).toLoadRect X10)
  | 3 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 3) (extractStridedSlice S4x128 ![0, 384] (cAt i arg11 (arg11.view.writes (Elt Ideal) arg11.view.junk (kernelRun.sl.H11_8 (F := Ideal) c arg2 harg2 arg4 harg4 x2 x4)) k) slices_S4x1024_o0_384_S4x128) (arg10.view.readAt (Elt Ideal) (Rect.unit (s := S8192x1024) (k1_off14 i k) S256x128.size (k1_off14_inb i k)).toLoadRect X10)
  | 4 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 4) (extractStridedSlice S4x128 ![0, 512] (cAt i arg11 (arg11.view.writes (Elt Ideal) arg11.view.junk (kernelRun.sl.H11_8 (F := Ideal) c arg2 harg2 arg4 harg4 x2 x4)) k) slices_S4x1024_o0_512_S4x128) (arg10.view.readAt (Elt Ideal) (Rect.unit (s := S8192x1024) (k1_off15 i k) S256x128.size (k1_off15_inb i k)).toLoadRect X10)
  | 5 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 5) (extractStridedSlice S4x128 ![0, 640] (cAt i arg11 (arg11.view.writes (Elt Ideal) arg11.view.junk (kernelRun.sl.H11_8 (F := Ideal) c arg2 harg2 arg4 harg4 x2 x4)) k) slices_S4x1024_o0_640_S4x128) (arg10.view.readAt (Elt Ideal) (Rect.unit (s := S8192x1024) (k1_off16 i k) S256x128.size (k1_off16_inb i k)).toLoadRect X10)
  | 6 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 6) (extractStridedSlice S4x128 ![0, 768] (cAt i arg11 (arg11.view.writes (Elt Ideal) arg11.view.junk (kernelRun.sl.H11_8 (F := Ideal) c arg2 harg2 arg4 harg4 x2 x4)) k) slices_S4x1024_o0_768_S4x128) (arg10.view.readAt (Elt Ideal) (Rect.unit (s := S8192x1024) (k1_off17 i k) S256x128.size (k1_off17_inb i k)).toLoadRect X10)
  | 7 => tileP (mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 7) (extractStridedSlice S4x128 ![0, 896] (cAt i arg11 (arg11.view.writes (Elt Ideal) arg11.view.junk (kernelRun.sl.H11_8 (F := Ideal) c arg2 harg2 arg4 harg4 x2 x4)) k) slices_S4x1024_o0_896_S4x128) (arg10.view.readAt (Elt Ideal) (Rect.unit (s := S8192x1024) (k1_off18 i k) S256x128.size (k1_off18_inb i k)).toLoadRect X10)

theorem PT_ap (x2 : Vec Ideal S1x256x512 .bf16) (x3 : Vec Ideal S1x1x8192x128 .fp8e4m3) (x4 : Vec Ideal S1x1x128x128 .f32) (f10 : BufTy.Contents (Elt Ideal) arg10.view.ty) (k : Fin (k1_t3_loop i).trips) (t : Fin 8) (s : Fin 256) (l : Fin 128) :
    (PT 𝒱₀ c i arg2 harg2 arg3 harg3 arg4 harg4 arg5 harg5 arg6 harg6 arg7 harg7 arg8 harg8 arg9 harg9 arg10 harg10 arg11 harg11 arg12 harg12 arg13 harg13 arg14 harg14 x2 x3 x4 (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) k t (ix2 s l) : EReal) = pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * k.val + s.val) t l := by
  have hk : k.val < (i 1).val := lt_of_lt_of_eq k.isLt (trips3 i)
  match t with
  | 0 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 0 l k.val rfl (fun b => (slice_tile4 _ 0 _ 0 rfl b l).trans (cAt_ap c i arg2 harg2 arg4 harg4 arg11 x2 x4 k b 0 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 0 (off11_eq i k) _ s l)
  | 1 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 1 l k.val rfl (fun b => (slice_tile4 _ 128 _ 1 rfl b l).trans (cAt_ap c i arg2 harg2 arg4 harg4 arg11 x2 x4 k b 1 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 1 (off12_eq i k) _ s l)
  | 2 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 2 l k.val rfl (fun b => (slice_tile4 _ 256 _ 2 rfl b l).trans (cAt_ap c i arg2 harg2 arg4 harg4 arg11 x2 x4 k b 2 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 2 (off13_eq i k) _ s l)
  | 3 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 3 l k.val rfl (fun b => (slice_tile4 _ 384 _ 3 rfl b l).trans (cAt_ap c i arg2 harg2 arg4 harg4 arg11 x2 x4 k b 3 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 3 (off14_eq i k) _ s l)
  | 4 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 4 l k.val rfl (fun b => (slice_tile4 _ 512 _ 4 rfl b l).trans (cAt_ap c i arg2 harg2 arg4 harg4 arg11 x2 x4 k b 4 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 4 (off15_eq i k) _ s l)
  | 5 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 5 l k.val rfl (fun b => (slice_tile4 _ 640 _ 5 rfl b l).trans (cAt_ap c i arg2 harg2 arg4 harg4 arg11 x2 x4 k b 5 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 5 (off16_eq i k) _ s l)
  | 6 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 6 l k.val rfl (fun b => (slice_tile4 _ 768 _ 6 rfl b l).trans (cAt_ap c i arg2 harg2 arg4 harg4 arg11 x2 x4 k b 6 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 6 (off17_eq i k) _ s l)
  | 7 => exact tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ _ _ s 7 l k.val rfl (fun b => (slice_tile4 _ 896 _ 7 rfl b l).trans (cAt_ap c i arg2 harg2 arg4 harg4 arg11 x2 x4 k b 7 l))
            (tile10 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 k.val hk _ 7 (off18_eq i k) _ s l)

theorem sum3 (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (G14 : BufTy.Contents (Elt Ideal) arg14.view.ty) (t : Fin 8) (l : Fin 128) :
    ∀ n, n ≤ (k1_t3_loop i).trips → (∑ r : Fin 8, (pr t (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257) n).1 (ix2 r l) : EReal) = ∑ k ∈ Finset.range n, ∑ s : Fin 256, pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * k + s.val) t l)
      ∧ ∀ d : Fin 128, (arg14.view.read (Elt Ideal) (arg14.view.writes (Elt Ideal) G14 (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257) n).2.2) (ix2 (n0 := 128) (n1 := 1024) d (col t l)) : EReal)
        = arg14.view.read (Elt Ideal) G14 (ix2 (n0 := 128) (n1 := 1024) d (col t l)) + ∑ k ∈ Finset.range n, ∑ s : Fin 256, vc x5 d (256 * k + s.val) * clip (pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * k + s.val) t l) := by
  intro n
  induction n with
  | zero =>
    intro _
    refine ⟨?_, fun d => ?_⟩
    · have : ∀ t : Fin 8, ∀ r, (pr t (k1_pay250, k1_pay251, k1_pay252, k1_pay253, k1_pay254, k1_pay255, k1_pay256 (F := Ideal) kernelRun.sl.cst_546, k1_pay257) (ix2 r l) : EReal) = 0 := fun t r => by
        rw [← b0]; match t with | 0 => rfl | 1 => rfl | 2 => rfl | 3 => rfl | 4 => rfl | 5 => rfl | 6 => rfl | 7 => rfl
      exact (Finset.sum_congr rfl fun r _ => this t r).trans (by simp)
    · rw [Finset.sum_range_zero, add_zero]; rfl
  | succ n ih =>
    intro hn
    have ih := ih (by omega)
    have e := st_k1_t3_succ (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257) ⟨n, hn⟩
    simp only [] at e
    rw [e, Finset.sum_range_succ]
    refine ⟨?_, fun d => ?_⟩
    · rw [← ih.1]
      show ∑ r : Fin 8, (pr t (tripR_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) ⟨n, hn⟩ (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).1 (arg13.view.writes (Elt Ideal) f13 (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).2.1) (arg14.view.writes (Elt Ideal) G14 (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).2.2)) (ix2 r l) : EReal) = _
      rw [tripR3]
      refine Eq.trans ?_ ((sum_stepS (pr t (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257) n).1) (PT 𝒱₀ c i arg2 harg2 arg3 harg3 arg4 harg4 arg5 harg5 arg6 harg6 arg7 harg7 arg8 harg8 arg9 harg9 arg10 harg10 arg11 harg11 arg12 harg12 arg13 harg13 arg14 harg14 x2 x3 x4 (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) ⟨n, hn⟩ t) l).trans ?_)
      · match t with | 0 => rfl | 1 => rfl | 2 => rfl | 3 => rfl | 4 => rfl | 5 => rfl | 6 => rfl | 7 => rfl
      · exact congrArg (_ + ·) (Finset.sum_congr rfl fun s _ => PT_ap 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 ⟨n, hn⟩ t s l)
    · rw [Finset.sum_range_succ, ← add_assoc, ← ih.2 d]
      show (arg14.view.read (Elt Ideal) (arg14.view.writes (Elt Ideal) G14 ((tripL_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) ⟨n, hn⟩ (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).1 (arg13.view.writes (Elt Ideal) f13 (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).2.1) (arg14.view.writes (Elt Ideal) G14 (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257)  n).2.2)).2 ++ (st_k1_t3 (F := Ideal) 𝒱₀ c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (kernelRun.sl.r_92 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_94 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_95 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_96 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_97 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_98 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_99 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) (kernelRun.sl.r_100 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4) k1_pay250 k1_pay251 k1_pay252 k1_pay253 k1_pay254 k1_pay255 kernelRun.sl.cst_546 (harg5.unread x5) (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) (arg11.view.writes (Elt Ideal) arg11.view.junk (kernelRun.sl.H11_8 (F := Ideal) c arg2 harg2 arg4 harg4 x2 x4)) f13 G14 (k1_pay250, k1_pay251, k1_pay252, k1_pay253, k1_pay254, k1_pay255, k1_pay256 (F := Ideal) kernelRun.sl.cst_546, k1_pay257) n).2.2)) _ : EReal) = _
      rw [tripL3_14, List.singleton_append, View.read_writes_full]
      refine (pay54_ap _ _ _ d (col t l)).trans ?_
      refine congrArg₂ (· + ·) (congrFun (View.readAt_full arg14.view _ _) _) (Finset.sum_congr rfl fun s _ => ?_)
      refine congrArg₂ (· * ·) (val_ap arg5 harg5 x5 _ _ (off19_eq i ⟨n, hn⟩) _ s d) ?_
      rw [cov_ap]
      unfold pieces13
      rw [cols8_256]
      refine Eq.trans ?_ ((tileC_ap (PT 𝒱₀ c i arg2 harg2 arg3 harg3 arg4 harg4 arg5 harg5 arg6 harg6 arg7 harg7 arg8 harg8 arg9 harg9 arg10 harg10 arg11 harg11 arg12 harg12 arg13 harg13 arg14 harg14 x2 x3 x4 (arg10.view.writes (Elt Ideal) f10 (L10 𝒱₀ c i arg2 harg2 arg3 harg3 arg4 harg4 arg5 harg5 arg6 harg6 arg7 harg7 arg8 harg8 arg9 harg9 arg10 harg10 arg11 harg11 arg12 harg12 arg13 harg13 arg14 harg14 x2 x3 x4)) ⟨n, hn⟩ t) (ix2 s l)).trans (congrArg clip (PT_ap 𝒱₀ c i arg2 harg2 arg3 harg3 arg4 harg4 arg5 harg5 arg6 harg6 arg7 harg7 arg8 harg8 arg9 harg9 arg10 harg10 arg11 harg11 arg12 harg12 arg13 harg13 arg14 harg14 x2 x3 x4 f10 ⟨n, hn⟩ t s l)))
      match t with | 0 => rfl | 1 => rfl | 2 => rfl | 3 => rfl | 4 => rfl | 5 => rfl | 6 => rfl | 7 => rfl

end

end Cert.KernelIdeal.K1

end
-- ==== Proof.KernelIdeal.A7.lean ====
/- The block of the output that the body stores. -/
module

public import proofs.«01_k».proof.Proof.KernelIdeal.A6
import all proofs.«01_k».proof.Proof.KernelIdeal.K1Run

@[expose] public section

set_option maxRecDepth 65536

noncomputable section

namespace Cert.KernelIdeal.K1

open Cert.KernelIdeal Cert.KernelIdeal.Gen
open Idealize.ShloMosaic Idealize.ShloMosaic.TcCoe Idealize.ShloMosaic.Tactic
open Cert.KernelIdeal.Q

theorem b1 : Ideal.ofBits .f32 0x3F800000#32 = 1 := by
  have : Ideal.ofBits .f32 0x3F800000#32 = ((1 : ℝ) : EReal) := by simp [Ideal.ofBits, Ideal.ieee, -EReal.coe_mul, -EReal.coe_one]; norm_num
  rw [this]; rfl

theorem outT_ap (ls : FVec Ideal S8x128 .f32) (o : FVec Ideal S128x128 .f32) (vs : FVec Ideal S1x128 .f32) (l d : Fin 128) :
    (outT ls o vs (ix3 (n0 := 1) (n1 := 128) (n2 := 128) 0 l d) : EReal) = ((o (ix2 d l) : EReal) * Ideal.div 1 (∑ r : Fin 8, (ls (ix2 r l) : EReal))) * (vs (ix2 0 d) : EReal) := by
  unfold outT
  simp only [pointwise]
  rfl

theorem tile8 (w : Fin 8 → (S256x128.Idx → EReal)) (t : Fin 8) (s : Fin 256) (l : Fin 128) :
    (match t with | 0 => w 0 | 1 => w 1 | 2 => w 2 | 3 => w 3 | 4 => w 4 | 5 => w 5 | 6 => w 6 | 7 => w 7) (ix2 s l) = w t (ix2 s l) := by
  match t with
  | 0 => rfl
  | 1 => rfl
  | 2 => rfl
  | 3 => rfl
  | 4 => rfl
  | 5 => rfl
  | 6 => rfl
  | 7 => rfl

theorem clip_zero : clip 0 = 0 := by
  unfold clip
  rw [max_eq_right (by exact_mod_cast (by norm_num : (-448 : ℝ) ≤ 0)), min_eq_right (by exact_mod_cast (by norm_num : (0 : ℝ) ≤ 448))]

theorem chunk_sum (T n : ℕ) (hn : n < 256) (f : ℕ → EReal) :
    (∑ k ∈ Finset.range T, ∑ s : Fin 256, f (256 * k + s.val)) + (∑ s : Fin 256, if s.val ≤ n then f (256 * T + s.val) else 0) = ∑ s ∈ Finset.range (256 * T + n + 1), f s := by
  rw [Nat.add_assoc, Finset.sum_range_add, KV.sum_range_mul]
  congr 1
  · refine Finset.sum_congr rfl fun k _ => ?_
    rw [← Fin.sum_univ_eq_sum_range (fun s => f (k * 256 + s)) 256]
    exact Finset.sum_congr rfl fun s _ => by rw [Nat.mul_comm]
  · rw [Fin.sum_univ_eq_sum_range (fun s => if s ≤ n then f (256 * T + s) else 0) 256, ← Finset.sum_filter]
    refine Finset.sum_congr ?_ fun _ _ => rfl
    ext s
    simp only [Finset.mem_filter, Finset.mem_range]
    omega

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

def PF (x2 : Vec Ideal S1x256x512 .bf16) (x3 : Vec Ideal S1x1x8192x128 .fp8e4m3) (x4 : Vec Ideal S1x1x128x128 .f32) (t : Fin 8) : FVec Ideal S256x128 .f32 :=
  match t with
  | 0 => P_0 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 1 => P_1 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 2 => P_2 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 3 => P_3 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 4 => P_4 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 5 => P_5 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 6 => P_6 𝒱₀ c i arg2 harg2 arg3 harg3 arg4 harg4 arg5 harg5 arg6 harg6 arg7 harg7 arg8 harg8 arg9 harg9 arg10 harg10 arg11 harg11 arg12 harg12 arg13 harg13 arg14 harg14 x2 x3 x4
  | 7 => P_7 𝒱₀ c i arg2 harg2 arg3 harg3 arg4 harg4 arg5 harg5 arg6 harg6 arg7 harg7 arg8 harg8 arg9 harg9 arg10 harg10 arg11 harg11 arg12 harg12 arg13 harg13 arg14 harg14 x2 x3 x4
def lsF (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (t : Fin 8) : FVec Ideal S8x128 .f32 :=
  match t with
  | 0 => kernelRun.sl.r_112 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 1 => kernelRun.sl.r_113 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 2 => kernelRun.sl.r_116 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 3 => kernelRun.sl.r_118 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 4 => kernelRun.sl.r_119 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 5 => kernelRun.sl.r_122 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 6 => kernelRun.sl.r_124 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 7 => kernelRun.sl.r_125 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
def ovF (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (t : Fin 8) : FVec Ideal S128x128 .f32 :=
  match t with
  | 0 => kernelRun.sl.v1588 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 1 => kernelRun.sl.v1602 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 2 => kernelRun.sl.v1616 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 3 => kernelRun.sl.v1630 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 4 => kernelRun.sl.v1644 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 5 => kernelRun.sl.v1658 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 6 => kernelRun.sl.v1672 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  | 7 => kernelRun.sl.v1686 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13

theorem P_of (x2 : Vec Ideal S1x256x512 .bf16) (x3 : Vec Ideal S1x1x8192x128 .fp8e4m3) (x4 : Vec Ideal S1x1x128x128 .f32) (t : Fin 8) (h : BitVec 32) (hh : h = BitVec.ofNat 32 (128 * (t.val % 2))) (m : FVec Ideal S1x128 .f32) (C : FVec Ideal S4x128 .f32) (V : FVec Ideal S256x128 .f32) (s : Fin 256) (l : Fin 128)
    (hm : m = mpF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t) (hC : ∀ b : Fin 4, (C (ix2 b l) : EReal) = kS x4 (4 * (i 1).val + b.val) l * (qs x2 t : EReal))
    (hV : (V (ix2 s l) : EReal) = raw x2 x3 (256 * (i 1).val + s.val) t l) :
    (maskB h (tileP m C V) (ix2 s l) : EReal) = if s.val ≤ 128 * (t.val % 2) + l.val then pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * (i 1).val + s.val) t l else 0 := by
  rw [maskB_ap h _ hh (by omega), tileP_pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 m C V s t l (i 1).val hm hC hV]

theorem PF_ap (x2 : Vec Ideal S1x256x512 .bf16) (x3 : Vec Ideal S1x1x8192x128 .fp8e4m3) (x4 : Vec Ideal S1x1x128x128 .f32) (t : Fin 8) (s : Fin 256) (l : Fin 128) :
    (PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t (ix2 s l) : EReal) = if s.val ≤ 128 * (t.val % 2) + l.val then pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 (256 * (i 1).val + s.val) t l else 0 := by
  match t with
  | 0 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 0 0#32 rfl _ _ _ s l rfl (fun b => (slice_tile4 _ 0 _ 0 rfl b l).trans (Cd_ap c i arg2 harg2 arg4 harg4 arg11 x2 x4 b 0 l))
            ((congrFun (vr_0 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 0 (off31_eq i) _ s l))
  | 1 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 1 128#32 rfl _ _ _ s l rfl (fun b => (slice_tile4 _ 128 _ 1 rfl b l).trans (Cd_ap c i arg2 harg2 arg4 harg4 arg11 x2 x4 b 1 l))
            ((congrFun (vr_1 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 1 (off32_eq i) _ s l))
  | 2 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 2 0#32 rfl _ _ _ s l rfl (fun b => (slice_tile4 _ 256 _ 2 rfl b l).trans (Cd_ap c i arg2 harg2 arg4 harg4 arg11 x2 x4 b 2 l))
            ((congrFun (vr_2 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 2 (off33_eq i) _ s l))
  | 3 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 3 128#32 rfl _ _ _ s l rfl (fun b => (slice_tile4 _ 384 _ 3 rfl b l).trans (Cd_ap c i arg2 harg2 arg4 harg4 arg11 x2 x4 b 3 l))
            ((congrFun (vr_3 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 3 (off34_eq i) _ s l))
  | 4 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 4 0#32 rfl _ _ _ s l rfl (fun b => (slice_tile4 _ 512 _ 4 rfl b l).trans (Cd_ap c i arg2 harg2 arg4 harg4 arg11 x2 x4 b 4 l))
            ((congrFun (vr_4 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 4 (off35_eq i) _ s l))
  | 5 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 5 128#32 rfl _ _ _ s l rfl (fun b => (slice_tile4 _ 640 _ 5 rfl b l).trans (Cd_ap c i arg2 harg2 arg4 harg4 arg11 x2 x4 b 5 l))
            ((congrFun (vr_5 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 5 (off36_eq i) _ s l))
  | 6 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 6 0#32 rfl _ _ _ s l rfl (fun b => (slice_tile4 _ 768 _ 6 rfl b l).trans (Cd_ap c i arg2 harg2 arg4 harg4 arg11 x2 x4 b 6 l))
            ((congrFun (vr_6 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 6 (off37_eq i) _ s l))
  | 7 => exact P_of 𝒱₀ c i arg2 harg2 arg3 harg3 arg4 harg4 arg5 harg5 arg6 harg6 arg7 harg7 arg8 harg8 arg9 harg9 arg10 harg10 arg11 harg11 arg12 harg12 arg13 harg13 arg14 harg14 x2 x3 x4 7 128#32 rfl _ _ _ s l rfl (fun b => (slice_tile4 _ 896 _ 7 rfl b l).trans (Cd_ap c i arg2 harg2 arg4 harg4 arg11 x2 x4 b 7 l))
            ((congrFun (vr_7 𝒱₀ c i arg2 harg2 arg3 harg3 arg4 harg4 arg5 harg5 arg6 harg6 arg7 harg7 arg8 harg8 arg9 harg9 arg10 harg10 arg11 harg11 arg12 harg12 arg13 harg13 arg14 harg14 x2 x3 x4) (ix2 s l)).trans (tileD 𝒱₀ c i arg2 harg2 arg3 harg3 arg4 harg4 arg5 harg5 arg6 harg6 arg7 harg7 arg8 harg8 arg9 harg9 arg10 harg10 arg11 harg11 arg12 harg12 arg13 harg13 arg14 harg14 x2 x3 x4 _ 7 (off38_eq i) _ s l))

theorem lsF_ap (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (t : Fin 8) (l : Fin 128) :
    ∑ r : Fin 8, (lsF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t (ix2 r l) : EReal) = ∑ s ∈ Finset.range (tok i t l + 1), pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l := by
  have h4 : (S4 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1 = (S3 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1 := by unfold S4; rw [st4_eq]
  have e : lsF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t = stepS (pr t (S3 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).1) (PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 t) := by
    rw [← h4]
    match t with
    | 0 => exact ls_0 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 1 => exact ls_1 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 2 => exact ls_2 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 3 => exact ls_3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 4 => exact ls_4 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 5 => exact ls_5 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 6 => exact ls_6 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
    | 7 => exact ls_7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13
  rw [e, sum_stepS]
  unfold tok
  rw [← chunk_sum (i 1).val (128 * (t.val % 2) + l.val) (by omega) (fun s => pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l)]
  refine congrArg₂ (· + ·) ?_ (Finset.sum_congr rfl fun s _ => PF_ap 𝒱₀ c i arg2 harg2 arg3 harg3 arg4 harg4 arg5 harg5 arg6 harg6 arg7 harg7 arg8 harg8 arg9 harg9 arg10 harg10 arg11 harg11 arg12 harg12 arg13 harg13 arg14 harg14 x2 x3 x4 t s l)
  have := (sum3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 (arg14.view.writes (Elt Ideal) arg14.view.junk kernelRun.sl.H14_1) t l _ le_rfl).1
  rw [trips3] at this
  unfold S3
  rw [trips3]
  exact this

theorem oAll_ap (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (t : Fin 8) (d l : Fin 128) :
    (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 (ix2 d (col t l)) : EReal) = ∑ s ∈ Finset.range (tok i t l + 1), vc x5 d s * clip (pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l) := by
  unfold oAll
  refine (pay54_ap _ _ _ d (col t l)).trans ?_
  unfold tok
  rw [← chunk_sum (i 1).val (128 * (t.val % 2) + l.val) (by omega) (fun s => vc x5 d s * clip (pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l))]
  have h4 : (S4 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13).2.2 = [] := by unfold S4; rw [st4_eq]
  refine congrArg₂ (· + ·) ?_ (Finset.sum_congr rfl fun s _ => ?_)
  · rw [v1571_eq, h4, List.nil_append, cov_ap, View.writes_append]
    have := (sum3 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 (arg14.view.writes (Elt Ideal) arg14.view.junk kernelRun.sl.H14_1) t l _ le_rfl).2 d
    rw [trips3] at this
    unfold S3
    rw [trips3]
    refine this.trans ?_
    have h0 : (arg14.view.read (Elt Ideal) (arg14.view.writes (Elt Ideal) arg14.view.junk kernelRun.sl.H14_1) (ix2 (n0 := 128) (n1 := 1024) d (col t l)) : EReal) = 0 := by
      unfold kernelRun.sl.H14_1
      rw [View.read_writes_full]
      unfold k1_pay249
      simp only [pointwise]
    rw [h0, zero_add]
  · rw [val_ap arg5 harg5 x5 _ _ (off39_eq i), cov_ap, h13]
    unfold L13
    rw [show P_0 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 0 from rfl, show P_1 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 1 from rfl, show P_2 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 2 from rfl, show P_3 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 3 from rfl, show P_4 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 4 from rfl, show P_5 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 5 from rfl, show P_6 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 6 from rfl, show P_7 𝒱₀ c i arg2 harg2 arg3 harg3 arg4 harg4 arg5 harg5 arg6 harg6 arg7 harg7 arg8 harg8 arg9 harg9 arg10 harg10 arg11 harg11 arg12 harg12 arg13 harg13 arg14 harg14 x2 x3 x4 = PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 7 from rfl]
    generalize hW : PF 𝒱₀ c i arg2 harg2 arg3 harg3 arg4 harg4 arg5 harg5 arg6 harg6 arg7 harg7 arg8 harg8 arg9 harg9 arg10 harg10 arg11 harg11 arg12 harg12 arg13 harg13 arg14 harg14 x2 x3 x4 = W
    refine (congrArg (vc x5 d (256 * (i 1).val + s.val) * ·) ((cols8_256 arg13.view arg13.view.junk (tileC (W 0)) (tileC (W 1)) (tileC (W 2)) (tileC (W 3)) (tileC (W 4)) (tileC (W 5)) (tileC (W 6)) (tileC (W 7)) _ t s l).trans (tile8 (fun n => tileC (W n)) t s l))).trans ?_
    show vc x5 d _ * (tileC (W t) (ix2 s l) : EReal) = _
    rw [← hW]
    rw [tileC_ap, PF_ap]
    by_cases hc : s.val ≤ 128 * (t.val % 2) + l.val
    · rw [if_pos hc, if_pos hc]
    · rw [if_neg hc, if_neg hc, clip_zero, mul_zero]

theorem sub_ap (v : View sig .tc .vmem S128x1024 .f32) (w : S128x1024.Idx → Elt Ideal .f32) (R : List (View.Piece (Elt Ideal) S128x1024 .f32)) (o : ℕ) (t : Fin 8) (ho : o = 128 * t.val) (inb) (d l : Fin 128) :
    (v.readCov ((⟨Rect.unit (s := S128x1024) ![0, 0] S128x1024.size inb_S128x1024_S128x1024_0_0, w⟩ : View.Piece (Elt Ideal) S128x1024 .f32) :: R) (Rect.unit (s := S128x1024) ![0, o] S128x128.size inb).toLoadRect (ix2 (n0 := 128) (n1 := 128) d l) : EReal) = w (ix2 (n0 := 128) (n1 := 1024) d (col t l)) := by
  subst ho
  refine (View.readAt_apply ..).trans ?_
  rw [View.read_writes_full]
  refine congrArg w (funext fun a => Fin.ext ?_)
  match a with
  | ⟨0, _⟩ => show 0 + 1 * d.val = d.val; omega
  | ⟨1, _⟩ => show 128 * t.val + 1 * l.val = 128 * t.val + l.val; omega

theorem ovF_ap (x2 : Vec Ideal S1x256x512 .bf16) (x3 : Vec Ideal S1x1x8192x128 .fp8e4m3) (x4 : Vec Ideal S1x1x128x128 .f32) (x5 : Vec Ideal S1x1x128x8192 .fp8e4m3) (f10 : BufTy.Contents (Elt Ideal) arg10.view.ty) (f13 : BufTy.Contents (Elt Ideal) arg13.view.ty) (t : Fin 8) (d l : Fin 128) :
    (ovF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t (ix2 d l) : EReal) = ∑ s ∈ Finset.range (tok i t l + 1), vc x5 d s * clip (pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l) := by
  rw [← oAll_ap 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13]
  match t with
  | 0 =>
    have h : kernelRun.sl.v1588 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 0] S128x128.size inb_S128x1024_S128x128_0_0).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 0 0 rfl _ d l)
  | 1 =>
    have h : kernelRun.sl.v1602 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 128] S128x128.size inb_S128x1024_S128x128_0_128).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 128 1 rfl _ d l)
  | 2 =>
    have h : kernelRun.sl.v1616 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 256] S128x128.size inb_S128x1024_S128x128_0_256).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 256 2 rfl _ d l)
  | 3 =>
    have h : kernelRun.sl.v1630 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 384] S128x128.size inb_S128x1024_S128x128_0_384).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 384 3 rfl _ d l)
  | 4 =>
    have h : kernelRun.sl.v1644 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 512] S128x128.size inb_S128x1024_S128x128_0_512).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 512 4 rfl _ d l)
  | 5 =>
    have h : kernelRun.sl.v1658 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 640] S128x128.size inb_S128x1024_S128x128_0_640).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 640 5 rfl _ d l)
  | 6 =>
    have h : kernelRun.sl.v1672 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 768] S128x128.size inb_S128x1024_S128x128_0_768).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 768 6 rfl _ d l)
  | 7 =>
    have h : kernelRun.sl.v1686 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 = arg14.view.readCov (kernelRun.sl.H14_1_1 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) (Rect.unit (s := S128x1024) ![0, 896] S128x128.size inb_S128x1024_S128x128_0_896).toLoadRect := by with_unfolding_all rfl
    exact (congrFun h (ix2 d l)).trans (sub_ap arg14.view (oAll 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13) _ 896 7 rfl _ d l)

theorem vs_ap (x6 : Vec Ideal S1x1x8x128 .f32) (d : Fin 128) : (vsRow (F := Ideal) c arg6 harg6 x6 (ix2 0 d) : EReal) = x6 (ix4 (n0 := 1) (n1 := 1) (n2 := 8) (n3 := 128) 0 0 0 d) := by
  have h : vsRow (F := Ideal) c arg6 harg6 x6 = shapeCast S1x128 (View.readAt (Elt Ideal) arg6.view (Rect.unit (s := S1x1x8x128) ![0, 0, 0, 0] S1x1x1x128.size inb_S1x1x8x128_S1x1x1x128_0_0_0_0).toLoadRect (harg6.unread x6)) shapeCasts_S1x1x1x128_S1x128 := by with_unfolding_all rfl
  rw [h, k4_sc]
  refine (harg6.readAt_unread x6 _ _).trans ?_
  refine congrArg x6 (funext fun a => Fin.ext ?_)
  match a with
  | ⟨0, _⟩ => rfl
  | ⟨1, _⟩ => rfl
  | ⟨2, _⟩ => rfl
  | ⟨3, _⟩ => show 0 + 1 * d.val = d.val; omega
end

/-! ## The block, without the buffers -/

/-- The largest score that a query sees, before the query's own factor; -/
def Mx (n : ℕ) (x2 : Vec Ideal S1x256x512 .bf16) (x3 : Vec Ideal S1x1x8192x128 .fp8e4m3) (x4 : Vec Ideal S1x1x128x128 .f32) (t : Fin 8) (l : Fin 128) : EReal := ⨆ s : Fin (n + 1), raw x2 x3 s.val t l * kS x4 (s.val / 64) l
/-- a key's weight; -/
def pw (n : ℕ) (x2 : Vec Ideal S1x256x512 .bf16) (x3 : Vec Ideal S1x1x8192x128 .fp8e4m3) (x4 : Vec Ideal S1x1x128x128 .f32) (s : ℕ) (t : Fin 8) (l : Fin 128) : EReal :=
  FloatOps.exp2 (F := Ideal) (φ := .f32) ((raw x2 x3 s t l * (kS x4 (s / 64) l * (qs x2 t : EReal))) - (Mx n x2 x3 x4 t l * (qs x2 t : EReal) - ((Real.log 448 * (Real.log 2)⁻¹ : ℝ) : EReal)) : EReal)
/-- one entry of the output. -/
def ow (n : ℕ) (x2 : Vec Ideal S1x256x512 .bf16) (x3 : Vec Ideal S1x1x8192x128 .fp8e4m3) (x4 : Vec Ideal S1x1x128x128 .f32) (x5 : Vec Ideal S1x1x128x8192 .fp8e4m3) (x6 : Vec Ideal S1x1x8x128 .f32) (t : Fin 8) (l d : Fin 128) : EReal :=
  ((∑ s ∈ Finset.range (n + 1), vc x5 d s * clip (pw n x2 x3 x4 s t l)) * Ideal.div 1 (∑ s ∈ Finset.range (n + 1), pw n x2 x3 x4 s t l)) * x6 (ix4 (n0 := 1) (n1 := 1) (n2 := 8) (n3 := 128) 0 0 0 d)
def G7 (T : ℕ) (x2 : Vec Ideal S1x256x512 .bf16) (x3 : Vec Ideal S1x1x8192x128 .fp8e4m3) (x4 : Vec Ideal S1x1x128x128 .f32) (x5 : Vec Ideal S1x1x128x8192 .fp8e4m3) (x6 : Vec Ideal S1x1x8x128 .f32) (y : S1x256x512.Idx) : EReal :=
  ow (256 * T + (y 1).val) x2 x3 x4 x5 x6 ⟨2 * ((y 2).val / 128) + (y 1).val / 128, by have : (y 1).val < 256 := (y 1).isLt; have : (y 2).val < 512 := (y 2).isLt; omega⟩
    ⟨(y 1).val % 128, Nat.mod_lt _ (by decide)⟩ ⟨(y 2).val % 128, Nat.mod_lt _ (by decide)⟩

section
variable (𝒱₀ : Variants) (c : Dev nD) (i : grid1.Coords) (arg2 : Memref sig .tc .vmem S1x256x512 .bf16) (harg2 : arg2.IsWhole) (arg3 : Memref sig .tc .vmem S1x1x8192x128 .fp8e4m3) (harg3 : arg3.IsWhole) (arg4 : Memref sig .tc .vmem S1x1x128x128 .f32) (harg4 : arg4.IsWhole) (arg5 : Memref sig .tc .vmem S1x1x128x8192 .fp8e4m3) (harg5 : arg5.IsWhole) (arg6 : Memref sig .tc .vmem S1x1x8x128 .f32) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x8x128 .f32) (harg9 : arg9.IsWhole) (arg10 : Memref sig .tc .vmem S8192x1024 .f32) (harg10 : arg10.IsWhole) (arg11 : Memref sig .tc .vmem S128x1024 .f32) (harg11 : arg11.IsWhole) (arg12 : Memref sig .tc .vmem S1024x128 .fp8e4m3) (harg12 : arg12.IsWhole) (arg13 : Memref sig .tc .vmem S256x1024 .fp8e4m3) (harg13 : arg13.IsWhole) (arg14 : Memref sig .tc .vmem S128x1024 .f32) (harg14 : arg14.IsWhole)

theorem pv_pw (x2 : Vec Ideal S1x256x512 .bf16) (x3 : Vec Ideal S1x1x8192x128 .fp8e4m3) (x4 : Vec Ideal S1x1x128x128 .f32) (kr : ℕ → Fin 128 → ℝ) (hp : ∀ b l, 0 < kr b l) (hK : ∀ b, b < 128 → ∀ l, kS x4 b l = (kr b l : EReal)) (s : ℕ) (t : Fin 8) (l : Fin 128) :
    pv 𝒱₀ c i arg2 harg2 arg3 harg3 arg4 harg4 arg5 harg5 arg6 harg6 arg7 harg7 arg8 harg8 arg9 harg9 arg10 harg10 arg11 harg11 arg12 harg12 arg13 harg13 arg14 harg14 x2 x3 x4 s t l = pw (tok i t l) x2 x3 x4 s t l := by
  obtain ⟨M, hM, hm⟩ := mpF_ap 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK t l
  have e : M = Mx (tok i t l) x2 x3 x4 t l := by
    refine eq_of_forall_ge_iff fun z => ?_
    rw [hM]
    unfold Mx
    rw [iSup_le_iff]
    have hi : (i 1).val < 32 := (i 1).isLt
    have ht : tok i t l < 8192 := by unfold tok; omega
    constructor
    · intro H s; rw [hK _ (by omega)]; exact H s.val (by omega)
    · intro H s hs; rw [← hK _ (by omega)]; exact H ⟨s, by omega⟩
  unfold pv pw
  rw [hm, e]

theorem piece7 (x2 : Vec Ideal S1x256x512 .bf16) (x3 : Vec Ideal S1x1x8192x128 .fp8e4m3) (x4 : Vec Ideal S1x1x128x128 .f32) (x5 : Vec Ideal S1x1x128x8192 .fp8e4m3) (x6 : Vec Ideal S1x1x8x128 .f32) (f10 : BufTy.Contents (Elt Ideal) arg10.view.ty) (f13 : BufTy.Contents (Elt Ideal) arg13.view.ty) (kr : ℕ → Fin 128 → ℝ) (hp : ∀ b l, 0 < kr b l) (hK : ∀ b, b < 128 → ∀ l, kS x4 b l = (kr b l : EReal))
    (t : Fin 8) (a b : ℕ) (ha : a = 128 * (t.val % 2)) (hb : b = 128 * (t.val / 2)) (inb) (x : S1x128x128.Idx) :
    (outT (lsF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t) (ovF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t) (vsRow (F := Ideal) c arg6 harg6 x6) x : EReal)
      = G7 (i 1).val x2 x3 x4 x5 x6 ((Rect.unit (s := S1x256x512) ![0, a, b] ![1, 128, 128] inb).emb x) := by
  subst ha hb
  have x0 : (x 0).val < 1 := (x 0).isLt
  have x1 : (x 1).val < 128 := (x 1).isLt
  have x2' : (x 2).val < 128 := (x 2).isLt
  have hx : x = ix3 (n0 := 1) (n1 := 128) (n2 := 128) 0 ⟨(x 1).val, x1⟩ ⟨(x 2).val, x2'⟩ := funext fun a => match a with
    | ⟨0, _⟩ => Fin.ext (by show (x 0).val = 0; omega)
    | ⟨1, _⟩ => rfl
    | ⟨2, _⟩ => rfl
  refine (congrArg (fun z => (outT (lsF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t) (ovF 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 f10 f13 t) (vsRow (F := Ideal) c arg6 harg6 x6) z : EReal)) hx).trans ?_
  refine (outT_ap _ _ _ _ _).trans ?_
  rw [lsF_ap, ovF_ap, vs_ap]
  simp only [pv_pw 𝒱₀ c i arg2 harg2 arg3 harg3 arg4 harg4 arg5 harg5 arg6 harg6 arg7 harg7 arg8 harg8 arg9 harg9 arg10 harg10 arg11 harg11 arg12 harg12 arg13 harg13 arg14 harg14 x2 x3 x4 kr hp hK]
  unfold G7
  have e1 : 256 * (i 1).val + (128 * (t.val % 2) + 1 * (x 1).val) = tok i t ⟨(x 1).val, x1⟩ := by unfold tok; show _ = 256 * (i 1).val + (128 * (t.val % 2) + (x 1).val); omega
  have e2 : (⟨2 * ((128 * (t.val / 2) + 1 * (x 2).val) / 128) + (128 * (t.val % 2) + 1 * (x 1).val) / 128, by omega⟩ : Fin 8) = t := Fin.ext (by show 2 * ((128 * (t.val / 2) + 1 * (x 2).val) / 128) + (128 * (t.val % 2) + 1 * (x 1).val) / 128 = t.val; omega)
  have e3 : (⟨(128 * (t.val % 2) + 1 * (x 1).val) % 128, Nat.mod_lt _ (by decide)⟩ : Fin 128) = ⟨(x 1).val, x1⟩ := Fin.ext (by show (128 * (t.val % 2) + 1 * (x 1).val) % 128 = (x 1).val; omega)
  have e4 : (⟨(128 * (t.val / 2) + 1 * (x 2).val) % 128, Nat.mod_lt _ (by decide)⟩ : Fin 128) = ⟨(x 2).val, x2'⟩ := Fin.ext (by show (128 * (t.val / 2) + 1 * (x 2).val) % 128 = (x 2).val; omega)
  show ow _ x2 x3 x4 x5 x6 t _ _ = ow (256 * (i 1).val + (128 * (t.val % 2) + 1 * (x 1).val)) x2 x3 x4 x5 x6 (⟨2 * ((128 * (t.val / 2) + 1 * (x 2).val) / 128) + (128 * (t.val % 2) + 1 * (x 1).val) / 128, _⟩ : Fin 8) (⟨(128 * (t.val % 2) + 1 * (x 1).val) % 128, _⟩ : Fin 128) (⟨(128 * (t.val / 2) + 1 * (x 2).val) % 128, _⟩ : Fin 128)
  rw [e1, e2, e3, e4]

theorem read7 (x2 : Vec Ideal S1x256x512 .bf16) (x3 : Vec Ideal S1x1x8192x128 .fp8e4m3) (x4 : Vec Ideal S1x1x128x128 .f32) (x5 : Vec Ideal S1x1x128x8192 .fp8e4m3) (x6 : Vec Ideal S1x1x8x128 .f32) (f10 : BufTy.Contents (Elt Ideal) arg10.view.ty) (f13 : BufTy.Contents (Elt Ideal) arg13.view.ty) (kr : ℕ → Fin 128 → ℝ) (hp : ∀ b l, 0 < kr b l) (hK : ∀ b, b < 128 → ∀ l, kS x4 b l = (kr b l : EReal))
    (v : View sig .tc .vmem S1x256x512 .bf16) (f) (y : S1x256x512.Idx) (hy : ∃ p ∈ pieces7 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13, y ∈ p.1.set) :
    v.read (Elt Ideal) (v.writes (Elt Ideal) f (pieces7 (F := Ideal) 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13)) y = G7 (i 1).val x2 x3 x4 x5 x6 y := by
  refine View.read_writes_apply_of_pieces _ _ (G7 (i 1).val x2 x3 x4 x5 x6) _ ?_ y hy
  rw [pieces7_eq]
  intro p hp' x
  simp only [List.mem_cons, List.not_mem_nil, or_false] at hp'
  rcases hp' with rfl | rfl | rfl | rfl | rfl | rfl | rfl | rfl
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 7 128 384 rfl rfl inb_S1x256x512_S1x128x128_0_128_384 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 6 0 384 rfl rfl inb_S1x256x512_S1x128x128_0_0_384 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 5 128 256 rfl rfl inb_S1x256x512_S1x128x128_0_128_256 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 4 0 256 rfl rfl inb_S1x256x512_S1x128x128_0_0_256 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 3 128 128 rfl rfl inb_S1x256x512_S1x128x128_0_128_128 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 2 0 128 rfl rfl inb_S1x256x512_S1x128x128_0_0_128 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 1 128 0 rfl rfl inb_S1x256x512_S1x128x128_0_128_0 x
  · exact piece7 𝒱₀ c i arg2 harg2 arg3 harg3 arg4 harg4 arg5 harg5 arg6 harg6 arg7 harg7 arg8 harg8 arg9 harg9 arg10 harg10 arg11 harg11 arg12 harg12 arg13 harg13 arg14 harg14 x2 x3 x4 x5 x6 f10 f13 kr hp hK 0 0 0 rfl rfl inb_S1x256x512_S1x128x128_0_0_0 x
end

end Cert.KernelIdeal.K1

end
-- ==== Proof.KernelIdeal.A9.lean ====
/- Attention of one query over real scores: the kernel's powers of two with their maximum lowered by the logarithm of 448,
   and the plain softmax, have the same quotient. -/
module

public import proofs.«01_k».proof.Proof.KernelIdeal.KVal

@[expose] public section

noncomputable section

namespace Cert.KernelIdeal.Attn

open Idealize.ShloMosaic Cert.KernelIdeal Cert.KernelIdeal.Q

/-- The kernel's largest score, before the query's factor; -/
def cMax (n : ℕ) (R S : ℕ → EReal) : EReal := ⨆ s : Fin (n + 1), R s.val * S s.val
/-- its weight of a key; -/
def cW (n : ℕ) (R S : ℕ → EReal) (c : ℝ) (s : ℕ) : EReal :=
  FloatOps.exp2 (F := Ideal) (φ := .f32) ((R s * (S s * (c : EReal))) - (cMax n R S * (c : EReal) - ((Real.log 448 * (Real.log 2)⁻¹ : ℝ) : EReal)) : EReal)
/-- its entry of the output. -/
def core (n : ℕ) (R S : ℕ → EReal) (c : ℝ) (v : ℕ → EReal) (w : EReal) : EReal :=
  ((∑ s ∈ Finset.range (n + 1), v s * clip (cW n R S c s)) * Ideal.div 1 (∑ s ∈ Finset.range (n + 1), cW n R S c s)) * w

/-- The reference's score of a key, masked; -/
def rS (n : ℕ) (R S : Fin 8192 → EReal) (q : EReal) (s : Fin 8192) : EReal := if s.val ≤ n then R s * q * S s else ⊥
/-- its weight; -/
def rW (n : ℕ) (R S : Fin 8192 → EReal) (q : EReal) (s : Fin 8192) : EReal := Ideal.exp (rS n R S q s - ⨆ s, rS n R S q s)
/-- its entry of the output. -/
def rcore (n : ℕ) (R S : Fin 8192 → EReal) (q : EReal) (v : Fin 8192 → EReal) (w : EReal) : EReal :=
  Ideal.div ((∑ s : Fin 8192, clip (rW n R S q s * ((448 : ℝ) : EReal)) * v s) * (((1 / 448 : ℝ) : EReal) * ((448 : ℝ) : EReal)) * (((1 / 448 : ℝ) : EReal) * w)) (∑ s : Fin 8192, rW n R S q s)

theorem clip_real (x : ℝ) (h0 : 0 ≤ x) (h1 : x ≤ 448) : clip (x : EReal) = (x : EReal) := by
  unfold clip
  rw [max_eq_right (by exact_mod_cast (by linarith : (-448 : ℝ) ≤ x)), min_eq_right (by exact_mod_cast h1)]

theorem coe_sum (t : Finset ℕ) (f : ℕ → ℝ) : ((∑ s ∈ t, f s : ℝ) : EReal) = ∑ s ∈ t, ((f s : ℝ) : EReal) := by
  induction t using Finset.induction_on with
  | empty => simp
  | insert a t ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul]; congr 1; ring

section
variable (n : ℕ) (hn : n < 8192) (r σ v : ℕ → ℝ) (e w : ℝ) (he : 0 < e) (hσ : ∀ s, 0 < σ s)
include hn he hσ

theorem core_eq (R S : ℕ → EReal) (V : ℕ → EReal) (hR : ∀ s, s < 8192 → R s = (r s : EReal)) (hS : ∀ s, s < 8192 → S s = (σ s : EReal)) (hV : ∀ s, s < 8192 → V s = (v s : EReal)) :
    core n R S (e * ((Real.log 2)⁻¹ * (Real.sqrt 128)⁻¹)) V (w : EReal)
      = rcore n (fun s => R s.val) (fun s => S s.val) ((e / Real.sqrt 128 : ℝ) : EReal) (fun s => V s.val) (w : EReal) := by
  have h2 : (0 : ℝ) < Real.log 2 := Real.log_pos (by norm_num)
  have hq : (0 : ℝ) < Real.sqrt 128 := Real.sqrt_pos.mpr (by norm_num)
  set q : ℝ := e / Real.sqrt 128 with hqd
  have hq0 : 0 < q := div_pos he hq
  obtain ⟨t, ht, htm⟩ := Finset.exists_max_image (Finset.range (n + 1)) (fun s => r s * σ s) ⟨0, by simp⟩
  rw [Finset.mem_range] at ht
  set M : ℝ := r t * σ t with hM
  have htm' : ∀ s, s ≤ n → r s * σ s ≤ M := fun s hs => htm s (Finset.mem_range.mpr (by omega))
  have hcM : cMax n R S = (M : EReal) := by
    unfold cMax
    refine le_antisymm (iSup_le fun s => ?_) ?_
    · rw [hR _ (by omega), hS _ (by omega), ← EReal.coe_mul]
      exact_mod_cast htm' s.val (by omega)
    · refine le_trans (le_of_eq ?_) (le_iSup (fun s : Fin (n + 1) => R s.val * S s.val) ⟨t, ht⟩)
      show _ = R t * S t
      rw [hR _ (by omega), hS _ (by omega), ← EReal.coe_mul]
  have hrS : ∀ s : Fin 8192, s.val ≤ n → rS n (fun s => R s.val) (fun s => S s.val) (q : EReal) s = ((r s.val * q * σ s.val : ℝ) : EReal) := fun s hs => by
    unfold rS; rw [if_pos hs]; show R s.val * (q : EReal) * S s.val = _; rw [hR _ s.isLt, hS _ s.isLt, ← EReal.coe_mul, ← EReal.coe_mul]
  have hrB : ∀ s : Fin 8192, ¬ s.val ≤ n → rS n (fun s => R s.val) (fun s => S s.val) (q : EReal) s = ⊥ := fun s hs => by unfold rS; rw [if_neg hs]
  have hrM : (⨆ s, rS n (fun s => R s.val) (fun s => S s.val) (q : EReal) s) = ((M * q : ℝ) : EReal) := by
    refine le_antisymm (iSup_le fun s => ?_) ?_
    · by_cases hs : s.val ≤ n
      · rw [hrS s hs]
        have := mul_le_mul_of_nonneg_right (htm' s.val hs) hq0.le
        exact_mod_cast (by linarith : r s.val * q * σ s.val ≤ M * q)
      · rw [hrB s hs]; exact bot_le
    · refine le_trans (le_of_eq ?_) (le_iSup (fun s : Fin 8192 => rS n (fun s => R s.val) (fun s => S s.val) (q : EReal) s) ⟨t, by omega⟩)
      rw [hrS ⟨t, by omega⟩ (by show t ≤ n; omega)]
      rw [hM]; congr 1; ring
  let p : ℕ → ℝ := fun s => Real.exp (r s * q * σ s - M * q)
  have hp0 : ∀ s, 0 < p s := fun s => Real.exp_pos _
  have hp1 : ∀ s, s ≤ n → p s ≤ 1 := fun s hs => by
    refine Real.exp_le_one_iff.mpr ?_
    have := mul_le_mul_of_nonneg_right (htm' s hs) hq0.le
    linarith
  have hcW : ∀ s, s ≤ n → cW n R S (e * ((Real.log 2)⁻¹ * (Real.sqrt 128)⁻¹)) s = ((448 * p s : ℝ) : EReal) := fun s hs => by
    unfold cW
    rw [hcM, hR _ (by omega), hS _ (by omega), ← EReal.coe_mul, ← EReal.coe_mul, ← EReal.coe_mul, ← EReal.coe_sub, ← EReal.coe_sub]
    show Ideal.exp2 _ = _
    rw [Ideal.exp2_coe]
    refine congrArg (fun x : ℝ => (x : EReal)) ?_
    show (2 : ℝ) ^ (_ : ℝ) = _
    rw [Real.rpow_def_of_pos (by norm_num)]
    have : (448 : ℝ) * p s = Real.exp (Real.log 448 + (r s * q * σ s - M * q)) := by
      rw [Real.exp_add, Real.exp_log (by norm_num)]
    rw [this]
    congr 1
    rw [hqd]
    field_simp
    ring
  have hrW : ∀ s : Fin 8192, s.val ≤ n → rW n (fun s => R s.val) (fun s => S s.val) (q : EReal) s = (p s.val : EReal) := fun s hs => by
    unfold rW
    rw [hrM, hrS s hs, ← EReal.coe_sub, Ideal.exp_coe]
  have hrW0 : ∀ s : Fin 8192, ¬ s.val ≤ n → rW n (fun s => R s.val) (fun s => S s.val) (q : EReal) s = 0 := fun s hs => by
    unfold rW
    rw [hrM, hrB s hs, EReal.bot_sub, Ideal.exp_bot]
  have P0 : 0 < ∑ s ∈ Finset.range (n + 1), p s := Finset.sum_pos (fun s _ => hp0 s) ⟨0, by simp⟩
  have trunc : ∀ f : Fin 8192 → EReal, ∀ g : ℕ → ℝ, (∀ s : Fin 8192, s.val ≤ n → f s = (g s.val : EReal)) → (∀ s : Fin 8192, ¬ s.val ≤ n → f s = 0) →
      ∑ s, f s = ((∑ s ∈ Finset.range (n + 1), g s : ℝ) : EReal) := fun f g h1 h2 => by
    have e1 : ∑ s, f s = ∑ s : Fin 8192, (if s.val ≤ n then ((g s.val : ℝ) : EReal) else 0) := Finset.sum_congr rfl fun s _ => by
      by_cases hs : s.val ≤ n
      · rw [if_pos hs, h1 s hs]
      · rw [if_neg hs, h2 s hs]
    rw [e1, Fin.sum_univ_eq_sum_range (fun s => if s ≤ n then ((g s : ℝ) : EReal) else 0) 8192, ← Finset.sum_filter]
    have : Finset.filter (fun s => s ≤ n) (Finset.range 8192) = Finset.range (n + 1) := by ext s; simp only [Finset.mem_filter, Finset.mem_range]; omega
    rw [this, coe_sum]
  have c1 : ∑ s ∈ Finset.range (n + 1), cW n R S (e * ((Real.log 2)⁻¹ * (Real.sqrt 128)⁻¹)) s = ((∑ s ∈ Finset.range (n + 1), 448 * p s : ℝ) : EReal) := by
    rw [coe_sum]
    exact Finset.sum_congr rfl fun s hs => hcW s (by rw [Finset.mem_range] at hs; omega)
  have c2 : ∑ s ∈ Finset.range (n + 1), V s * clip (cW n R S (e * ((Real.log 2)⁻¹ * (Real.sqrt 128)⁻¹)) s) = ((∑ s ∈ Finset.range (n + 1), v s * (448 * p s) : ℝ) : EReal) := by
    rw [coe_sum]
    refine Finset.sum_congr rfl fun s hs => ?_
    rw [Finset.mem_range] at hs
    rw [hcW s (by omega), hV _ (by omega), clip_real _ (by have := hp0 s; linarith) (by have := hp1 s (by omega); linarith), ← EReal.coe_mul]
  unfold core rcore
  rw [c1, c2, trunc _ p hrW hrW0, trunc _ (fun s => v s * (448 * p s)) (fun s hs => by
    show clip _ * V s.val = _
    rw [hrW s hs, hV _ s.isLt, ← EReal.coe_mul, clip_real _ (by have := hp0 s.val; linarith) (by have := hp1 s.val hs; linarith), ← EReal.coe_mul]
    congr 1; ring) (fun s hs => by
    show clip _ * V s.val = _
    rw [hrW0 s hs, zero_mul]
    have := clip_real 0 le_rfl (by norm_num)
    rw [EReal.coe_zero] at this
    rw [this, zero_mul])]
  have P1 : (∑ s ∈ Finset.range (n + 1), 448 * p s) = 448 * ∑ s ∈ Finset.range (n + 1), p s := (Finset.mul_sum _ _ _).symm
  have P2 : (∑ s ∈ Finset.range (n + 1), v s * (448 * p s)) = 448 * ∑ s ∈ Finset.range (n + 1), v s * p s := by
    rw [Finset.mul_sum]; exact Finset.sum_congr rfl fun s _ => by ring
  rw [P1, P2, ← EReal.coe_one, div_real _ _ (by positivity), ← EReal.coe_mul, ← EReal.coe_mul, ← EReal.coe_mul, ← EReal.coe_mul, ← EReal.coe_mul, ← EReal.coe_mul, div_real _ _ P0.ne']
  congr 1
  field_simp
end

end Cert.KernelIdeal.Attn

end
-- ==== Proof.KernelIdeal.A8.lean ====
/- The output that the attention kernel leaves, entry by entry: the weighted sum of the values' codes. -/
module

public import proofs.«01_k».proof.Proof.KernelIdeal.A7
public import proofs.«01_k».proof.Proof.KernelIdeal.A9
public import proofs.«01_k».proof.Proof.KernelIdeal.Model

@[expose] public section

set_option maxRecDepth 65536

noncomputable section

namespace Cert.KernelIdeal.Attn

open Cert.KernelIdeal Cert.KernelIdeal.Gen Cert.KernelIdeal.K1 Cert.KernelIdeal.Q Cert.KernelIdeal.Model
open Idealize.ShloMosaic Idealize.ShloMosaic.TcCoe Idealize.ShloMosaic.Tactic
open Cert.KernelIdeal.KV (headOf hE kScale)

/-- One entry of the output over the five arrays that the kernel reads. -/
def aOut (X : S2x8192x8192.Idx → EReal) (KC : S2x16x8192x128.Idx → EReal) (KS : S2x16x128x128.Idx → EReal) (VT : S2x16x128x8192.Idx → EReal) (VS : S2x16x8x128.Idx → EReal)
    (b : Fin 2) (n : Fin 8192) (h : Fin 64) (d : Fin 128) : EReal :=
  core n.val (fun s => ∑ e : Fin 128, (if p : s < 8192 then KC (ix4 (n0 := 2) (n1 := 16) (n2 := 8192) (n3 := 128) b ⟨h.val / 4, by omega⟩ ⟨s, p⟩ e) else 0) * m0 X b n h e)
    (fun s => if p : s / 64 < 128 then KS (ix4 (n0 := 2) (n1 := 16) (n2 := 128) (n3 := 128) b ⟨h.val / 4, by omega⟩ ⟨s / 64, p⟩ ⟨n.val % 128, Nat.mod_lt _ (by decide)⟩) else 0)
    ((2 : ℝ) ^ qE X b ⟨n.val / 128, by omega⟩ h * ((Real.log 2)⁻¹ * (Real.sqrt 128)⁻¹))
    (fun s => if p : s < 8192 then VT (ix4 (n0 := 2) (n1 := 16) (n2 := 128) (n3 := 8192) b ⟨h.val / 4, by omega⟩ d ⟨s, p⟩) else 0)
    (VS (ix4 (n0 := 2) (n1 := 16) (n2 := 8) (n3 := 128) b ⟨h.val / 4, by omega⟩ 0 d))
/-- The output as the kernel stores it. -/
def aArr (X : S2x8192x8192.Idx → EReal) (KC : S2x16x8192x128.Idx → EReal) (KS : S2x16x128x128.Idx → EReal) (VT : S2x16x128x8192.Idx → EReal) (VS : S2x16x8x128.Idx → EReal) (j : S2x8192x8192.Idx) : EReal :=
  aOut X KC KS VT VS (j 0) (j 1) ⟨(j 2).val / 128, by have : (j 2).val < 8192 := (j 2).isLt; omega⟩ ⟨(j 2).val % 128, Nat.mod_lt _ (by decide)⟩

theorem ow_core (n : ℕ) (x2 : Vec Ideal S1x256x512 .bf16) (x3 : Vec Ideal S1x1x8192x128 .fp8e4m3) (x4 : Vec Ideal S1x1x128x128 .f32) (x5 : Vec Ideal S1x1x128x8192 .fp8e4m3) (x6 : Vec Ideal S1x1x8x128 .f32) (t : Fin 8) (l d : Fin 128) :
    ow n x2 x3 x4 x5 x6 t l d = core n (fun s => raw x2 x3 s t l) (fun s => kS x4 (s / 64) l) (qs x2 t) (vc x5 d) (x6 (ix4 (n0 := 1) (n1 := 1) (n2 := 8) (n3 := 128) 0 0 0 d)) := rfl

theorem core_congr {n n' : ℕ} {R R' S S' : ℕ → EReal} {c c' : ℝ} {v v' : ℕ → EReal} {w w' : EReal} (h0 : n = n') (h1 : ∀ s, R s = R' s) (h2 : ∀ s, S s = S' s) (h3 : c = c') (h4 : ∀ s, v s = v' s) (h5 : w = w') :
    core n R S c v w = core n' R' S' c' v' w' := by
  rw [h0, funext h1, funext h2, h3, funext h4, h5]

theorem idxA : ∀ t : Fin cfg1.N, (win1_1.index t = ![t.val / 512, t.val / 32 % 16, 0, 0] ∧ win1_2.index t = ![t.val / 512, t.val / 32 % 16, 0, 0] ∧ win1_3.index t = ![t.val / 512, t.val / 32 % 16, 0, 0]) ∧ win1_4.index t = ![t.val / 512, t.val / 32 % 16, 0, 0] ∧
    win1_5.index t = ![t.val / 512, t.val % 32, t.val / 32 % 16] ∧ ((grid1.coords t) 1).val = t.val % 32 := (by decide +kernel : ∀ t : Fin grid1.N, _)

variable (𝒱₀ : Variants) (V : (c : Dev nD) → (b : Ref sig .tc) → Buf (Elt Ideal) ((c : Thread nD τ).loc b)) (D : Dev nD → CellTallies nD τ sig Unit)

theorem outs5 (c : Dev nD) (t : Fin cfg1.N) (kr : ℕ → Fin 128 → ℝ) (hp : ∀ b l, 0 < kr b l) (hK : ∀ b, b < 128 → ∀ l, kS (iblk V c 2 t) b l = (kr b l : EReal)) :
    (outsAt1 𝒱₀ V c t).1 = G7 ((grid1.coords t) 1).val (iblk V c 0 t) (iblk V c 1 t) (iblk V c 2 t) (iblk V c 3 t) (iblk V c 4 t) := by
  have h := fun y => read7 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) (Memref.whole cc1_scratch0).view.junk (Memref.whole cc1_scratch3).view.junk kr hp hK VO1_5 VO1_5.junk y (cover1_5 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (iblk V c 0 t) (iblk V c 1 t) (iblk V c 2 t) (iblk V c 3 t) (iblk V c 4 t) y)
  unfold outsAt1
  dsimp only
  unfold out1_5
  exact funext h

theorem rd0 (c : Dev nD) (t : Fin cfg1.N) (b : Fin 2) (hb : b.val = t.val / 512) (u : Fin 256) (v : Fin 512) (U V' : Fin 8192) (hU : U.val = 256 * (t.val % 32) + u.val) (hV : V'.val = 512 * (t.val / 32 % 16) + v.val) :
    iblk V c 0 t (ix3 (n0 := 1) (n1 := 256) (n2 := 512) 0 u v) = V c main_arg0 (ix3 (n0 := 2) (n1 := 8192) (n2 := 8192) b U V') := by
  obtain ⟨i0, i6, i7⟩ := idx1 t
  blk_ext [iblk, i0]
theorem rd1 (c : Dev nD) (t : Fin cfg1.N) (b : Fin 2) (hb : b.val = t.val / 512) (g : Fin 16) (hg : g.val = t.val / 32 % 16) (u : Fin 8192) (v : Fin 128) :
    iblk V c 1 t (ix4 (n0 := 1) (n1 := 1) (n2 := 8192) (n3 := 128) 0 0 u v) = V c main_v0_0 (ix4 (n0 := 2) (n1 := 16) (n2 := 8192) (n3 := 128) b g u v) := by
  obtain ⟨⟨i1, i2, i3⟩, i4, i5, i6⟩ := idxA t
  blk_ext [iblk, i1]
theorem rd2 (c : Dev nD) (t : Fin cfg1.N) (b : Fin 2) (hb : b.val = t.val / 512) (g : Fin 16) (hg : g.val = t.val / 32 % 16) (u : Fin 128) (v : Fin 128) :
    iblk V c 2 t (ix4 (n0 := 1) (n1 := 1) (n2 := 128) (n3 := 128) 0 0 u v) = V c main_v0_1 (ix4 (n0 := 2) (n1 := 16) (n2 := 128) (n3 := 128) b g u v) := by
  obtain ⟨⟨i1, i2, i3⟩, i4, i5, i6⟩ := idxA t
  blk_ext [iblk, i2]
theorem rd3 (c : Dev nD) (t : Fin cfg1.N) (b : Fin 2) (hb : b.val = t.val / 512) (g : Fin 16) (hg : g.val = t.val / 32 % 16) (u : Fin 128) (v : Fin 8192) :
    iblk V c 3 t (ix4 (n0 := 1) (n1 := 1) (n2 := 128) (n3 := 8192) 0 0 u v) = V c main_v0_3 (ix4 (n0 := 2) (n1 := 16) (n2 := 128) (n3 := 8192) b g u v) := by
  obtain ⟨⟨i1, i2, i3⟩, i4, i5, i6⟩ := idxA t
  blk_ext [iblk, i3]
theorem rd4 (c : Dev nD) (t : Fin cfg1.N) (b : Fin 2) (hb : b.val = t.val / 512) (g : Fin 16) (hg : g.val = t.val / 32 % 16) (u : Fin 8) (v : Fin 128) :
    iblk V c 4 t (ix4 (n0 := 1) (n1 := 1) (n2 := 8) (n3 := 128) 0 0 u v) = V c main_v0_4 (ix4 (n0 := 2) (n1 := 16) (n2 := 8) (n3 := 128) b g u v) := by
  obtain ⟨⟨i1, i2, i3⟩, i4, i5, i6⟩ := idxA t
  blk_ext [iblk, i4]

theorem blk_pt (c : Dev nD) (t : Fin cfg1.N) (y : S1x256x512.Idx) (b : Fin 2) (n : Fin 8192) (h : Fin 64) (d : Fin 128) (hb : b.val = t.val / 512) (hn : n.val = 256 * (t.val % 32) + (y 1).val)
    (hh : h.val = 4 * (t.val / 32 % 16) + (y 2).val / 128) (hd : d.val = (y 2).val % 128) :
    G7 ((grid1.coords t) 1).val (iblk V c 0 t) (iblk V c 1 t) (iblk V c 2 t) (iblk V c 3 t) (iblk V c 4 t) y = aOut (V c main_arg0) (V c main_v0_0) (V c main_v0_1) (V c main_v0_3) (V c main_v0_4) b n h d := by
  have y1 : (y 1).val < 256 := (y 1).isLt
  have y2 : (y 2).val < 512 := (y 2).isLt
  have ht : t.val < 1024 := lt_of_lt_of_eq t.isLt (by decide)
  obtain ⟨-, -, -, iT⟩ := idxA t
  have hg : (⟨h.val / 4, by omega⟩ : Fin 16).val = t.val / 32 % 16 := by show h.val / 4 = _; omega
  have et : eT (tl (iblk V c 0 t) ⟨2 * ((y 2).val / 128) + (y 1).val / 128, by omega⟩) = qE (V c main_arg0) b ⟨n.val / 128, by omega⟩ h := by
    refine maxT_tile (V c main_arg0) _ b ⟨n.val / 128, by omega⟩ h fun i => ?_
    have z1 : (i 1).val < 128 := (i 1).isLt
    have z2 : (i 2).val < 128 := (i 2).isLt
    unfold tl tileAt
    refine rd0 V c t b hb _ _ _ _ ?_ ?_
    · show 128 * (n.val / 128) + (i 1).val = 256 * (t.val % 32) + (128 * ((2 * ((y 2).val / 128) + (y 1).val / 128) % 2) + (i 1).val)
      omega
    · show 128 * h.val + (i 2).val = 512 * (t.val / 32 % 16) + (128 * ((2 * ((y 2).val / 128) + (y 1).val / 128) / 2) + (i 2).val)
      omega
  unfold G7
  rw [ow_core]
  unfold aOut
  refine core_congr ?_ (fun s => ?_) (fun s => ?_) ?_ (fun s => ?_) ?_
  · rw [iT, hn]
  · unfold raw
    refine Finset.sum_congr rfl fun e _ => ?_
    congr 1
    · unfold kc
      split
      · exact rd1 V c t b hb _ hg _ _
      · rfl
    · unfold qc m0
      rw [et]
      congr 2
      unfold tl tileAt
      refine rd0 V c t b hb _ _ _ _ ?_ ?_
      · show n.val = 256 * (t.val % 32) + (128 * ((2 * ((y 2).val / 128) + (y 1).val / 128) % 2) + (y 1).val % 128)
        omega
      · show 128 * h.val + e.val = 512 * (t.val / 32 % 16) + (128 * ((2 * ((y 2).val / 128) + (y 1).val / 128) / 2) + e.val)
        omega
  · have el : (⟨(y 1).val % 128, Nat.mod_lt _ (by decide)⟩ : Fin 128) = ⟨n.val % 128, Nat.mod_lt _ (by decide)⟩ := Fin.ext (by show (y 1).val % 128 = n.val % 128; omega)
    rw [el]
    unfold kS
    split
    · exact rd2 V c t b hb _ hg _ _
    · rfl
  · unfold qs
    rw [et]
  · have ed : (⟨(y 2).val % 128, Nat.mod_lt _ (by decide)⟩ : Fin 128) = d := Fin.ext hd.symm
    rw [ed]
    unfold vc
    split
    · exact rd3 V c t b hb _ hg _ _
    · rfl
  · have ed : (⟨(y 2).val % 128, Nat.mod_lt _ (by decide)⟩ : Fin 128) = d := Fin.ext hd.symm
    rw [ed]
    exact rd4 V c t b hb _ hg _ _

theorem final_5 (c : Dev nD) (K : Vec Ideal S2x8192x2048 .bf16) (hKS : V c main_v0_1 = kScale K) :
    (K1.dat 𝒱₀ V D c).arrAt 5 cfg1.N = aArr (V c main_arg0) (V c main_v0_0) (V c main_v0_1) (V c main_v0_3) (V c main_v0_4) := by
  refine (K1.dat 𝒱₀ V D c).arrAt_eq_of_covers 5 (aArr (V c main_arg0) (V c main_v0_0) (V c main_v0_1) (V c main_v0_3) (V c main_v0_4)) (by decide +kernel) fun t hf y => ?_
  blk_simp
  rw [after1_5]
  have ht : t.val < 1024 := lt_of_lt_of_eq t.isLt (by decide)
  have hK : ∀ b, b < 128 → ∀ l, kS (iblk V c 2 t) b l = (((2 : ℝ) ^ (if h : b < 128 then hE (headOf K ⟨t.val / 512, by omega⟩ ⟨t.val / 32 % 16, by omega⟩) ⟨b, h⟩ else 0) : ℝ) : EReal) := fun b hb l => by
    unfold kS
    rw [dif_pos hb, dif_pos hb]
    refine (rd2 V c t ⟨t.val / 512, by omega⟩ rfl ⟨t.val / 32 % 16, by omega⟩ rfl _ _).trans ?_
    rw [hKS]
    rfl
  rw [outs5 𝒱₀ V c t (fun b l => (2 : ℝ) ^ (if h : b < 128 then hE (headOf K ⟨t.val / 512, by omega⟩ ⟨t.val / 32 % 16, by omega⟩) ⟨b, h⟩ else 0)) (fun b l => zpow_pos (by norm_num) _) hK]
  obtain ⟨-, -, i5, -⟩ := idxA t
  have y0 : (y 0).val < 1 := (y 0).isLt
  have y1 : (y 1).val < 256 := (y 1).isLt
  have y2 : (y 2).val < 512 := (y 2).isLt
  have hv : ((win1_5.blk t).view.emb y 2).val = 512 * (t.val / 32 % 16) + (y 2).val := by blk_simp [i5] <;> omega
  unfold aArr
  refine blk_pt V c t y _ _ _ _ ?_ ?_ ?_ ?_
  · blk_simp [i5] <;> omega
  · blk_simp [i5] <;> omega
  · exact (congrArg (fun z => z / 128) hv).trans (by show (512 * (t.val / 32 % 16) + (y 2).val) / 128 = _; omega)
  · exact (congrArg (fun z => z % 128) hv).trans (by show (512 * (t.val / 32 % 16) + (y 2).val) % 128 = _; omega)

end Cert.KernelIdeal.Attn
-- ==== Proof.KernelIdeal.HostOut.lean ====
/- The seven results of the kernel's program: the host's reshapes and transposes of the kernels' arrays, entry by entry. -/
module

public import proofs.«01_k».proof.Proof.KernelIdeal.Model
public import proofs.«01_k».proof.Proof.KernelIdeal.A8
public import proofs.«01_k».proof.Proof.KernelIdeal.Whole

@[expose] public section

set_option maxRecDepth 65536

noncomputable section

namespace Cert.KernelIdeal.HostOut

open Idealize.ShloMosaic Idealize.ShloMosaic.TcCoe Cert.KernelIdeal Cert.KernelIdeal.Gen Cert.KernelIdeal.Model Idealize.ShloMosaic.StableHlo Idealize.SL.Sem
open Cert.KernelIdeal.Q (qCode qScale qE clip)
open Cert.KernelIdeal.KV (kCode kScale vCode vCodeT vScale headOf)

/-! ### The host operations -/

section
variable (W : Valuation τ sig (Elt Ideal))
theorem host_v2 : after hostOps2 W main_v2 = shapeCast S2x8192x64x128 (W main_v1_1) shapeCasts_S2x8192x8192_S2x8192x64x128 := by
  simp only [hostOps2]; after_results_simp <;> rfl
theorem host_v7 : after hostOps2 W main_v7 = shapeCast S2x64x64 (transpose S2x32x2x16x4 [0, 2, 4, 1, 3] (shapeCast S2x16x32x4x2 (shapeCast S2x16x32x8
    (extractStridedSlice S2x16x32x8x1 ![0, 0, 0, 0, 0] (W main_v1_2) slices_S2x16x32x8x128_S2x16x32x8x1_0_0_0_0_0) shapeCasts_S2x16x32x8x1_S2x16x32x8)
    shapeCasts_S2x16x32x8_S2x16x32x4x2) transposes_S2x16x32x4x2_S2x32x2x16x4_0_2_4_1_3) shapeCasts_S2x32x2x16x4_S2x64x64 := by
  simp only [hostOps2]; after_results_simp <;> rfl
theorem host_v8 : after hostOps2 W main_v8 = transpose S2x8192x16x128 [0, 2, 1, 3] (W main_v0_0) transposes_S2x16x8192x128_S2x8192x16x128_0_2_1_3 := by
  simp only [hostOps2]; after_results_simp <;> rfl
theorem host_v11 : after hostOps2 W main_v11 = transpose S2x128x16 [0, 2, 1] (shapeCast S2x16x128
    (extractStridedSlice S2x16x128x1 ![0, 0, 0, 0] (W main_v0_1) slices_S2x16x128x128_S2x16x128x1_0_0_0_0) shapeCasts_S2x16x128x1_S2x16x128) transposes_S2x16x128_S2x128x16_0_2_1 := by
  simp only [hostOps2]; after_results_simp <;> rfl
theorem host_v12 : after hostOps2 W main_v12 = transpose S2x8192x16x128 [0, 2, 1, 3] (W main_v0_2) transposes_S2x16x8192x128_S2x8192x16x128_0_2_1_3 := by
  simp only [hostOps2]; after_results_simp <;> rfl
theorem host_v14 : after hostOps2 W main_v14 = shapeCast S2x16x128
    (extractStridedSlice S2x16x1x128 ![0, 0, 0, 0] (W main_v0_4) slices_S2x16x8x128_S2x16x1x128_0_0_0_0) shapeCasts_S2x16x1x128_S2x16x128 := by
  simp only [hostOps2]; after_results_simp <;> rfl
end

/-! ### Entry by entry -/

theorem at_v2 (X : Vec Ideal S2x8192x8192 .bf16) (j : S2x8192x64x128.Idx) :
    shapeCast S2x8192x64x128 (qCode X) shapeCasts_S2x8192x8192_S2x8192x64x128 j = m0 X (j 0) (j 1) (j 2) (j 3) := by
  simp only [pointwise]
  unfold qCode m0
  have j3 : (j 3).val < 128 := (j 3).isLt
  refine congrArg clip (congrArg₂ (· * ·) (congrArg (fun w => (X (ix3 (n0 := 2) (n1 := 8192) (n2 := 8192) (j 0) (j 1) w) : EReal)) (Fin.ext (congrArg (· + (j 3).val) (Nat.mul_comm _ _))))
    (congrArg (fun w => (((2 : ℝ) ^ (-qE X (j 0) _ w) : ℝ) : EReal)) (Fin.ext ?_)))
  show ((j 2).val * 128 + (j 3).val) / 128 = (j 2).val
  omega

theorem at_v7 (X : Vec Ideal S2x8192x8192 .bf16) (j : S2x64x64.Idx) :
    shapeCast S2x64x64 (transpose S2x32x2x16x4 [0, 2, 4, 1, 3] (shapeCast S2x16x32x4x2 (shapeCast S2x16x32x8
    (extractStridedSlice S2x16x32x8x1 ![0, 0, 0, 0, 0] (qScale X) slices_S2x16x32x8x128_S2x16x32x8x1_0_0_0_0_0) shapeCasts_S2x16x32x8x1_S2x16x32x8)
    shapeCasts_S2x16x32x8_S2x16x32x4x2) transposes_S2x16x32x4x2_S2x32x2x16x4_0_2_4_1_3) shapeCasts_S2x32x2x16x4_S2x64x64 j = m1 X (j 0) (j 1) (j 2) := by
  simp only [pointwise]
  unfold qScale m1
  have j1 : (j 1).val < 64 := (j 1).isLt
  have j2 : (j 2).val < 64 := (j 2).isLt
  have h0 : (⟨0 + (j 0).val, by have : (j 0).val < 2 := (j 0).isLt; omega⟩ : Fin 2) = j 0 := Fin.ext (Nat.zero_add _)
  have key : ∀ (b b' : Fin 2) (T T' h h' : Fin 64), b = b' → T = T' → h = h' → (((2 : ℝ) ^ qE X b T h : ℝ) : EReal) = (((2 : ℝ) ^ qE X b' T' h' : ℝ) : EReal) := by
    rintro _ _ _ _ _ _ rfl rfl rfl; rfl
  refine key _ _ _ _ _ _ (Fin.ext (Nat.zero_add _)) (Fin.ext ?_) (Fin.ext ?_)
  · show 2 * (0 + (j 1).val / 2) + (0 + ((j 2).val % 4 * 2 + (j 1).val % 2)) % 2 = (j 1).val
    omega
  · show 4 * (0 + (j 2).val / 4) + (0 + ((j 2).val % 4 * 2 + (j 1).val % 2)) / 2 = (j 2).val
    omega

theorem at_v8 (X : Vec Ideal S2x8192x2048 .bf16) (j : S2x8192x16x128.Idx) :
    transpose S2x8192x16x128 [0, 2, 1, 3] (kCode X) transposes_S2x16x8192x128_S2x8192x16x128_0_2_1_3 j = m2 X (j 0) (j 1) (j 2) (j 3) := by
  simp only [pointwise]
  rfl

theorem at_v11 (X : Vec Ideal S2x8192x2048 .bf16) (j : S2x128x16.Idx) :
    transpose S2x128x16 [0, 2, 1] (shapeCast S2x16x128
    (extractStridedSlice S2x16x128x1 ![0, 0, 0, 0] (kScale X) slices_S2x16x128x128_S2x16x128x1_0_0_0_0) shapeCasts_S2x16x128x1_S2x16x128) transposes_S2x16x128_S2x128x16_0_2_1 j
      = m3 X (j 0) (j 1) (j 2) := by
  simp only [pointwise]
  unfold m3
  have key : ∀ (b b' : Fin 2) (g g' : Fin 128) (h h' : Fin 16), b = b' → g = g' → h = h' →
      (kScale X (ix4 (n0 := 2) (n1 := 16) (n2 := 128) (n3 := 128) b h g 0) : EReal) = (((2 : ℝ) ^ KV.hE (headOf X b' h') g' : ℝ) : EReal) := by
    rintro _ _ _ _ _ _ rfl rfl rfl; rfl
  exact key _ _ _ _ _ _ (Fin.ext (Nat.zero_add _)) (Fin.ext (Nat.zero_add _)) (Fin.ext (Nat.zero_add _))

theorem at_v12 (X : Vec Ideal S2x8192x2048 .bf16) (j : S2x8192x16x128.Idx) :
    transpose S2x8192x16x128 [0, 2, 1, 3] (vCode X) transposes_S2x16x8192x128_S2x8192x16x128_0_2_1_3 j = m4 X (j 0) (j 1) (j 2) (j 3) := by
  simp only [pointwise]
  rfl

theorem at_v14 (X : Vec Ideal S2x8192x2048 .bf16) (j : S2x16x128.Idx) :
    shapeCast S2x16x128
    (extractStridedSlice S2x16x1x128 ![0, 0, 0, 0] (vScale X) slices_S2x16x8x128_S2x16x1x128_0_0_0_0) shapeCasts_S2x16x1x128_S2x16x128 j = m5 X (j 0) (j 1) (j 2) := by
  simp only [pointwise]
  unfold m5
  have key : ∀ (b b' : Fin 2) (h h' : Fin 16) (d d' : Fin 128), b = b' → h = h' → d = d' →
      (vScale X (ix4 (n0 := 2) (n1 := 16) (n2 := 8) (n3 := 128) b h 0 d) : EReal) = (((2 : ℝ) ^ KV.hVE (headOf X b' h') d' : ℝ) : EReal) := by
    rintro _ _ _ _ _ _ rfl rfl rfl; rfl
  exact key _ _ _ _ _ _ (Fin.ext (Nat.zero_add _)) (Fin.ext (Nat.zero_add _)) (Fin.ext (Nat.zero_add _))

/-! ### The program's results -/

section
open Cert.KernelIdeal.Whole
variable (m : (ℓ : Loc nD τ sig) → Buf (Elt Ideal) ℓ) (c : Dev nD)

theorem W1_main_arg0 : W1 m c (Proc.devRef .tc main_arg0) = m ((c : Thread nD τ).loc main_arg0) := W1_of_ne m c main_arg0 (by decide)
theorem W2_v1_1 : W2 m c main_v1_1 = qCode (m ((c : Thread nD τ).loc main_arg0)) :=
  (W2_arr m c 6).trans ((Q.final_6 𝒱₀ (U1 m) D₀ c).trans (congrArg qCode (W1_main_arg0 m c)))
theorem W2_v1_2 : W2 m c main_v1_2 = qScale (m ((c : Thread nD τ).loc main_arg0)) :=
  (W2_arr m c 7).trans ((Q.final_7 𝒱₀ (U1 m) D₀ c).trans (congrArg qScale (W1_main_arg0 m c)))
theorem W2_v0_0 : W2 m c main_v0_0 = kCode (m ((c : Thread nD τ).loc main_arg1)) :=
  (W2_arr m c 1).trans (((K1.dat 𝒱₀ (U1 m) D₀ c).arrAt_in 1 rfl _).trans ((K1.A_eq 𝒱₀ (U1 m) D₀ c 1).trans ((W1_arr m c 2).trans (KV.final_2 𝒱₀ (U0 m) D₀ c))))
theorem W2_v0_1 : W2 m c main_v0_1 = kScale (m ((c : Thread nD τ).loc main_arg1)) :=
  (W2_arr m c 2).trans (((K1.dat 𝒱₀ (U1 m) D₀ c).arrAt_in 2 rfl _).trans ((K1.A_eq 𝒱₀ (U1 m) D₀ c 2).trans ((W1_arr m c 3).trans (KV.final_3 𝒱₀ (U0 m) D₀ c))))
theorem W2_v0_2 : W2 m c main_v0_2 = vCode (m ((c : Thread nD τ).loc main_arg2)) :=
  (W2_of_ne m c main_v0_2 (by decide)).trans ((W1_arr m c 4).trans (KV.final_4 𝒱₀ (U0 m) D₀ c))
theorem W2_v0_4 : W2 m c main_v0_4 = vScale (m ((c : Thread nD τ).loc main_arg2)) :=
  (W2_arr m c 4).trans (((K1.dat 𝒱₀ (U1 m) D₀ c).arrAt_in 4 rfl _).trans ((K1.A_eq 𝒱₀ (U1 m) D₀ c 4).trans ((W1_arr m c 6).trans (KV.final_6 𝒱₀ (U0 m) D₀ c))))

theorem W2_v1_0 : W2 m c main_v1_0 = Attn.aArr (m ((c : Thread nD τ).loc main_arg0)) (kCode (m ((c : Thread nD τ).loc main_arg1))) (kScale (m ((c : Thread nD τ).loc main_arg1)))
    (vCodeT (m ((c : Thread nD τ).loc main_arg2))) (vScale (m ((c : Thread nD τ).loc main_arg2))) := by
  have u1 : W1 m c (Proc.devRef .tc main_v0_0) = kCode (m ((c : Thread nD τ).loc main_arg1)) := (W1_arr m c 2).trans (KV.final_2 𝒱₀ (U0 m) D₀ c)
  have u2 : W1 m c (Proc.devRef .tc main_v0_1) = kScale (m ((c : Thread nD τ).loc main_arg1)) := (W1_arr m c 3).trans (KV.final_3 𝒱₀ (U0 m) D₀ c)
  have u3 : W1 m c (Proc.devRef .tc main_v0_3) = vCodeT (m ((c : Thread nD τ).loc main_arg2)) := (W1_arr m c 5).trans (KV.final_5 𝒱₀ (U0 m) D₀ c)
  have u4 : W1 m c (Proc.devRef .tc main_v0_4) = vScale (m ((c : Thread nD τ).loc main_arg2)) := (W1_arr m c 6).trans (KV.final_6 𝒱₀ (U0 m) D₀ c)
  refine (W2_arr m c 5).trans ((Attn.final_5 𝒱₀ (U1 m) D₀ c (m ((c : Thread nD τ).loc main_arg1)) u2).trans ?_)
  show Attn.aArr (W1 m c (Proc.devRef .tc main_arg0)) (W1 m c (Proc.devRef .tc main_v0_0)) (W1 m c (Proc.devRef .tc main_v0_1)) (W1 m c (Proc.devRef .tc main_v0_3)) (W1 m c (Proc.devRef .tc main_v0_4)) = _
  rw [W1_main_arg0, u1, u2, u3, u4]

/-- The seven results, as functions of the launch's memory: the output, -/
def rO : Buf (Elt Ideal) ((c : Thread nD τ).loc main_v1_0) := Attn.aArr (m ((c : Thread nD τ).loc main_arg0)) (kCode (m ((c : Thread nD τ).loc main_arg1))) (kScale (m ((c : Thread nD τ).loc main_arg1)))
    (vCodeT (m ((c : Thread nD τ).loc main_arg2))) (vScale (m ((c : Thread nD τ).loc main_arg2)))
/-- the codes and the scales. -/
def r0 : Buf (Elt Ideal) ((c : Thread nD τ).loc main_v2) := fun j : S2x8192x64x128.Idx => m0 (m ((c : Thread nD τ).loc main_arg0)) (j 0) (j 1) (j 2) (j 3)
def r1 : Buf (Elt Ideal) ((c : Thread nD τ).loc main_v7) := fun j : S2x64x64.Idx => m1 (m ((c : Thread nD τ).loc main_arg0)) (j 0) (j 1) (j 2)
def r2 : Buf (Elt Ideal) ((c : Thread nD τ).loc main_v8) := fun j : S2x8192x16x128.Idx => m2 (m ((c : Thread nD τ).loc main_arg1)) (j 0) (j 1) (j 2) (j 3)
def r3 : Buf (Elt Ideal) ((c : Thread nD τ).loc main_v11) := fun j : S2x128x16.Idx => m3 (m ((c : Thread nD τ).loc main_arg1)) (j 0) (j 1) (j 2)
def r4 : Buf (Elt Ideal) ((c : Thread nD τ).loc main_v12) := fun j : S2x8192x16x128.Idx => m4 (m ((c : Thread nD τ).loc main_arg2)) (j 0) (j 1) (j 2) (j 3)
def r5 : Buf (Elt Ideal) ((c : Thread nD τ).loc main_v14) := fun j : S2x16x128.Idx => m5 (m ((c : Thread nD τ).loc main_arg2)) (j 0) (j 1) (j 2)

theorem W3_v1_0 : W3 m c main_v1_0 = rO m c := (W3_of m c main_v1_0 (by decide)).trans (W2_v1_0 m c)
theorem W3_v2 : W3 m c main_v2 = r0 m c := by
  refine (host_v2 _).trans ?_
  rw [W2_v1_1]
  exact funext (at_v2 _)
theorem W3_v7 : W3 m c main_v7 = r1 m c := by
  refine (host_v7 _).trans ?_
  rw [W2_v1_2]
  exact funext (at_v7 _)
theorem W3_v8 : W3 m c main_v8 = r2 m c := by
  refine (host_v8 _).trans ?_
  rw [W2_v0_0]
  exact funext (at_v8 _)
theorem W3_v11 : W3 m c main_v11 = r3 m c := by
  refine (host_v11 _).trans ?_
  rw [W2_v0_1]
  exact funext (at_v11 _)
theorem W3_v12 : W3 m c main_v12 = r4 m c := by
  refine (host_v12 _).trans ?_
  rw [W2_v0_2]
  exact funext (at_v12 _)
theorem W3_v14 : W3 m c main_v14 = r5 m c := by
  refine (host_v14 _).trans ?_
  rw [W2_v0_4]
  exact funext (at_v14 _)

/-- The run: the seven results, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v1_0) = rO m c
      ∧ r.2.mem ((c.tc : Thread nD τ).loc main_v2) = r0 m c
      ∧ r.2.mem ((c.tc : Thread nD τ).loc main_v7) = r1 m c
      ∧ r.2.mem ((c.tc : Thread nD τ).loc main_v8) = r2 m c
      ∧ r.2.mem ((c.tc : Thread nD τ).loc main_v11) = r3 m c
      ∧ r.2.mem ((c.tc : Thread nD τ).loc main_v12) = r4 m c
      ∧ r.2.mem ((c.tc : Thread nD τ).loc main_v14) = r5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c _ (mem_uc main_v1_0 (by decide))).trans (W3_v1_0 m c),
    (h.1 c _ (mem_uc main_v2 (by decide))).trans (W3_v2 m c),
    (h.1 c _ (mem_uc main_v7 (by decide))).trans (W3_v7 m c),
    (h.1 c _ (mem_uc main_v8 (by decide))).trans (W3_v8 m c),
    (h.1 c _ (mem_uc main_v11 (by decide))).trans (W3_v11 m c),
    (h.1 c _ (mem_uc main_v12 (by decide))).trans (W3_v12 m c),
    (h.1 c _ (mem_uc main_v14 (by decide))).trans (W3_v14 m c),
    (h.1 c _ (mem_uc main_arg0 (by decide))).trans (W3_main_arg0 m c),
    (h.1 c _ (mem_uc main_arg1 (by decide))).trans (W3_main_arg1 m c),
    (h.1 c _ (mem_uc main_arg2 (by decide))).trans (W3_main_arg2 m c)⟩) (Whole.run m ρ)
end

end Cert.KernelIdeal.HostOut
-- ==== Proof.KernelIdeal.Ref.lean ====
/- The reference's scale, entry by entry: the host operations that compute the power of two of an array of quotients. -/
module

public import proofs.«01_k».proof.Proof.KernelIdeal.QVal
public import proofs.«01_k».proof.ReferenceIdeal
public import Idealize.ShloMosaic.Lib.Pipeline.ValueKit

@[expose] public section

set_option maxRecDepth 65536

noncomputable section

namespace Cert.KernelIdeal.Ref

open Idealize.ShloMosaic
open Cert.KernelIdeal.Q (eabs clip b448 bm448)

abbrev S_ : Shape := ⟨0, ![]⟩

/-- A scalar constant spread over a shape. -/
abbrev K {s : Shape} (h : S_.BroadcastsInDim s (![] : Fin 0 → Fin s.rank)) (w : BitVec 32) : FVec Ideal s .f32 :=
  broadcastInDim s ![] h (constant S_ .f32 w)

variable {s : Shape} (h : S_.BroadcastsInDim s (![] : Fin 0 → Fin s.rank))

/-- The exponents, of an array of quotients. -/
abbrev expV (Y : FVec Ideal s .f32) : FVec Ideal s .f32 :=
  select (andi (cmpf .oge Y (K h 0x00800000#32)) (cmpf .olt Y (K h 0x7F800000#32)))
    (minimumf (addf (Host.floor (Host.divf (Host.log Y) (broadcastInDim s ![] h (Host.log (constant S_ .f32 0x40000000#32))))) (K h 0x3F800000#32)) (K h 0x42FC0000#32))
    (K h 0x00000000#32)
abbrev scV (Y : FVec Ideal s .f32) : FVec Ideal s .f32 := Host.powf (K h 0x40000000#32) (expV h Y)
abbrev invV (Y : FVec Ideal s .f32) : FVec Ideal s .f32 := Host.powf (K h 0x40000000#32) (Host.negf (expV h Y))

theorem b2 : Ideal.ofBits .f32 0x40000000#32 = ((2 : ℝ) : EReal) := by simp [Ideal.ofBits, Ideal.ieee, -EReal.coe_mul]; norm_num
theorem b1 : Ideal.ofBits .f32 0x3F800000#32 = ((1 : ℝ) : EReal) := by simp [Ideal.ofBits, Ideal.ieee, -EReal.coe_mul]; norm_num
theorem b126 : Ideal.ofBits .f32 0x42FC0000#32 = ((126 : ℝ) : EReal) := by simp [Ideal.ofBits, Ideal.ieee, -EReal.coe_mul]; norm_num
theorem b0 : Ideal.ofBits .f32 0x00000000#32 = 0 := by simp [Ideal.ofBits, Ideal.ieee]
theorem b8192 : Ideal.ofBits .f32 0x46000000#32 = ((8192 : ℝ) : EReal) := by simp [Ideal.ofBits, Ideal.ieee, -EReal.coe_mul]; norm_num

theorem bool_and (p q : Bool) : (IntOp.andi (BitVec.ofBool p) (BitVec.ofBool q) = 1#1) ↔ (p = true ∧ q = true) := by
  cases p <;> cases q <;> decide

theorem K_ap (w : BitVec 32) (i : s.Idx) : (K h w i : EReal) = Ideal.ofBits .f32 w := rfl

theorem expV_words (Y : FVec Ideal s .f32) (i : s.Idx) : (expV h Y i : EReal) =
    if IntOp.andi (Ideal.cmp .oge (Y i) (Ideal.ofBits .f32 0x00800000#32)) (Ideal.cmp .olt (Y i) (Ideal.ofBits .f32 0x7F800000#32)) = 1#1 then
      min (Ideal.liftRound Int.floor (Ideal.div (Ideal.log (Y i)) (Ideal.log (Ideal.ofBits .f32 0x40000000#32))) + Ideal.ofBits .f32 0x3F800000#32) (Ideal.ofBits .f32 0x42FC0000#32)
    else Ideal.ofBits .f32 0x00000000#32 := rfl

theorem cond_iff (y : EReal) : IntOp.andi (Ideal.cmp .oge y (Ideal.ofBits .f32 0x00800000#32)) (Ideal.cmp .olt y (Ideal.ofBits .f32 0x7F800000#32)) = 1#1 ↔
    Ideal.ofBits .f32 0x00800000#32 ≤ y ∧ y < ⊤ := by
  generalize Ideal.ofBits .f32 0x00800000#32 = a
  rw [Pow2.inf_bits]
  unfold Ideal.cmp
  rw [bool_and]
  simp

theorem expV_apply (Y : FVec Ideal s .f32) (i : s.Idx) : (expV h Y i : EReal) = ((Pow2.e (Y i) : ℝ) : EReal) := by
  rw [expV_words, ← Pow2.eRef_eq]
  unfold Pow2.eRef
  rw [b2, b1, b126, b0]
  exact ite_congr (propext (cond_iff _)) (fun _ => rfl) fun _ => rfl

theorem pow2_apply (z : ℤ) : Ideal.pow ((2 : ℝ) : EReal) ((z : ℝ) : EReal) = (((2 : ℝ) ^ z : ℝ) : EReal) := by
  rw [Ideal.pow_coe_coe]
  congr 1
  exact Real.rpow_intCast 2 z

theorem scV_apply (Y : FVec Ideal s .f32) (i : s.Idx) : (scV h Y i : EReal) = (((2 : ℝ) ^ (Pow2.e (Y i)) : ℝ) : EReal) := by
  show Ideal.pow (K h 0x40000000#32 i) (expV h Y i) = _
  rw [expV_apply, K_ap, b2, pow2_apply]

theorem invV_apply (Y : FVec Ideal s .f32) (i : s.Idx) : (invV h Y i : EReal) = (((2 : ℝ) ^ (-(Pow2.e (Y i))) : ℝ) : EReal) := by
  show Ideal.pow (K h 0x40000000#32 i) (-(expV h Y i)) = _
  rw [expV_apply, K_ap, b2, ← pow2_apply]
  push_cast
  rfl

theorem yV_apply (A : FVec Ideal s .f32) (i : s.Idx) : (Host.divf A (K h 0x43E00000#32) i : EReal) = A i * ((1 / 448 : ℝ) : EReal) := by
  show Ideal.div (A i) (K h 0x43E00000#32 i) = _
  rw [K_ap, b448, Ideal.div_coe]
  all_goals norm_num

end Cert.KernelIdeal.Ref
-- ==== Proof.KernelIdeal.RefOut.lean ====
/- The six quantised results of the reference, entry by entry. -/
module

public import proofs.«01_k».proof.Proof.KernelIdeal.Model
public import proofs.«01_k».proof.Proof.KernelIdeal.Ref
public import proofs.«01_k».proof.Proof.Gen.ReferenceIdeal

@[expose] public section

set_option maxRecDepth 65536

noncomputable section

namespace Cert.KernelIdeal.RefOut

open Idealize.ShloMosaic Cert.ReferenceIdeal Cert.ReferenceIdeal.Gen Cert.KernelIdeal.Model
open Cert.KernelIdeal (Pow2.e)
open Cert.KernelIdeal.Q (qE qMax clip eabs b448 bm448)
open Cert.KernelIdeal.Max (neg_inf)
open Cert.KernelIdeal.KV (headOf kf kMean hE hVE hMax hVMax pre)
open Cert.KernelIdeal.Ref (K scV invV expV scV_apply invV_apply yV_apply K_ap b8192 b0)

theorem absf_ap {s : Shape} (x : FVec Ideal s .f32) (i : s.Idx) : (Host.absf x i : EReal) = eabs (x i) := rfl
theorem clip_ap {s : Shape} (h : S_.BroadcastsInDim s ![]) (x : FVec Ideal s .f32) (i : s.Idx) :
    (minimumf (broadcastInDim s ![] h (id (constant S_ .f32 0x43E00000#32))) (maximumf (broadcastInDim s ![] h (id (constant S_ .f32 0xC3E00000#32))) x) i : EReal) = clip (x i) := by
  show min (Ideal.ofBits .f32 0x43E00000#32) (max (Ideal.ofBits .f32 0xC3E00000#32) (x i : EReal)) = _
  rw [b448, bm448]
  rfl
theorem conv_ap {s : Shape} (x : FVec Ideal s .f32) (i : s.Idx) : (Host.convertf .fp8e4m3 x i : EReal) = x i := rfl
theorem mulf_ap {s : Shape} (x y : FVec Ideal s .f32) (i : s.Idx) : (mulf x y i : EReal) = x i * y i := rfl
theorem subf_ap {s : Shape} (x y : FVec Ideal s .f32) (i : s.Idx) : (subf x y i : EReal) = x i - y i := rfl

/-! ### The queries -/

section
variable (X : Vec Ideal S2x8192x8192 .bf16)

abbrev Q5 : FVec Ideal S2x64x128x64x128 .f32 := shapeCast _ (shapeCast _ (extf .f32 X bitsLt_bf16_f32) shapeCasts_S2x8192x8192_S2x8192x64x128) shapeCasts_S2x8192x64x128_S2x64x128x64x128
abbrev QM : FVec Ideal S2x64x64 .f32 := Host.reduce FloatOps.maximumf (Host.reduce FloatOps.maximumf (Host.absf (Q5 X)) (constant S_ .f32 0xFF800000#32) reducesTo_S2x64x128x64x128_S2x64x128x64_d4 h_S_) (constant S_ .f32 0xFF800000#32) reducesTo_S2x64x128x64_S2x64x64_d2 h_S_
abbrev QY : FVec Ideal S2x64x64 .f32 := Host.divf (QM X) (K bcast_S_S2x64x64 0x43E00000#32)
abbrev out1 : FVec Ideal S2x64x64 .f32 := scV bcast_S_S2x64x64 (QY X)
abbrev out0 : FVec Ideal S2x8192x64x128 .fp8e4m3 := Host.convertf .fp8e4m3 (shapeCast _ (minimumf (broadcastInDim S2x64x128x64x128 ![] bcast_S_S2x64x128x64x128 (id (constant S_ .f32 0x43E00000#32))) (maximumf (broadcastInDim S2x64x128x64x128 ![] bcast_S_S2x64x128x64x128 (id (constant S_ .f32 0xC3E00000#32)))
  (mulf (Q5 X) (broadcastInDim S2x64x128x64x128 ![0, 1, 2, 3, 4] bcast_S2x64x1x64x1_S2x64x128x64x128_0_1_2_3_4 (broadcastInDim S2x64x1x64x1 ![0, 1, 3] bcast_S2x64x64_S2x64x1x64x1_0_1_3 (invV bcast_S_S2x64x64 (QY X))))))) shapeCasts_S2x64x128x64x128_S2x8192x64x128)

theorem Q5_ap (b : Fin 2) (T : Fin 64) (r : Fin 128) (h : Fin 64) (d : Fin 128) : (Q5 X (ix5 b T r h d) : EReal)
    = X (ix3 (n0 := 2) (n1 := 8192) (n2 := 8192) b ⟨128 * T.val + r.val, by omega⟩ ⟨128 * h.val + d.val, by omega⟩) := by
  simp only [pointwise]
  exact congrArg₂ (fun u w => X (ix3 (n0 := 2) (n1 := 8192) (n2 := 8192) b u w)) (Fin.ext (congrArg (· + r.val) (Nat.mul_comm _ _))) (Fin.ext (congrArg (· + d.val) (Nat.mul_comm _ _)))

theorem QM_ap (b : Fin 2) (T : Fin 64) (h : Fin 64) : (QM X (ix3 b T h) : EReal) = qMax X b T h := by
  refine eq_of_forall_ge_iff fun z => ?_
  unfold qMax
  simp only [iSup_le_iff]
  unfold QM
  generalize hQ : Host.absf (Q5 X) = A
  simp only [pointwise]
  rw [neg_inf]
  simp only [Finset.fold_max_le, bot_le, Finset.mem_univ, true_and, forall_const]
  subst hQ
  exact forall_congr' fun r => forall_congr' fun d => by rw [absf_ap, Q5_ap]

theorem QE_ap (j : S2x64x64.Idx) : Pow2.e (QY X j) = qE X (j 0) (j 1) (j 2) := by
  have hj : j = ix3 (j 0) (j 1) (j 2) := eq_ix3 j
  unfold QY qE
  rw [yV_apply]
  exact congrArg (fun u : EReal => Pow2.e (u * ((1 / 448 : ℝ) : EReal))) ((congrArg (fun i => (QM X i : EReal)) hj).trans (QM_ap X (j 0) (j 1) (j 2)))

theorem out1_ap (j : S2x64x64.Idx) : (out1 X j : EReal) = m1 X (j 0) (j 1) (j 2) := by
  unfold out1 m1
  rw [scV_apply, QE_ap]

theorem q_cast (Z : FVec Ideal S2x64x128x64x128 .f32) (j : S2x8192x64x128.Idx) : shapeCast S2x8192x64x128 Z shapeCasts_S2x64x128x64x128_S2x8192x64x128 j
    = Z (ix5 (n0 := 2) (n1 := 64) (n2 := 128) (n3 := 64) (n4 := 128) (j 0) ⟨(j 1).val / 128, by have : (j 1).val < 8192 := (j 1).isLt; omega⟩ ⟨(j 1).val % 128, by omega⟩ (j 2) (j 3)) := by
  simp only [pointwise]
theorem q_bcast (Z : FVec Ideal S2x64x64 .f32) (b : Fin 2) (T : Fin 64) (r : Fin 128) (h : Fin 64) (d : Fin 128) :
    broadcastInDim S2x64x128x64x128 ![0, 1, 2, 3, 4] bcast_S2x64x1x64x1_S2x64x128x64x128_0_1_2_3_4 (broadcastInDim S2x64x1x64x1 ![0, 1, 3] bcast_S2x64x64_S2x64x1x64x1_0_1_3 Z) (ix5 b T r h d) = Z (ix3 b T h) := by
  simp only [pointwise]
  rfl

theorem out0_ap (j : S2x8192x64x128.Idx) : (out0 X j : EReal) = m0 X (j 0) (j 1) (j 2) (j 3) := by
  unfold out0 m0
  rw [conv_ap, q_cast, clip_ap, mulf_ap]
  have key : ∀ (b : Fin 2) (s : Fin 8192) (T : Fin 64) (r : Fin 128) (h : Fin 64) (d : Fin 128), 128 * T.val + r.val = s.val →
      clip ((Q5 X (ix5 b T r h d) : EReal) * broadcastInDim S2x64x128x64x128 ![0, 1, 2, 3, 4] bcast_S2x64x1x64x1_S2x64x128x64x128_0_1_2_3_4 (broadcastInDim S2x64x1x64x1 ![0, 1, 3] bcast_S2x64x64_S2x64x1x64x1_0_1_3 (invV bcast_S_S2x64x64 (QY X))) (ix5 b T r h d))
        = clip ((X (ix3 (n0 := 2) (n1 := 8192) (n2 := 8192) b s ⟨128 * h.val + d.val, by omega⟩) : EReal) * (((2 : ℝ) ^ (-qE X b T h) : ℝ) : EReal)) := by
    intro b s T r h d hs
    rw [q_bcast, Q5_ap, invV_apply, QE_ap]
    have e : (⟨128 * T.val + r.val, by omega⟩ : Fin 8192) = s := Fin.ext hs
    rw [e]
    rfl
  exact key _ _ _ _ _ _ (by show 128 * ((j 1).val / 128) + (j 1).val % 128 = (j 1).val; omega)
end

/-! ### The keys -/

section
variable (X : Vec Ideal S2x8192x2048 .bf16)

abbrev X4 : FVec Ideal S2x8192x16x128 .f32 := shapeCast _ (extf .f32 X bitsLt_bf16_f32) shapeCasts_S2x8192x2048_S2x8192x16x128
abbrev KMean : FVec Ideal S2x1x16x128 .f32 := Host.divf (broadcastInDim S2x1x16x128 ![0, 2, 3] bcast_S2x16x128_S2x1x16x128_0_2_3 (Host.reduceAdd (X4 X) (constant S_ .f32 0x00000000#32) reducesTo_S2x8192x16x128_S2x16x128_d1 h_S_)) (broadcastInDim S2x1x16x128 ![] bcast_S_S2x1x16x128 (constant S_ .f32 0x46000000#32))
abbrev K5 : FVec Ideal S2x128x64x16x128 .f32 := shapeCast _ (subf (X4 X) (broadcastInDim S2x8192x16x128 ![0, 1, 2, 3] bcast_S2x1x16x128_S2x8192x16x128_0_1_2_3 (KMean X))) shapeCasts_S2x8192x16x128_S2x128x64x16x128
abbrev KM : FVec Ideal S2x128x16 .f32 := Host.reduce FloatOps.maximumf (Host.reduce FloatOps.maximumf (Host.absf (K5 X)) (constant S_ .f32 0xFF800000#32) reducesTo_S2x128x64x16x128_S2x128x64x16_d4 h_S_) (constant S_ .f32 0xFF800000#32) reducesTo_S2x128x64x16_S2x128x16_d2 h_S_
abbrev KY : FVec Ideal S2x128x16 .f32 := Host.divf (KM X) (K bcast_S_S2x128x16 0x43E00000#32)
abbrev out3 : FVec Ideal S2x128x16 .f32 := scV bcast_S_S2x128x16 (KY X)
abbrev out2 : FVec Ideal S2x8192x16x128 .fp8e4m3 := Host.convertf .fp8e4m3 (shapeCast _ (minimumf (broadcastInDim S2x128x64x16x128 ![] bcast_S_S2x128x64x16x128 (id (constant S_ .f32 0x43E00000#32))) (maximumf (broadcastInDim S2x128x64x16x128 ![] bcast_S_S2x128x64x16x128 (id (constant S_ .f32 0xC3E00000#32)))
  (mulf (K5 X) (broadcastInDim S2x128x64x16x128 ![0, 1, 2, 3, 4] bcast_S2x128x1x16x1_S2x128x64x16x128_0_1_2_3_4 (broadcastInDim S2x128x1x16x1 ![0, 1, 3] bcast_S2x128x16_S2x128x1x16x1_0_1_3 (invV bcast_S_S2x128x16 (KY X))))))) shapeCasts_S2x128x64x16x128_S2x8192x16x128)

theorem X4_ap (b : Fin 2) (s : Fin 8192) (h : Fin 16) (d : Fin 128) : (X4 X (ix4 b s h d) : EReal)
    = headOf X b h (ix3 (n0 := 1) (n1 := 8192) (n2 := 128) 0 s d) := by
  unfold headOf
  simp only [pointwise]
  exact congrArg (fun w => X (ix3 (n0 := 2) (n1 := 8192) (n2 := 2048) b s w)) (Fin.ext (congrArg (· + d.val) (Nat.mul_comm _ _)))

theorem KMean_ap (b : Fin 2) (h : Fin 16) (d : Fin 128) : (KMean X (ix4 b 0 h d) : EReal) = kMean (headOf X b h) d := by
  have h0 : (KMean X (ix4 b 0 h d) : EReal) = Ideal.div (Host.reduceAdd (X4 X) (constant S_ .f32 0x00000000#32) reducesTo_S2x8192x16x128_S2x16x128_d1 h_S_ (ix3 b h d)) (Ideal.ofBits .f32 0x46000000#32) := by
    show Ideal.div _ _ = _
    simp only [pointwise]
    rfl
  rw [h0, b8192, Ideal.div_coe (by norm_num)]
  unfold kMean pre
  rw [Finset.sum_range]
  generalize hA : X4 X = A
  simp only [pointwise]
  subst hA
  rw [zero_add]
  refine congrArg (· * _) (Finset.sum_congr rfl fun k _ => ?_)
  rw [X4_ap, dif_pos trivial]

theorem K5_ap (b : Fin 2) (g : Fin 128) (r : Fin 64) (h : Fin 16) (d : Fin 128) : (K5 X (ix5 b g r h d) : EReal)
    = kf (headOf X b h) ⟨64 * g.val + r.val, by omega⟩ d := by
  unfold K5 kf
  generalize hA : X4 X = A
  generalize hB : KMean X = B
  simp only [pointwise]
  subst hA hB
  refine congrArg₂ (· - ·) ?_ (KMean_ap X b h d)
  refine (X4_ap X _ _ _ _).trans (congrArg (fun u => (headOf X b h (ix3 (n0 := 1) (n1 := 8192) (n2 := 128) 0 u d) : EReal)) (Fin.ext (congrArg (· + r.val) (Nat.mul_comm _ _))))

theorem KM_ap (b : Fin 2) (g : Fin 128) (h : Fin 16) : (KM X (ix3 b g h) : EReal) = hMax (headOf X b h) g := by
  refine eq_of_forall_ge_iff fun z => ?_
  unfold hMax
  simp only [iSup_le_iff]
  unfold KM
  generalize hQ : Host.absf (K5 X) = A
  simp only [pointwise]
  rw [neg_inf]
  simp only [Finset.fold_max_le, bot_le, Finset.mem_univ, true_and, forall_const]
  subst hQ
  exact forall_congr' fun r => forall_congr' fun d => by rw [absf_ap, K5_ap]

theorem KE_ap (j : S2x128x16.Idx) : Pow2.e (KY X j) = hE (headOf X (j 0) (j 2)) (j 1) := by
  have hj : j = ix3 (j 0) (j 1) (j 2) := eq_ix3 j
  unfold KY hE
  rw [yV_apply]
  exact congrArg (fun u : EReal => Pow2.e (u * ((1 / 448 : ℝ) : EReal))) ((congrArg (fun i => (KM X i : EReal)) hj).trans (KM_ap X (j 0) (j 1) (j 2)))

theorem out3_ap (j : S2x128x16.Idx) : (out3 X j : EReal) = m3 X (j 0) (j 1) (j 2) := by
  unfold out3 m3
  rw [scV_apply, KE_ap]

theorem k_cast (Z : FVec Ideal S2x128x64x16x128 .f32) (j : S2x8192x16x128.Idx) : shapeCast S2x8192x16x128 Z shapeCasts_S2x128x64x16x128_S2x8192x16x128 j
    = Z (ix5 (n0 := 2) (n1 := 128) (n2 := 64) (n3 := 16) (n4 := 128) (j 0) ⟨(j 1).val / 64, by have : (j 1).val < 8192 := (j 1).isLt; omega⟩ ⟨(j 1).val % 64, by omega⟩ (j 2) (j 3)) := by
  simp only [pointwise]
theorem k_bcast (Z : FVec Ideal S2x128x16 .f32) (b : Fin 2) (T : Fin 128) (r : Fin 64) (h : Fin 16) (d : Fin 128) :
    broadcastInDim S2x128x64x16x128 ![0, 1, 2, 3, 4] bcast_S2x128x1x16x1_S2x128x64x16x128_0_1_2_3_4 (broadcastInDim S2x128x1x16x1 ![0, 1, 3] bcast_S2x128x16_S2x128x1x16x1_0_1_3 Z) (ix5 b T r h d) = Z (ix3 b T h) := by
  simp only [pointwise]
  rfl

theorem out2_ap (j : S2x8192x16x128.Idx) : (out2 X j : EReal) = m2 X (j 0) (j 1) (j 2) (j 3) := by
  unfold out2 m2
  rw [conv_ap, k_cast, clip_ap, mulf_ap]
  have key : ∀ (b : Fin 2) (s : Fin 8192) (T : Fin 128) (r : Fin 64) (h : Fin 16) (d : Fin 128), 64 * T.val + r.val = s.val →
      clip ((K5 X (ix5 b T r h d) : EReal) * broadcastInDim S2x128x64x16x128 ![0, 1, 2, 3, 4] bcast_S2x128x1x16x1_S2x128x64x16x128_0_1_2_3_4 (broadcastInDim S2x128x1x16x1 ![0, 1, 3] bcast_S2x128x16_S2x128x1x16x1_0_1_3 (invV bcast_S_S2x128x16 (KY X))) (ix5 b T r h d))
        = clip (kf (headOf X b h) s d * (((2 : ℝ) ^ (-hE (headOf X b h) T) : ℝ) : EReal)) := by
    intro b s T r h d hs
    rw [k_bcast, K5_ap, invV_apply, KE_ap]
    have e : (⟨64 * T.val + r.val, by omega⟩ : Fin 8192) = s := Fin.ext hs
    rw [e]
    rfl
  exact key _ _ _ _ _ _ (by show 64 * ((j 1).val / 64) + (j 1).val % 64 = (j 1).val; omega)
end

/-! ### The values -/

section
variable (X : Vec Ideal S2x8192x2048 .bf16)

abbrev VM : FVec Ideal S2x16x128 .f32 := Host.reduce FloatOps.maximumf (Host.absf (X4 X)) (constant S_ .f32 0xFF800000#32) reducesTo_S2x8192x16x128_S2x16x128_d1 h_S_
abbrev VY : FVec Ideal S2x16x128 .f32 := Host.divf (VM X) (K bcast_S_S2x16x128 0x43E00000#32)
abbrev out5 : FVec Ideal S2x16x128 .f32 := scV bcast_S_S2x16x128 (VY X)
abbrev out4 : FVec Ideal S2x8192x16x128 .fp8e4m3 := Host.convertf .fp8e4m3 (minimumf (broadcastInDim S2x8192x16x128 ![] bcast_S_S2x8192x16x128 (id (constant S_ .f32 0x43E00000#32))) (maximumf (broadcastInDim S2x8192x16x128 ![] bcast_S_S2x8192x16x128 (id (constant S_ .f32 0xC3E00000#32)))
  (mulf (X4 X) (broadcastInDim S2x8192x16x128 ![0, 1, 2, 3] bcast_S2x1x16x128_S2x8192x16x128_0_1_2_3 (broadcastInDim S2x1x16x128 ![0, 2, 3] bcast_S2x16x128_S2x1x16x128_0_2_3 (invV bcast_S_S2x16x128 (VY X)))))))

theorem VM_ap (b : Fin 2) (h : Fin 16) (d : Fin 128) : (VM X (ix3 b h d) : EReal) = hVMax (headOf X b h) d := by
  refine eq_of_forall_ge_iff fun z => ?_
  unfold hVMax
  simp only [iSup_le_iff]
  unfold VM
  generalize hQ : Host.absf (X4 X) = A
  simp only [pointwise]
  rw [neg_inf]
  simp only [Finset.fold_max_le, bot_le, Finset.mem_univ, true_and, forall_const]
  subst hQ
  exact forall_congr' fun s => by rw [absf_ap, X4_ap]

theorem VE_ap (j : S2x16x128.Idx) : Pow2.e (VY X j) = hVE (headOf X (j 0) (j 1)) (j 2) := by
  have hj : j = ix3 (j 0) (j 1) (j 2) := eq_ix3 j
  unfold VY hVE
  rw [yV_apply]
  exact congrArg (fun u : EReal => Pow2.e (u * ((1 / 448 : ℝ) : EReal))) ((congrArg (fun i => (VM X i : EReal)) hj).trans (VM_ap X (j 0) (j 1) (j 2)))

theorem out5_ap (j : S2x16x128.Idx) : (out5 X j : EReal) = m5 X (j 0) (j 1) (j 2) := by
  unfold out5 m5
  rw [scV_apply, VE_ap]

theorem v_bcast (Z : FVec Ideal S2x16x128 .f32) (b : Fin 2) (s : Fin 8192) (h : Fin 16) (d : Fin 128) :
    broadcastInDim S2x8192x16x128 ![0, 1, 2, 3] bcast_S2x1x16x128_S2x8192x16x128_0_1_2_3 (broadcastInDim S2x1x16x128 ![0, 2, 3] bcast_S2x16x128_S2x1x16x128_0_2_3 Z) (ix4 b s h d) = Z (ix3 b h d) := by
  simp only [pointwise]
  rfl

theorem out4_ap (j : S2x8192x16x128.Idx) : (out4 X j : EReal) = m4 X (j 0) (j 1) (j 2) (j 3) := by
  unfold out4 m4
  rw [conv_ap, clip_ap, mulf_ap]
  have key : ∀ (b : Fin 2) (s : Fin 8192) (h : Fin 16) (d : Fin 128),
      clip ((X4 X (ix4 b s h d) : EReal) * broadcastInDim S2x8192x16x128 ![0, 1, 2, 3] bcast_S2x1x16x128_S2x8192x16x128_0_1_2_3 (broadcastInDim S2x1x16x128 ![0, 2, 3] bcast_S2x16x128_S2x1x16x128_0_2_3 (invV bcast_S_S2x16x128 (VY X))) (ix4 b s h d))
        = clip ((headOf X b h (ix3 (n0 := 1) (n1 := 8192) (n2 := 128) 0 s d) : EReal) * (((2 : ℝ) ^ (-hVE (headOf X b h) d) : ℝ) : EReal)) := by
    intro b s h d
    rw [v_bcast, X4_ap, invV_apply, VE_ap]
    rfl
  have hj : j = ix4 (j 0) (j 1) (j 2) (j 3) := eq_ix4 j
  generalize j 0 = b at hj ⊢
  generalize j 1 = s at hj ⊢
  generalize j 2 = h at hj ⊢
  generalize j 3 = d at hj ⊢
  subst hj
  exact key b s h d
end

end Cert.KernelIdeal.RefOut
-- ==== Proof.KernelIdeal.A10.lean ====
/- The reference's attention, entry by entry, over any codes and scales. -/
module

public import proofs.«01_k».proof.Proof.KernelIdeal.A9
public import proofs.«01_k».proof.Proof.Gen.ReferenceIdeal

@[expose] public section

set_option maxRecDepth 65536

noncomputable section

namespace Cert.KernelIdeal.RefAttn

open Idealize.ShloMosaic Cert.ReferenceIdeal Cert.ReferenceIdeal.Gen
open Cert.KernelIdeal.Q (clip)
open Cert.KernelIdeal.Attn (rS rW rcore)

section
variable (Qc : FVec Ideal S2x8192x64x128 .f32) (Qs : FVec Ideal S2x64x64 .f32) (Kc : FVec Ideal S2x8192x16x128 .f32) (Ks : FVec Ideal S2x128x16 .f32)
  (Vc : FVec Ideal S2x8192x16x128 .f32) (Vs : FVec Ideal S2x16x128 .f32)

/-- The products of query and key codes; -/
abbrev ACC : FVec Ideal S2x16x4x8192x8192 .f32 := transpose S2x16x4x8192x8192 [0, 1, 4, 3, 2] (Host.dotGeneral dot_S2x8192x16x128_S2x8192x16x4x128_S2x16x8192x8192x4_3_4_1_13_02_02 none Kc (shapeCast _ Qc shapeCasts_S2x8192x64x128_S2x8192x16x4x128)) transposes_S2x16x8192x8192x4_S2x16x4x8192x8192_0_1_4_3_2
/-- the queries' factors; -/
abbrev QF : FVec Ideal S2x16x4x8192x8192 .f32 := broadcastInDim S2x16x4x8192x8192 ![0, 1, 2, 3, 4] bcast_S2x16x4x8192x1_S2x16x4x8192x8192_0_1_2_3_4 (broadcastInDim S2x16x4x8192x1 ![0, 1, 2, 3] bcast_S2x16x4x8192_S2x16x4x8192x1_0_1_2_3 (transpose S2x16x4x8192 [0, 2, 3, 1] (shapeCast _ (Host.divf (shapeCast _ (broadcastInDim S2x64x128x64 ![0, 1, 3] bcast_S2x64x64_S2x64x128x64_0_1_3 Qs) shapeCasts_S2x64x128x64_S2x8192x64) (broadcastInDim S2x8192x64 ![] bcast_S_S2x8192x64 (Host.sqrt (constant S_ .f32 0x43000000#32)))) shapeCasts_S2x8192x64_S2x8192x16x4) transposes_S2x8192x16x4_S2x16x4x8192_0_2_3_1))
/-- the keys' factors; -/
abbrev KF : FVec Ideal S2x16x4x8192x8192 .f32 := broadcastInDim S2x16x4x8192x8192 ![0, 1, 2, 3, 4] bcast_S2x16x1x1x8192_S2x16x4x8192x8192_0_1_2_3_4 (broadcastInDim S2x16x1x1x8192 ![0, 1, 4] bcast_S2x16x8192_S2x16x1x1x8192_0_1_4 (transpose S2x16x8192 [0, 2, 1] (shapeCast _ (broadcastInDim S2x128x64x16 ![0, 1, 3] bcast_S2x128x16_S2x128x64x16_0_1_3 Ks) shapeCasts_S2x128x64x16_S2x8192x16) transposes_S2x8192x16_S2x16x8192_0_2_1))
/-- which keys a query sees; -/
abbrev MASK : IVec S2x16x4x8192x8192 1 := broadcastInDim S2x16x4x8192x8192 ![3, 4] bcast_S8192x8192_S2x16x4x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- the scores; -/
abbrev SC : FVec Ideal S2x16x4x8192x8192 .f32 := select MASK (mulf (mulf (ACC Qc Kc) (QF Qs)) (KF Ks)) (broadcastInDim S2x16x4x8192x8192 ![] bcast_S_S2x16x4x8192x8192 (id (constant S_ .f32 0xFF800000#32)))
/-- the weights of given scores; -/
abbrev PW (Z : FVec Ideal S2x16x4x8192x8192 .f32) : FVec Ideal S2x16x4x8192x8192 .f32 := Host.exp (subf Z (broadcastInDim S2x16x4x8192x8192 ![0, 1, 2, 3, 4] bcast_S2x16x4x8192x1_S2x16x4x8192x8192_0_1_2_3_4 (broadcastInDim S2x16x4x8192x1 ![0, 1, 2, 3] bcast_S2x16x4x8192_S2x16x4x8192x1_0_1_2_3 (Host.reduce FloatOps.maximumf Z (constant S_ .f32 0xFF800000#32) reducesTo_S2x16x4x8192x8192_S2x16x4x8192_d4 h_S_))))
abbrev PSC : FVec Ideal S_ .f32 := Host.divf (constant S_ .f32 0x3F800000#32) (constant S_ .f32 0x43E00000#32)
/-- the output of given weights. -/
abbrev OUT (P : FVec Ideal S2x16x4x8192x8192 .f32) : FVec Ideal S2x8192x8192 .bf16 :=
  shapeCast _ (transpose S2x8192x16x4x128 [0, 3, 1, 2, 4] (truncf .bf16 (Host.divf (mulf (mulf (Host.dotGeneral dot_S2x16x4x8192x8192_S2x8192x16x128_S2x16x4x8192x128_4_1_23_3_01_02 none (minimumf (broadcastInDim S2x16x4x8192x8192 ![] bcast_S_S2x16x4x8192x8192 (id (constant S_ .f32 0x43E00000#32))) (maximumf (broadcastInDim S2x16x4x8192x8192 ![] bcast_S_S2x16x4x8192x8192 (id (constant S_ .f32 0xC3E00000#32))) (mulf P (broadcastInDim S2x16x4x8192x8192 ![] bcast_S_S2x16x4x8192x8192 (constant S_ .f32 0x43E00000#32))))) Vc) (broadcastInDim S2x16x4x8192x128 ![] bcast_S_S2x16x4x8192x128 (mulf PSC (constant S_ .f32 0x43E00000#32)))) (broadcastInDim S2x16x4x8192x128 ![0, 1, 2, 3, 4] bcast_S2x16x1x1x128_S2x16x4x8192x128_0_1_2_3_4 (broadcastInDim S2x16x1x1x128 ![0, 1, 4] bcast_S2x16x128_S2x16x1x1x128_0_1_4 (mulf (broadcastInDim S2x16x128 ![] bcast_S_S2x16x128 PSC) Vs)))) (broadcastInDim S2x16x4x8192x128 ![0, 1, 2, 3, 4] bcast_S2x16x4x8192x1_S2x16x4x8192x128_0_1_2_3_4 (broadcastInDim S2x16x4x8192x1 ![0, 1, 2, 3] bcast_S2x16x4x8192_S2x16x4x8192x1_0_1_2_3 (Host.reduceAdd P (constant S_ .f32 0x00000000#32) reducesTo_S2x16x4x8192x8192_S2x16x4x8192_d4 h_S_)))) bitsLt_bf16_f32) transposes_S2x16x4x8192x128_S2x8192x16x4x128_0_3_1_2_4) shapeCasts_S2x8192x16x4x128_S2x8192x8192

theorem b1 : Ideal.ofBits .f32 0x3F800000#32 = ((1 : ℝ) : EReal) := by simp [Ideal.ofBits, Ideal.ieee, -EReal.coe_mul]; norm_num
theorem b448 : Ideal.ofBits .f32 0x43E00000#32 = ((448 : ℝ) : EReal) := by simp [Ideal.ofBits, Ideal.ieee, -EReal.coe_mul]; norm_num
theorem bm448 : Ideal.ofBits .f32 0xC3E00000#32 = ((-448 : ℝ) : EReal) := by simp [Ideal.ofBits, Ideal.ieee, -EReal.coe_mul]; norm_num
theorem b128 : Ideal.ofBits .f32 0x43000000#32 = ((128 : ℝ) : EReal) := by simp [Ideal.ofBits, Ideal.ieee, -EReal.coe_mul]; norm_num
theorem b0 : Ideal.ofBits .f32 0x00000000#32 = 0 := by simp [Ideal.ofBits, Ideal.ieee]
theorem binf : Ideal.ofBits .f32 0xFF800000#32 = ⊥ := by simp [Ideal.ofBits, Ideal.ieee]

variable (b : Fin 2) (g : Fin 16) (r : Fin 4) (n s : Fin 8192) (d : Fin 128)

/-- The query head. -/
def hd (g : Fin 16) (r : Fin 4) : Fin 64 := ⟨g.val * 4 + r.val, by omega⟩

theorem ACC_ap : (ACC Qc Kc (ix5 (n0 := 2) (n1 := 16) (n2 := 4) (n3 := 8192) (n4 := 8192) b g r n s) : EReal) = ∑ d : Fin 128, (Kc (ix4 b s g d) : EReal) * (Qc (ix4 b n (hd g r) d) : EReal) := by
  unfold ACC
  simp only [pointwise]
  rw [zero_add]
  rfl

theorem QF_ap : (QF Qs (ix5 (n0 := 2) (n1 := 16) (n2 := 4) (n3 := 8192) (n4 := 8192) b g r n s) : EReal) = Ideal.div (Qs (ix3 b ⟨n.val / 128, by omega⟩ (hd g r)) : EReal) (Ideal.sqrt ((128 : ℝ) : EReal)) := by
  unfold QF
  simp only [pointwise]
  rw [b128]
  rfl

theorem KF_ap : (KF Ks (ix5 (n0 := 2) (n1 := 16) (n2 := 4) (n3 := 8192) (n4 := 8192) b g r n s) : EReal) = Ks (ix3 b ⟨s.val / 64, by omega⟩ g) := by
  unfold KF
  simp only [pointwise]
  rfl

theorem MASK_ap : (MASK (ix5 (n0 := 2) (n1 := 16) (n2 := 4) (n3 := 8192) (n4 := 8192) b g r n s) = 1#1) ↔ s.val ≤ n.val := by
  unfold MASK
  simp only [pointwise]
  show IntOp.cmpi .sle (BitVec.ofNat 32 s.val) (BitVec.ofNat 32 n.val) = 1#1 ↔ _
  have hs := s.isLt
  have hn := n.isLt
  have e1 : (BitVec.ofNat 32 s.val).toInt = s.val := by rw [BitVec.toInt_eq_toNat_of_lt] <;> rw [BitVec.toNat_ofNat, Nat.mod_eq_of_lt (by omega)]; omega
  have e2 : (BitVec.ofNat 32 n.val).toInt = n.val := by rw [BitVec.toInt_eq_toNat_of_lt] <;> rw [BitVec.toNat_ofNat, Nat.mod_eq_of_lt (by omega)]; omega
  show BitVec.ofBool (BitVec.sle _ _) = 1#1 ↔ _
  rw [BitVec.sle, e1, e2]
  by_cases h : s.val ≤ n.val
  · have : ((s.val : ℤ) ≤ (n.val : ℤ)) := by exact_mod_cast h
    simp [this, h]
  · have : ¬ ((s.val : ℤ) ≤ (n.val : ℤ)) := by exact_mod_cast h
    simp [this, h]

theorem PW_ap (Z : FVec Ideal S2x16x4x8192x8192 .f32) : (PW Z (ix5 (n0 := 2) (n1 := 16) (n2 := 4) (n3 := 8192) (n4 := 8192) b g r n s) : EReal) = Ideal.exp ((Z (ix5 b g r n s) : EReal) - ⨆ s : Fin 8192, (Z (ix5 b g r n s) : EReal)) := by
  unfold PW
  simp only [pointwise]
  refine congrArg (fun x : EReal => Ideal.exp ((Z (ix5 b g r n s) : EReal) - x)) ?_
  refine eq_of_forall_ge_iff fun z => ?_
  rw [binf]
  simp only [Finset.fold_max_le, bot_le, Finset.mem_univ, true_and, forall_const, iSup_le_iff]
  rfl

theorem OUT_ap (P : FVec Ideal S2x16x4x8192x8192 .f32) : (OUT Vc Vs P (ix3 (n0 := 2) (n1 := 8192) (n2 := 8192) b n ⟨128 * (hd g r).val + d.val, by unfold hd; show 128 * (g.val * 4 + r.val) + d.val < 8192; omega⟩) : EReal)
    = Ideal.div ((∑ s : Fin 8192, clip ((P (ix5 b g r n s) : EReal) * ((448 : ℝ) : EReal)) * (Vc (ix4 b s g d) : EReal)) * (((1 / 448 : ℝ) : EReal) * ((448 : ℝ) : EReal)) * (((1 / 448 : ℝ) : EReal) * (Vs (ix3 b g d) : EReal))) (∑ s : Fin 8192, (P (ix5 b g r n s) : EReal)) := by
  unfold OUT
  simp only [pointwise]
  have key : ∀ (g' : Fin 16) (r' : Fin 4), g' = g → r' = r →
      Ideal.div ((0 + ∑ k : Fin 8192, min (Ideal.ofBits .f32 0x43E00000#32) (max (Ideal.ofBits .f32 0xC3E00000#32) ((P (ix5 b g' r' n k) : EReal) * Ideal.ofBits .f32 0x43E00000#32)) * (Vc (ix4 b k g' d) : EReal))
          * (Ideal.div 1 (Ideal.ofBits .f32 0x43E00000#32) * Ideal.ofBits .f32 0x43E00000#32) * (Ideal.div 1 (Ideal.ofBits .f32 0x43E00000#32) * (Vs (ix3 b g' d) : EReal))) (0 + ∑ k : Fin 8192, (P (ix5 b g' r' n k) : EReal))
        = Ideal.div ((∑ s : Fin 8192, clip ((P (ix5 b g r n s) : EReal) * ((448 : ℝ) : EReal)) * (Vc (ix4 b s g d) : EReal)) * (((1 / 448 : ℝ) : EReal) * ((448 : ℝ) : EReal)) * (((1 / 448 : ℝ) : EReal) * (Vs (ix3 b g d) : EReal))) (∑ s : Fin 8192, (P (ix5 b g r n s) : EReal)) := by
    rintro _ _ rfl rfl
    rw [b448, bm448, zero_add, zero_add, Ideal.div_coe (by norm_num), one_mul]
    rfl
  exact key _ _ (Fin.ext (by show (128 * (g.val * 4 + r.val) + d.val) / 512 = g.val; omega)) (Fin.ext (by show (128 * (g.val * 4 + r.val) + d.val) / 128 % 4 = r.val; omega))

theorem SC_ap (q : EReal) (hq : Ideal.div (Qs (ix3 b ⟨n.val / 128, by omega⟩ (hd g r)) : EReal) (Ideal.sqrt ((128 : ℝ) : EReal)) = q) :
    (SC Qc Qs Kc Ks (ix5 (n0 := 2) (n1 := 16) (n2 := 4) (n3 := 8192) (n4 := 8192) b g r n s) : EReal)
      = rS n.val (fun s => ∑ d : Fin 128, (Kc (ix4 b s g d) : EReal) * (Qc (ix4 b n (hd g r) d) : EReal)) (fun s => Ks (ix3 b ⟨s.val / 64, by omega⟩ g)) q s := by
  have e : (SC Qc Qs Kc Ks (ix5 (n0 := 2) (n1 := 16) (n2 := 4) (n3 := 8192) (n4 := 8192) b g r n s) : EReal)
      = if MASK (ix5 (n0 := 2) (n1 := 16) (n2 := 4) (n3 := 8192) (n4 := 8192) b g r n s) = 1#1 then ((ACC Qc Kc (ix5 b g r n s) : EReal) * (QF Qs (ix5 b g r n s) : EReal)) * (KF Ks (ix5 b g r n s) : EReal) else Ideal.ofBits .f32 0xFF800000#32 := rfl
  rw [e, ACC_ap, QF_ap, KF_ap, hq, binf]
  unfold rS
  exact ite_congr (propext (MASK_ap b g r n s)) (fun _ => rfl) fun _ => rfl

/-- The reference's output, entry by entry. -/
theorem OUT_rcore (q : EReal) (hq : Ideal.div (Qs (ix3 b ⟨n.val / 128, by omega⟩ (hd g r)) : EReal) (Ideal.sqrt ((128 : ℝ) : EReal)) = q) :
    (OUT Vc Vs (PW (SC Qc Qs Kc Ks)) (ix3 (n0 := 2) (n1 := 8192) (n2 := 8192) b n ⟨128 * (hd g r).val + d.val, by unfold hd; show 128 * (g.val * 4 + r.val) + d.val < 8192; omega⟩) : EReal)
      = rcore n.val (fun s => ∑ d : Fin 128, (Kc (ix4 b s g d) : EReal) * (Qc (ix4 b n (hd g r) d) : EReal)) (fun s => Ks (ix3 b ⟨s.val / 64, by omega⟩ g)) q (fun s => Vc (ix4 b s g d)) (Vs (ix3 b g d)) := by
  have hw : ∀ s, (PW (SC Qc Qs Kc Ks) (ix5 (n0 := 2) (n1 := 16) (n2 := 4) (n3 := 8192) (n4 := 8192) b g r n s) : EReal)
      = rW n.val (fun s => ∑ d : Fin 128, (Kc (ix4 b s g d) : EReal) * (Qc (ix4 b n (hd g r) d) : EReal)) (fun s => Ks (ix3 b ⟨s.val / 64, by omega⟩ g)) q s := fun s => by
    rw [PW_ap]
    unfold rW
    rw [SC_ap Qc Qs Kc Ks b g r n s q hq]
    simp only [SC_ap Qc Qs Kc Ks b g r n _ q hq]
  refine (OUT_ap Vc Vs b g r n d _).trans ?_
  simp only [hw]
  rfl
end

end Cert.KernelIdeal.RefAttn

end
-- ==== Proof.KernelIdeal.A11.lean ====
/- The attention kernel's output and the reference's agree, entry by entry. -/
module

public import proofs.«01_k».proof.Proof.KernelIdeal.A8
public import proofs.«01_k».proof.Proof.KernelIdeal.A10

@[expose] public section

set_option maxRecDepth 65536

noncomputable section

namespace Cert.KernelIdeal.RefAttn

open Idealize.ShloMosaic Cert.ReferenceIdeal Cert.ReferenceIdeal.Gen Cert.KernelIdeal.Model
open Cert.KernelIdeal.Q (clip qE)
open Cert.KernelIdeal.KV (headOf hE hVE kCode kScale vCodeT vScale)
open Cert.KernelIdeal.Attn (rS rW rcore core core_eq div_real aOut aArr)

/-- A clipped value is a real number. -/
theorem clip_toReal (a : EReal) : ((clip a).toReal : EReal) = clip a := by
  have h1 : clip a ≤ ((448 : ℝ) : EReal) := min_le_left _ _
  have h2 : ((-448 : ℝ) : EReal) ≤ clip a := le_min (EReal.coe_le_coe_iff.mpr (by norm_num)) (le_max_left _ _)
  exact EReal.coe_toReal (fun e => absurd (e ▸ h1) (not_le.mpr (EReal.coe_lt_top _))) (fun e => absurd (e ▸ h2) (not_le.mpr (EReal.bot_lt_coe _)))

theorem coe_sumF {ι : Type} (t : Finset ι) (f : ι → ℝ) : ((∑ s ∈ t, f s : ℝ) : EReal) = ∑ s ∈ t, ((f s : ℝ) : EReal) := by
  classical
  induction t using Finset.induction_on with
  | empty => rfl
  | insert a t ha ih => rw [Finset.sum_insert ha, Finset.sum_insert ha, EReal.coe_add, ih]

theorem rcore_congr {n : ℕ} {R R' S S' v v' : Fin 8192 → EReal} {q q' w w' : EReal} (h1 : ∀ s, R s = R' s) (h2 : ∀ s, S s = S' s) (h3 : q = q') (h4 : ∀ s, v s = v' s) (h5 : w = w') :
    rcore n R S q v w = rcore n R' S' q' v' w' := by
  rw [funext h1, funext h2, h3, funext h4, h5]

section
variable (X : Vec Ideal S2x8192x8192 .bf16) (K V : Vec Ideal S2x8192x2048 .bf16)

/-- The kernel's entry as the reference computes it. -/
theorem aOut_rcore (b : Fin 2) (n : Fin 8192) (h : Fin 64) (g : Fin 16) (hg : g.val = h.val / 4) (d : Fin 128) :
    aOut X (kCode K) (kScale K) (vCodeT V) (vScale V) b n h d
      = rcore n.val (fun s => ∑ e : Fin 128, m2 K b s g e * m0 X b n h e) (fun s => m3 K b ⟨s.val / 64, by omega⟩ g)
          (((2 : ℝ) ^ qE X b ⟨n.val / 128, by omega⟩ h / Real.sqrt 128 : ℝ) : EReal) (fun s => m4 V b s g d) (m5 V b g d) := by
  have hh : h.val / 4 < 16 := by clear hg; omega
  obtain rfl : g = ⟨h.val / 4, hh⟩ := Fin.ext hg
  clear hg
  unfold aOut
  refine (core_eq n.val n.isLt
    (fun s => ∑ e : Fin 128, (if p : s < 8192 then (m2 K b ⟨s, p⟩ ⟨h.val / 4, by omega⟩ e).toReal else 0) * (m0 X b n h e).toReal)
    (fun s => (2 : ℝ) ^ (if p : s / 64 < 128 then hE (headOf K b ⟨h.val / 4, by omega⟩) ⟨s / 64, p⟩ else 0))
    (fun s => if p : s < 8192 then (m4 V b ⟨s, p⟩ ⟨h.val / 4, by omega⟩ d).toReal else 0)
    ((2 : ℝ) ^ qE X b ⟨n.val / 128, by omega⟩ h) ((2 : ℝ) ^ hVE (headOf V b ⟨h.val / 4, by omega⟩) d)
    (zpow_pos (by norm_num) _) (fun s => zpow_pos (by norm_num) _) _ _ _ ?_ ?_ ?_).trans (rcore_congr (fun s => ?_) (fun s => ?_) rfl (fun s => ?_) rfl)
  · intro s hs
    show _ = (((∑ e : Fin 128, (if p : s < 8192 then (m2 K b ⟨s, p⟩ ⟨h.val / 4, by omega⟩ e).toReal else 0) * (m0 X b n h e).toReal : ℝ)) : EReal)
    rw [coe_sumF]
    refine Finset.sum_congr rfl fun e _ => ?_
    rw [dif_pos hs, dif_pos hs, EReal.coe_mul]
    exact (congrArg₂ (· * ·) (clip_toReal _) (clip_toReal _)).symm
  · intro s hs
    have hs' : s / 64 < 128 := by omega
    show (if p : s / 64 < 128 then _ else _) = (((2 : ℝ) ^ (if p : s / 64 < 128 then _ else _) : ℝ) : EReal)
    rw [dif_pos hs', dif_pos hs']
    rfl
  · intro s hs
    show (if p : s < 8192 then _ else _) = ((if p : s < 8192 then _ else _ : ℝ) : EReal)
    rw [dif_pos hs, dif_pos hs]
    exact (clip_toReal _).symm
  · refine Finset.sum_congr rfl fun e _ => ?_
    rw [dif_pos s.isLt]
    rfl
  · have hs' : s.val / 64 < 128 := by omega
    show (if p : s.val / 64 < 128 then _ else _) = _
    rw [dif_pos hs']
    rfl
  · show (if p : s.val < 8192 then _ else _) = _
    rw [dif_pos s.isLt]
    rfl

variable (Qc : FVec Ideal S2x8192x64x128 .f32) (Qs : FVec Ideal S2x64x64 .f32) (Kc : FVec Ideal S2x8192x16x128 .f32) (Ks : FVec Ideal S2x128x16 .f32)
  (Vc : FVec Ideal S2x8192x16x128 .f32) (Vs : FVec Ideal S2x16x128 .f32)

theorem att (h0 : ∀ j, (Qc j : EReal) = m0 X (j 0) (j 1) (j 2) (j 3)) (h1 : ∀ j, (Qs j : EReal) = m1 X (j 0) (j 1) (j 2)) (h2 : ∀ j, (Kc j : EReal) = m2 K (j 0) (j 1) (j 2) (j 3))
    (h3 : ∀ j, (Ks j : EReal) = m3 K (j 0) (j 1) (j 2)) (h4 : ∀ j, (Vc j : EReal) = m4 V (j 0) (j 1) (j 2) (j 3)) (h5 : ∀ j, (Vs j : EReal) = m5 V (j 0) (j 1) (j 2)) (j : S2x8192x8192.Idx) :
    (OUT Vc Vs (PW (SC Qc Qs Kc Ks)) j : EReal) = aArr X (kCode K) (kScale K) (vCodeT V) (vScale V) j := by
  have j2 : (j 2).val < 8192 := (j 2).isLt
  have eh : hd ⟨(j 2).val / 128 / 4, by omega⟩ ⟨(j 2).val / 128 % 4, by omega⟩ = ⟨(j 2).val / 128, by omega⟩ := Fin.ext (by show (j 2).val / 128 / 4 * 4 + (j 2).val / 128 % 4 = (j 2).val / 128; omega)
  have ej : j = ix3 (n0 := 2) (n1 := 8192) (n2 := 8192) (j 0) (j 1) ⟨128 * (hd ⟨(j 2).val / 128 / 4, by omega⟩ ⟨(j 2).val / 128 % 4, by omega⟩).val + (⟨(j 2).val % 128, Nat.mod_lt _ (by decide)⟩ : Fin 128).val, by rw [eh]; show 128 * ((j 2).val / 128) + (j 2).val % 128 < 8192; omega⟩ := by
    funext a
    fin_cases a
    · rfl
    · rfl
    · refine Fin.ext ?_
      show (j 2).val = 128 * (hd _ _).val + (j 2).val % 128
      rw [eh]
      show (j 2).val = 128 * ((j 2).val / 128) + (j 2).val % 128
      omega
  have hq : Ideal.div (Qs (ix3 (j 0) ⟨(j 1).val / 128, by have : (j 1).val < 8192 := (j 1).isLt; omega⟩ (hd ⟨(j 2).val / 128 / 4, by omega⟩ ⟨(j 2).val / 128 % 4, by omega⟩)) : EReal) (Ideal.sqrt ((128 : ℝ) : EReal))
      = (((2 : ℝ) ^ qE X (j 0) ⟨(j 1).val / 128, by have : (j 1).val < 8192 := (j 1).isLt; omega⟩ ⟨(j 2).val / 128, by omega⟩ / Real.sqrt 128 : ℝ) : EReal) := by
    have hs : Ideal.sqrt ((128 : ℝ) : EReal) = ((Real.sqrt 128 : ℝ) : EReal) := by
      show (if (128 : ℝ) < 0 then ⊥ else ((Real.sqrt 128 : ℝ) : EReal)) = _
      rw [if_neg (by norm_num)]
    rw [h1, eh, hs]
    exact div_real _ _ (Real.sqrt_ne_zero'.mpr (by norm_num))
  refine (congrArg (OUT Vc Vs (PW (SC Qc Qs Kc Ks))) ej).trans ((OUT_rcore Qc Qs Kc Ks Vc Vs (j 0) ⟨(j 2).val / 128 / 4, by omega⟩ ⟨(j 2).val / 128 % 4, by omega⟩ (j 1) ⟨(j 2).val % 128, Nat.mod_lt _ (by decide)⟩ _ hq).trans ?_)
  unfold aArr
  refine ((aOut_rcore X K V (j 0) (j 1) ⟨(j 2).val / 128, by omega⟩ ⟨(j 2).val / 128 / 4, by omega⟩ rfl ⟨(j 2).val % 128, Nat.mod_lt _ (by decide)⟩).trans (rcore_congr (fun s => ?_) (fun s => ?_) rfl (fun s => ?_) ?_)).symm
  · refine Finset.sum_congr rfl fun e _ => ?_
    rw [h2, h0, eh]
    rfl
  · rw [h3]
    rfl
  · rw [h4]
    rfl
  · rw [h5]
    rfl
end

end Cert.KernelIdeal.RefAttn
-- ==== Proof.lean ====
/- The proof of the claim. The frames and the run of the kernel programs come from `Proof/Kernel/Whole.lean` and
   `Proof/KernelIdeal/Whole.lean`, the reference's from the generated `Run` module;
   the results' values from `Proof/KernelIdeal/HostOut.lean`, `Proof/KernelIdeal/RefOut.lean` and `Proof/KernelIdeal/A11.lean`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Whole
public import proofs.«01_k».proof.Proof.KernelIdeal.Whole
public import proofs.«01_k».proof.Proof.KernelIdeal.HostOut
public import proofs.«01_k».proof.Proof.KernelIdeal.RefOut
public import proofs.«01_k».proof.Proof.KernelIdeal.A11
public import Idealize.ShloMosaic.Adequacy
public import Idealize.ShloMosaic.Init

@[expose] public section

noncomputable section

namespace Cert.Proof

open Idealize.ShloMosaic Idealize.SL.Sem Cert.KernelIdeal

/-- Each named constant's nominal value lies within the single-precision constant's rounding. -/
theorem preserves : Cert.preserves_Kernel_KernelIdeal :=
  ⟨IdealRules.named_const.statement Cert.KernelIdeal.κ "inv_fp8_max" .f32 0x3B124925#32 _ rfl,
   IdealRules.named_const.statement Cert.KernelIdeal.κ "score_mult" .f32 0x3E0293EE#32 _ rfl,
   IdealRules.named_const.statement Cert.KernelIdeal.κ "log2_fp8_max" .f32 0x410CEAED#32 _ rfl⟩

/-- The reference's frame: its run leaves the arguments unchanged, and it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- The kernel's seven results are the reference's: both are the same functions of the arguments. -/
theorem algebraic : Cert.algebraic_KernelIdeal_ReferenceIdeal (hKernelIdeal := Cert.KernelIdeal.Gen.facts) (hReferenceIdeal := Cert.ReferenceIdeal.Gen.facts) :=
  fun m g m' g' _ hm => by
    refine ⟨HostOut.rO m, HostOut.r0 m, HostOut.r1 m, HostOut.r2 m, HostOut.r3 m, HostOut.r4 m, HostOut.r5 m, HostOut.run m g, ?_⟩
    refine (θ_run Cert.ReferenceIdeal.defs _ _).mono (fun r h c => ?_) (Cert.ReferenceIdeal.Value.run (F := Ideal) m' g')
    obtain ⟨hO, h0, h1, h2, h3, h4, h5, ha⟩ := h c
    obtain ⟨e0, e1, e2⟩ := hm c
    refine ⟨?_, ?_, ?_, ?_, ?_, ?_, ?_, ha⟩
    · refine hO.trans ((funext (RefAttn.att _ _ _ (Cert.ReferenceIdeal.Value.res_main_v36 (StableHlo.launchContents m' c)) _ (Cert.ReferenceIdeal.Value.res_main_v73 (StableHlo.launchContents m' c)) _ (Cert.ReferenceIdeal.Value.res_main_v101 (StableHlo.launchContents m' c)) _
        (RefOut.out0_ap _) (RefOut.out1_ap _) (RefOut.out2_ap _) (RefOut.out3_ap _) (RefOut.out4_ap _) (RefOut.out5_ap _))).trans ?_)
      unfold HostOut.rO
      rw [← e0, ← e1, ← e2]
    · rw [h0]; unfold Cert.ReferenceIdeal.Value.res_main_v36; refine (funext (RefOut.out0_ap _)).trans ?_; unfold HostOut.r0; rw [← e0]
    · rw [h1]; refine (funext (RefOut.out1_ap _)).trans ?_; unfold HostOut.r1; rw [← e0]
    · rw [h2]; unfold Cert.ReferenceIdeal.Value.res_main_v73; refine (funext (RefOut.out2_ap _)).trans ?_; unfold HostOut.r2; rw [← e1]
    · rw [h3]; refine (funext (RefOut.out3_ap _)).trans ?_; unfold HostOut.r3; rw [← e1]
    · rw [h4]; unfold Cert.ReferenceIdeal.Value.res_main_v101; refine (funext (RefOut.out4_ap _)).trans ?_; unfold HostOut.r4; rw [← e2]
    · rw [h5]; refine (funext (RefOut.out5_ap _)).trans ?_; unfold HostOut.r5; rw [← e2]

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  frame_ri, preserves, algebraic⟩

end Cert.Proof

end
